-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v1_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_v1_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1_0) = v0 c
          ∧ r.2.mem ((c.tc : Thread Cert.ReferenceIdeal.nD Cert.ReferenceIdeal.τ).loc Cert.ReferenceIdeal.main_v1_1) = v1 c
          ∧ r.2.mem ((c.tc : Thread Cert.ReferenceIdeal.nD Cert.ReferenceIdeal.τ).loc Cert.ReferenceIdeal.main_v1_2) = v2 c
          ∧ r.2.mem ((c.tc : Thread Cert.ReferenceIdeal.nD Cert.ReferenceIdeal.τ).loc Cert.ReferenceIdeal.main_v1_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3x8192x4096 : Shape := ⟨3, ![3, 8192, 4096]⟩
abbrev S4096x3328 : Shape := ⟨2, ![4096, 3328]⟩
abbrev S32x26 : Shape := ⟨2, ![32, 26]⟩
abbrev S24576x4096 : Shape := ⟨2, ![24576, 4096]⟩
abbrev S24576x1664 : Shape := ⟨2, ![24576, 1664]⟩
abbrev S24576x13 : Shape := ⟨2, ![24576, 13]⟩
abbrev S24576x32 : Shape := ⟨2, ![24576, 32]⟩
abbrev S512x4096 : Shape := ⟨2, ![512, 4096]⟩
abbrev S512x1664 : Shape := ⟨2, ![512, 1664]⟩
abbrev S512x13 : Shape := ⟨2, ![512, 13]⟩
abbrev S512x32 : Shape := ⟨2, ![512, 32]⟩
abbrev S13x4096x256 : Shape := ⟨3, ![13, 4096, 256]⟩
abbrev S2x2x4096x128 : Shape := ⟨4, ![2, 2, 4096, 128]⟩
abbrev S2x512x4096 : Shape := ⟨3, ![2, 512, 4096]⟩
abbrev S2x2 : Shape := ⟨2, ![2, 2]⟩
abbrev S1x1 : Shape := ⟨2, ![1, 1]⟩
abbrev S_ : Shape := ⟨0, ![]⟩
abbrev S1x1x4096x128 : Shape := ⟨4, ![1, 1, 4096, 128]⟩
abbrev S4096x128 : Shape := ⟨2, ![4096, 128]⟩
abbrev S1x1x128x128 : Shape := ⟨4, ![1, 1, 128, 128]⟩
abbrev S128x128 : Shape := ⟨2, ![128, 128]⟩
abbrev S1x128 : Shape := ⟨2, ![1, 128]⟩
abbrev S1x128x128 : Shape := ⟨3, ![1, 128, 128]⟩
abbrev S128x32 : Shape := ⟨2, ![128, 32]⟩
abbrev S128 : Shape := ⟨1, ![128]⟩
abbrev S128x1 : Shape := ⟨2, ![128, 1]⟩
abbrev S1x512x4096 : Shape := ⟨3, ![1, 512, 4096]⟩
abbrev S1x4096x256 : Shape := ⟨3, ![1, 4096, 256]⟩
abbrev S4096x256 : Shape := ⟨2, ![4096, 256]⟩
abbrev S512x256 : Shape := ⟨2, ![512, 256]⟩
abbrev S512x128 : Shape := ⟨2, ![512, 128]⟩
abbrev S512 : Shape := ⟨1, ![512]⟩
abbrev S512x1 : Shape := ⟨2, ![512, 1]⟩

abbrev nBuf : Space → Nat
  | .hbm => 8
  | .vmem => 13
  | .smem => 1
  | _ => 0

abbrev bufTy : (tb : Table) → Fin (tcTables nBuf tb) → BufTy
  | .hbm, ⟨0, _⟩ => ⟨S3x8192x4096, .bf16⟩
  | .hbm, ⟨1, _⟩ => ⟨S4096x3328, .fp8e4m3⟩
  | .hbm, ⟨2, _⟩ => ⟨S32x26, .f32⟩
  | .hbm, ⟨3, _⟩ => ⟨S24576x4096, .bf16⟩
  | .hbm, ⟨4, _⟩ => ⟨S24576x1664, .fp8e4m3⟩
  | .hbm, ⟨5, _⟩ => ⟨S24576x13, .f32⟩
  | .hbm, ⟨6, _⟩ => ⟨S24576x4096, .fp8e4m3⟩
  | .hbm, ⟨7, _⟩ => ⟨S24576x32, .f32⟩
  | .local _ .vmem, ⟨0, _⟩ => ⟨S512x4096, .bf16⟩
  | .local _ .vmem, ⟨1, _⟩ => ⟨S512x4096, .bf16⟩
  | .local _ .vmem, ⟨2, _⟩ => ⟨S512x1664, .fp8e4m3⟩
  | .local _ .vmem, ⟨3, _⟩ => ⟨S512x1664, .fp8e4m3⟩
  | .local _ .vmem, ⟨4, _⟩ => ⟨S512x13, .f32⟩
  | .local _ .vmem, ⟨5, _⟩ => ⟨S512x13, .f32⟩
  | .local _ .vmem, ⟨6, _⟩ => ⟨S512x4096, .fp8e4m3⟩
  | .local _ .vmem, ⟨7, _⟩ => ⟨S512x4096, .fp8e4m3⟩
  | .local _ .vmem, ⟨8, _⟩ => ⟨S512x32, .f32⟩
  | .local _ .vmem, ⟨9, _⟩ => ⟨S512x32, .f32⟩
  | .local _ .vmem, ⟨10, _⟩ => ⟨S13x4096x256, .bf16⟩
  | .local _ .vmem, ⟨11, _⟩ => ⟨S2x2x4096x128, .fp8e4m3⟩
  | .local _ .vmem, ⟨12, _⟩ => ⟨S2x512x4096, .bf16⟩
  | .local _ .smem, ⟨0, _⟩ => ⟨S32x26, .f32⟩
  | _, _ => ⟨S3x8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_stg1_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![49], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_17 : BitVec 32 := 0#32
  let c13_i32 : BitVec 32 := 13#32
  let v16 : BitVec 32 := Scalar.addi c0_i32_17 c13_i32
  let c1_i32_18 : BitVec 32 := 1#32
  ⟨c0_i32_17, v16, c1_i32_18⟩
def k0_cond2 (k0_t1 : Fin k0_t1_loop.trips) : BitVec 1 :=
  let c0_i32_24 : BitVec 32 := 0#32
  let c0_i32_17 : BitVec 32 := 0#32
  let c1_i32_18 : BitVec 32 := 1#32
  let arg12 : BitVec 32 := Scf.iv c0_i32_17 c1_i32_18 k0_t1
  let c1_i32_23 : BitVec 32 := 1#32
  let v18 : BitVec 32 := Scalar.muli arg12 c1_i32_23
  let v19 : BitVec 32 := Scalar.addi c0_i32_24 v18
  let c1_i32_30 : BitVec 32 := 1#32
  let v30 : BitVec 32 := Scalar.addi v19 c1_i32_30
  let c13_i32_31 : BitVec 32 := 13#32
  let v31 : BitVec 1 := Scalar.cmpi .slt v30 c13_i32_31
  let v32 : BitVec 32 := Scalar.extui v31
  let c0_i32_32 : BitVec 32 := 0#32
  let v33 : BitVec 1 := Scalar.cmpi .ne v32 c0_i32_32
  v33

def k0_off1 (k0_t1 : Fin k0_t1_loop.trips) : Fin 2 → Nat :=
  let c1_i32_50 : BitVec 32 := 1#32
  let c0_i32_24 : BitVec 32 := 0#32
  let c0_i32_17 : BitVec 32 := 0#32
  let c1_i32_18 : BitVec 32 := 1#32
  let arg12 : BitVec 32 := Scf.iv c0_i32_17 c1_i32_18 k0_t1
  let c1_i32_23 : BitVec 32 := 1#32
  let v18 : BitVec 32 := Scalar.muli arg12 c1_i32_23
  let v19 : BitVec 32 := Scalar.addi c0_i32_24 v18
  let c2_i32 : BitVec 32 := 2#32
  let c0_i32_25 : BitVec 32 := 0#32
  let v20 : BitVec 1 := Scalar.cmpi .eq c2_i32 c0_i32_25
  let c1_i32_26 : BitVec 32 := 1#32
  let v21 : BitVec 32 := Scalar.select v20 c1_i32_26 c2_i32
  let v22 : BitVec 32 := Scalar.remsi v19 v21
  let c0_i32_28 : BitVec 32 := 0#32
  let v24 : BitVec 1 := Scalar.cmpi .slt v22 c0_i32_28
  let c0_i32_29 : BitVec 32 := 0#32
  let v25 : BitVec 1 := Scalar.cmpi .slt v21 c0_i32_29
  let v26 : BitVec 1 := Scalar.xori v24 v25
  let c0_i32_27 : BitVec 32 := 0#32
  let v23 : BitVec 1 := Scalar.cmpi .ne v22 c0_i32_27
  let v27 : BitVec 1 := Scalar.andi v26 v23
  let v28 : BitVec 32 := Scalar.addi v22 v21
  let v29 : BitVec 32 := Scalar.select v27 v28 v22
  let v50 : BitVec 32 := Scalar.subi c1_i32_50 v29
  let c0_i32_56 : BitVec 32 := 0#32
  ![v50.toNat, 0]
def k0_off2 (k0_t1 : Fin k0_t1_loop.trips) : Fin 4 → Nat :=
  let c1_i32_50 : BitVec 32 := 1#32
  let c0_i32_24 : BitVec 32 := 0#32
  let c0_i32_17 : BitVec 32 := 0#32
  let c1_i32_18 : BitVec 32 := 1#32
  let arg12 : BitVec 32 := Scf.iv c0_i32_17 c1_i32_18 k0_t1
  let c1_i32_23 : BitVec 32 := 1#32
  let v18 : BitVec 32 := Scalar.muli arg12 c1_i32_23
  let v19 : BitVec 32 := Scalar.addi c0_i32_24 v18
  let c2_i32 : BitVec 32 := 2#32
  let c0_i32_25 : BitVec 32 := 0#32
  let v20 : BitVec 1 := Scalar.cmpi .eq c2_i32 c0_i32_25
  let c1_i32_26 : BitVec 32 := 1#32
  let v21 : BitVec 32 := Scalar.select v20 c1_i32_26 c2_i32
  let v22 : BitVec 32 := Scalar.remsi v19 v21
  let c0_i32_28 : BitVec 32 := 0#32
  let v24 : BitVec 1 := Scalar.cmpi .slt v22 c0_i32_28
  let c0_i32_29 : BitVec 32 := 0#32
  let v25 : BitVec 1 := Scalar.cmpi .slt v21 c0_i32_29
  let v26 : BitVec 1 := Scalar.xori v24 v25
  let c0_i32_27 : BitVec 32 := 0#32
  let v23 : BitVec 1 := Scalar.cmpi .ne v22 c0_i32_27
  let v27 : BitVec 1 := Scalar.andi v26 v23
  let v28 : BitVec 32 := Scalar.addi v22 v21
  let v29 : BitVec 32 := Scalar.select v27 v28 v22
  let v50 : BitVec 32 := Scalar.subi c1_i32_50 v29
  let c0_i32_55 : BitVec 32 := 0#32
  let c0_i32_57 : BitVec 32 := 0#32
  let c0_i32_58 : BitVec 32 := 0#32
  ![v50.toNat, 0, 0, 0]
def k0_off3 (k0_t1 : Fin k0_t1_loop.trips) (c0_i32_51 : BitVec 32) : Fin 2 → Nat :=
  let c0_i32_59 : BitVec 32 := 0#32
  let c0_i32_24 : BitVec 32 := 0#32
  let c0_i32_17 : BitVec 32 := 0#32
  let c1_i32_18 : BitVec 32 := 1#32
  let arg12 : BitVec 32 := Scf.iv c0_i32_17 c1_i32_18 k0_t1
  let c1_i32_23 : BitVec 32 := 1#32
  let v18 : BitVec 32 := Scalar.muli arg12 c1_i32_23
  let v19 : BitVec 32 := Scalar.addi c0_i32_24 v18
  let c1_i32_49 : BitVec 32 := 1#32
  let v49 : BitVec 32 := Scalar.addi v19 c1_i32_49
  let v51 : BitVec 32 := Scalar.addi v49 c0_i32_51
  let c128_i32_52 : BitVec 32 := 128#32
  let v52 : BitVec 32 := Scalar.muli v51 c128_i32_52
  ![0, v52.toNat]
def k0_off4 (k0_t1 : Fin k0_t1_loop.trips) : Fin 2 → Nat :=
  let c1_i32_50 : BitVec 32 := 1#32
  let c0_i32_24 : BitVec 32 := 0#32
  let c0_i32_17 : BitVec 32 := 0#32
  let c1_i32_18 : BitVec 32 := 1#32
  let arg12 : BitVec 32 := Scf.iv c0_i32_17 c1_i32_18 k0_t1
  let c1_i32_23 : BitVec 32 := 1#32
  let v18 : BitVec 32 := Scalar.muli arg12 c1_i32_23
  let v19 : BitVec 32 := Scalar.addi c0_i32_24 v18
  let c2_i32 : BitVec 32 := 2#32
  let c0_i32_25 : BitVec 32 := 0#32
  let v20 : BitVec 1 := Scalar.cmpi .eq c2_i32 c0_i32_25
  let c1_i32_26 : BitVec 32 := 1#32
  let v21 : BitVec 32 := Scalar.select v20 c1_i32_26 c2_i32
  let v22 : BitVec 32 := Scalar.remsi v19 v21
  let c0_i32_28 : BitVec 32 := 0#32
  let v24 : BitVec 1 := Scalar.cmpi .slt v22 c0_i32_28
  let c0_i32_29 : BitVec 32 := 0#32
  let v25 : BitVec 1 := Scalar.cmpi .slt v21 c0_i32_29
  let v26 : BitVec 1 := Scalar.xori v24 v25
  let c0_i32_27 : BitVec 32 := 0#32
  let v23 : BitVec 1 := Scalar.cmpi .ne v22 c0_i32_27
  let v27 : BitVec 1 := Scalar.andi v26 v23
  let v28 : BitVec 32 := Scalar.addi v22 v21
  let v29 : BitVec 32 := Scalar.select v27 v28 v22
  let v50 : BitVec 32 := Scalar.subi c1_i32_50 v29
  let c1_i32_61 : BitVec 32 := 1#32
  ![v50.toNat, 1]
def k0_off5 (k0_t1 : Fin k0_t1_loop.trips) : Fin 4 → Nat :=
  let c1_i32_50 : BitVec 32 := 1#32
  let c0_i32_24 : BitVec 32 := 0#32
  let c0_i32_17 : BitVec 32 := 0#32
  let c1_i32_18 : BitVec 32 := 1#32
  let arg12 : BitVec 32 := Scf.iv c0_i32_17 c1_i32_18 k0_t1
  let c1_i32_23 : BitVec 32 := 1#32
  let v18 : BitVec 32 := Scalar.muli arg12 c1_i32_23
  let v19 : BitVec 32 := Scalar.addi c0_i32_24 v18
  let c2_i32 : BitVec 32 := 2#32
  let c0_i32_25 : BitVec 32 := 0#32
  let v20 : BitVec 1 := Scalar.cmpi .eq c2_i32 c0_i32_25
  let c1_i32_26 : BitVec 32 := 1#32
  let v21 : BitVec 32 := Scalar.select v20 c1_i32_26 c2_i32
  let v22 : BitVec 32 := Scalar.remsi v19 v21
  let c0_i32_28 : BitVec 32 := 0#32
  let v24 : BitVec 1 := Scalar.cmpi .slt v22 c0_i32_28
  let c0_i32_29 : BitVec 32 := 0#32
  let v25 : BitVec 1 := Scalar.cmpi .slt v21 c0_i32_29
  let v26 : BitVec 1 := Scalar.xori v24 v25
  let c0_i32_27 : BitVec 32 := 0#32
  let v23 : BitVec 1 := Scalar.cmpi .ne v22 c0_i32_27
  let v27 : BitVec 1 := Scalar.andi v26 v23
  let v28 : BitVec 32 := Scalar.addi v22 v21
  let v29 : BitVec 32 := Scalar.select v27 v28 v22
  let v50 : BitVec 32 := Scalar.subi c1_i32_50 v29
  let c1_i32_60 : BitVec 32 := 1#32
  let c0_i32_62 : BitVec 32 := 0#32
  let c0_i32_63 : BitVec 32 := 0#32
  ![v50.toNat, 1, 0, 0]
def k0_off6 (k0_t1 : Fin k0_t1_loop.trips) : Fin 2 → Nat :=
  let c0_i32_24 : BitVec 32 := 0#32
  let c0_i32_17 : BitVec 32 := 0#32
  let c1_i32_18 : BitVec 32 := 1#32
  let arg12 : BitVec 32 := Scf.iv c0_i32_17 c1_i32_18 k0_t1
  let c1_i32_23 : BitVec 32 := 1#32
  let v18 : BitVec 32 := Scalar.muli arg12 c1_i32_23
  let v19 : BitVec 32 := Scalar.addi c0_i32_24 v18
  let c2_i32 : BitVec 32 := 2#32
  let c0_i32_25 : BitVec 32 := 0#32
  let v20 : BitVec 1 := Scalar.cmpi .eq c2_i32 c0_i32_25
  let c1_i32_26 : BitVec 32 := 1#32
  let v21 : BitVec 32 := Scalar.select v20 c1_i32_26 c2_i32
  let v22 : BitVec 32 := Scalar.remsi v19 v21
  let c0_i32_28 : BitVec 32 := 0#32
  let v24 : BitVec 1 := Scalar.cmpi .slt v22 c0_i32_28
  let c0_i32_29 : BitVec 32 := 0#32
  let v25 : BitVec 1 := Scalar.cmpi .slt v21 c0_i32_29
  let v26 : BitVec 1 := Scalar.xori v24 v25
  let c0_i32_27 : BitVec 32 := 0#32
  let v23 : BitVec 1 := Scalar.cmpi .ne v22 c0_i32_27
  let v27 : BitVec 1 := Scalar.andi v26 v23
  let v28 : BitVec 32 := Scalar.addi v22 v21
  let v29 : BitVec 32 := Scalar.select v27 v28 v22
  let c0_i32_37 : BitVec 32 := 0#32
  ![v29.toNat, 0]
def k0_off7 (k0_t1 : Fin k0_t1_loop.trips) : Fin 4 → Nat :=
  let c0_i32_24 : BitVec 32 := 0#32
  let c0_i32_17 : BitVec 32 := 0#32
  let c1_i32_18 : BitVec 32 := 1#32
  let arg12 : BitVec 32 := Scf.iv c0_i32_17 c1_i32_18 k0_t1
  let c1_i32_23 : BitVec 32 := 1#32
  let v18 : BitVec 32 := Scalar.muli arg12 c1_i32_23
  let v19 : BitVec 32 := Scalar.addi c0_i32_24 v18
  let c2_i32 : BitVec 32 := 2#32
  let c0_i32_25 : BitVec 32 := 0#32
  let v20 : BitVec 1 := Scalar.cmpi .eq c2_i32 c0_i32_25
  let c1_i32_26 : BitVec 32 := 1#32
  let v21 : BitVec 32 := Scalar.select v20 c1_i32_26 c2_i32
  let v22 : BitVec 32 := Scalar.remsi v19 v21
  let c0_i32_28 : BitVec 32 := 0#32
  let v24 : BitVec 1 := Scalar.cmpi .slt v22 c0_i32_28
  let c0_i32_29 : BitVec 32 := 0#32
  let v25 : BitVec 1 := Scalar.cmpi .slt v21 c0_i32_29
  let v26 : BitVec 1 := Scalar.xori v24 v25
  let c0_i32_27 : BitVec 32 := 0#32
  let v23 : BitVec 1 := Scalar.cmpi .ne v22 c0_i32_27
  let v27 : BitVec 1 := Scalar.andi v26 v23
  let v28 : BitVec 32 := Scalar.addi v22 v21
  let v29 : BitVec 32 := Scalar.select v27 v28 v22
  let c0_i32_36 : BitVec 32 := 0#32
  let c0_i32_38 : BitVec 32 := 0#32
  let c0_i32_39 : BitVec 32 := 0#32
  ![v29.toNat, 0, 0, 0]
def k0_off8 (k0_t1 : Fin k0_t1_loop.trips) (c0_i32_33 : BitVec 32) : Fin 2 → Nat :=
  let c0_i32_40 : BitVec 32 := 0#32
  let c0_i32_24 : BitVec 32 := 0#32
  let c0_i32_17 : BitVec 32 := 0#32
  let c1_i32_18 : BitVec 32 := 1#32
  let arg12 : BitVec 32 := Scf.iv c0_i32_17 c1_i32_18 k0_t1
  let c1_i32_23 : BitVec 32 := 1#32
  let v18 : BitVec 32 := Scalar.muli arg12 c1_i32_23
  let v19 : BitVec 32 := Scalar.addi c0_i32_24 v18
  let v34 : BitVec 32 := Scalar.addi v19 c0_i32_33
  let c128_i32 : BitVec 32 := 128#32
  let v35 : BitVec 32 := Scalar.muli v34 c128_i32
  ![0, v35.toNat]
def k0_off9 (k0_t1 : Fin k0_t1_loop.trips) : Fin 2 → Nat :=
  let c0_i32_24 : BitVec 32 := 0#32
  let c0_i32_17 : BitVec 32 := 0#32
  let c1_i32_18 : BitVec 32 := 1#32
  let arg12 : BitVec 32 := Scf.iv c0_i32_17 c1_i32_18 k0_t1
  let c1_i32_23 : BitVec 32 := 1#32
  let v18 : BitVec 32 := Scalar.muli arg12 c1_i32_23
  let v19 : BitVec 32 := Scalar.addi c0_i32_24 v18
  let c2_i32 : BitVec 32 := 2#32
  let c0_i32_25 : BitVec 32 := 0#32
  let v20 : BitVec 1 := Scalar.cmpi .eq c2_i32 c0_i32_25
  let c1_i32_26 : BitVec 32 := 1#32
  let v21 : BitVec 32 := Scalar.select v20 c1_i32_26 c2_i32
  let v22 : BitVec 32 := Scalar.remsi v19 v21
  let c0_i32_28 : BitVec 32 := 0#32
  let v24 : BitVec 1 := Scalar.cmpi .slt v22 c0_i32_28
  let c0_i32_29 : BitVec 32 := 0#32
  let v25 : BitVec 1 := Scalar.cmpi .slt v21 c0_i32_29
  let v26 : BitVec 1 := Scalar.xori v24 v25
  let c0_i32_27 : BitVec 32 := 0#32
  let v23 : BitVec 1 := Scalar.cmpi .ne v22 c0_i32_27
  let v27 : BitVec 1 := Scalar.andi v26 v23
  let v28 : BitVec 32 := Scalar.addi v22 v21
  let v29 : BitVec 32 := Scalar.select v27 v28 v22
  let c1_i32_42 : BitVec 32 := 1#32
  ![v29.toNat, 1]
def k0_off10 (k0_t1 : Fin k0_t1_loop.trips) : Fin 4 → Nat :=
  let c0_i32_24 : BitVec 32 := 0#32
  let c0_i32_17 : BitVec 32 := 0#32
  let c1_i32_18 : BitVec 32 := 1#32
  let arg12 : BitVec 32 := Scf.iv c0_i32_17 c1_i32_18 k0_t1
  let c1_i32_23 : BitVec 32 := 1#32
  let v18 : BitVec 32 := Scalar.muli arg12 c1_i32_23
  let v19 : BitVec 32 := Scalar.addi c0_i32_24 v18
  let c2_i32 : BitVec 32 := 2#32
  let c0_i32_25 : BitVec 32 := 0#32
  let v20 : BitVec 1 := Scalar.cmpi .eq c2_i32 c0_i32_25
  let c1_i32_26 : BitVec 32 := 1#32
  let v21 : BitVec 32 := Scalar.select v20 c1_i32_26 c2_i32
  let v22 : BitVec 32 := Scalar.remsi v19 v21
  let c0_i32_28 : BitVec 32 := 0#32
  let v24 : BitVec 1 := Scalar.cmpi .slt v22 c0_i32_28
  let c0_i32_29 : BitVec 32 := 0#32
  let v25 : BitVec 1 := Scalar.cmpi .slt v21 c0_i32_29
  let v26 : BitVec 1 := Scalar.xori v24 v25
  let c0_i32_27 : BitVec 32 := 0#32
  let v23 : BitVec 1 := Scalar.cmpi .ne v22 c0_i32_27
  let v27 : BitVec 1 := Scalar.andi v26 v23
  let v28 : BitVec 32 := Scalar.addi v22 v21
  let v29 : BitVec 32 := Scalar.select v27 v28 v22
  let c1_i32_41 : BitVec 32 := 1#32
  let c0_i32_43 : BitVec 32 := 0#32
  let c0_i32_44 : BitVec 32 := 0#32
  ![v29.toNat, 1, 0, 0]
@[reducible] def k0_t2_loop : Scf.Loop 32 :=
  let c0_i32_46 : BitVec 32 := 0#32
  let c32_i32 : BitVec 32 := 32#32
  let v48 : BitVec 32 := Scalar.addi c0_i32_46 c32_i32
  let c1_i32_47 : BitVec 32 := 1#32
  ⟨c0_i32_46, v48, c1_i32_47⟩
def k0_off11 (k0_t1 : Fin k0_t1_loop.trips) (k0_t2 : Fin k0_t2_loop.trips) : Fin 4 → Nat :=
  let c0_i32_24 : BitVec 32 := 0#32
  let c0_i32_17 : BitVec 32 := 0#32
  let c1_i32_18 : BitVec 32 := 1#32
  let arg12 : BitVec 32 := Scf.iv c0_i32_17 c1_i32_18 k0_t1
  let c1_i32_23 : BitVec 32 := 1#32
  let v18 : BitVec 32 := Scalar.muli arg12 c1_i32_23
  let v19 : BitVec 32 := Scalar.addi c0_i32_24 v18
  let c2_i32 : BitVec 32 := 2#32
  let c0_i32_25 : BitVec 32 := 0#32
  let v20 : BitVec 1 := Scalar.cmpi .eq c2_i32 c0_i32_25
  let c1_i32_26 : BitVec 32 := 1#32
  let v21 : BitVec 32 := Scalar.select v20 c1_i32_26 c2_i32
  let v22 : BitVec 32 := Scalar.remsi v19 v21
  let c0_i32_28 : BitVec 32 := 0#32
  let v24 : BitVec 1 := Scalar.cmpi .slt v22 c0_i32_28
  let c0_i32_29 : BitVec 32 := 0#32
  let v25 : BitVec 1 := Scalar.cmpi .slt v21 c0_i32_29
  let v26 : BitVec 1 := Scalar.xori v24 v25
  let c0_i32_27 : BitVec 32 := 0#32
  let v23 : BitVec 1 := Scalar.cmpi .ne v22 c0_i32_27
  let v27 : BitVec 1 := Scalar.andi v26 v23
  let v28 : BitVec 32 := Scalar.addi v22 v21
  let v29 : BitVec 32 := Scalar.select v27 v28 v22
  let v52 : Index := Scalar.indexCast v29
  let c0 : Index := 0#32
  let c0_i32_50 : BitVec 32 := 0#32
  let c0_i32_46 : BitVec 32 := 0#32
  let c1_i32_47 : BitVec 32 := 1#32
  let arg13 : BitVec 32 := Scf.iv c0_i32_46 c1_i32_47 k0_t2
  let c1_i32_49 : BitVec 32 := 1#32
  let v49 : BitVec 32 := Scalar.muli arg13 c1_i32_49
  let v50 : BitVec 32 := Scalar.addi c0_i32_50 v49
  let c128_i32_51 : BitVec 32 := 128#32
  let v51 : BitVec 32 := Scalar.muli v50 c128_i32_51
  let v53 : Index := Scalar.indexCast v51
  let c0_52 : Index := 0#32
  ![v52.toNat, 0, v53.toNat, 0]
def k0_off12 (k0_t1 : Fin k0_t1_loop.trips) (k0_t2 : Fin k0_t2_loop.trips) (c0_i32_53 : BitVec 32) : Fin 2 → Nat :=
  let c0_i32_50 : BitVec 32 := 0#32
  let c0_i32_46 : BitVec 32 := 0#32
  let c1_i32_47 : BitVec 32 := 1#32
  let arg13 : BitVec 32 := Scf.iv c0_i32_46 c1_i32_47 k0_t2
  let c1_i32_49 : BitVec 32 := 1#32
  let v49 : BitVec 32 := Scalar.muli arg13 c1_i32_49
  let v50 : BitVec 32 := Scalar.addi c0_i32_50 v49
  let v58 : Index := Scalar.indexCast v50
  let c0_i32_24 : BitVec 32 := 0#32
  let c0_i32_17 : BitVec 32 := 0#32
  let c1_i32_18 : BitVec 32 := 1#32
  let arg12 : BitVec 32 := Scf.iv c0_i32_17 c1_i32_18 k0_t1
  let c1_i32_23 : BitVec 32 := 1#32
  let v18 : BitVec 32 := Scalar.muli arg12 c1_i32_23
  let v19 : BitVec 32 := Scalar.addi c0_i32_24 v18
  let v57 : BitVec 32 := Scalar.addi v19 c0_i32_53
  let v59 : Index := Scalar.indexCast v57
  ![v58.toNat, v59.toNat]
def k0_off13 (k0_t1 : Fin k0_t1_loop.trips) (k0_t2 : Fin k0_t2_loop.trips) : Fin 3 → Nat :=
  let c0_i32_24 : BitVec 32 := 0#32
  let c0_i32_17 : BitVec 32 := 0#32
  let c1_i32_18 : BitVec 32 := 1#32
  let arg12 : BitVec 32 := Scf.iv c0_i32_17 c1_i32_18 k0_t1
  let c1_i32_23 : BitVec 32 := 1#32
  let v18 : BitVec 32 := Scalar.muli arg12 c1_i32_23
  let v19 : BitVec 32 := Scalar.addi c0_i32_24 v18
  let v65 : Index := Scalar.indexCast v19
  let c0_i32_50 : BitVec 32 := 0#32
  let c0_i32_46 : BitVec 32 := 0#32
  let c1_i32_47 : BitVec 32 := 1#32
  let arg13 : BitVec 32 := Scf.iv c0_i32_46 c1_i32_47 k0_t2
  let c1_i32_49 : BitVec 32 := 1#32
  let v49 : BitVec 32 := Scalar.muli arg13 c1_i32_49
  let v50 : BitVec 32 := Scalar.addi c0_i32_50 v49
  let c128_i32_51 : BitVec 32 := 128#32
  let v51 : BitVec 32 := Scalar.muli v50 c128_i32_51
  let v66 : Index := Scalar.indexCast v51
  let c0_54 : Index := 0#32
  ![v65.toNat, v66.toNat, 0]
def k0_off14 (k0_t1 : Fin k0_t1_loop.trips) (k0_t2 : Fin k0_t2_loop.trips) : Fin 4 → Nat :=
  let c0_i32_24 : BitVec 32 := 0#32
  let c0_i32_17 : BitVec 32 := 0#32
  let c1_i32_18 : BitVec 32 := 1#32
  let arg12 : BitVec 32 := Scf.iv c0_i32_17 c1_i32_18 k0_t1
  let c1_i32_23 : BitVec 32 := 1#32
  let v18 : BitVec 32 := Scalar.muli arg12 c1_i32_23
  let v19 : BitVec 32 := Scalar.addi c0_i32_24 v18
  let c2_i32 : BitVec 32 := 2#32
  let c0_i32_25 : BitVec 32 := 0#32
  let v20 : BitVec 1 := Scalar.cmpi .eq c2_i32 c0_i32_25
  let c1_i32_26 : BitVec 32 := 1#32
  let v21 : BitVec 32 := Scalar.select v20 c1_i32_26 c2_i32
  let v22 : BitVec 32 := Scalar.remsi v19 v21
  let c0_i32_28 : BitVec 32 := 0#32
  let v24 : BitVec 1 := Scalar.cmpi .slt v22 c0_i32_28
  let c0_i32_29 : BitVec 32 := 0#32
  let v25 : BitVec 1 := Scalar.cmpi .slt v21 c0_i32_29
  let v26 : BitVec 1 := Scalar.xori v24 v25
  let c0_i32_27 : BitVec 32 := 0#32
  let v23 : BitVec 1 := Scalar.cmpi .ne v22 c0_i32_27
  let v27 : BitVec 1 := Scalar.andi v26 v23
  let v28 : BitVec 32 := Scalar.addi v22 v21
  let v29 : BitVec 32 := Scalar.select v27 v28 v22
  let v70 : Index := Scalar.indexCast v29
  let c1 : Index := 1#32
  let c0_i32_50 : BitVec 32 := 0#32
  let c0_i32_46 : BitVec 32 := 0#32
  let c1_i32_47 : BitVec 32 := 1#32
  let arg13 : BitVec 32 := Scf.iv c0_i32_46 c1_i32_47 k0_t2
  let c1_i32_49 : BitVec 32 := 1#32
  let v49 : BitVec 32 := Scalar.muli arg13 c1_i32_49
  let v50 : BitVec 32 := Scalar.addi c0_i32_50 v49
  let c128_i32_51 : BitVec 32 := 128#32
  let v51 : BitVec 32 := Scalar.muli v50 c128_i32_51
  let v71 : Index := Scalar.indexCast v51
  let c0_55 : Index := 0#32
  ![v70.toNat, 1, v71.toNat, 0]
def k0_off15 (k0_t1 : Fin k0_t1_loop.trips) (k0_t2 : Fin k0_t2_loop.trips) : Fin 3 → Nat :=
  let c0_i32_24 : BitVec 32 := 0#32
  let c0_i32_17 : BitVec 32 := 0#32
  let c1_i32_18 : BitVec 32 := 1#32
  let arg12 : BitVec 32 := Scf.iv c0_i32_17 c1_i32_18 k0_t1
  let c1_i32_23 : BitVec 32 := 1#32
  let v18 : BitVec 32 := Scalar.muli arg12 c1_i32_23
  let v19 : BitVec 32 := Scalar.addi c0_i32_24 v18
  let v83 : Index := Scalar.indexCast v19
  let c0_i32_50 : BitVec 32 := 0#32
  let c0_i32_46 : BitVec 32 := 0#32
  let c1_i32_47 : BitVec 32 := 1#32
  let arg13 : BitVec 32 := Scf.iv c0_i32_46 c1_i32_47 k0_t2
  let c1_i32_49 : BitVec 32 := 1#32
  let v49 : BitVec 32 := Scalar.muli arg13 c1_i32_49
  let v50 : BitVec 32 := Scalar.addi c0_i32_50 v49
  let c128_i32_51 : BitVec 32 := 128#32
  let v51 : BitVec 32 := Scalar.muli v50 c128_i32_51
  let v84 : Index := Scalar.indexCast v51
  let c128 : Index := 128#32
  ![v83.toNat, v84.toNat, 128]
@[reducible] def k0_t3_loop : Scf.Loop 32 :=
  let c0_i32_20 : BitVec 32 := 0#32
  let c4_i32 : BitVec 32 := 4#32
  let v17 : BitVec 32 := Scalar.addi c0_i32_20 c4_i32
  let c1_i32_21 : BitVec 32 := 1#32
  ⟨c0_i32_20, v17, c1_i32_21⟩
def k0_mult1 (k0_t3 : Fin k0_t3_loop.trips) : BitVec 32 :=
  let c0_i32_23 : BitVec 32 := 0#32
  let c0_i32_20 : BitVec 32 := 0#32
  let c1_i32_21 : BitVec 32 := 1#32
  let arg12 : BitVec 32 := Scf.iv c0_i32_20 c1_i32_21 k0_t3
  let c128_i32 : BitVec 32 := 128#32
  let v18 : BitVec 32 := Scalar.muli arg12 c128_i32
  let v19 : BitVec 32 := Scalar.addi c0_i32_23 v18
  v19
def k0_off16 (k0_t3 : Fin k0_t3_loop.trips) : Fin 2 → Nat :=
  let c0_i32_23 : BitVec 32 := 0#32
  let c0_i32_20 : BitVec 32 := 0#32
  let c1_i32_21 : BitVec 32 := 1#32
  let arg12 : BitVec 32 := Scf.iv c0_i32_20 c1_i32_21 k0_t3
  let c128_i32 : BitVec 32 := 128#32
  let v18 : BitVec 32 := Scalar.muli arg12 c128_i32
  let v19 : BitVec 32 := Scalar.addi c0_i32_23 v18
  let v20 : BitVec 32 := v19
  let v22 : Index := Scalar.indexCast v20
  let c0 : Index := 0#32
  ![v22.toNat, 0]
def k0_off17 (k0_t3 : Fin k0_t3_loop.trips) : Fin 3 → Nat :=
  let c0_i32_32 : BitVec 32 := 0#32
  let c0_i32_23 : BitVec 32 := 0#32
  let c0_i32_20 : BitVec 32 := 0#32
  let c1_i32_21 : BitVec 32 := 1#32
  let arg12 : BitVec 32 := Scf.iv c0_i32_20 c1_i32_21 k0_t3
  let c128_i32 : BitVec 32 := 128#32
  let v18 : BitVec 32 := Scalar.muli arg12 c128_i32
  let v19 : BitVec 32 := Scalar.addi c0_i32_23 v18
  let v20 : BitVec 32 := v19
  let v77 : Index := Scalar.indexCast v20
  let c0_i32_34 : BitVec 32 := 0#32
  ![0, v77.toNat, 0]
def k0_off18 (k0_t3 : Fin k0_t3_loop.trips) : Fin 2 → Nat :=
  let c0_i32_23 : BitVec 32 := 0#32
  let c0_i32_20 : BitVec 32 := 0#32
  let c1_i32_21 : BitVec 32 := 1#32
  let arg12 : BitVec 32 := Scf.iv c0_i32_20 c1_i32_21 k0_t3
  let c128_i32 : BitVec 32 := 128#32
  let v18 : BitVec 32 := Scalar.muli arg12 c128_i32
  let v19 : BitVec 32 := Scalar.addi c0_i32_23 v18
  let v20 : BitVec 32 := v19
  let v87 : Index := Scalar.indexCast v20
  let c128 : Index := 128#32
  ![v87.toNat, 128]
def k0_off19 (k0_t3 : Fin k0_t3_loop.trips) : Fin 3 → Nat :=
  let c0_i32_52 : BitVec 32 := 0#32
  let c0_i32_23 : BitVec 32 := 0#32
  let c0_i32_20 : BitVec 32 := 0#32
  let c1_i32_21 : BitVec 32 := 1#32
  let arg12 : BitVec 32 := Scf.iv c0_i32_20 c1_i32_21 k0_t3
  let c128_i32 : BitVec 32 := 128#32
  let v18 : BitVec 32 := Scalar.muli arg12 c128_i32
  let v19 : BitVec 32 := Scalar.addi c0_i32_23 v18
  let v20 : BitVec 32 := v19
  let v142 : Index := Scalar.indexCast v20
  ![0, v142.toNat, 128]
def k0_off20 (k0_t3 : Fin k0_t3_loop.trips) : Fin 2 → Nat :=
  let c0_i32_23 : BitVec 32 := 0#32
  let c0_i32_20 : BitVec 32 := 0#32
  let c1_i32_21 : BitVec 32 := 1#32
  let arg12 : BitVec 32 := Scf.iv c0_i32_20 c1_i32_21 k0_t3
  let c128_i32 : BitVec 32 := 128#32
  let v18 : BitVec 32 := Scalar.muli arg12 c128_i32
  let v19 : BitVec 32 := Scalar.addi c0_i32_23 v18
  let v20 : BitVec 32 := v19
  let v152 : Index := Scalar.indexCast v20
  let c256 : Index := 256#32
  ![v152.toNat, 256]
def k0_off21 (k0_t3 : Fin k0_t3_loop.trips) : Fin 3 → Nat :=
  let c0_i32_72 : BitVec 32 := 0#32
  let c0_i32_23 : BitVec 32 := 0#32
  let c0_i32_20 : BitVec 32 := 0#32
  let c1_i32_21 : BitVec 32 := 1#32
  let arg12 : BitVec 32 := Scf.iv c0_i32_20 c1_i32_21 k0_t3
  let c128_i32 : BitVec 32 := 128#32
  let v18 : BitVec 32 := Scalar.muli arg12 c128_i32
  let v19 : BitVec 32 := Scalar.addi c0_i32_23 v18
  let v20 : BitVec 32 := v19
  let v207 : Index := Scalar.indexCast v20
  ![0, v207.toNat, 256]
def k0_off22 (k0_t3 : Fin k0_t3_loop.trips) : Fin 2 → Nat :=
  let c0_i32_23 : BitVec 32 := 0#32
  let c0_i32_20 : BitVec 32 := 0#32
  let c1_i32_21 : BitVec 32 := 1#32
  let arg12 : BitVec 32 := Scf.iv c0_i32_20 c1_i32_21 k0_t3
  let c128_i32 : BitVec 32 := 128#32
  let v18 : BitVec 32 := Scalar.muli arg12 c128_i32
  let v19 : BitVec 32 := Scalar.addi c0_i32_23 v18
  let v20 : BitVec 32 := v19
  let v217 : Index := Scalar.indexCast v20
  let c384 : Index := 384#32
  ![v217.toNat, 384]
def k0_off23 (k0_t3 : Fin k0_t3_loop.trips) : Fin 3 → Nat :=
  let c0_i32_91 : BitVec 32 := 0#32
  let c0_i32_23 : BitVec 32 := 0#32
  let c0_i32_20 : BitVec 32 := 0#32
  let c1_i32_21 : BitVec 32 := 1#32
  let arg12 : BitVec 32 := Scf.iv c0_i32_20 c1_i32_21 k0_t3
  let c128_i32 : BitVec 32 := 128#32
  let v18 : BitVec 32 := Scalar.muli arg12 c128_i32
  let v19 : BitVec 32 := Scalar.addi c0_i32_23 v18
  let v20 : BitVec 32 := v19
  let v272 : Index := Scalar.indexCast v20
  ![0, v272.toNat, 384]
def k0_off24 (k0_t3 : Fin k0_t3_loop.trips) : Fin 2 → Nat :=
  let c0_i32_23 : BitVec 32 := 0#32
  let c0_i32_20 : BitVec 32 := 0#32
  let c1_i32_21 : BitVec 32 := 1#32
  let arg12 : BitVec 32 := Scf.iv c0_i32_20 c1_i32_21 k0_t3
  let c128_i32 : BitVec 32 := 128#32
  let v18 : BitVec 32 := Scalar.muli arg12 c128_i32
  let v19 : BitVec 32 := Scalar.addi c0_i32_23 v18
  let v20 : BitVec 32 := v19
  let v282 : Index := Scalar.indexCast v20
  let c512 : Index := 512#32
  ![v282.toNat, 512]
def k0_off25 (k0_t3 : Fin k0_t3_loop.trips) : Fin 3 → Nat :=
  let c0_i32_110 : BitVec 32 := 0#32
  let c0_i32_23 : BitVec 32 := 0#32
  let c0_i32_20 : BitVec 32 := 0#32
  let c1_i32_21 : BitVec 32 := 1#32
  let arg12 : BitVec 32 := Scf.iv c0_i32_20 c1_i32_21 k0_t3
  let c128_i32 : BitVec 32 := 128#32
  let v18 : BitVec 32 := Scalar.muli arg12 c128_i32
  let v19 : BitVec 32 := Scalar.addi c0_i32_23 v18
  let v20 : BitVec 32 := v19
  let v337 : Index := Scalar.indexCast v20
  ![0, v337.toNat, 512]
def k0_off26 (k0_t3 : Fin k0_t3_loop.trips) : Fin 2 → Nat :=
  let c0_i32_23 : BitVec 32 := 0#32
  let c0_i32_20 : BitVec 32 := 0#32
  let c1_i32_21 : BitVec 32 := 1#32
  let arg12 : BitVec 32 := Scf.iv c0_i32_20 c1_i32_21 k0_t3
  let c128_i32 : BitVec 32 := 128#32
  let v18 : BitVec 32 := Scalar.muli arg12 c128_i32
  let v19 : BitVec 32 := Scalar.addi c0_i32_23 v18
  let v20 : BitVec 32 := v19
  let v347 : Index := Scalar.indexCast v20
  let c640 : Index := 640#32
  ![v347.toNat, 640]
def k0_off27 (k0_t3 : Fin k0_t3_loop.trips) : Fin 3 → Nat :=
  let c0_i32_130 : BitVec 32 := 0#32
  let c0_i32_23 : BitVec 32 := 0#32
  let c0_i32_20 : BitVec 32 := 0#32
  let c1_i32_21 : BitVec 32 := 1#32
  let arg12 : BitVec 32 := Scf.iv c0_i32_20 c1_i32_21 k0_t3
  let c128_i32 : BitVec 32 := 128#32
  let v18 : BitVec 32 := Scalar.muli arg12 c128_i32
  let v19 : BitVec 32 := Scalar.addi c0_i32_23 v18
  let v20 : BitVec 32 := v19
  let v402 : Index := Scalar.indexCast v20
  ![0, v402.toNat, 640]
def k0_off28 (k0_t3 : Fin k0_t3_loop.trips) : Fin 2 → Nat :=
  let c0_i32_23 : BitVec 32 := 0#32
  let c0_i32_20 : BitVec 32 := 0#32
  let c1_i32_21 : BitVec 32 := 1#32
  let arg12 : BitVec 32 := Scf.iv c0_i32_20 c1_i32_21 k0_t3
  let c128_i32 : BitVec 32 := 128#32
  let v18 : BitVec 32 := Scalar.muli arg12 c128_i32
  let v19 : BitVec 32 := Scalar.addi c0_i32_23 v18
  let v20 : BitVec 32 := v19
  let v412 : Index := Scalar.indexCast v20
  let c768 : Index := 768#32
  ![v412.toNat, 768]
def k0_off29 (k0_t3 : Fin k0_t3_loop.trips) : Fin 3 → Nat :=
  let c0_i32_149 : BitVec 32 := 0#32
  let c0_i32_23 : BitVec 32 := 0#32
  let c0_i32_20 : BitVec 32 := 0#32
  let c1_i32_21 : BitVec 32 := 1#32
  let arg12 : BitVec 32 := Scf.iv c0_i32_20 c1_i32_21 k0_t3
  let c128_i32 : BitVec 32 := 128#32
  let v18 : BitVec 32 := Scalar.muli arg12 c128_i32
  let v19 : BitVec 32 := Scalar.addi c0_i32_23 v18
  let v20 : BitVec 32 := v19
  let v467 : Index := Scalar.indexCast v20
  ![0, v467.toNat, 768]
def k0_off30 (k0_t3 : Fin k0_t3_loop.trips) : Fin 2 → Nat :=
  let c0_i32_23 : BitVec 32 := 0#32
  let c0_i32_20 : BitVec 32 := 0#32
  let c1_i32_21 : BitVec 32 := 1#32
  let arg12 : BitVec 32 := Scf.iv c0_i32_20 c1_i32_21 k0_t3
  let c128_i32 : BitVec 32 := 128#32
  let v18 : BitVec 32 := Scalar.muli arg12 c128_i32
  let v19 : BitVec 32 := Scalar.addi c0_i32_23 v18
  let v20 : BitVec 32 := v19
  let v477 : Index := Scalar.indexCast v20
  let c896 : Index := 896#32
  ![v477.toNat, 896]
def k0_off31 (k0_t3 : Fin k0_t3_loop.trips) : Fin 3 → Nat :=
  let c0_i32_168 : BitVec 32 := 0#32
  let c0_i32_23 : BitVec 32 := 0#32
  let c0_i32_20 : BitVec 32 := 0#32
  let c1_i32_21 : BitVec 32 := 1#32
  let arg12 : BitVec 32 := Scf.iv c0_i32_20 c1_i32_21 k0_t3
  let c128_i32 : BitVec 32 := 128#32
  let v18 : BitVec 32 := Scalar.muli arg12 c128_i32
  let v19 : BitVec 32 := Scalar.addi c0_i32_23 v18
  let v20 : BitVec 32 := v19
  let v532 : Index := Scalar.indexCast v20
  ![0, v532.toNat, 896]
def k0_off32 (k0_t3 : Fin k0_t3_loop.trips) : Fin 2 → Nat :=
  let c0_i32_23 : BitVec 32 := 0#32
  let c0_i32_20 : BitVec 32 := 0#32
  let c1_i32_21 : BitVec 32 := 1#32
  let arg12 : BitVec 32 := Scf.iv c0_i32_20 c1_i32_21 k0_t3
  let c128_i32 : BitVec 32 := 128#32
  let v18 : BitVec 32 := Scalar.muli arg12 c128_i32
  let v19 : BitVec 32 := Scalar.addi c0_i32_23 v18
  let v20 : BitVec 32 := v19
  let v542 : Index := Scalar.indexCast v20
  let c1024 : Index := 1024#32
  ![v542.toNat, 1024]
def k0_off33 (k0_t3 : Fin k0_t3_loop.trips) : Fin 3 → Nat :=
  let c0_i32_187 : BitVec 32 := 0#32
  let c0_i32_23 : BitVec 32 := 0#32
  let c0_i32_20 : BitVec 32 := 0#32
  let c1_i32_21 : BitVec 32 := 1#32
  let arg12 : BitVec 32 := Scf.iv c0_i32_20 c1_i32_21 k0_t3
  let c128_i32 : BitVec 32 := 128#32
  let v18 : BitVec 32 := Scalar.muli arg12 c128_i32
  let v19 : BitVec 32 := Scalar.addi c0_i32_23 v18
  let v20 : BitVec 32 := v19
  let v597 : Index := Scalar.indexCast v20
  ![0, v597.toNat, 1024]
def k0_off34 (k0_t3 : Fin k0_t3_loop.trips) : Fin 2 → Nat :=
  let c0_i32_23 : BitVec 32 := 0#32
  let c0_i32_20 : BitVec 32 := 0#32
  let c1_i32_21 : BitVec 32 := 1#32
  let arg12 : BitVec 32 := Scf.iv c0_i32_20 c1_i32_21 k0_t3
  let c128_i32 : BitVec 32 := 128#32
  let v18 : BitVec 32 := Scalar.muli arg12 c128_i32
  let v19 : BitVec 32 := Scalar.addi c0_i32_23 v18
  let v20 : BitVec 32 := v19
  let v607 : Index := Scalar.indexCast v20
  let c1152 : Index := 1152#32
  ![v607.toNat, 1152]
def k0_off35 (k0_t3 : Fin k0_t3_loop.trips) : Fin 3 → Nat :=
  let c0_i32_206 : BitVec 32 := 0#32
  let c0_i32_23 : BitVec 32 := 0#32
  let c0_i32_20 : BitVec 32 := 0#32
  let c1_i32_21 : BitVec 32 := 1#32
  let arg12 : BitVec 32 := Scf.iv c0_i32_20 c1_i32_21 k0_t3
  let c128_i32 : BitVec 32 := 128#32
  let v18 : BitVec 32 := Scalar.muli arg12 c128_i32
  let v19 : BitVec 32 := Scalar.addi c0_i32_23 v18
  let v20 : BitVec 32 := v19
  let v662 : Index := Scalar.indexCast v20
  ![0, v662.toNat, 1152]
def k0_off36 (k0_t3 : Fin k0_t3_loop.trips) : Fin 2 → Nat :=
  let c0_i32_23 : BitVec 32 := 0#32
  let c0_i32_20 : BitVec 32 := 0#32
  let c1_i32_21 : BitVec 32 := 1#32
  let arg12 : BitVec 32 := Scf.iv c0_i32_20 c1_i32_21 k0_t3
  let c128_i32 : BitVec 32 := 128#32
  let v18 : BitVec 32 := Scalar.muli arg12 c128_i32
  let v19 : BitVec 32 := Scalar.addi c0_i32_23 v18
  let v20 : BitVec 32 := v19
  let v672 : Index := Scalar.indexCast v20
  let c1280 : Index := 1280#32
  ![v672.toNat, 1280]
def k0_off37 (k0_t3 : Fin k0_t3_loop.trips) : Fin 3 → Nat :=
  let c0_i32_225 : BitVec 32 := 0#32
  let c0_i32_23 : BitVec 32 := 0#32
  let c0_i32_20 : BitVec 32 := 0#32
  let c1_i32_21 : BitVec 32 := 1#32
  let arg12 : BitVec 32 := Scf.iv c0_i32_20 c1_i32_21 k0_t3
  let c128_i32 : BitVec 32 := 128#32
  let v18 : BitVec 32 := Scalar.muli arg12 c128_i32
  let v19 : BitVec 32 := Scalar.addi c0_i32_23 v18
  let v20 : BitVec 32 := v19
  let v727 : Index := Scalar.indexCast v20
  ![0, v727.toNat, 1280]
def k0_off38 (k0_t3 : Fin k0_t3_loop.trips) : Fin 2 → Nat :=
  let c0_i32_23 : BitVec 32 := 0#32
  let c0_i32_20 : BitVec 32 := 0#32
  let c1_i32_21 : BitVec 32 := 1#32
  let arg12 : BitVec 32 := Scf.iv c0_i32_20 c1_i32_21 k0_t3
  let c128_i32 : BitVec 32 := 128#32
  let v18 : BitVec 32 := Scalar.muli arg12 c128_i32
  let v19 : BitVec 32 := Scalar.addi c0_i32_23 v18
  let v20 : BitVec 32 := v19
  let v737 : Index := Scalar.indexCast v20
  let c1408 : Index := 1408#32
  ![v737.toNat, 1408]
def k0_off39 (k0_t3 : Fin k0_t3_loop.trips) : Fin 3 → Nat :=
  let c0_i32_244 : BitVec 32 := 0#32
  let c0_i32_23 : BitVec 32 := 0#32
  let c0_i32_20 : BitVec 32 := 0#32
  let c1_i32_21 : BitVec 32 := 1#32
  let arg12 : BitVec 32 := Scf.iv c0_i32_20 c1_i32_21 k0_t3
  let c128_i32 : BitVec 32 := 128#32
  let v18 : BitVec 32 := Scalar.muli arg12 c128_i32
  let v19 : BitVec 32 := Scalar.addi c0_i32_23 v18
  let v20 : BitVec 32 := v19
  let v792 : Index := Scalar.indexCast v20
  ![0, v792.toNat, 1408]
def k0_off40 (k0_t3 : Fin k0_t3_loop.trips) : Fin 2 → Nat :=
  let c0_i32_23 : BitVec 32 := 0#32
  let c0_i32_20 : BitVec 32 := 0#32
  let c1_i32_21 : BitVec 32 := 1#32
  let arg12 : BitVec 32 := Scf.iv c0_i32_20 c1_i32_21 k0_t3
  let c128_i32 : BitVec 32 := 128#32
  let v18 : BitVec 32 := Scalar.muli arg12 c128_i32
  let v19 : BitVec 32 := Scalar.addi c0_i32_23 v18
  let v20 : BitVec 32 := v19
  let v802 : Index := Scalar.indexCast v20
  let c1536 : Index := 1536#32
  ![v802.toNat, 1536]
def k0_off41 (k0_t3 : Fin k0_t3_loop.trips) : Fin 3 → Nat :=
  let c0_i32_263 : BitVec 32 := 0#32
  let c0_i32_23 : BitVec 32 := 0#32
  let c0_i32_20 : BitVec 32 := 0#32
  let c1_i32_21 : BitVec 32 := 1#32
  let arg12 : BitVec 32 := Scf.iv c0_i32_20 c1_i32_21 k0_t3
  let c128_i32 : BitVec 32 := 128#32
  let v18 : BitVec 32 := Scalar.muli arg12 c128_i32
  let v19 : BitVec 32 := Scalar.addi c0_i32_23 v18
  let v20 : BitVec 32 := v19
  let v857 : Index := Scalar.indexCast v20
  ![0, v857.toNat, 1536]
def k0_off42 (k0_t3 : Fin k0_t3_loop.trips) : Fin 2 → Nat :=
  let c0_i32_23 : BitVec 32 := 0#32
  let c0_i32_20 : BitVec 32 := 0#32
  let c1_i32_21 : BitVec 32 := 1#32
  let arg12 : BitVec 32 := Scf.iv c0_i32_20 c1_i32_21 k0_t3
  let c128_i32 : BitVec 32 := 128#32
  let v18 : BitVec 32 := Scalar.muli arg12 c128_i32
  let v19 : BitVec 32 := Scalar.addi c0_i32_23 v18
  let v20 : BitVec 32 := v19
  let v867 : Index := Scalar.indexCast v20
  let c1664 : Index := 1664#32
  ![v867.toNat, 1664]
def k0_off43 (k0_t3 : Fin k0_t3_loop.trips) : Fin 3 → Nat :=
  let c0_i32_282 : BitVec 32 := 0#32
  let c0_i32_23 : BitVec 32 := 0#32
  let c0_i32_20 : BitVec 32 := 0#32
  let c1_i32_21 : BitVec 32 := 1#32
  let arg12 : BitVec 32 := Scf.iv c0_i32_20 c1_i32_21 k0_t3
  let c128_i32 : BitVec 32 := 128#32
  let v18 : BitVec 32 := Scalar.muli arg12 c128_i32
  let v19 : BitVec 32 := Scalar.addi c0_i32_23 v18
  let v20 : BitVec 32 := v19
  let v922 : Index := Scalar.indexCast v20
  ![0, v922.toNat, 1664]
def k0_off44 (k0_t3 : Fin k0_t3_loop.trips) : Fin 2 → Nat :=
  let c0_i32_23 : BitVec 32 := 0#32
  let c0_i32_20 : BitVec 32 := 0#32
  let c1_i32_21 : BitVec 32 := 1#32
  let arg12 : BitVec 32 := Scf.iv c0_i32_20 c1_i32_21 k0_t3
  let c128_i32 : BitVec 32 := 128#32
  let v18 : BitVec 32 := Scalar.muli arg12 c128_i32
  let v19 : BitVec 32 := Scalar.addi c0_i32_23 v18
  let v20 : BitVec 32 := v19
  let v932 : Index := Scalar.indexCast v20
  let c1792 : Index := 1792#32
  ![v932.toNat, 1792]
def k0_off45 (k0_t3 : Fin k0_t3_loop.trips) : Fin 3 → Nat :=
  let c0_i32_302 : BitVec 32 := 0#32
  let c0_i32_23 : BitVec 32 := 0#32
  let c0_i32_20 : BitVec 32 := 0#32
  let c1_i32_21 : BitVec 32 := 1#32
  let arg12 : BitVec 32 := Scf.iv c0_i32_20 c1_i32_21 k0_t3
  let c128_i32 : BitVec 32 := 128#32
  let v18 : BitVec 32 := Scalar.muli arg12 c128_i32
  let v19 : BitVec 32 := Scalar.addi c0_i32_23 v18
  let v20 : BitVec 32 := v19
  let v987 : Index := Scalar.indexCast v20
  ![0, v987.toNat, 1792]
def k0_off46 (k0_t3 : Fin k0_t3_loop.trips) : Fin 2 → Nat :=
  let c0_i32_23 : BitVec 32 := 0#32
  let c0_i32_20 : BitVec 32 := 0#32
  let c1_i32_21 : BitVec 32 := 1#32
  let arg12 : BitVec 32 := Scf.iv c0_i32_20 c1_i32_21 k0_t3
  let c128_i32 : BitVec 32 := 128#32
  let v18 : BitVec 32 := Scalar.muli arg12 c128_i32
  let v19 : BitVec 32 := Scalar.addi c0_i32_23 v18
  let v20 : BitVec 32 := v19
  let v997 : Index := Scalar.indexCast v20
  let c1920 : Index := 1920#32
  ![v997.toNat, 1920]
def k0_off47 (k0_t3 : Fin k0_t3_loop.trips) : Fin 3 → Nat :=
  let c0_i32_321 : BitVec 32 := 0#32
  let c0_i32_23 : BitVec 32 := 0#32
  let c0_i32_20 : BitVec 32 := 0#32
  let c1_i32_21 : BitVec 32 := 1#32
  let arg12 : BitVec 32 := Scf.iv c0_i32_20 c1_i32_21 k0_t3
  let c128_i32 : BitVec 32 := 128#32
  let v18 : BitVec 32 := Scalar.muli arg12 c128_i32
  let v19 : BitVec 32 := Scalar.addi c0_i32_23 v18
  let v20 : BitVec 32 := v19
  let v1052 : Index := Scalar.indexCast v20
  ![0, v1052.toNat, 1920]
def k0_off48 (k0_t3 : Fin k0_t3_loop.trips) : Fin 2 → Nat :=
  let c0_i32_23 : BitVec 32 := 0#32
  let c0_i32_20 : BitVec 32 := 0#32
  let c1_i32_21 : BitVec 32 := 1#32
  let arg12 : BitVec 32 := Scf.iv c0_i32_20 c1_i32_21 k0_t3
  let c128_i32 : BitVec 32 := 128#32
  let v18 : BitVec 32 := Scalar.muli arg12 c128_i32
  let v19 : BitVec 32 := Scalar.addi c0_i32_23 v18
  let v20 : BitVec 32 := v19
  let v1062 : Index := Scalar.indexCast v20
  let c2048 : Index := 2048#32
  ![v1062.toNat, 2048]
def k0_off49 (k0_t3 : Fin k0_t3_loop.trips) : Fin 3 → Nat :=
  let c0_i32_340 : BitVec 32 := 0#32
  let c0_i32_23 : BitVec 32 := 0#32
  let c0_i32_20 : BitVec 32 := 0#32
  let c1_i32_21 : BitVec 32 := 1#32
  let arg12 : BitVec 32 := Scf.iv c0_i32_20 c1_i32_21 k0_t3
  let c128_i32 : BitVec 32 := 128#32
  let v18 : BitVec 32 := Scalar.muli arg12 c128_i32
  let v19 : BitVec 32 := Scalar.addi c0_i32_23 v18
  let v20 : BitVec 32 := v19
  let v1117 : Index := Scalar.indexCast v20
  ![0, v1117.toNat, 2048]
def k0_off50 (k0_t3 : Fin k0_t3_loop.trips) : Fin 2 → Nat :=
  let c0_i32_23 : BitVec 32 := 0#32
  let c0_i32_20 : BitVec 32 := 0#32
  let c1_i32_21 : BitVec 32 := 1#32
  let arg12 : BitVec 32 := Scf.iv c0_i32_20 c1_i32_21 k0_t3
  let c128_i32 : BitVec 32 := 128#32
  let v18 : BitVec 32 := Scalar.muli arg12 c128_i32
  let v19 : BitVec 32 := Scalar.addi c0_i32_23 v18
  let v20 : BitVec 32 := v19
  let v1127 : Index := Scalar.indexCast v20
  let c2176 : Index := 2176#32
  ![v1127.toNat, 2176]
def k0_off51 (k0_t3 : Fin k0_t3_loop.trips) : Fin 3 → Nat :=
  let c0_i32_359 : BitVec 32 := 0#32
  let c0_i32_23 : BitVec 32 := 0#32
  let c0_i32_20 : BitVec 32 := 0#32
  let c1_i32_21 : BitVec 32 := 1#32
  let arg12 : BitVec 32 := Scf.iv c0_i32_20 c1_i32_21 k0_t3
  let c128_i32 : BitVec 32 := 128#32
  let v18 : BitVec 32 := Scalar.muli arg12 c128_i32
  let v19 : BitVec 32 := Scalar.addi c0_i32_23 v18
  let v20 : BitVec 32 := v19
  let v1182 : Index := Scalar.indexCast v20
  ![0, v1182.toNat, 2176]
def k0_off52 (k0_t3 : Fin k0_t3_loop.trips) : Fin 2 → Nat :=
  let c0_i32_23 : BitVec 32 := 0#32
  let c0_i32_20 : BitVec 32 := 0#32
  let c1_i32_21 : BitVec 32 := 1#32
  let arg12 : BitVec 32 := Scf.iv c0_i32_20 c1_i32_21 k0_t3
  let c128_i32 : BitVec 32 := 128#32
  let v18 : BitVec 32 := Scalar.muli arg12 c128_i32
  let v19 : BitVec 32 := Scalar.addi c0_i32_23 v18
  let v20 : BitVec 32 := v19
  let v1192 : Index := Scalar.indexCast v20
  let c2304 : Index := 2304#32
  ![v1192.toNat, 2304]
def k0_off53 (k0_t3 : Fin k0_t3_loop.trips) : Fin 3 → Nat :=
  let c0_i32_378 : BitVec 32 := 0#32
  let c0_i32_23 : BitVec 32 := 0#32
  let c0_i32_20 : BitVec 32 := 0#32
  let c1_i32_21 : BitVec 32 := 1#32
  let arg12 : BitVec 32 := Scf.iv c0_i32_20 c1_i32_21 k0_t3
  let c128_i32 : BitVec 32 := 128#32
  let v18 : BitVec 32 := Scalar.muli arg12 c128_i32
  let v19 : BitVec 32 := Scalar.addi c0_i32_23 v18
  let v20 : BitVec 32 := v19
  let v1247 : Index := Scalar.indexCast v20
  ![0, v1247.toNat, 2304]
def k0_off54 (k0_t3 : Fin k0_t3_loop.trips) : Fin 2 → Nat :=
  let c0_i32_23 : BitVec 32 := 0#32
  let c0_i32_20 : BitVec 32 := 0#32
  let c1_i32_21 : BitVec 32 := 1#32
  let arg12 : BitVec 32 := Scf.iv c0_i32_20 c1_i32_21 k0_t3
  let c128_i32 : BitVec 32 := 128#32
  let v18 : BitVec 32 := Scalar.muli arg12 c128_i32
  let v19 : BitVec 32 := Scalar.addi c0_i32_23 v18
  let v20 : BitVec 32 := v19
  let v1257 : Index := Scalar.indexCast v20
  let c2432 : Index := 2432#32
  ![v1257.toNat, 2432]
def k0_off55 (k0_t3 : Fin k0_t3_loop.trips) : Fin 3 → Nat :=
  let c0_i32_397 : BitVec 32 := 0#32
  let c0_i32_23 : BitVec 32 := 0#32
  let c0_i32_20 : BitVec 32 := 0#32
  let c1_i32_21 : BitVec 32 := 1#32
  let arg12 : BitVec 32 := Scf.iv c0_i32_20 c1_i32_21 k0_t3
  let c128_i32 : BitVec 32 := 128#32
  let v18 : BitVec 32 := Scalar.muli arg12 c128_i32
  let v19 : BitVec 32 := Scalar.addi c0_i32_23 v18
  let v20 : BitVec 32 := v19
  let v1312 : Index := Scalar.indexCast v20
  ![0, v1312.toNat, 2432]
def k0_off56 (k0_t3 : Fin k0_t3_loop.trips) : Fin 2 → Nat :=
  let c0_i32_23 : BitVec 32 := 0#32
  let c0_i32_20 : BitVec 32 := 0#32
  let c1_i32_21 : BitVec 32 := 1#32
  let arg12 : BitVec 32 := Scf.iv c0_i32_20 c1_i32_21 k0_t3
  let c128_i32 : BitVec 32 := 128#32
  let v18 : BitVec 32 := Scalar.muli arg12 c128_i32
  let v19 : BitVec 32 := Scalar.addi c0_i32_23 v18
  let v20 : BitVec 32 := v19
  let v1322 : Index := Scalar.indexCast v20
  let c2560 : Index := 2560#32
  ![v1322.toNat, 2560]
def k0_off57 (k0_t3 : Fin k0_t3_loop.trips) : Fin 3 → Nat :=
  let c0_i32_416 : BitVec 32 := 0#32
  let c0_i32_23 : BitVec 32 := 0#32
  let c0_i32_20 : BitVec 32 := 0#32
  let c1_i32_21 : BitVec 32 := 1#32
  let arg12 : BitVec 32 := Scf.iv c0_i32_20 c1_i32_21 k0_t3
  let c128_i32 : BitVec 32 := 128#32
  let v18 : BitVec 32 := Scalar.muli arg12 c128_i32
  let v19 : BitVec 32 := Scalar.addi c0_i32_23 v18
  let v20 : BitVec 32 := v19
  let v1377 : Index := Scalar.indexCast v20
  ![0, v1377.toNat, 2560]
def k0_off58 (k0_t3 : Fin k0_t3_loop.trips) : Fin 2 → Nat :=
  let c0_i32_23 : BitVec 32 := 0#32
  let c0_i32_20 : BitVec 32 := 0#32
  let c1_i32_21 : BitVec 32 := 1#32
  let arg12 : BitVec 32 := Scf.iv c0_i32_20 c1_i32_21 k0_t3
  let c128_i32 : BitVec 32 := 128#32
  let v18 : BitVec 32 := Scalar.muli arg12 c128_i32
  let v19 : BitVec 32 := Scalar.addi c0_i32_23 v18
  let v20 : BitVec 32 := v19
  let v1387 : Index := Scalar.indexCast v20
  let c2688 : Index := 2688#32
  ![v1387.toNat, 2688]
def k0_off59 (k0_t3 : Fin k0_t3_loop.trips) : Fin 3 → Nat :=
  let c0_i32_435 : BitVec 32 := 0#32
  let c0_i32_23 : BitVec 32 := 0#32
  let c0_i32_20 : BitVec 32 := 0#32
  let c1_i32_21 : BitVec 32 := 1#32
  let arg12 : BitVec 32 := Scf.iv c0_i32_20 c1_i32_21 k0_t3
  let c128_i32 : BitVec 32 := 128#32
  let v18 : BitVec 32 := Scalar.muli arg12 c128_i32
  let v19 : BitVec 32 := Scalar.addi c0_i32_23 v18
  let v20 : BitVec 32 := v19
  let v1442 : Index := Scalar.indexCast v20
  ![0, v1442.toNat, 2688]
def k0_off60 (k0_t3 : Fin k0_t3_loop.trips) : Fin 2 → Nat :=
  let c0_i32_23 : BitVec 32 := 0#32
  let c0_i32_20 : BitVec 32 := 0#32
  let c1_i32_21 : BitVec 32 := 1#32
  let arg12 : BitVec 32 := Scf.iv c0_i32_20 c1_i32_21 k0_t3
  let c128_i32 : BitVec 32 := 128#32
  let v18 : BitVec 32 := Scalar.muli arg12 c128_i32
  let v19 : BitVec 32 := Scalar.addi c0_i32_23 v18
  let v20 : BitVec 32 := v19
  let v1452 : Index := Scalar.indexCast v20
  let c2816 : Index := 2816#32
  ![v1452.toNat, 2816]
def k0_off61 (k0_t3 : Fin k0_t3_loop.trips) : Fin 3 → Nat :=
  let c0_i32_454 : BitVec 32 := 0#32
  let c0_i32_23 : BitVec 32 := 0#32
  let c0_i32_20 : BitVec 32 := 0#32
  let c1_i32_21 : BitVec 32 := 1#32
  let arg12 : BitVec 32 := Scf.iv c0_i32_20 c1_i32_21 k0_t3
  let c128_i32 : BitVec 32 := 128#32
  let v18 : BitVec 32 := Scalar.muli arg12 c128_i32
  let v19 : BitVec 32 := Scalar.addi c0_i32_23 v18
  let v20 : BitVec 32 := v19
  let v1507 : Index := Scalar.indexCast v20
  ![0, v1507.toNat, 2816]
def k0_off62 (k0_t3 : Fin k0_t3_loop.trips) : Fin 2 → Nat :=
  let c0_i32_23 : BitVec 32 := 0#32
  let c0_i32_20 : BitVec 32 := 0#32
  let c1_i32_21 : BitVec 32 := 1#32
  let arg12 : BitVec 32 := Scf.iv c0_i32_20 c1_i32_21 k0_t3
  let c128_i32 : BitVec 32 := 128#32
  let v18 : BitVec 32 := Scalar.muli arg12 c128_i32
  let v19 : BitVec 32 := Scalar.addi c0_i32_23 v18
  let v20 : BitVec 32 := v19
  let v1517 : Index := Scalar.indexCast v20
  let c2944 : Index := 2944#32
  ![v1517.toNat, 2944]
def k0_off63 (k0_t3 : Fin k0_t3_loop.trips) : Fin 3 → Nat :=
  let c0_i32_473 : BitVec 32 := 0#32
  let c0_i32_23 : BitVec 32 := 0#32
  let c0_i32_20 : BitVec 32 := 0#32
  let c1_i32_21 : BitVec 32 := 1#32
  let arg12 : BitVec 32 := Scf.iv c0_i32_20 c1_i32_21 k0_t3
  let c128_i32 : BitVec 32 := 128#32
  let v18 : BitVec 32 := Scalar.muli arg12 c128_i32
  let v19 : BitVec 32 := Scalar.addi c0_i32_23 v18
  let v20 : BitVec 32 := v19
  let v1572 : Index := Scalar.indexCast v20
  ![0, v1572.toNat, 2944]
def k0_off64 (k0_t3 : Fin k0_t3_loop.trips) : Fin 2 → Nat :=
  let c0_i32_23 : BitVec 32 := 0#32
  let c0_i32_20 : BitVec 32 := 0#32
  let c1_i32_21 : BitVec 32 := 1#32
  let arg12 : BitVec 32 := Scf.iv c0_i32_20 c1_i32_21 k0_t3
  let c128_i32 : BitVec 32 := 128#32
  let v18 : BitVec 32 := Scalar.muli arg12 c128_i32
  let v19 : BitVec 32 := Scalar.addi c0_i32_23 v18
  let v20 : BitVec 32 := v19
  let v1582 : Index := Scalar.indexCast v20
  let c3072 : Index := 3072#32
  ![v1582.toNat, 3072]
def k0_off65 (k0_t3 : Fin k0_t3_loop.trips) : Fin 3 → Nat :=
  let c0_i32_492 : BitVec 32 := 0#32
  let c0_i32_23 : BitVec 32 := 0#32
  let c0_i32_20 : BitVec 32 := 0#32
  let c1_i32_21 : BitVec 32 := 1#32
  let arg12 : BitVec 32 := Scf.iv c0_i32_20 c1_i32_21 k0_t3
  let c128_i32 : BitVec 32 := 128#32
  let v18 : BitVec 32 := Scalar.muli arg12 c128_i32
  let v19 : BitVec 32 := Scalar.addi c0_i32_23 v18
  let v20 : BitVec 32 := v19
  let v1637 : Index := Scalar.indexCast v20
  ![0, v1637.toNat, 3072]
def k0_off66 (k0_t3 : Fin k0_t3_loop.trips) : Fin 2 → Nat :=
  let c0_i32_23 : BitVec 32 := 0#32
  let c0_i32_20 : BitVec 32 := 0#32
  let c1_i32_21 : BitVec 32 := 1#32
  let arg12 : BitVec 32 := Scf.iv c0_i32_20 c1_i32_21 k0_t3
  let c128_i32 : BitVec 32 := 128#32
  let v18 : BitVec 32 := Scalar.muli arg12 c128_i32
  let v19 : BitVec 32 := Scalar.addi c0_i32_23 v18
  let v20 : BitVec 32 := v19
  let v1647 : Index := Scalar.indexCast v20
  let c3200 : Index := 3200#32
  ![v1647.toNat, 3200]
def k0_off67 (k0_t3 : Fin k0_t3_loop.trips) : Fin 3 → Nat :=
  let c0_i32_511 : BitVec 32 := 0#32
  let c0_i32_23 : BitVec 32 := 0#32
  let c0_i32_20 : BitVec 32 := 0#32
  let c1_i32_21 : BitVec 32 := 1#32
  let arg12 : BitVec 32 := Scf.iv c0_i32_20 c1_i32_21 k0_t3
  let c128_i32 : BitVec 32 := 128#32
  let v18 : BitVec 32 := Scalar.muli arg12 c128_i32
  let v19 : BitVec 32 := Scalar.addi c0_i32_23 v18
  let v20 : BitVec 32 := v19
  let v1702 : Index := Scalar.indexCast v20
  ![0, v1702.toNat, 3200]
def k0_off68 (k0_t3 : Fin k0_t3_loop.trips) : Fin 2 → Nat :=
  let c0_i32_23 : BitVec 32 := 0#32
  let c0_i32_20 : BitVec 32 := 0#32
  let c1_i32_21 : BitVec 32 := 1#32
  let arg12 : BitVec 32 := Scf.iv c0_i32_20 c1_i32_21 k0_t3
  let c128_i32 : BitVec 32 := 128#32
  let v18 : BitVec 32 := Scalar.muli arg12 c128_i32
  let v19 : BitVec 32 := Scalar.addi c0_i32_23 v18
  let v20 : BitVec 32 := v19
  let v1712 : Index := Scalar.indexCast v20
  let c3328 : Index := 3328#32
  ![v1712.toNat, 3328]
def k0_off69 (k0_t3 : Fin k0_t3_loop.trips) : Fin 3 → Nat :=
  let c0_i32_530 : BitVec 32 := 0#32
  let c0_i32_23 : BitVec 32 := 0#32
  let c0_i32_20 : BitVec 32 := 0#32
  let c1_i32_21 : BitVec 32 := 1#32
  let arg12 : BitVec 32 := Scf.iv c0_i32_20 c1_i32_21 k0_t3
  let c128_i32 : BitVec 32 := 128#32
  let v18 : BitVec 32 := Scalar.muli arg12 c128_i32
  let v19 : BitVec 32 := Scalar.addi c0_i32_23 v18
  let v20 : BitVec 32 := v19
  let v1767 : Index := Scalar.indexCast v20
  ![0, v1767.toNat, 3328]
def k0_off70 (k0_t3 : Fin k0_t3_loop.trips) : Fin 2 → Nat :=
  let c0_i32_23 : BitVec 32 := 0#32
  let c0_i32_20 : BitVec 32 := 0#32
  let c1_i32_21 : BitVec 32 := 1#32
  let arg12 : BitVec 32 := Scf.iv c0_i32_20 c1_i32_21 k0_t3
  let c128_i32 : BitVec 32 := 128#32
  let v18 : BitVec 32 := Scalar.muli arg12 c128_i32
  let v19 : BitVec 32 := Scalar.addi c0_i32_23 v18
  let v20 : BitVec 32 := v19
  let v1777 : Index := Scalar.indexCast v20
  let c3456 : Index := 3456#32
  ![v1777.toNat, 3456]
def k0_off71 (k0_t3 : Fin k0_t3_loop.trips) : Fin 3 → Nat :=
  let c0_i32_549 : BitVec 32 := 0#32
  let c0_i32_23 : BitVec 32 := 0#32
  let c0_i32_20 : BitVec 32 := 0#32
  let c1_i32_21 : BitVec 32 := 1#32
  let arg12 : BitVec 32 := Scf.iv c0_i32_20 c1_i32_21 k0_t3
  let c128_i32 : BitVec 32 := 128#32
  let v18 : BitVec 32 := Scalar.muli arg12 c128_i32
  let v19 : BitVec 32 := Scalar.addi c0_i32_23 v18
  let v20 : BitVec 32 := v19
  let v1832 : Index := Scalar.indexCast v20
  ![0, v1832.toNat, 3456]
def k0_off72 (k0_t3 : Fin k0_t3_loop.trips) : Fin 2 → Nat :=
  let c0_i32_23 : BitVec 32 := 0#32
  let c0_i32_20 : BitVec 32 := 0#32
  let c1_i32_21 : BitVec 32 := 1#32
  let arg12 : BitVec 32 := Scf.iv c0_i32_20 c1_i32_21 k0_t3
  let c128_i32 : BitVec 32 := 128#32
  let v18 : BitVec 32 := Scalar.muli arg12 c128_i32
  let v19 : BitVec 32 := Scalar.addi c0_i32_23 v18
  let v20 : BitVec 32 := v19
  let v1842 : Index := Scalar.indexCast v20
  let c3584 : Index := 3584#32
  ![v1842.toNat, 3584]
def k0_off73 (k0_t3 : Fin k0_t3_loop.trips) : Fin 3 → Nat :=
  let c0_i32_568 : BitVec 32 := 0#32
  let c0_i32_23 : BitVec 32 := 0#32
  let c0_i32_20 : BitVec 32 := 0#32
  let c1_i32_21 : BitVec 32 := 1#32
  let arg12 : BitVec 32 := Scf.iv c0_i32_20 c1_i32_21 k0_t3
  let c128_i32 : BitVec 32 := 128#32
  let v18 : BitVec 32 := Scalar.muli arg12 c128_i32
  let v19 : BitVec 32 := Scalar.addi c0_i32_23 v18
  let v20 : BitVec 32 := v19
  let v1897 : Index := Scalar.indexCast v20
  ![0, v1897.toNat, 3584]
def k0_off74 (k0_t3 : Fin k0_t3_loop.trips) : Fin 2 → Nat :=
  let c0_i32_23 : BitVec 32 := 0#32
  let c0_i32_20 : BitVec 32 := 0#32
  let c1_i32_21 : BitVec 32 := 1#32
  let arg12 : BitVec 32 := Scf.iv c0_i32_20 c1_i32_21 k0_t3
  let c128_i32 : BitVec 32 := 128#32
  let v18 : BitVec 32 := Scalar.muli arg12 c128_i32
  let v19 : BitVec 32 := Scalar.addi c0_i32_23 v18
  let v20 : BitVec 32 := v19
  let v1907 : Index := Scalar.indexCast v20
  let c3712 : Index := 3712#32
  ![v1907.toNat, 3712]
def k0_off75 (k0_t3 : Fin k0_t3_loop.trips) : Fin 3 → Nat :=
  let c0_i32_587 : BitVec 32 := 0#32
  let c0_i32_23 : BitVec 32 := 0#32
  let c0_i32_20 : BitVec 32 := 0#32
  let c1_i32_21 : BitVec 32 := 1#32
  let arg12 : BitVec 32 := Scf.iv c0_i32_20 c1_i32_21 k0_t3
  let c128_i32 : BitVec 32 := 128#32
  let v18 : BitVec 32 := Scalar.muli arg12 c128_i32
  let v19 : BitVec 32 := Scalar.addi c0_i32_23 v18
  let v20 : BitVec 32 := v19
  let v1962 : Index := Scalar.indexCast v20
  ![0, v1962.toNat, 3712]
def k0_off76 (k0_t3 : Fin k0_t3_loop.trips) : Fin 2 → Nat :=
  let c0_i32_23 : BitVec 32 := 0#32
  let c0_i32_20 : BitVec 32 := 0#32
  let c1_i32_21 : BitVec 32 := 1#32
  let arg12 : BitVec 32 := Scf.iv c0_i32_20 c1_i32_21 k0_t3
  let c128_i32 : BitVec 32 := 128#32
  let v18 : BitVec 32 := Scalar.muli arg12 c128_i32
  let v19 : BitVec 32 := Scalar.addi c0_i32_23 v18
  let v20 : BitVec 32 := v19
  let v1972 : Index := Scalar.indexCast v20
  let c3840 : Index := 3840#32
  ![v1972.toNat, 3840]
def k0_off77 (k0_t3 : Fin k0_t3_loop.trips) : Fin 3 → Nat :=
  let c0_i32_606 : BitVec 32 := 0#32
  let c0_i32_23 : BitVec 32 := 0#32
  let c0_i32_20 : BitVec 32 := 0#32
  let c1_i32_21 : BitVec 32 := 1#32
  let arg12 : BitVec 32 := Scf.iv c0_i32_20 c1_i32_21 k0_t3
  let c128_i32 : BitVec 32 := 128#32
  let v18 : BitVec 32 := Scalar.muli arg12 c128_i32
  let v19 : BitVec 32 := Scalar.addi c0_i32_23 v18
  let v20 : BitVec 32 := v19
  let v2027 : Index := Scalar.indexCast v20
  ![0, v2027.toNat, 3840]
def k0_off78 (k0_t3 : Fin k0_t3_loop.trips) : Fin 2 → Nat :=
  let c0_i32_23 : BitVec 32 := 0#32
  let c0_i32_20 : BitVec 32 := 0#32
  let c1_i32_21 : BitVec 32 := 1#32
  let arg12 : BitVec 32 := Scf.iv c0_i32_20 c1_i32_21 k0_t3
  let c128_i32 : BitVec 32 := 128#32
  let v18 : BitVec 32 := Scalar.muli arg12 c128_i32
  let v19 : BitVec 32 := Scalar.addi c0_i32_23 v18
  let v20 : BitVec 32 := v19
  let v2037 : Index := Scalar.indexCast v20
  let c3968 : Index := 3968#32
  ![v2037.toNat, 3968]
def k0_off79 (k0_t3 : Fin k0_t3_loop.trips) : Fin 3 → Nat :=
  let c0_i32_625 : BitVec 32 := 0#32
  let c0_i32_23 : BitVec 32 := 0#32
  let c0_i32_20 : BitVec 32 := 0#32
  let c1_i32_21 : BitVec 32 := 1#32
  let arg12 : BitVec 32 := Scf.iv c0_i32_20 c1_i32_21 k0_t3
  let c128_i32 : BitVec 32 := 128#32
  let v18 : BitVec 32 := Scalar.muli arg12 c128_i32
  let v19 : BitVec 32 := Scalar.addi c0_i32_23 v18
  let v20 : BitVec 32 := v19
  let v2092 : Index := Scalar.indexCast v20
  ![0, v2092.toNat, 3968]
def k0_off80 (k0_t3 : Fin k0_t3_loop.trips) : Fin 2 → Nat :=
  let c0_i32_23 : BitVec 32 := 0#32
  let c0_i32_20 : BitVec 32 := 0#32
  let c1_i32_21 : BitVec 32 := 1#32
  let arg12 : BitVec 32 := Scf.iv c0_i32_20 c1_i32_21 k0_t3
  let c128_i32 : BitVec 32 := 128#32
  let v18 : BitVec 32 := Scalar.muli arg12 c128_i32
  let v19 : BitVec 32 := Scalar.addi c0_i32_23 v18
  let v20 : BitVec 32 := v19
  let v2102 : Index := Scalar.indexCast v20
  let c0_629 : Index := 0#32
  ![v2102.toNat, 0]
def k0_cond3 (i : grid0.Coords) : BitVec 1 :=
  let arg0 : BitVec 32 := BitVec.ofNat 32 (i 0).val
  let c0_i32_1 : BitVec 32 := 0#32
  let v3 : BitVec 1 := Scalar.cmpi .sgt arg0 c0_i32_1
  let v4 : BitVec 32 := Scalar.extui v3
  let c0_i32_2 : BitVec 32 := 0#32
  let v5 : BitVec 1 := Scalar.cmpi .ne v4 c0_i32_2
  v5

def k0_off81 (i : grid0.Coords) : Fin 3 → Nat :=
  let arg0 : BitVec 32 := BitVec.ofNat 32 (i 0).val
  let c2_i32 : BitVec 32 := 2#32
  let c0_i32_3 : BitVec 32 := 0#32
  let v6 : BitVec 1 := Scalar.cmpi .eq c2_i32 c0_i32_3
  let c1_i32 : BitVec 32 := 1#32
  let v7 : BitVec 32 := Scalar.select v6 c1_i32 c2_i32
  let v8 : BitVec 32 := Scalar.remsi arg0 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  let c0_i32_18 : BitVec 32 := 0#32
  let c0_i32_19 : BitVec 32 := 0#32
  ![v15.toNat, 0, 0]
def k0_off82 (i : grid0.Coords) : Fin 3 → Nat :=
  let arg0 : BitVec 32 := BitVec.ofNat 32 (i 0).val
  let c2_i32 : BitVec 32 := 2#32
  let c0_i32_3 : BitVec 32 := 0#32
  let v6 : BitVec 1 := Scalar.cmpi .eq c2_i32 c0_i32_3
  let c1_i32 : BitVec 32 := 1#32
  let v7 : BitVec 32 := Scalar.select v6 c1_i32 c2_i32
  let v8 : BitVec 32 := Scalar.remsi arg0 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  let c0_i32_18 : BitVec 32 := 0#32
  let c0_i32_19 : BitVec 32 := 0#32
  ![v15.toNat, 0, 0]
def k0_off83 (i : grid0.Coords) : Fin 3 → Nat :=
  let arg0 : BitVec 32 := BitVec.ofNat 32 (i 0).val
  let c2_i32 : BitVec 32 := 2#32
  let c0_i32_3 : BitVec 32 := 0#32
  let v6 : BitVec 1 := Scalar.cmpi .eq c2_i32 c0_i32_3
  let c1_i32 : BitVec 32 := 1#32
  let v7 : BitVec 32 := Scalar.select v6 c1_i32 c2_i32
  let v8 : BitVec 32 := Scalar.remsi arg0 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  let c0_i32_40 : BitVec 32 := 0#32
  ![v15.toNat, 0, 128]
def k0_off84 (i : grid0.Coords) : Fin 3 → Nat :=
  let arg0 : BitVec 32 := BitVec.ofNat 32 (i 0).val
  let c2_i32 : BitVec 32 := 2#32
  let c0_i32_3 : BitVec 32 := 0#32
  let v6 : BitVec 1 := Scalar.cmpi .eq c2_i32 c0_i32_3
  let c1_i32 : BitVec 32 := 1#32
  let v7 : BitVec 32 := Scalar.select v6 c1_i32 c2_i32
  let v8 : BitVec 32 := Scalar.remsi arg0 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  let c0_i32_62 : BitVec 32 := 0#32
  ![v15.toNat, 0, 256]
def k0_off85 (i : grid0.Coords) : Fin 3 → Nat :=
  let arg0 : BitVec 32 := BitVec.ofNat 32 (i 0).val
  let c2_i32 : BitVec 32 := 2#32
  let c0_i32_3 : BitVec 32 := 0#32
  let v6 : BitVec 1 := Scalar.cmpi .eq c2_i32 c0_i32_3
  let c1_i32 : BitVec 32 := 1#32
  let v7 : BitVec 32 := Scalar.select v6 c1_i32 c2_i32
  let v8 : BitVec 32 := Scalar.remsi arg0 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  let c0_i32_84 : BitVec 32 := 0#32
  ![v15.toNat, 0, 384]
def k0_off86 (i : grid0.Coords) : Fin 3 → Nat :=
  let arg0 : BitVec 32 := BitVec.ofNat 32 (i 0).val
  let c2_i32 : BitVec 32 := 2#32
  let c0_i32_3 : BitVec 32 := 0#32
  let v6 : BitVec 1 := Scalar.cmpi .eq c2_i32 c0_i32_3
  let c1_i32 : BitVec 32 := 1#32
  let v7 : BitVec 32 := Scalar.select v6 c1_i32 c2_i32
  let v8 : BitVec 32 := Scalar.remsi arg0 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  let c0_i32_105 : BitVec 32 := 0#32
  ![v15.toNat, 0, 512]
def k0_off87 (i : grid0.Coords) : Fin 3 → Nat :=
  let arg0 : BitVec 32 := BitVec.ofNat 32 (i 0).val
  let c2_i32 : BitVec 32 := 2#32
  let c0_i32_3 : BitVec 32 := 0#32
  let v6 : BitVec 1 := Scalar.cmpi .eq c2_i32 c0_i32_3
  let c1_i32 : BitVec 32 := 1#32
  let v7 : BitVec 32 := Scalar.select v6 c1_i32 c2_i32
  let v8 : BitVec 32 := Scalar.remsi arg0 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  let c0_i32_126 : BitVec 32 := 0#32
  ![v15.toNat, 0, 640]
def k0_off88 (i : grid0.Coords) : Fin 3 → Nat :=
  let arg0 : BitVec 32 := BitVec.ofNat 32 (i 0).val
  let c2_i32 : BitVec 32 := 2#32
  let c0_i32_3 : BitVec 32 := 0#32
  let v6 : BitVec 1 := Scalar.cmpi .eq c2_i32 c0_i32_3
  let c1_i32 : BitVec 32 := 1#32
  let v7 : BitVec 32 := Scalar.select v6 c1_i32 c2_i32
  let v8 : BitVec 32 := Scalar.remsi arg0 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  let c0_i32_147 : BitVec 32 := 0#32
  ![v15.toNat, 0, 768]
def k0_off89 (i : grid0.Coords) : Fin 3 → Nat :=
  let arg0 : BitVec 32 := BitVec.ofNat 32 (i 0).val
  let c2_i32 : BitVec 32 := 2#32
  let c0_i32_3 : BitVec 32 := 0#32
  let v6 : BitVec 1 := Scalar.cmpi .eq c2_i32 c0_i32_3
  let c1_i32 : BitVec 32 := 1#32
  let v7 : BitVec 32 := Scalar.select v6 c1_i32 c2_i32
  let v8 : BitVec 32 := Scalar.remsi arg0 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  let c0_i32_168 : BitVec 32 := 0#32
  ![v15.toNat, 0, 896]
def k0_off90 (i : grid0.Coords) : Fin 3 → Nat :=
  let arg0 : BitVec 32 := BitVec.ofNat 32 (i 0).val
  let c2_i32 : BitVec 32 := 2#32
  let c0_i32_3 : BitVec 32 := 0#32
  let v6 : BitVec 1 := Scalar.cmpi .eq c2_i32 c0_i32_3
  let c1_i32 : BitVec 32 := 1#32
  let v7 : BitVec 32 := Scalar.select v6 c1_i32 c2_i32
  let v8 : BitVec 32 := Scalar.remsi arg0 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  let c0_i32_189 : BitVec 32 := 0#32
  ![v15.toNat, 0, 1024]
def k0_off91 (i : grid0.Coords) : Fin 3 → Nat :=
  let arg0 : BitVec 32 := BitVec.ofNat 32 (i 0).val
  let c2_i32 : BitVec 32 := 2#32
  let c0_i32_3 : BitVec 32 := 0#32
  let v6 : BitVec 1 := Scalar.cmpi .eq c2_i32 c0_i32_3
  let c1_i32 : BitVec 32 := 1#32
  let v7 : BitVec 32 := Scalar.select v6 c1_i32 c2_i32
  let v8 : BitVec 32 := Scalar.remsi arg0 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  let c0_i32_210 : BitVec 32 := 0#32
  ![v15.toNat, 0, 1152]
def k0_off92 (i : grid0.Coords) : Fin 3 → Nat :=
  let arg0 : BitVec 32 := BitVec.ofNat 32 (i 0).val
  let c2_i32 : BitVec 32 := 2#32
  let c0_i32_3 : BitVec 32 := 0#32
  let v6 : BitVec 1 := Scalar.cmpi .eq c2_i32 c0_i32_3
  let c1_i32 : BitVec 32 := 1#32
  let v7 : BitVec 32 := Scalar.select v6 c1_i32 c2_i32
  let v8 : BitVec 32 := Scalar.remsi arg0 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  let c0_i32_231 : BitVec 32 := 0#32
  ![v15.toNat, 0, 1280]
def k0_off93 (i : grid0.Coords) : Fin 3 → Nat :=
  let arg0 : BitVec 32 := BitVec.ofNat 32 (i 0).val
  let c2_i32 : BitVec 32 := 2#32
  let c0_i32_3 : BitVec 32 := 0#32
  let v6 : BitVec 1 := Scalar.cmpi .eq c2_i32 c0_i32_3
  let c1_i32 : BitVec 32 := 1#32
  let v7 : BitVec 32 := Scalar.select v6 c1_i32 c2_i32
  let v8 : BitVec 32 := Scalar.remsi arg0 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  let c0_i32_252 : BitVec 32 := 0#32
  ![v15.toNat, 0, 1408]
def k0_off94 (i : grid0.Coords) : Fin 3 → Nat :=
  let arg0 : BitVec 32 := BitVec.ofNat 32 (i 0).val
  let c2_i32 : BitVec 32 := 2#32
  let c0_i32_3 : BitVec 32 := 0#32
  let v6 : BitVec 1 := Scalar.cmpi .eq c2_i32 c0_i32_3
  let c1_i32 : BitVec 32 := 1#32
  let v7 : BitVec 32 := Scalar.select v6 c1_i32 c2_i32
  let v8 : BitVec 32 := Scalar.remsi arg0 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  let c0_i32_273 : BitVec 32 := 0#32
  ![v15.toNat, 0, 1536]
def k0_off95 (i : grid0.Coords) : Fin 3 → Nat :=
  let arg0 : BitVec 32 := BitVec.ofNat 32 (i 0).val
  let c2_i32 : BitVec 32 := 2#32
  let c0_i32_3 : BitVec 32 := 0#32
  let v6 : BitVec 1 := Scalar.cmpi .eq c2_i32 c0_i32_3
  let c1_i32 : BitVec 32 := 1#32
  let v7 : BitVec 32 := Scalar.select v6 c1_i32 c2_i32
  let v8 : BitVec 32 := Scalar.remsi arg0 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  let c0_i32_294 : BitVec 32 := 0#32
  ![v15.toNat, 0, 1664]
def k0_off96 (i : grid0.Coords) : Fin 3 → Nat :=
  let arg0 : BitVec 32 := BitVec.ofNat 32 (i 0).val
  let c2_i32 : BitVec 32 := 2#32
  let c0_i32_3 : BitVec 32 := 0#32
  let v6 : BitVec 1 := Scalar.cmpi .eq c2_i32 c0_i32_3
  let c1_i32 : BitVec 32 := 1#32
  let v7 : BitVec 32 := Scalar.select v6 c1_i32 c2_i32
  let v8 : BitVec 32 := Scalar.remsi arg0 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  let c0_i32_315 : BitVec 32 := 0#32
  ![v15.toNat, 0, 1792]
def k0_off97 (i : grid0.Coords) : Fin 3 → Nat :=
  let arg0 : BitVec 32 := BitVec.ofNat 32 (i 0).val
  let c2_i32 : BitVec 32 := 2#32
  let c0_i32_3 : BitVec 32 := 0#32
  let v6 : BitVec 1 := Scalar.cmpi .eq c2_i32 c0_i32_3
  let c1_i32 : BitVec 32 := 1#32
  let v7 : BitVec 32 := Scalar.select v6 c1_i32 c2_i32
  let v8 : BitVec 32 := Scalar.remsi arg0 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  let c0_i32_336 : BitVec 32 := 0#32
  ![v15.toNat, 0, 1920]
def k0_off98 (i : grid0.Coords) : Fin 3 → Nat :=
  let arg0 : BitVec 32 := BitVec.ofNat 32 (i 0).val
  let c2_i32 : BitVec 32 := 2#32
  let c0_i32_3 : BitVec 32 := 0#32
  let v6 : BitVec 1 := Scalar.cmpi .eq c2_i32 c0_i32_3
  let c1_i32 : BitVec 32 := 1#32
  let v7 : BitVec 32 := Scalar.select v6 c1_i32 c2_i32
  let v8 : BitVec 32 := Scalar.remsi arg0 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  let c0_i32_357 : BitVec 32 := 0#32
  ![v15.toNat, 0, 2048]
def k0_off99 (i : grid0.Coords) : Fin 3 → Nat :=
  let arg0 : BitVec 32 := BitVec.ofNat 32 (i 0).val
  let c2_i32 : BitVec 32 := 2#32
  let c0_i32_3 : BitVec 32 := 0#32
  let v6 : BitVec 1 := Scalar.cmpi .eq c2_i32 c0_i32_3
  let c1_i32 : BitVec 32 := 1#32
  let v7 : BitVec 32 := Scalar.select v6 c1_i32 c2_i32
  let v8 : BitVec 32 := Scalar.remsi arg0 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  let c0_i32_378 : BitVec 32 := 0#32
  ![v15.toNat, 0, 2176]
def k0_off100 (i : grid0.Coords) : Fin 3 → Nat :=
  let arg0 : BitVec 32 := BitVec.ofNat 32 (i 0).val
  let c2_i32 : BitVec 32 := 2#32
  let c0_i32_3 : BitVec 32 := 0#32
  let v6 : BitVec 1 := Scalar.cmpi .eq c2_i32 c0_i32_3
  let c1_i32 : BitVec 32 := 1#32
  let v7 : BitVec 32 := Scalar.select v6 c1_i32 c2_i32
  let v8 : BitVec 32 := Scalar.remsi arg0 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  let c0_i32_399 : BitVec 32 := 0#32
  ![v15.toNat, 0, 2304]
def k0_off101 (i : grid0.Coords) : Fin 3 → Nat :=
  let arg0 : BitVec 32 := BitVec.ofNat 32 (i 0).val
  let c2_i32 : BitVec 32 := 2#32
  let c0_i32_3 : BitVec 32 := 0#32
  let v6 : BitVec 1 := Scalar.cmpi .eq c2_i32 c0_i32_3
  let c1_i32 : BitVec 32 := 1#32
  let v7 : BitVec 32 := Scalar.select v6 c1_i32 c2_i32
  let v8 : BitVec 32 := Scalar.remsi arg0 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  let c0_i32_420 : BitVec 32 := 0#32
  ![v15.toNat, 0, 2432]
def k0_off102 (i : grid0.Coords) : Fin 3 → Nat :=
  let arg0 : BitVec 32 := BitVec.ofNat 32 (i 0).val
  let c2_i32 : BitVec 32 := 2#32
  let c0_i32_3 : BitVec 32 := 0#32
  let v6 : BitVec 1 := Scalar.cmpi .eq c2_i32 c0_i32_3
  let c1_i32 : BitVec 32 := 1#32
  let v7 : BitVec 32 := Scalar.select v6 c1_i32 c2_i32
  let v8 : BitVec 32 := Scalar.remsi arg0 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  let c0_i32_441 : BitVec 32 := 0#32
  ![v15.toNat, 0, 2560]
def k0_off103 (i : grid0.Coords) : Fin 3 → Nat :=
  let arg0 : BitVec 32 := BitVec.ofNat 32 (i 0).val
  let c2_i32 : BitVec 32 := 2#32
  let c0_i32_3 : BitVec 32 := 0#32
  let v6 : BitVec 1 := Scalar.cmpi .eq c2_i32 c0_i32_3
  let c1_i32 : BitVec 32 := 1#32
  let v7 : BitVec 32 := Scalar.select v6 c1_i32 c2_i32
  let v8 : BitVec 32 := Scalar.remsi arg0 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  let c0_i32_462 : BitVec 32 := 0#32
  ![v15.toNat, 0, 2688]
def k0_off104 (i : grid0.Coords) : Fin 3 → Nat :=
  let arg0 : BitVec 32 := BitVec.ofNat 32 (i 0).val
  let c2_i32 : BitVec 32 := 2#32
  let c0_i32_3 : BitVec 32 := 0#32
  let v6 : BitVec 1 := Scalar.cmpi .eq c2_i32 c0_i32_3
  let c1_i32 : BitVec 32 := 1#32
  let v7 : BitVec 32 := Scalar.select v6 c1_i32 c2_i32
  let v8 : BitVec 32 := Scalar.remsi arg0 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  let c0_i32_483 : BitVec 32 := 0#32
  ![v15.toNat, 0, 2816]
def k0_off105 (i : grid0.Coords) : Fin 3 → Nat :=
  let arg0 : BitVec 32 := BitVec.ofNat 32 (i 0).val
  let c2_i32 : BitVec 32 := 2#32
  let c0_i32_3 : BitVec 32 := 0#32
  let v6 : BitVec 1 := Scalar.cmpi .eq c2_i32 c0_i32_3
  let c1_i32 : BitVec 32 := 1#32
  let v7 : BitVec 32 := Scalar.select v6 c1_i32 c2_i32
  let v8 : BitVec 32 := Scalar.remsi arg0 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  let c0_i32_504 : BitVec 32 := 0#32
  ![v15.toNat, 0, 2944]
def k0_off106 (i : grid0.Coords) : Fin 3 → Nat :=
  let arg0 : BitVec 32 := BitVec.ofNat 32 (i 0).val
  let c2_i32 : BitVec 32 := 2#32
  let c0_i32_3 : BitVec 32 := 0#32
  let v6 : BitVec 1 := Scalar.cmpi .eq c2_i32 c0_i32_3
  let c1_i32 : BitVec 32 := 1#32
  let v7 : BitVec 32 := Scalar.select v6 c1_i32 c2_i32
  let v8 : BitVec 32 := Scalar.remsi arg0 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  let c0_i32_525 : BitVec 32 := 0#32
  ![v15.toNat, 0, 3072]
def k0_off107 (i : grid0.Coords) : Fin 3 → Nat :=
  let arg0 : BitVec 32 := BitVec.ofNat 32 (i 0).val
  let c2_i32 : BitVec 32 := 2#32
  let c0_i32_3 : BitVec 32 := 0#32
  let v6 : BitVec 1 := Scalar.cmpi .eq c2_i32 c0_i32_3
  let c1_i32 : BitVec 32 := 1#32
  let v7 : BitVec 32 := Scalar.select v6 c1_i32 c2_i32
  let v8 : BitVec 32 := Scalar.remsi arg0 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  let c0_i32_546 : BitVec 32 := 0#32
  ![v15.toNat, 0, 3200]
def k0_off108 (i : grid0.Coords) : Fin 3 → Nat :=
  let arg0 : BitVec 32 := BitVec.ofNat 32 (i 0).val
  let c2_i32 : BitVec 32 := 2#32
  let c0_i32_3 : BitVec 32 := 0#32
  let v6 : BitVec 1 := Scalar.cmpi .eq c2_i32 c0_i32_3
  let c1_i32 : BitVec 32 := 1#32
  let v7 : BitVec 32 := Scalar.select v6 c1_i32 c2_i32
  let v8 : BitVec 32 := Scalar.remsi arg0 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  let c0_i32_567 : BitVec 32 := 0#32
  ![v15.toNat, 0, 3328]
def k0_off109 (i : grid0.Coords) : Fin 3 → Nat :=
  let arg0 : BitVec 32 := BitVec.ofNat 32 (i 0).val
  let c2_i32 : BitVec 32 := 2#32
  let c0_i32_3 : BitVec 32 := 0#32
  let v6 : BitVec 1 := Scalar.cmpi .eq c2_i32 c0_i32_3
  let c1_i32 : BitVec 32 := 1#32
  let v7 : BitVec 32 := Scalar.select v6 c1_i32 c2_i32
  let v8 : BitVec 32 := Scalar.remsi arg0 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  let c0_i32_588 : BitVec 32 := 0#32
  ![v15.toNat, 0, 3456]
def k0_off110 (i : grid0.Coords) : Fin 3 → Nat :=
  let arg0 : BitVec 32 := BitVec.ofNat 32 (i 0).val
  let c2_i32 : BitVec 32 := 2#32
  let c0_i32_3 : BitVec 32 := 0#32
  let v6 : BitVec 1 := Scalar.cmpi .eq c2_i32 c0_i32_3
  let c1_i32 : BitVec 32 := 1#32
  let v7 : BitVec 32 := Scalar.select v6 c1_i32 c2_i32
  let v8 : BitVec 32 := Scalar.remsi arg0 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  let c0_i32_609 : BitVec 32 := 0#32
  ![v15.toNat, 0, 3584]
def k0_off111 (i : grid0.Coords) : Fin 3 → Nat :=
  let arg0 : BitVec 32 := BitVec.ofNat 32 (i 0).val
  let c2_i32 : BitVec 32 := 2#32
  let c0_i32_3 : BitVec 32 := 0#32
  let v6 : BitVec 1 := Scalar.cmpi .eq c2_i32 c0_i32_3
  let c1_i32 : BitVec 32 := 1#32
  let v7 : BitVec 32 := Scalar.select v6 c1_i32 c2_i32
  let v8 : BitVec 32 := Scalar.remsi arg0 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  let c0_i32_630 : BitVec 32 := 0#32
  ![v15.toNat, 0, 3712]
def k0_off112 (i : grid0.Coords) : Fin 3 → Nat :=
  let arg0 : BitVec 32 := BitVec.ofNat 32 (i 0).val
  let c2_i32 : BitVec 32 := 2#32
  let c0_i32_3 : BitVec 32 := 0#32
  let v6 : BitVec 1 := Scalar.cmpi .eq c2_i32 c0_i32_3
  let c1_i32 : BitVec 32 := 1#32
  let v7 : BitVec 32 := Scalar.select v6 c1_i32 c2_i32
  let v8 : BitVec 32 := Scalar.remsi arg0 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  let c0_i32_651 : BitVec 32 := 0#32
  ![v15.toNat, 0, 3840]
def k0_off113 (i : grid0.Coords) : Fin 3 → Nat :=
  let arg0 : BitVec 32 := BitVec.ofNat 32 (i 0).val
  let c2_i32 : BitVec 32 := 2#32
  let c0_i32_3 : BitVec 32 := 0#32
  let v6 : BitVec 1 := Scalar.cmpi .eq c2_i32 c0_i32_3
  let c1_i32 : BitVec 32 := 1#32
  let v7 : BitVec 32 := Scalar.select v6 c1_i32 c2_i32
  let v8 : BitVec 32 := Scalar.remsi arg0 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  let c0_i32_672 : BitVec 32 := 0#32
  ![v15.toNat, 0, 3968]
def k0_off114 (i : grid0.Coords) : Fin 3 → Nat :=
  let arg0 : BitVec 32 := BitVec.ofNat 32 (i 0).val
  let c2_i32 : BitVec 32 := 2#32
  let c0_i32_3 : BitVec 32 := 0#32
  let v6 : BitVec 1 := Scalar.cmpi .eq c2_i32 c0_i32_3
  let c1_i32 : BitVec 32 := 1#32
  let v7 : BitVec 32 := Scalar.select v6 c1_i32 c2_i32
  let v8 : BitVec 32 := Scalar.remsi arg0 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  let c0_i32_698 : BitVec 32 := 0#32
  ![v15.toNat, 128, 0]
def k0_off115 (i : grid0.Coords) : Fin 3 → Nat :=
  let arg0 : BitVec 32 := BitVec.ofNat 32 (i 0).val
  let c2_i32 : BitVec 32 := 2#32
  let c0_i32_3 : BitVec 32 := 0#32
  let v6 : BitVec 1 := Scalar.cmpi .eq c2_i32 c0_i32_3
  let c1_i32 : BitVec 32 := 1#32
  let v7 : BitVec 32 := Scalar.select v6 c1_i32 c2_i32
  let v8 : BitVec 32 := Scalar.remsi arg0 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  ![v15.toNat, 128, 128]
def k0_off116 (i : grid0.Coords) : Fin 3 → Nat :=
  let arg0 : BitVec 32 := BitVec.ofNat 32 (i 0).val
  let c2_i32 : BitVec 32 := 2#32
  let c0_i32_3 : BitVec 32 := 0#32
  let v6 : BitVec 1 := Scalar.cmpi .eq c2_i32 c0_i32_3
  let c1_i32 : BitVec 32 := 1#32
  let v7 : BitVec 32 := Scalar.select v6 c1_i32 c2_i32
  let v8 : BitVec 32 := Scalar.remsi arg0 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  ![v15.toNat, 128, 256]
def k0_off117 (i : grid0.Coords) : Fin 3 → Nat :=
  let arg0 : BitVec 32 := BitVec.ofNat 32 (i 0).val
  let c2_i32 : BitVec 32 := 2#32
  let c0_i32_3 : BitVec 32 := 0#32
  let v6 : BitVec 1 := Scalar.cmpi .eq c2_i32 c0_i32_3
  let c1_i32 : BitVec 32 := 1#32
  let v7 : BitVec 32 := Scalar.select v6 c1_i32 c2_i32
  let v8 : BitVec 32 := Scalar.remsi arg0 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  ![v15.toNat, 128, 384]
def k0_off118 (i : grid0.Coords) : Fin 3 → Nat :=
  let arg0 : BitVec 32 := BitVec.ofNat 32 (i 0).val
  let c2_i32 : BitVec 32 := 2#32
  let c0_i32_3 : BitVec 32 := 0#32
  let v6 : BitVec 1 := Scalar.cmpi .eq c2_i32 c0_i32_3
  let c1_i32 : BitVec 32 := 1#32
  let v7 : BitVec 32 := Scalar.select v6 c1_i32 c2_i32
  let v8 : BitVec 32 := Scalar.remsi arg0 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  ![v15.toNat, 128, 512]
def k0_off119 (i : grid0.Coords) : Fin 3 → Nat :=
  let arg0 : BitVec 32 := BitVec.ofNat 32 (i 0).val
  let c2_i32 : BitVec 32 := 2#32
  let c0_i32_3 : BitVec 32 := 0#32
  let v6 : BitVec 1 := Scalar.cmpi .eq c2_i32 c0_i32_3
  let c1_i32 : BitVec 32 := 1#32
  let v7 : BitVec 32 := Scalar.select v6 c1_i32 c2_i32
  let v8 : BitVec 32 := Scalar.remsi arg0 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  ![v15.toNat, 128, 640]
def k0_off120 (i : grid0.Coords) : Fin 3 → Nat :=
  let arg0 : BitVec 32 := BitVec.ofNat 32 (i 0).val
  let c2_i32 : BitVec 32 := 2#32
  let c0_i32_3 : BitVec 32 := 0#32
  let v6 : BitVec 1 := Scalar.cmpi .eq c2_i32 c0_i32_3
  let c1_i32 : BitVec 32 := 1#32
  let v7 : BitVec 32 := Scalar.select v6 c1_i32 c2_i32
  let v8 : BitVec 32 := Scalar.remsi arg0 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  ![v15.toNat, 128, 768]
def k0_off121 (i : grid0.Coords) : Fin 3 → Nat :=
  let arg0 : BitVec 32 := BitVec.ofNat 32 (i 0).val
  let c2_i32 : BitVec 32 := 2#32
  let c0_i32_3 : BitVec 32 := 0#32
  let v6 : BitVec 1 := Scalar.cmpi .eq c2_i32 c0_i32_3
  let c1_i32 : BitVec 32 := 1#32
  let v7 : BitVec 32 := Scalar.select v6 c1_i32 c2_i32
  let v8 : BitVec 32 := Scalar.remsi arg0 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  ![v15.toNat, 128, 896]
def k0_off122 (i : grid0.Coords) : Fin 3 → Nat :=
  let arg0 : BitVec 32 := BitVec.ofNat 32 (i 0).val
  let c2_i32 : BitVec 32 := 2#32
  let c0_i32_3 : BitVec 32 := 0#32
  let v6 : BitVec 1 := Scalar.cmpi .eq c2_i32 c0_i32_3
  let c1_i32 : BitVec 32 := 1#32
  let v7 : BitVec 32 := Scalar.select v6 c1_i32 c2_i32
  let v8 : BitVec 32 := Scalar.remsi arg0 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  ![v15.toNat, 128, 1024]
def k0_off123 (i : grid0.Coords) : Fin 3 → Nat :=
  let arg0 : BitVec 32 := BitVec.ofNat 32 (i 0).val
  let c2_i32 : BitVec 32 := 2#32
  let c0_i32_3 : BitVec 32 := 0#32
  let v6 : BitVec 1 := Scalar.cmpi .eq c2_i32 c0_i32_3
  let c1_i32 : BitVec 32 := 1#32
  let v7 : BitVec 32 := Scalar.select v6 c1_i32 c2_i32
  let v8 : BitVec 32 := Scalar.remsi arg0 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  ![v15.toNat, 128, 1152]
def k0_off124 (i : grid0.Coords) : Fin 3 → Nat :=
  let arg0 : BitVec 32 := BitVec.ofNat 32 (i 0).val
  let c2_i32 : BitVec 32 := 2#32
  let c0_i32_3 : BitVec 32 := 0#32
  let v6 : BitVec 1 := Scalar.cmpi .eq c2_i32 c0_i32_3
  let c1_i32 : BitVec 32 := 1#32
  let v7 : BitVec 32 := Scalar.select v6 c1_i32 c2_i32
  let v8 : BitVec 32 := Scalar.remsi arg0 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  ![v15.toNat, 128, 1280]
def k0_off125 (i : grid0.Coords) : Fin 3 → Nat :=
  let arg0 : BitVec 32 := BitVec.ofNat 32 (i 0).val
  let c2_i32 : BitVec 32 := 2#32
  let c0_i32_3 : BitVec 32 := 0#32
  let v6 : BitVec 1 := Scalar.cmpi .eq c2_i32 c0_i32_3
  let c1_i32 : BitVec 32 := 1#32
  let v7 : BitVec 32 := Scalar.select v6 c1_i32 c2_i32
  let v8 : BitVec 32 := Scalar.remsi arg0 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  ![v15.toNat, 128, 1408]
def k0_off126 (i : grid0.Coords) : Fin 3 → Nat :=
  let arg0 : BitVec 32 := BitVec.ofNat 32 (i 0).val
  let c2_i32 : BitVec 32 := 2#32
  let c0_i32_3 : BitVec 32 := 0#32
  let v6 : BitVec 1 := Scalar.cmpi .eq c2_i32 c0_i32_3
  let c1_i32 : BitVec 32 := 1#32
  let v7 : BitVec 32 := Scalar.select v6 c1_i32 c2_i32
  let v8 : BitVec 32 := Scalar.remsi arg0 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  ![v15.toNat, 128, 1536]
def k0_off127 (i : grid0.Coords) : Fin 3 → Nat :=
  let arg0 : BitVec 32 := BitVec.ofNat 32 (i 0).val
  let c2_i32 : BitVec 32 := 2#32
  let c0_i32_3 : BitVec 32 := 0#32
  let v6 : BitVec 1 := Scalar.cmpi .eq c2_i32 c0_i32_3
  let c1_i32 : BitVec 32 := 1#32
  let v7 : BitVec 32 := Scalar.select v6 c1_i32 c2_i32
  let v8 : BitVec 32 := Scalar.remsi arg0 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  ![v15.toNat, 128, 1664]
def k0_off128 (i : grid0.Coords) : Fin 3 → Nat :=
  let arg0 : BitVec 32 := BitVec.ofNat 32 (i 0).val
  let c2_i32 : BitVec 32 := 2#32
  let c0_i32_3 : BitVec 32 := 0#32
  let v6 : BitVec 1 := Scalar.cmpi .eq c2_i32 c0_i32_3
  let c1_i32 : BitVec 32 := 1#32
  let v7 : BitVec 32 := Scalar.select v6 c1_i32 c2_i32
  let v8 : BitVec 32 := Scalar.remsi arg0 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  ![v15.toNat, 128, 1792]
def k0_off129 (i : grid0.Coords) : Fin 3 → Nat :=
  let arg0 : BitVec 32 := BitVec.ofNat 32 (i 0).val
  let c2_i32 : BitVec 32 := 2#32
  let c0_i32_3 : BitVec 32 := 0#32
  let v6 : BitVec 1 := Scalar.cmpi .eq c2_i32 c0_i32_3
  let c1_i32 : BitVec 32 := 1#32
  let v7 : BitVec 32 := Scalar.select v6 c1_i32 c2_i32
  let v8 : BitVec 32 := Scalar.remsi arg0 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  ![v15.toNat, 128, 1920]
def k0_off130 (i : grid0.Coords) : Fin 3 → Nat :=
  let arg0 : BitVec 32 := BitVec.ofNat 32 (i 0).val
  let c2_i32 : BitVec 32 := 2#32
  let c0_i32_3 : BitVec 32 := 0#32
  let v6 : BitVec 1 := Scalar.cmpi .eq c2_i32 c0_i32_3
  let c1_i32 : BitVec 32 := 1#32
  let v7 : BitVec 32 := Scalar.select v6 c1_i32 c2_i32
  let v8 : BitVec 32 := Scalar.remsi arg0 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  ![v15.toNat, 128, 2048]
def k0_off131 (i : grid0.Coords) : Fin 3 → Nat :=
  let arg0 : BitVec 32 := BitVec.ofNat 32 (i 0).val
  let c2_i32 : BitVec 32 := 2#32
  let c0_i32_3 : BitVec 32 := 0#32
  let v6 : BitVec 1 := Scalar.cmpi .eq c2_i32 c0_i32_3
  let c1_i32 : BitVec 32 := 1#32
  let v7 : BitVec 32 := Scalar.select v6 c1_i32 c2_i32
  let v8 : BitVec 32 := Scalar.remsi arg0 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  ![v15.toNat, 128, 2176]
def k0_off132 (i : grid0.Coords) : Fin 3 → Nat :=
  let arg0 : BitVec 32 := BitVec.ofNat 32 (i 0).val
  let c2_i32 : BitVec 32 := 2#32
  let c0_i32_3 : BitVec 32 := 0#32
  let v6 : BitVec 1 := Scalar.cmpi .eq c2_i32 c0_i32_3
  let c1_i32 : BitVec 32 := 1#32
  let v7 : BitVec 32 := Scalar.select v6 c1_i32 c2_i32
  let v8 : BitVec 32 := Scalar.remsi arg0 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  ![v15.toNat, 128, 2304]
def k0_off133 (i : grid0.Coords) : Fin 3 → Nat :=
  let arg0 : BitVec 32 := BitVec.ofNat 32 (i 0).val
  let c2_i32 : BitVec 32 := 2#32
  let c0_i32_3 : BitVec 32 := 0#32
  let v6 : BitVec 1 := Scalar.cmpi .eq c2_i32 c0_i32_3
  let c1_i32 : BitVec 32 := 1#32
  let v7 : BitVec 32 := Scalar.select v6 c1_i32 c2_i32
  let v8 : BitVec 32 := Scalar.remsi arg0 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  ![v15.toNat, 128, 2432]
def k0_off134 (i : grid0.Coords) : Fin 3 → Nat :=
  let arg0 : BitVec 32 := BitVec.ofNat 32 (i 0).val
  let c2_i32 : BitVec 32 := 2#32
  let c0_i32_3 : BitVec 32 := 0#32
  let v6 : BitVec 1 := Scalar.cmpi .eq c2_i32 c0_i32_3
  let c1_i32 : BitVec 32 := 1#32
  let v7 : BitVec 32 := Scalar.select v6 c1_i32 c2_i32
  let v8 : BitVec 32 := Scalar.remsi arg0 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  ![v15.toNat, 128, 2560]
def k0_off135 (i : grid0.Coords) : Fin 3 → Nat :=
  let arg0 : BitVec 32 := BitVec.ofNat 32 (i 0).val
  let c2_i32 : BitVec 32 := 2#32
  let c0_i32_3 : BitVec 32 := 0#32
  let v6 : BitVec 1 := Scalar.cmpi .eq c2_i32 c0_i32_3
  let c1_i32 : BitVec 32 := 1#32
  let v7 : BitVec 32 := Scalar.select v6 c1_i32 c2_i32
  let v8 : BitVec 32 := Scalar.remsi arg0 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  ![v15.toNat, 128, 2688]
def k0_off136 (i : grid0.Coords) : Fin 3 → Nat :=
  let arg0 : BitVec 32 := BitVec.ofNat 32 (i 0).val
  let c2_i32 : BitVec 32 := 2#32
  let c0_i32_3 : BitVec 32 := 0#32
  let v6 : BitVec 1 := Scalar.cmpi .eq c2_i32 c0_i32_3
  let c1_i32 : BitVec 32 := 1#32
  let v7 : BitVec 32 := Scalar.select v6 c1_i32 c2_i32
  let v8 : BitVec 32 := Scalar.remsi arg0 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  ![v15.toNat, 128, 2816]
def k0_off137 (i : grid0.Coords) : Fin 3 → Nat :=
  let arg0 : BitVec 32 := BitVec.ofNat 32 (i 0).val
  let c2_i32 : BitVec 32 := 2#32
  let c0_i32_3 : BitVec 32 := 0#32
  let v6 : BitVec 1 := Scalar.cmpi .eq c2_i32 c0_i32_3
  let c1_i32 : BitVec 32 := 1#32
  let v7 : BitVec 32 := Scalar.select v6 c1_i32 c2_i32
  let v8 : BitVec 32 := Scalar.remsi arg0 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  ![v15.toNat, 128, 2944]
def k0_off138 (i : grid0.Coords) : Fin 3 → Nat :=
  let arg0 : BitVec 32 := BitVec.ofNat 32 (i 0).val
  let c2_i32 : BitVec 32 := 2#32
  let c0_i32_3 : BitVec 32 := 0#32
  let v6 : BitVec 1 := Scalar.cmpi .eq c2_i32 c0_i32_3
  let c1_i32 : BitVec 32 := 1#32
  let v7 : BitVec 32 := Scalar.select v6 c1_i32 c2_i32
  let v8 : BitVec 32 := Scalar.remsi arg0 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  ![v15.toNat, 128, 3072]
def k0_off139 (i : grid0.Coords) : Fin 3 → Nat :=
  let arg0 : BitVec 32 := BitVec.ofNat 32 (i 0).val
  let c2_i32 : BitVec 32 := 2#32
  let c0_i32_3 : BitVec 32 := 0#32
  let v6 : BitVec 1 := Scalar.cmpi .eq c2_i32 c0_i32_3
  let c1_i32 : BitVec 32 := 1#32
  let v7 : BitVec 32 := Scalar.select v6 c1_i32 c2_i32
  let v8 : BitVec 32 := Scalar.remsi arg0 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  ![v15.toNat, 128, 3200]
def k0_off140 (i : grid0.Coords) : Fin 3 → Nat :=
  let arg0 : BitVec 32 := BitVec.ofNat 32 (i 0).val
  let c2_i32 : BitVec 32 := 2#32
  let c0_i32_3 : BitVec 32 := 0#32
  let v6 : BitVec 1 := Scalar.cmpi .eq c2_i32 c0_i32_3
  let c1_i32 : BitVec 32 := 1#32
  let v7 : BitVec 32 := Scalar.select v6 c1_i32 c2_i32
  let v8 : BitVec 32 := Scalar.remsi arg0 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  ![v15.toNat, 128, 3328]
def k0_off141 (i : grid0.Coords) : Fin 3 → Nat :=
  let arg0 : BitVec 32 := BitVec.ofNat 32 (i 0).val
  let c2_i32 : BitVec 32 := 2#32
  let c0_i32_3 : BitVec 32 := 0#32
  let v6 : BitVec 1 := Scalar.cmpi .eq c2_i32 c0_i32_3
  let c1_i32 : BitVec 32 := 1#32
  let v7 : BitVec 32 := Scalar.select v6 c1_i32 c2_i32
  let v8 : BitVec 32 := Scalar.remsi arg0 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  ![v15.toNat, 128, 3456]
def k0_off142 (i : grid0.Coords) : Fin 3 → Nat :=
  let arg0 : BitVec 32 := BitVec.ofNat 32 (i 0).val
  let c2_i32 : BitVec 32 := 2#32
  let c0_i32_3 : BitVec 32 := 0#32
  let v6 : BitVec 1 := Scalar.cmpi .eq c2_i32 c0_i32_3
  let c1_i32 : BitVec 32 := 1#32
  let v7 : BitVec 32 := Scalar.select v6 c1_i32 c2_i32
  let v8 : BitVec 32 := Scalar.remsi arg0 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  ![v15.toNat, 128, 3584]
def k0_off143 (i : grid0.Coords) : Fin 3 → Nat :=
  let arg0 : BitVec 32 := BitVec.ofNat 32 (i 0).val
  let c2_i32 : BitVec 32 := 2#32
  let c0_i32_3 : BitVec 32 := 0#32
  let v6 : BitVec 1 := Scalar.cmpi .eq c2_i32 c0_i32_3
  let c1_i32 : BitVec 32 := 1#32
  let v7 : BitVec 32 := Scalar.select v6 c1_i32 c2_i32
  let v8 : BitVec 32 := Scalar.remsi arg0 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  ![v15.toNat, 128, 3712]
def k0_off144 (i : grid0.Coords) : Fin 3 → Nat :=
  let arg0 : BitVec 32 := BitVec.ofNat 32 (i 0).val
  let c2_i32 : BitVec 32 := 2#32
  let c0_i32_3 : BitVec 32 := 0#32
  let v6 : BitVec 1 := Scalar.cmpi .eq c2_i32 c0_i32_3
  let c1_i32 : BitVec 32 := 1#32
  let v7 : BitVec 32 := Scalar.select v6 c1_i32 c2_i32
  let v8 : BitVec 32 := Scalar.remsi arg0 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  ![v15.toNat, 128, 3840]
def k0_off145 (i : grid0.Coords) : Fin 3 → Nat :=
  let arg0 : BitVec 32 := BitVec.ofNat 32 (i 0).val
  let c2_i32 : BitVec 32 := 2#32
  let c0_i32_3 : BitVec 32 := 0#32
  let v6 : BitVec 1 := Scalar.cmpi .eq c2_i32 c0_i32_3
  let c1_i32 : BitVec 32 := 1#32
  let v7 : BitVec 32 := Scalar.select v6 c1_i32 c2_i32
  let v8 : BitVec 32 := Scalar.remsi arg0 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  ![v15.toNat, 128, 3968]
def k0_off146 (i : grid0.Coords) : Fin 3 → Nat :=
  let arg0 : BitVec 32 := BitVec.ofNat 32 (i 0).val
  let c2_i32 : BitVec 32 := 2#32
  let c0_i32_3 : BitVec 32 := 0#32
  let v6 : BitVec 1 := Scalar.cmpi .eq c2_i32 c0_i32_3
  let c1_i32 : BitVec 32 := 1#32
  let v7 : BitVec 32 := Scalar.select v6 c1_i32 c2_i32
  let v8 : BitVec 32 := Scalar.remsi arg0 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  let c0_i32_1437 : BitVec 32 := 0#32
  ![v15.toNat, 256, 0]
def k0_off147 (i : grid0.Coords) : Fin 3 → Nat :=
  let arg0 : BitVec 32 := BitVec.ofNat 32 (i 0).val
  let c2_i32 : BitVec 32 := 2#32
  let c0_i32_3 : BitVec 32 := 0#32
  let v6 : BitVec 1 := Scalar.cmpi .eq c2_i32 c0_i32_3
  let c1_i32 : BitVec 32 := 1#32
  let v7 : BitVec 32 := Scalar.select v6 c1_i32 c2_i32
  let v8 : BitVec 32 := Scalar.remsi arg0 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  ![v15.toNat, 256, 128]
def k0_off148 (i : grid0.Coords) : Fin 3 → Nat :=
  let arg0 : BitVec 32 := BitVec.ofNat 32 (i 0).val
  let c2_i32 : BitVec 32 := 2#32
  let c0_i32_3 : BitVec 32 := 0#32
  let v6 : BitVec 1 := Scalar.cmpi .eq c2_i32 c0_i32_3
  let c1_i32 : BitVec 32 := 1#32
  let v7 : BitVec 32 := Scalar.select v6 c1_i32 c2_i32
  let v8 : BitVec 32 := Scalar.remsi arg0 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  ![v15.toNat, 256, 256]
def k0_off149 (i : grid0.Coords) : Fin 3 → Nat :=
  let arg0 : BitVec 32 := BitVec.ofNat 32 (i 0).val
  let c2_i32 : BitVec 32 := 2#32
  let c0_i32_3 : BitVec 32 := 0#32
  let v6 : BitVec 1 := Scalar.cmpi .eq c2_i32 c0_i32_3
  let c1_i32 : BitVec 32 := 1#32
  let v7 : BitVec 32 := Scalar.select v6 c1_i32 c2_i32
  let v8 : BitVec 32 := Scalar.remsi arg0 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  ![v15.toNat, 256, 384]
def k0_off150 (i : grid0.Coords) : Fin 3 → Nat :=
  let arg0 : BitVec 32 := BitVec.ofNat 32 (i 0).val
  let c2_i32 : BitVec 32 := 2#32
  let c0_i32_3 : BitVec 32 := 0#32
  let v6 : BitVec 1 := Scalar.cmpi .eq c2_i32 c0_i32_3
  let c1_i32 : BitVec 32 := 1#32
  let v7 : BitVec 32 := Scalar.select v6 c1_i32 c2_i32
  let v8 : BitVec 32 := Scalar.remsi arg0 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  ![v15.toNat, 256, 512]
def k0_off151 (i : grid0.Coords) : Fin 3 → Nat :=
  let arg0 : BitVec 32 := BitVec.ofNat 32 (i 0).val
  let c2_i32 : BitVec 32 := 2#32
  let c0_i32_3 : BitVec 32 := 0#32
  let v6 : BitVec 1 := Scalar.cmpi .eq c2_i32 c0_i32_3
  let c1_i32 : BitVec 32 := 1#32
  let v7 : BitVec 32 := Scalar.select v6 c1_i32 c2_i32
  let v8 : BitVec 32 := Scalar.remsi arg0 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  ![v15.toNat, 256, 640]
def k0_off152 (i : grid0.Coords) : Fin 3 → Nat :=
  let arg0 : BitVec 32 := BitVec.ofNat 32 (i 0).val
  let c2_i32 : BitVec 32 := 2#32
  let c0_i32_3 : BitVec 32 := 0#32
  let v6 : BitVec 1 := Scalar.cmpi .eq c2_i32 c0_i32_3
  let c1_i32 : BitVec 32 := 1#32
  let v7 : BitVec 32 := Scalar.select v6 c1_i32 c2_i32
  let v8 : BitVec 32 := Scalar.remsi arg0 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  ![v15.toNat, 256, 768]
def k0_off153 (i : grid0.Coords) : Fin 3 → Nat :=
  let arg0 : BitVec 32 := BitVec.ofNat 32 (i 0).val
  let c2_i32 : BitVec 32 := 2#32
  let c0_i32_3 : BitVec 32 := 0#32
  let v6 : BitVec 1 := Scalar.cmpi .eq c2_i32 c0_i32_3
  let c1_i32 : BitVec 32 := 1#32
  let v7 : BitVec 32 := Scalar.select v6 c1_i32 c2_i32
  let v8 : BitVec 32 := Scalar.remsi arg0 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  ![v15.toNat, 256, 896]
def k0_off154 (i : grid0.Coords) : Fin 3 → Nat :=
  let arg0 : BitVec 32 := BitVec.ofNat 32 (i 0).val
  let c2_i32 : BitVec 32 := 2#32
  let c0_i32_3 : BitVec 32 := 0#32
  let v6 : BitVec 1 := Scalar.cmpi .eq c2_i32 c0_i32_3
  let c1_i32 : BitVec 32 := 1#32
  let v7 : BitVec 32 := Scalar.select v6 c1_i32 c2_i32
  let v8 : BitVec 32 := Scalar.remsi arg0 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  ![v15.toNat, 256, 1024]
def k0_off155 (i : grid0.Coords) : Fin 3 → Nat :=
  let arg0 : BitVec 32 := BitVec.ofNat 32 (i 0).val
  let c2_i32 : BitVec 32 := 2#32
  let c0_i32_3 : BitVec 32 := 0#32
  let v6 : BitVec 1 := Scalar.cmpi .eq c2_i32 c0_i32_3
  let c1_i32 : BitVec 32 := 1#32
  let v7 : BitVec 32 := Scalar.select v6 c1_i32 c2_i32
  let v8 : BitVec 32 := Scalar.remsi arg0 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  ![v15.toNat, 256, 1152]
def k0_off156 (i : grid0.Coords) : Fin 3 → Nat :=
  let arg0 : BitVec 32 := BitVec.ofNat 32 (i 0).val
  let c2_i32 : BitVec 32 := 2#32
  let c0_i32_3 : BitVec 32 := 0#32
  let v6 : BitVec 1 := Scalar.cmpi .eq c2_i32 c0_i32_3
  let c1_i32 : BitVec 32 := 1#32
  let v7 : BitVec 32 := Scalar.select v6 c1_i32 c2_i32
  let v8 : BitVec 32 := Scalar.remsi arg0 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  ![v15.toNat, 256, 1280]
def k0_off157 (i : grid0.Coords) : Fin 3 → Nat :=
  let arg0 : BitVec 32 := BitVec.ofNat 32 (i 0).val
  let c2_i32 : BitVec 32 := 2#32
  let c0_i32_3 : BitVec 32 := 0#32
  let v6 : BitVec 1 := Scalar.cmpi .eq c2_i32 c0_i32_3
  let c1_i32 : BitVec 32 := 1#32
  let v7 : BitVec 32 := Scalar.select v6 c1_i32 c2_i32
  let v8 : BitVec 32 := Scalar.remsi arg0 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  ![v15.toNat, 256, 1408]
def k0_off158 (i : grid0.Coords) : Fin 3 → Nat :=
  let arg0 : BitVec 32 := BitVec.ofNat 32 (i 0).val
  let c2_i32 : BitVec 32 := 2#32
  let c0_i32_3 : BitVec 32 := 0#32
  let v6 : BitVec 1 := Scalar.cmpi .eq c2_i32 c0_i32_3
  let c1_i32 : BitVec 32 := 1#32
  let v7 : BitVec 32 := Scalar.select v6 c1_i32 c2_i32
  let v8 : BitVec 32 := Scalar.remsi arg0 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  ![v15.toNat, 256, 1536]
def k0_off159 (i : grid0.Coords) : Fin 3 → Nat :=
  let arg0 : BitVec 32 := BitVec.ofNat 32 (i 0).val
  let c2_i32 : BitVec 32 := 2#32
  let c0_i32_3 : BitVec 32 := 0#32
  let v6 : BitVec 1 := Scalar.cmpi .eq c2_i32 c0_i32_3
  let c1_i32 : BitVec 32 := 1#32
  let v7 : BitVec 32 := Scalar.select v6 c1_i32 c2_i32
  let v8 : BitVec 32 := Scalar.remsi arg0 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  ![v15.toNat, 256, 1664]
def k0_off160 (i : grid0.Coords) : Fin 3 → Nat :=
  let arg0 : BitVec 32 := BitVec.ofNat 32 (i 0).val
  let c2_i32 : BitVec 32 := 2#32
  let c0_i32_3 : BitVec 32 := 0#32
  let v6 : BitVec 1 := Scalar.cmpi .eq c2_i32 c0_i32_3
  let c1_i32 : BitVec 32 := 1#32
  let v7 : BitVec 32 := Scalar.select v6 c1_i32 c2_i32
  let v8 : BitVec 32 := Scalar.remsi arg0 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  ![v15.toNat, 256, 1792]
def k0_off161 (i : grid0.Coords) : Fin 3 → Nat :=
  let arg0 : BitVec 32 := BitVec.ofNat 32 (i 0).val
  let c2_i32 : BitVec 32 := 2#32
  let c0_i32_3 : BitVec 32 := 0#32
  let v6 : BitVec 1 := Scalar.cmpi .eq c2_i32 c0_i32_3
  let c1_i32 : BitVec 32 := 1#32
  let v7 : BitVec 32 := Scalar.select v6 c1_i32 c2_i32
  let v8 : BitVec 32 := Scalar.remsi arg0 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  ![v15.toNat, 256, 1920]
def k0_off162 (i : grid0.Coords) : Fin 3 → Nat :=
  let arg0 : BitVec 32 := BitVec.ofNat 32 (i 0).val
  let c2_i32 : BitVec 32 := 2#32
  let c0_i32_3 : BitVec 32 := 0#32
  let v6 : BitVec 1 := Scalar.cmpi .eq c2_i32 c0_i32_3
  let c1_i32 : BitVec 32 := 1#32
  let v7 : BitVec 32 := Scalar.select v6 c1_i32 c2_i32
  let v8 : BitVec 32 := Scalar.remsi arg0 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  ![v15.toNat, 256, 2048]
def k0_off163 (i : grid0.Coords) : Fin 3 → Nat :=
  let arg0 : BitVec 32 := BitVec.ofNat 32 (i 0).val
  let c2_i32 : BitVec 32 := 2#32
  let c0_i32_3 : BitVec 32 := 0#32
  let v6 : BitVec 1 := Scalar.cmpi .eq c2_i32 c0_i32_3
  let c1_i32 : BitVec 32 := 1#32
  let v7 : BitVec 32 := Scalar.select v6 c1_i32 c2_i32
  let v8 : BitVec 32 := Scalar.remsi arg0 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  ![v15.toNat, 256, 2176]
def k0_off164 (i : grid0.Coords) : Fin 3 → Nat :=
  let arg0 : BitVec 32 := BitVec.ofNat 32 (i 0).val
  let c2_i32 : BitVec 32 := 2#32
  let c0_i32_3 : BitVec 32 := 0#32
  let v6 : BitVec 1 := Scalar.cmpi .eq c2_i32 c0_i32_3
  let c1_i32 : BitVec 32 := 1#32
  let v7 : BitVec 32 := Scalar.select v6 c1_i32 c2_i32
  let v8 : BitVec 32 := Scalar.remsi arg0 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  ![v15.toNat, 256, 2304]
def k0_off165 (i : grid0.Coords) : Fin 3 → Nat :=
  let arg0 : BitVec 32 := BitVec.ofNat 32 (i 0).val
  let c2_i32 : BitVec 32 := 2#32
  let c0_i32_3 : BitVec 32 := 0#32
  let v6 : BitVec 1 := Scalar.cmpi .eq c2_i32 c0_i32_3
  let c1_i32 : BitVec 32 := 1#32
  let v7 : BitVec 32 := Scalar.select v6 c1_i32 c2_i32
  let v8 : BitVec 32 := Scalar.remsi arg0 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  ![v15.toNat, 256, 2432]
def k0_off166 (i : grid0.Coords) : Fin 3 → Nat :=
  let arg0 : BitVec 32 := BitVec.ofNat 32 (i 0).val
  let c2_i32 : BitVec 32 := 2#32
  let c0_i32_3 : BitVec 32 := 0#32
  let v6 : BitVec 1 := Scalar.cmpi .eq c2_i32 c0_i32_3
  let c1_i32 : BitVec 32 := 1#32
  let v7 : BitVec 32 := Scalar.select v6 c1_i32 c2_i32
  let v8 : BitVec 32 := Scalar.remsi arg0 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  ![v15.toNat, 256, 2560]
def k0_off167 (i : grid0.Coords) : Fin 3 → Nat :=
  let arg0 : BitVec 32 := BitVec.ofNat 32 (i 0).val
  let c2_i32 : BitVec 32 := 2#32
  let c0_i32_3 : BitVec 32 := 0#32
  let v6 : BitVec 1 := Scalar.cmpi .eq c2_i32 c0_i32_3
  let c1_i32 : BitVec 32 := 1#32
  let v7 : BitVec 32 := Scalar.select v6 c1_i32 c2_i32
  let v8 : BitVec 32 := Scalar.remsi arg0 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  ![v15.toNat, 256, 2688]
def k0_off168 (i : grid0.Coords) : Fin 3 → Nat :=
  let arg0 : BitVec 32 := BitVec.ofNat 32 (i 0).val
  let c2_i32 : BitVec 32 := 2#32
  let c0_i32_3 : BitVec 32 := 0#32
  let v6 : BitVec 1 := Scalar.cmpi .eq c2_i32 c0_i32_3
  let c1_i32 : BitVec 32 := 1#32
  let v7 : BitVec 32 := Scalar.select v6 c1_i32 c2_i32
  let v8 : BitVec 32 := Scalar.remsi arg0 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  ![v15.toNat, 256, 2816]
def k0_off169 (i : grid0.Coords) : Fin 3 → Nat :=
  let arg0 : BitVec 32 := BitVec.ofNat 32 (i 0).val
  let c2_i32 : BitVec 32 := 2#32
  let c0_i32_3 : BitVec 32 := 0#32
  let v6 : BitVec 1 := Scalar.cmpi .eq c2_i32 c0_i32_3
  let c1_i32 : BitVec 32 := 1#32
  let v7 : BitVec 32 := Scalar.select v6 c1_i32 c2_i32
  let v8 : BitVec 32 := Scalar.remsi arg0 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  ![v15.toNat, 256, 2944]
def k0_off170 (i : grid0.Coords) : Fin 3 → Nat :=
  let arg0 : BitVec 32 := BitVec.ofNat 32 (i 0).val
  let c2_i32 : BitVec 32 := 2#32
  let c0_i32_3 : BitVec 32 := 0#32
  let v6 : BitVec 1 := Scalar.cmpi .eq c2_i32 c0_i32_3
  let c1_i32 : BitVec 32 := 1#32
  let v7 : BitVec 32 := Scalar.select v6 c1_i32 c2_i32
  let v8 : BitVec 32 := Scalar.remsi arg0 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  ![v15.toNat, 256, 3072]
def k0_off171 (i : grid0.Coords) : Fin 3 → Nat :=
  let arg0 : BitVec 32 := BitVec.ofNat 32 (i 0).val
  let c2_i32 : BitVec 32 := 2#32
  let c0_i32_3 : BitVec 32 := 0#32
  let v6 : BitVec 1 := Scalar.cmpi .eq c2_i32 c0_i32_3
  let c1_i32 : BitVec 32 := 1#32
  let v7 : BitVec 32 := Scalar.select v6 c1_i32 c2_i32
  let v8 : BitVec 32 := Scalar.remsi arg0 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  ![v15.toNat, 256, 3200]
def k0_off172 (i : grid0.Coords) : Fin 3 → Nat :=
  let arg0 : BitVec 32 := BitVec.ofNat 32 (i 0).val
  let c2_i32 : BitVec 32 := 2#32
  let c0_i32_3 : BitVec 32 := 0#32
  let v6 : BitVec 1 := Scalar.cmpi .eq c2_i32 c0_i32_3
  let c1_i32 : BitVec 32 := 1#32
  let v7 : BitVec 32 := Scalar.select v6 c1_i32 c2_i32
  let v8 : BitVec 32 := Scalar.remsi arg0 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  ![v15.toNat, 256, 3328]
def k0_off173 (i : grid0.Coords) : Fin 3 → Nat :=
  let arg0 : BitVec 32 := BitVec.ofNat 32 (i 0).val
  let c2_i32 : BitVec 32 := 2#32
  let c0_i32_3 : BitVec 32 := 0#32
  let v6 : BitVec 1 := Scalar.cmpi .eq c2_i32 c0_i32_3
  let c1_i32 : BitVec 32 := 1#32
  let v7 : BitVec 32 := Scalar.select v6 c1_i32 c2_i32
  let v8 : BitVec 32 := Scalar.remsi arg0 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  ![v15.toNat, 256, 3456]
def k0_off174 (i : grid0.Coords) : Fin 3 → Nat :=
  let arg0 : BitVec 32 := BitVec.ofNat 32 (i 0).val
  let c2_i32 : BitVec 32 := 2#32
  let c0_i32_3 : BitVec 32 := 0#32
  let v6 : BitVec 1 := Scalar.cmpi .eq c2_i32 c0_i32_3
  let c1_i32 : BitVec 32 := 1#32
  let v7 : BitVec 32 := Scalar.select v6 c1_i32 c2_i32
  let v8 : BitVec 32 := Scalar.remsi arg0 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  ![v15.toNat, 256, 3584]
def k0_off175 (i : grid0.Coords) : Fin 3 → Nat :=
  let arg0 : BitVec 32 := BitVec.ofNat 32 (i 0).val
  let c2_i32 : BitVec 32 := 2#32
  let c0_i32_3 : BitVec 32 := 0#32
  let v6 : BitVec 1 := Scalar.cmpi .eq c2_i32 c0_i32_3
  let c1_i32 : BitVec 32 := 1#32
  let v7 : BitVec 32 := Scalar.select v6 c1_i32 c2_i32
  let v8 : BitVec 32 := Scalar.remsi arg0 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  ![v15.toNat, 256, 3712]
def k0_off176 (i : grid0.Coords) : Fin 3 → Nat :=
  let arg0 : BitVec 32 := BitVec.ofNat 32 (i 0).val
  let c2_i32 : BitVec 32 := 2#32
  let c0_i32_3 : BitVec 32 := 0#32
  let v6 : BitVec 1 := Scalar.cmpi .eq c2_i32 c0_i32_3
  let c1_i32 : BitVec 32 := 1#32
  let v7 : BitVec 32 := Scalar.select v6 c1_i32 c2_i32
  let v8 : BitVec 32 := Scalar.remsi arg0 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  ![v15.toNat, 256, 3840]
def k0_off177 (i : grid0.Coords) : Fin 3 → Nat :=
  let arg0 : BitVec 32 := BitVec.ofNat 32 (i 0).val
  let c2_i32 : BitVec 32 := 2#32
  let c0_i32_3 : BitVec 32 := 0#32
  let v6 : BitVec 1 := Scalar.cmpi .eq c2_i32 c0_i32_3
  let c1_i32 : BitVec 32 := 1#32
  let v7 : BitVec 32 := Scalar.select v6 c1_i32 c2_i32
  let v8 : BitVec 32 := Scalar.remsi arg0 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  ![v15.toNat, 256, 3968]
def k0_off178 (i : grid0.Coords) : Fin 3 → Nat :=
  let arg0 : BitVec 32 := BitVec.ofNat 32 (i 0).val
  let c2_i32 : BitVec 32 := 2#32
  let c0_i32_3 : BitVec 32 := 0#32
  let v6 : BitVec 1 := Scalar.cmpi .eq c2_i32 c0_i32_3
  let c1_i32 : BitVec 32 := 1#32
  let v7 : BitVec 32 := Scalar.select v6 c1_i32 c2_i32
  let v8 : BitVec 32 := Scalar.remsi arg0 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  let c0_i32_2176 : BitVec 32 := 0#32
  ![v15.toNat, 384, 0]
def k0_off179 (i : grid0.Coords) : Fin 3 → Nat :=
  let arg0 : BitVec 32 := BitVec.ofNat 32 (i 0).val
  let c2_i32 : BitVec 32 := 2#32
  let c0_i32_3 : BitVec 32 := 0#32
  let v6 : BitVec 1 := Scalar.cmpi .eq c2_i32 c0_i32_3
  let c1_i32 : BitVec 32 := 1#32
  let v7 : BitVec 32 := Scalar.select v6 c1_i32 c2_i32
  let v8 : BitVec 32 := Scalar.remsi arg0 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  ![v15.toNat, 384, 128]
def k0_off180 (i : grid0.Coords) : Fin 3 → Nat :=
  let arg0 : BitVec 32 := BitVec.ofNat 32 (i 0).val
  let c2_i32 : BitVec 32 := 2#32
  let c0_i32_3 : BitVec 32 := 0#32
  let v6 : BitVec 1 := Scalar.cmpi .eq c2_i32 c0_i32_3
  let c1_i32 : BitVec 32 := 1#32
  let v7 : BitVec 32 := Scalar.select v6 c1_i32 c2_i32
  let v8 : BitVec 32 := Scalar.remsi arg0 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  ![v15.toNat, 384, 256]
def k0_off181 (i : grid0.Coords) : Fin 3 → Nat :=
  let arg0 : BitVec 32 := BitVec.ofNat 32 (i 0).val
  let c2_i32 : BitVec 32 := 2#32
  let c0_i32_3 : BitVec 32 := 0#32
  let v6 : BitVec 1 := Scalar.cmpi .eq c2_i32 c0_i32_3
  let c1_i32 : BitVec 32 := 1#32
  let v7 : BitVec 32 := Scalar.select v6 c1_i32 c2_i32
  let v8 : BitVec 32 := Scalar.remsi arg0 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  ![v15.toNat, 384, 384]
def k0_off182 (i : grid0.Coords) : Fin 3 → Nat :=
  let arg0 : BitVec 32 := BitVec.ofNat 32 (i 0).val
  let c2_i32 : BitVec 32 := 2#32
  let c0_i32_3 : BitVec 32 := 0#32
  let v6 : BitVec 1 := Scalar.cmpi .eq c2_i32 c0_i32_3
  let c1_i32 : BitVec 32 := 1#32
  let v7 : BitVec 32 := Scalar.select v6 c1_i32 c2_i32
  let v8 : BitVec 32 := Scalar.remsi arg0 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  ![v15.toNat, 384, 512]
def k0_off183 (i : grid0.Coords) : Fin 3 → Nat :=
  let arg0 : BitVec 32 := BitVec.ofNat 32 (i 0).val
  let c2_i32 : BitVec 32 := 2#32
  let c0_i32_3 : BitVec 32 := 0#32
  let v6 : BitVec 1 := Scalar.cmpi .eq c2_i32 c0_i32_3
  let c1_i32 : BitVec 32 := 1#32
  let v7 : BitVec 32 := Scalar.select v6 c1_i32 c2_i32
  let v8 : BitVec 32 := Scalar.remsi arg0 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  ![v15.toNat, 384, 640]
def k0_off184 (i : grid0.Coords) : Fin 3 → Nat :=
  let arg0 : BitVec 32 := BitVec.ofNat 32 (i 0).val
  let c2_i32 : BitVec 32 := 2#32
  let c0_i32_3 : BitVec 32 := 0#32
  let v6 : BitVec 1 := Scalar.cmpi .eq c2_i32 c0_i32_3
  let c1_i32 : BitVec 32 := 1#32
  let v7 : BitVec 32 := Scalar.select v6 c1_i32 c2_i32
  let v8 : BitVec 32 := Scalar.remsi arg0 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  ![v15.toNat, 384, 768]
def k0_off185 (i : grid0.Coords) : Fin 3 → Nat :=
  let arg0 : BitVec 32 := BitVec.ofNat 32 (i 0).val
  let c2_i32 : BitVec 32 := 2#32
  let c0_i32_3 : BitVec 32 := 0#32
  let v6 : BitVec 1 := Scalar.cmpi .eq c2_i32 c0_i32_3
  let c1_i32 : BitVec 32 := 1#32
  let v7 : BitVec 32 := Scalar.select v6 c1_i32 c2_i32
  let v8 : BitVec 32 := Scalar.remsi arg0 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  ![v15.toNat, 384, 896]
def k0_off186 (i : grid0.Coords) : Fin 3 → Nat :=
  let arg0 : BitVec 32 := BitVec.ofNat 32 (i 0).val
  let c2_i32 : BitVec 32 := 2#32
  let c0_i32_3 : BitVec 32 := 0#32
  let v6 : BitVec 1 := Scalar.cmpi .eq c2_i32 c0_i32_3
  let c1_i32 : BitVec 32 := 1#32
  let v7 : BitVec 32 := Scalar.select v6 c1_i32 c2_i32
  let v8 : BitVec 32 := Scalar.remsi arg0 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  ![v15.toNat, 384, 1024]
def k0_off187 (i : grid0.Coords) : Fin 3 → Nat :=
  let arg0 : BitVec 32 := BitVec.ofNat 32 (i 0).val
  let c2_i32 : BitVec 32 := 2#32
  let c0_i32_3 : BitVec 32 := 0#32
  let v6 : BitVec 1 := Scalar.cmpi .eq c2_i32 c0_i32_3
  let c1_i32 : BitVec 32 := 1#32
  let v7 : BitVec 32 := Scalar.select v6 c1_i32 c2_i32
  let v8 : BitVec 32 := Scalar.remsi arg0 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  ![v15.toNat, 384, 1152]
def k0_off188 (i : grid0.Coords) : Fin 3 → Nat :=
  let arg0 : BitVec 32 := BitVec.ofNat 32 (i 0).val
  let c2_i32 : BitVec 32 := 2#32
  let c0_i32_3 : BitVec 32 := 0#32
  let v6 : BitVec 1 := Scalar.cmpi .eq c2_i32 c0_i32_3
  let c1_i32 : BitVec 32 := 1#32
  let v7 : BitVec 32 := Scalar.select v6 c1_i32 c2_i32
  let v8 : BitVec 32 := Scalar.remsi arg0 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  ![v15.toNat, 384, 1280]
def k0_off189 (i : grid0.Coords) : Fin 3 → Nat :=
  let arg0 : BitVec 32 := BitVec.ofNat 32 (i 0).val
  let c2_i32 : BitVec 32 := 2#32
  let c0_i32_3 : BitVec 32 := 0#32
  let v6 : BitVec 1 := Scalar.cmpi .eq c2_i32 c0_i32_3
  let c1_i32 : BitVec 32 := 1#32
  let v7 : BitVec 32 := Scalar.select v6 c1_i32 c2_i32
  let v8 : BitVec 32 := Scalar.remsi arg0 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  ![v15.toNat, 384, 1408]
def k0_off190 (i : grid0.Coords) : Fin 3 → Nat :=
  let arg0 : BitVec 32 := BitVec.ofNat 32 (i 0).val
  let c2_i32 : BitVec 32 := 2#32
  let c0_i32_3 : BitVec 32 := 0#32
  let v6 : BitVec 1 := Scalar.cmpi .eq c2_i32 c0_i32_3
  let c1_i32 : BitVec 32 := 1#32
  let v7 : BitVec 32 := Scalar.select v6 c1_i32 c2_i32
  let v8 : BitVec 32 := Scalar.remsi arg0 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  ![v15.toNat, 384, 1536]
def k0_off191 (i : grid0.Coords) : Fin 3 → Nat :=
  let arg0 : BitVec 32 := BitVec.ofNat 32 (i 0).val
  let c2_i32 : BitVec 32 := 2#32
  let c0_i32_3 : BitVec 32 := 0#32
  let v6 : BitVec 1 := Scalar.cmpi .eq c2_i32 c0_i32_3
  let c1_i32 : BitVec 32 := 1#32
  let v7 : BitVec 32 := Scalar.select v6 c1_i32 c2_i32
  let v8 : BitVec 32 := Scalar.remsi arg0 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  ![v15.toNat, 384, 1664]
def k0_off192 (i : grid0.Coords) : Fin 3 → Nat :=
  let arg0 : BitVec 32 := BitVec.ofNat 32 (i 0).val
  let c2_i32 : BitVec 32 := 2#32
  let c0_i32_3 : BitVec 32 := 0#32
  let v6 : BitVec 1 := Scalar.cmpi .eq c2_i32 c0_i32_3
  let c1_i32 : BitVec 32 := 1#32
  let v7 : BitVec 32 := Scalar.select v6 c1_i32 c2_i32
  let v8 : BitVec 32 := Scalar.remsi arg0 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  ![v15.toNat, 384, 1792]
def k0_off193 (i : grid0.Coords) : Fin 3 → Nat :=
  let arg0 : BitVec 32 := BitVec.ofNat 32 (i 0).val
  let c2_i32 : BitVec 32 := 2#32
  let c0_i32_3 : BitVec 32 := 0#32
  let v6 : BitVec 1 := Scalar.cmpi .eq c2_i32 c0_i32_3
  let c1_i32 : BitVec 32 := 1#32
  let v7 : BitVec 32 := Scalar.select v6 c1_i32 c2_i32
  let v8 : BitVec 32 := Scalar.remsi arg0 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  ![v15.toNat, 384, 1920]
def k0_off194 (i : grid0.Coords) : Fin 3 → Nat :=
  let arg0 : BitVec 32 := BitVec.ofNat 32 (i 0).val
  let c2_i32 : BitVec 32 := 2#32
  let c0_i32_3 : BitVec 32 := 0#32
  let v6 : BitVec 1 := Scalar.cmpi .eq c2_i32 c0_i32_3
  let c1_i32 : BitVec 32 := 1#32
  let v7 : BitVec 32 := Scalar.select v6 c1_i32 c2_i32
  let v8 : BitVec 32 := Scalar.remsi arg0 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  ![v15.toNat, 384, 2048]
def k0_off195 (i : grid0.Coords) : Fin 3 → Nat :=
  let arg0 : BitVec 32 := BitVec.ofNat 32 (i 0).val
  let c2_i32 : BitVec 32 := 2#32
  let c0_i32_3 : BitVec 32 := 0#32
  let v6 : BitVec 1 := Scalar.cmpi .eq c2_i32 c0_i32_3
  let c1_i32 : BitVec 32 := 1#32
  let v7 : BitVec 32 := Scalar.select v6 c1_i32 c2_i32
  let v8 : BitVec 32 := Scalar.remsi arg0 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  ![v15.toNat, 384, 2176]
def k0_off196 (i : grid0.Coords) : Fin 3 → Nat :=
  let arg0 : BitVec 32 := BitVec.ofNat 32 (i 0).val
  let c2_i32 : BitVec 32 := 2#32
  let c0_i32_3 : BitVec 32 := 0#32
  let v6 : BitVec 1 := Scalar.cmpi .eq c2_i32 c0_i32_3
  let c1_i32 : BitVec 32 := 1#32
  let v7 : BitVec 32 := Scalar.select v6 c1_i32 c2_i32
  let v8 : BitVec 32 := Scalar.remsi arg0 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  ![v15.toNat, 384, 2304]
def k0_off197 (i : grid0.Coords) : Fin 3 → Nat :=
  let arg0 : BitVec 32 := BitVec.ofNat 32 (i 0).val
  let c2_i32 : BitVec 32 := 2#32
  let c0_i32_3 : BitVec 32 := 0#32
  let v6 : BitVec 1 := Scalar.cmpi .eq c2_i32 c0_i32_3
  let c1_i32 : BitVec 32 := 1#32
  let v7 : BitVec 32 := Scalar.select v6 c1_i32 c2_i32
  let v8 : BitVec 32 := Scalar.remsi arg0 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  ![v15.toNat, 384, 2432]
def k0_off198 (i : grid0.Coords) : Fin 3 → Nat :=
  let arg0 : BitVec 32 := BitVec.ofNat 32 (i 0).val
  let c2_i32 : BitVec 32 := 2#32
  let c0_i32_3 : BitVec 32 := 0#32
  let v6 : BitVec 1 := Scalar.cmpi .eq c2_i32 c0_i32_3
  let c1_i32 : BitVec 32 := 1#32
  let v7 : BitVec 32 := Scalar.select v6 c1_i32 c2_i32
  let v8 : BitVec 32 := Scalar.remsi arg0 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  ![v15.toNat, 384, 2560]
def k0_off199 (i : grid0.Coords) : Fin 3 → Nat :=
  let arg0 : BitVec 32 := BitVec.ofNat 32 (i 0).val
  let c2_i32 : BitVec 32 := 2#32
  let c0_i32_3 : BitVec 32 := 0#32
  let v6 : BitVec 1 := Scalar.cmpi .eq c2_i32 c0_i32_3
  let c1_i32 : BitVec 32 := 1#32
  let v7 : BitVec 32 := Scalar.select v6 c1_i32 c2_i32
  let v8 : BitVec 32 := Scalar.remsi arg0 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  ![v15.toNat, 384, 2688]
def k0_off200 (i : grid0.Coords) : Fin 3 → Nat :=
  let arg0 : BitVec 32 := BitVec.ofNat 32 (i 0).val
  let c2_i32 : BitVec 32 := 2#32
  let c0_i32_3 : BitVec 32 := 0#32
  let v6 : BitVec 1 := Scalar.cmpi .eq c2_i32 c0_i32_3
  let c1_i32 : BitVec 32 := 1#32
  let v7 : BitVec 32 := Scalar.select v6 c1_i32 c2_i32
  let v8 : BitVec 32 := Scalar.remsi arg0 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  ![v15.toNat, 384, 2816]
def k0_off201 (i : grid0.Coords) : Fin 3 → Nat :=
  let arg0 : BitVec 32 := BitVec.ofNat 32 (i 0).val
  let c2_i32 : BitVec 32 := 2#32
  let c0_i32_3 : BitVec 32 := 0#32
  let v6 : BitVec 1 := Scalar.cmpi .eq c2_i32 c0_i32_3
  let c1_i32 : BitVec 32 := 1#32
  let v7 : BitVec 32 := Scalar.select v6 c1_i32 c2_i32
  let v8 : BitVec 32 := Scalar.remsi arg0 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  ![v15.toNat, 384, 2944]
def k0_off202 (i : grid0.Coords) : Fin 3 → Nat :=
  let arg0 : BitVec 32 := BitVec.ofNat 32 (i 0).val
  let c2_i32 : BitVec 32 := 2#32
  let c0_i32_3 : BitVec 32 := 0#32
  let v6 : BitVec 1 := Scalar.cmpi .eq c2_i32 c0_i32_3
  let c1_i32 : BitVec 32 := 1#32
  let v7 : BitVec 32 := Scalar.select v6 c1_i32 c2_i32
  let v8 : BitVec 32 := Scalar.remsi arg0 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  ![v15.toNat, 384, 3072]
def k0_off203 (i : grid0.Coords) : Fin 3 → Nat :=
  let arg0 : BitVec 32 := BitVec.ofNat 32 (i 0).val
  let c2_i32 : BitVec 32 := 2#32
  let c0_i32_3 : BitVec 32 := 0#32
  let v6 : BitVec 1 := Scalar.cmpi .eq c2_i32 c0_i32_3
  let c1_i32 : BitVec 32 := 1#32
  let v7 : BitVec 32 := Scalar.select v6 c1_i32 c2_i32
  let v8 : BitVec 32 := Scalar.remsi arg0 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  ![v15.toNat, 384, 3200]
def k0_off204 (i : grid0.Coords) : Fin 3 → Nat :=
  let arg0 : BitVec 32 := BitVec.ofNat 32 (i 0).val
  let c2_i32 : BitVec 32 := 2#32
  let c0_i32_3 : BitVec 32 := 0#32
  let v6 : BitVec 1 := Scalar.cmpi .eq c2_i32 c0_i32_3
  let c1_i32 : BitVec 32 := 1#32
  let v7 : BitVec 32 := Scalar.select v6 c1_i32 c2_i32
  let v8 : BitVec 32 := Scalar.remsi arg0 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  ![v15.toNat, 384, 3328]
def k0_off205 (i : grid0.Coords) : Fin 3 → Nat :=
  let arg0 : BitVec 32 := BitVec.ofNat 32 (i 0).val
  let c2_i32 : BitVec 32 := 2#32
  let c0_i32_3 : BitVec 32 := 0#32
  let v6 : BitVec 1 := Scalar.cmpi .eq c2_i32 c0_i32_3
  let c1_i32 : BitVec 32 := 1#32
  let v7 : BitVec 32 := Scalar.select v6 c1_i32 c2_i32
  let v8 : BitVec 32 := Scalar.remsi arg0 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  ![v15.toNat, 384, 3456]
def k0_off206 (i : grid0.Coords) : Fin 3 → Nat :=
  let arg0 : BitVec 32 := BitVec.ofNat 32 (i 0).val
  let c2_i32 : BitVec 32 := 2#32
  let c0_i32_3 : BitVec 32 := 0#32
  let v6 : BitVec 1 := Scalar.cmpi .eq c2_i32 c0_i32_3
  let c1_i32 : BitVec 32 := 1#32
  let v7 : BitVec 32 := Scalar.select v6 c1_i32 c2_i32
  let v8 : BitVec 32 := Scalar.remsi arg0 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  ![v15.toNat, 384, 3584]
def k0_off207 (i : grid0.Coords) : Fin 3 → Nat :=
  let arg0 : BitVec 32 := BitVec.ofNat 32 (i 0).val
  let c2_i32 : BitVec 32 := 2#32
  let c0_i32_3 : BitVec 32 := 0#32
  let v6 : BitVec 1 := Scalar.cmpi .eq c2_i32 c0_i32_3
  let c1_i32 : BitVec 32 := 1#32
  let v7 : BitVec 32 := Scalar.select v6 c1_i32 c2_i32
  let v8 : BitVec 32 := Scalar.remsi arg0 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  ![v15.toNat, 384, 3712]
def k0_off208 (i : grid0.Coords) : Fin 3 → Nat :=
  let arg0 : BitVec 32 := BitVec.ofNat 32 (i 0).val
  let c2_i32 : BitVec 32 := 2#32
  let c0_i32_3 : BitVec 32 := 0#32
  let v6 : BitVec 1 := Scalar.cmpi .eq c2_i32 c0_i32_3
  let c1_i32 : BitVec 32 := 1#32
  let v7 : BitVec 32 := Scalar.select v6 c1_i32 c2_i32
  let v8 : BitVec 32 := Scalar.remsi arg0 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  ![v15.toNat, 384, 3840]
def k0_off209 (i : grid0.Coords) : Fin 3 → Nat :=
  let arg0 : BitVec 32 := BitVec.ofNat 32 (i 0).val
  let c2_i32 : BitVec 32 := 2#32
  let c0_i32_3 : BitVec 32 := 0#32
  let v6 : BitVec 1 := Scalar.cmpi .eq c2_i32 c0_i32_3
  let c1_i32 : BitVec 32 := 1#32
  let v7 : BitVec 32 := Scalar.select v6 c1_i32 c2_i32
  let v8 : BitVec 32 := Scalar.remsi arg0 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  ![v15.toNat, 384, 3968]
def k0_off210 (i : grid0.Coords) : Fin 3 → Nat :=
  let c1_i32_7 : BitVec 32 := 1#32
  let arg0 : BitVec 32 := BitVec.ofNat 32 (i 0).val
  let c2_i32 : BitVec 32 := 2#32
  let c0_i32_3 : BitVec 32 := 0#32
  let v6 : BitVec 1 := Scalar.cmpi .eq c2_i32 c0_i32_3
  let c1_i32 : BitVec 32 := 1#32
  let v7 : BitVec 32 := Scalar.select v6 c1_i32 c2_i32
  let v8 : BitVec 32 := Scalar.remsi arg0 v7
  let c0_i32_5 : BitVec 32 := 0#32
  let v10 : BitVec 1 := Scalar.cmpi .slt v8 c0_i32_5
  let c0_i32_6 : BitVec 32 := 0#32
  let v11 : BitVec 1 := Scalar.cmpi .slt v7 c0_i32_6
  let v12 : BitVec 1 := Scalar.xori v10 v11
  let c0_i32_4 : BitVec 32 := 0#32
  let v9 : BitVec 1 := Scalar.cmpi .ne v8 c0_i32_4
  let v13 : BitVec 1 := Scalar.andi v12 v9
  let v14 : BitVec 32 := Scalar.addi v8 v7
  let v15 : BitVec 32 := Scalar.select v13 v14 v8
  let v16 : BitVec 32 := Scalar.subi c1_i32_7 v15
  let v7962 : Index := Scalar.indexCast v16
  let c0_2896 : Index := 0#32
  let c0_2897 : Index := 0#32
  ![v7962.toNat, 0, 0]
def cc0_transform_0 (i : grid0.Coords) : Fin 2 → Nat :=
  let arg0 : BitVec 32 := BitVec.ofNat 32 (i 0).val
  let c47_i32 : BitVec 32 := 47#32
  let v0 : BitVec 32 := Scalar.minsi arg0 c47_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let c47_i32 : BitVec 32 := 47#32
  let v0 : BitVec 32 := Scalar.minsi arg0 c47_i32
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c47_i32 : BitVec 32 := 47#32
  let v0 : BitVec 32 := Scalar.minsi arg0 c47_i32
  let c0_i32 : BitVec 32 := 0#32
  let c0_i32_0 : BitVec 32 := 0#32
  ![v0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .smem S32x26 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1664 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x13 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x4096 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S3x8192x4096 : Shape := ⟨3, ![3, 8192, 4096]⟩
abbrev S4096x3328 : Shape := ⟨2, ![4096, 3328]⟩
abbrev S32x26 : Shape := ⟨2, ![32, 26]⟩
abbrev S24576x4096 : Shape := ⟨2, ![24576, 4096]⟩
abbrev S24576x1664 : Shape := ⟨2, ![24576, 1664]⟩
abbrev S24576x13 : Shape := ⟨2, ![24576, 13]⟩
abbrev S24576x32 : Shape := ⟨2, ![24576, 32]⟩
abbrev S24576x32x128 : Shape := ⟨3, ![24576, 32, 128]⟩
abbrev S24576x32x1 : Shape := ⟨3, ![24576, 32, 1]⟩
abbrev S32x128x26x128 : Shape := ⟨4, ![32, 128, 26, 128]⟩
abbrev S32x1x26x1 : Shape := ⟨4, ![32, 1, 26, 1]⟩
abbrev S4096x1664 : Shape := ⟨2, ![4096, 1664]⟩
abbrev S24576x13x128 : Shape := ⟨3, ![24576, 13, 128]⟩
abbrev S24576x13x1 : Shape := ⟨3, ![24576, 13, 1]⟩

abbrev nBuf : Space → Nat
  | .hbm => 8
  | .vmem => 7
  | .smem => 0
  | _ => 0

abbrev bufTy : (tb : Table) → Fin (tcTables nBuf tb) → BufTy
  | .hbm, ⟨0, _⟩ => ⟨S3x8192x4096, .bf16⟩
  | .hbm, ⟨1, _⟩ => ⟨S4096x3328, .fp8e4m3⟩
  | .hbm, ⟨2, _⟩ => ⟨S32x26, .f32⟩
  | .hbm, ⟨3, _⟩ => ⟨S24576x4096, .bf16⟩
  | .hbm, ⟨4, _⟩ => ⟨S24576x1664, .fp8e4m3⟩
  | .hbm, ⟨5, _⟩ => ⟨S24576x13, .f32⟩
  | .hbm, ⟨6, _⟩ => ⟨S24576x4096, .fp8e4m3⟩
  | .hbm, ⟨7, _⟩ => ⟨S24576x32, .f32⟩
  | .local _ .vmem, ⟨0, _⟩ => ⟨S24576x4096, .bf16⟩
  | .local _ .vmem, ⟨1, _⟩ => ⟨S4096x3328, .fp8e4m3⟩
  | .local _ .vmem, ⟨2, _⟩ => ⟨S32x26, .f32⟩
  | .local _ .vmem, ⟨3, _⟩ => ⟨S24576x1664, .fp8e4m3⟩
  | .local _ .vmem, ⟨4, _⟩ => ⟨S24576x13, .f32⟩
  | .local _ .vmem, ⟨5, _⟩ => ⟨S24576x4096, .fp8e4m3⟩
  | .local _ .vmem, ⟨6, _⟩ => ⟨S24576x32, .f32⟩
  | _, _ => ⟨S3x8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S24576x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x3328 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x26 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S24576x1664 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S24576x13 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S24576x4096 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S24576x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.K.Offsets.lean ====
/-
  The offsets of the kernel's slot accesses in closed form.

  The dequantised rows are kept in two slots: step `i` writes slot `i % 2` and reads slot `1 - i % 2`. The staged weights
  are kept in two slots too: trip `k` of the weights loop reads slot `k % 2` and fills slot `1 - k % 2`. The program
  computes these slots by word arithmetic; here each is said to be the number it is.
-/
module

public import proofs.«01_k».proof.Proof.Gen.Kernel

@[expose] public section

namespace Cert.Kernel.Pf

open Cert.Kernel Cert.Kernel.Gen
open Idealize.ShloMosaic Idealize.ShloMosaic.Tactic

/-- The slot a step writes. -/
theorem slot_fill : ∀ i : grid0.Coords, k0_off81 i 0 = (i 0).val % 2 := by decide +kernel
/-- The slot a step reads. -/
theorem slot_read : ∀ i : grid0.Coords, k0_off210 i 0 = 1 - (i 0).val % 2 := by decide +kernel

/-- An offset in the slot a step writes, at row `r` and column `d`. -/
theorem off_fill {off : Fin 3 → Nat} (i : grid0.Coords) (r d : Nat) (h : off = ![k0_off81 i 0, r, d]) :
    off = ![(i 0).val % 2, r, d] := by rw [h, slot_fill]

instance off210_form (i : grid0.Coords) : ClosedOff (k0_off210 i) := ⟨![1 - (i 0).val % 2, 0, 0], by
  rw [← slot_read]; rfl⟩

instance off81_form (i : grid0.Coords) : ClosedOff (k0_off81 i) := ⟨![(i 0).val % 2, 0, 0], off_fill i 0 0 rfl⟩
instance off82_form (i : grid0.Coords) : ClosedOff (k0_off82 i) := ⟨![(i 0).val % 2, 0, 0], off_fill i 0 0 rfl⟩
instance off83_form (i : grid0.Coords) : ClosedOff (k0_off83 i) := ⟨![(i 0).val % 2, 0, 128], off_fill i 0 128 rfl⟩
instance off84_form (i : grid0.Coords) : ClosedOff (k0_off84 i) := ⟨![(i 0).val % 2, 0, 256], off_fill i 0 256 rfl⟩
instance off85_form (i : grid0.Coords) : ClosedOff (k0_off85 i) := ⟨![(i 0).val % 2, 0, 384], off_fill i 0 384 rfl⟩
instance off86_form (i : grid0.Coords) : ClosedOff (k0_off86 i) := ⟨![(i 0).val % 2, 0, 512], off_fill i 0 512 rfl⟩
instance off87_form (i : grid0.Coords) : ClosedOff (k0_off87 i) := ⟨![(i 0).val % 2, 0, 640], off_fill i 0 640 rfl⟩
instance off88_form (i : grid0.Coords) : ClosedOff (k0_off88 i) := ⟨![(i 0).val % 2, 0, 768], off_fill i 0 768 rfl⟩
instance off89_form (i : grid0.Coords) : ClosedOff (k0_off89 i) := ⟨![(i 0).val % 2, 0, 896], off_fill i 0 896 rfl⟩
instance off90_form (i : grid0.Coords) : ClosedOff (k0_off90 i) := ⟨![(i 0).val % 2, 0, 1024], off_fill i 0 1024 rfl⟩
instance off91_form (i : grid0.Coords) : ClosedOff (k0_off91 i) := ⟨![(i 0).val % 2, 0, 1152], off_fill i 0 1152 rfl⟩
instance off92_form (i : grid0.Coords) : ClosedOff (k0_off92 i) := ⟨![(i 0).val % 2, 0, 1280], off_fill i 0 1280 rfl⟩
instance off93_form (i : grid0.Coords) : ClosedOff (k0_off93 i) := ⟨![(i 0).val % 2, 0, 1408], off_fill i 0 1408 rfl⟩
instance off94_form (i : grid0.Coords) : ClosedOff (k0_off94 i) := ⟨![(i 0).val % 2, 0, 1536], off_fill i 0 1536 rfl⟩
instance off95_form (i : grid0.Coords) : ClosedOff (k0_off95 i) := ⟨![(i 0).val % 2, 0, 1664], off_fill i 0 1664 rfl⟩
instance off96_form (i : grid0.Coords) : ClosedOff (k0_off96 i) := ⟨![(i 0).val % 2, 0, 1792], off_fill i 0 1792 rfl⟩
instance off97_form (i : grid0.Coords) : ClosedOff (k0_off97 i) := ⟨![(i 0).val % 2, 0, 1920], off_fill i 0 1920 rfl⟩
instance off98_form (i : grid0.Coords) : ClosedOff (k0_off98 i) := ⟨![(i 0).val % 2, 0, 2048], off_fill i 0 2048 rfl⟩
instance off99_form (i : grid0.Coords) : ClosedOff (k0_off99 i) := ⟨![(i 0).val % 2, 0, 2176], off_fill i 0 2176 rfl⟩
instance off100_form (i : grid0.Coords) : ClosedOff (k0_off100 i) := ⟨![(i 0).val % 2, 0, 2304], off_fill i 0 2304 rfl⟩
instance off101_form (i : grid0.Coords) : ClosedOff (k0_off101 i) := ⟨![(i 0).val % 2, 0, 2432], off_fill i 0 2432 rfl⟩
instance off102_form (i : grid0.Coords) : ClosedOff (k0_off102 i) := ⟨![(i 0).val % 2, 0, 2560], off_fill i 0 2560 rfl⟩
instance off103_form (i : grid0.Coords) : ClosedOff (k0_off103 i) := ⟨![(i 0).val % 2, 0, 2688], off_fill i 0 2688 rfl⟩
instance off104_form (i : grid0.Coords) : ClosedOff (k0_off104 i) := ⟨![(i 0).val % 2, 0, 2816], off_fill i 0 2816 rfl⟩
instance off105_form (i : grid0.Coords) : ClosedOff (k0_off105 i) := ⟨![(i 0).val % 2, 0, 2944], off_fill i 0 2944 rfl⟩
instance off106_form (i : grid0.Coords) : ClosedOff (k0_off106 i) := ⟨![(i 0).val % 2, 0, 3072], off_fill i 0 3072 rfl⟩
instance off107_form (i : grid0.Coords) : ClosedOff (k0_off107 i) := ⟨![(i 0).val % 2, 0, 3200], off_fill i 0 3200 rfl⟩
instance off108_form (i : grid0.Coords) : ClosedOff (k0_off108 i) := ⟨![(i 0).val % 2, 0, 3328], off_fill i 0 3328 rfl⟩
instance off109_form (i : grid0.Coords) : ClosedOff (k0_off109 i) := ⟨![(i 0).val % 2, 0, 3456], off_fill i 0 3456 rfl⟩
instance off110_form (i : grid0.Coords) : ClosedOff (k0_off110 i) := ⟨![(i 0).val % 2, 0, 3584], off_fill i 0 3584 rfl⟩
instance off111_form (i : grid0.Coords) : ClosedOff (k0_off111 i) := ⟨![(i 0).val % 2, 0, 3712], off_fill i 0 3712 rfl⟩
instance off112_form (i : grid0.Coords) : ClosedOff (k0_off112 i) := ⟨![(i 0).val % 2, 0, 3840], off_fill i 0 3840 rfl⟩
instance off113_form (i : grid0.Coords) : ClosedOff (k0_off113 i) := ⟨![(i 0).val % 2, 0, 3968], off_fill i 0 3968 rfl⟩
instance off114_form (i : grid0.Coords) : ClosedOff (k0_off114 i) := ⟨![(i 0).val % 2, 128, 0], off_fill i 128 0 rfl⟩
instance off115_form (i : grid0.Coords) : ClosedOff (k0_off115 i) := ⟨![(i 0).val % 2, 128, 128], off_fill i 128 128 rfl⟩
instance off116_form (i : grid0.Coords) : ClosedOff (k0_off116 i) := ⟨![(i 0).val % 2, 128, 256], off_fill i 128 256 rfl⟩
instance off117_form (i : grid0.Coords) : ClosedOff (k0_off117 i) := ⟨![(i 0).val % 2, 128, 384], off_fill i 128 384 rfl⟩
instance off118_form (i : grid0.Coords) : ClosedOff (k0_off118 i) := ⟨![(i 0).val % 2, 128, 512], off_fill i 128 512 rfl⟩
instance off119_form (i : grid0.Coords) : ClosedOff (k0_off119 i) := ⟨![(i 0).val % 2, 128, 640], off_fill i 128 640 rfl⟩
instance off120_form (i : grid0.Coords) : ClosedOff (k0_off120 i) := ⟨![(i 0).val % 2, 128, 768], off_fill i 128 768 rfl⟩
instance off121_form (i : grid0.Coords) : ClosedOff (k0_off121 i) := ⟨![(i 0).val % 2, 128, 896], off_fill i 128 896 rfl⟩
instance off122_form (i : grid0.Coords) : ClosedOff (k0_off122 i) := ⟨![(i 0).val % 2, 128, 1024], off_fill i 128 1024 rfl⟩
instance off123_form (i : grid0.Coords) : ClosedOff (k0_off123 i) := ⟨![(i 0).val % 2, 128, 1152], off_fill i 128 1152 rfl⟩
instance off124_form (i : grid0.Coords) : ClosedOff (k0_off124 i) := ⟨![(i 0).val % 2, 128, 1280], off_fill i 128 1280 rfl⟩
instance off125_form (i : grid0.Coords) : ClosedOff (k0_off125 i) := ⟨![(i 0).val % 2, 128, 1408], off_fill i 128 1408 rfl⟩
instance off126_form (i : grid0.Coords) : ClosedOff (k0_off126 i) := ⟨![(i 0).val % 2, 128, 1536], off_fill i 128 1536 rfl⟩
instance off127_form (i : grid0.Coords) : ClosedOff (k0_off127 i) := ⟨![(i 0).val % 2, 128, 1664], off_fill i 128 1664 rfl⟩
instance off128_form (i : grid0.Coords) : ClosedOff (k0_off128 i) := ⟨![(i 0).val % 2, 128, 1792], off_fill i 128 1792 rfl⟩
instance off129_form (i : grid0.Coords) : ClosedOff (k0_off129 i) := ⟨![(i 0).val % 2, 128, 1920], off_fill i 128 1920 rfl⟩
instance off130_form (i : grid0.Coords) : ClosedOff (k0_off130 i) := ⟨![(i 0).val % 2, 128, 2048], off_fill i 128 2048 rfl⟩
instance off131_form (i : grid0.Coords) : ClosedOff (k0_off131 i) := ⟨![(i 0).val % 2, 128, 2176], off_fill i 128 2176 rfl⟩
instance off132_form (i : grid0.Coords) : ClosedOff (k0_off132 i) := ⟨![(i 0).val % 2, 128, 2304], off_fill i 128 2304 rfl⟩
instance off133_form (i : grid0.Coords) : ClosedOff (k0_off133 i) := ⟨![(i 0).val % 2, 128, 2432], off_fill i 128 2432 rfl⟩
instance off134_form (i : grid0.Coords) : ClosedOff (k0_off134 i) := ⟨![(i 0).val % 2, 128, 2560], off_fill i 128 2560 rfl⟩
instance off135_form (i : grid0.Coords) : ClosedOff (k0_off135 i) := ⟨![(i 0).val % 2, 128, 2688], off_fill i 128 2688 rfl⟩
instance off136_form (i : grid0.Coords) : ClosedOff (k0_off136 i) := ⟨![(i 0).val % 2, 128, 2816], off_fill i 128 2816 rfl⟩
instance off137_form (i : grid0.Coords) : ClosedOff (k0_off137 i) := ⟨![(i 0).val % 2, 128, 2944], off_fill i 128 2944 rfl⟩
instance off138_form (i : grid0.Coords) : ClosedOff (k0_off138 i) := ⟨![(i 0).val % 2, 128, 3072], off_fill i 128 3072 rfl⟩
instance off139_form (i : grid0.Coords) : ClosedOff (k0_off139 i) := ⟨![(i 0).val % 2, 128, 3200], off_fill i 128 3200 rfl⟩
instance off140_form (i : grid0.Coords) : ClosedOff (k0_off140 i) := ⟨![(i 0).val % 2, 128, 3328], off_fill i 128 3328 rfl⟩
instance off141_form (i : grid0.Coords) : ClosedOff (k0_off141 i) := ⟨![(i 0).val % 2, 128, 3456], off_fill i 128 3456 rfl⟩
instance off142_form (i : grid0.Coords) : ClosedOff (k0_off142 i) := ⟨![(i 0).val % 2, 128, 3584], off_fill i 128 3584 rfl⟩
instance off143_form (i : grid0.Coords) : ClosedOff (k0_off143 i) := ⟨![(i 0).val % 2, 128, 3712], off_fill i 128 3712 rfl⟩
instance off144_form (i : grid0.Coords) : ClosedOff (k0_off144 i) := ⟨![(i 0).val % 2, 128, 3840], off_fill i 128 3840 rfl⟩
instance off145_form (i : grid0.Coords) : ClosedOff (k0_off145 i) := ⟨![(i 0).val % 2, 128, 3968], off_fill i 128 3968 rfl⟩
instance off146_form (i : grid0.Coords) : ClosedOff (k0_off146 i) := ⟨![(i 0).val % 2, 256, 0], off_fill i 256 0 rfl⟩
instance off147_form (i : grid0.Coords) : ClosedOff (k0_off147 i) := ⟨![(i 0).val % 2, 256, 128], off_fill i 256 128 rfl⟩
instance off148_form (i : grid0.Coords) : ClosedOff (k0_off148 i) := ⟨![(i 0).val % 2, 256, 256], off_fill i 256 256 rfl⟩
instance off149_form (i : grid0.Coords) : ClosedOff (k0_off149 i) := ⟨![(i 0).val % 2, 256, 384], off_fill i 256 384 rfl⟩
instance off150_form (i : grid0.Coords) : ClosedOff (k0_off150 i) := ⟨![(i 0).val % 2, 256, 512], off_fill i 256 512 rfl⟩
instance off151_form (i : grid0.Coords) : ClosedOff (k0_off151 i) := ⟨![(i 0).val % 2, 256, 640], off_fill i 256 640 rfl⟩
instance off152_form (i : grid0.Coords) : ClosedOff (k0_off152 i) := ⟨![(i 0).val % 2, 256, 768], off_fill i 256 768 rfl⟩
instance off153_form (i : grid0.Coords) : ClosedOff (k0_off153 i) := ⟨![(i 0).val % 2, 256, 896], off_fill i 256 896 rfl⟩
instance off154_form (i : grid0.Coords) : ClosedOff (k0_off154 i) := ⟨![(i 0).val % 2, 256, 1024], off_fill i 256 1024 rfl⟩
instance off155_form (i : grid0.Coords) : ClosedOff (k0_off155 i) := ⟨![(i 0).val % 2, 256, 1152], off_fill i 256 1152 rfl⟩
instance off156_form (i : grid0.Coords) : ClosedOff (k0_off156 i) := ⟨![(i 0).val % 2, 256, 1280], off_fill i 256 1280 rfl⟩
instance off157_form (i : grid0.Coords) : ClosedOff (k0_off157 i) := ⟨![(i 0).val % 2, 256, 1408], off_fill i 256 1408 rfl⟩
instance off158_form (i : grid0.Coords) : ClosedOff (k0_off158 i) := ⟨![(i 0).val % 2, 256, 1536], off_fill i 256 1536 rfl⟩
instance off159_form (i : grid0.Coords) : ClosedOff (k0_off159 i) := ⟨![(i 0).val % 2, 256, 1664], off_fill i 256 1664 rfl⟩
instance off160_form (i : grid0.Coords) : ClosedOff (k0_off160 i) := ⟨![(i 0).val % 2, 256, 1792], off_fill i 256 1792 rfl⟩
instance off161_form (i : grid0.Coords) : ClosedOff (k0_off161 i) := ⟨![(i 0).val % 2, 256, 1920], off_fill i 256 1920 rfl⟩
instance off162_form (i : grid0.Coords) : ClosedOff (k0_off162 i) := ⟨![(i 0).val % 2, 256, 2048], off_fill i 256 2048 rfl⟩
instance off163_form (i : grid0.Coords) : ClosedOff (k0_off163 i) := ⟨![(i 0).val % 2, 256, 2176], off_fill i 256 2176 rfl⟩
instance off164_form (i : grid0.Coords) : ClosedOff (k0_off164 i) := ⟨![(i 0).val % 2, 256, 2304], off_fill i 256 2304 rfl⟩
instance off165_form (i : grid0.Coords) : ClosedOff (k0_off165 i) := ⟨![(i 0).val % 2, 256, 2432], off_fill i 256 2432 rfl⟩
instance off166_form (i : grid0.Coords) : ClosedOff (k0_off166 i) := ⟨![(i 0).val % 2, 256, 2560], off_fill i 256 2560 rfl⟩
instance off167_form (i : grid0.Coords) : ClosedOff (k0_off167 i) := ⟨![(i 0).val % 2, 256, 2688], off_fill i 256 2688 rfl⟩
instance off168_form (i : grid0.Coords) : ClosedOff (k0_off168 i) := ⟨![(i 0).val % 2, 256, 2816], off_fill i 256 2816 rfl⟩
instance off169_form (i : grid0.Coords) : ClosedOff (k0_off169 i) := ⟨![(i 0).val % 2, 256, 2944], off_fill i 256 2944 rfl⟩
instance off170_form (i : grid0.Coords) : ClosedOff (k0_off170 i) := ⟨![(i 0).val % 2, 256, 3072], off_fill i 256 3072 rfl⟩
instance off171_form (i : grid0.Coords) : ClosedOff (k0_off171 i) := ⟨![(i 0).val % 2, 256, 3200], off_fill i 256 3200 rfl⟩
instance off172_form (i : grid0.Coords) : ClosedOff (k0_off172 i) := ⟨![(i 0).val % 2, 256, 3328], off_fill i 256 3328 rfl⟩
instance off173_form (i : grid0.Coords) : ClosedOff (k0_off173 i) := ⟨![(i 0).val % 2, 256, 3456], off_fill i 256 3456 rfl⟩
instance off174_form (i : grid0.Coords) : ClosedOff (k0_off174 i) := ⟨![(i 0).val % 2, 256, 3584], off_fill i 256 3584 rfl⟩
instance off175_form (i : grid0.Coords) : ClosedOff (k0_off175 i) := ⟨![(i 0).val % 2, 256, 3712], off_fill i 256 3712 rfl⟩
instance off176_form (i : grid0.Coords) : ClosedOff (k0_off176 i) := ⟨![(i 0).val % 2, 256, 3840], off_fill i 256 3840 rfl⟩
instance off177_form (i : grid0.Coords) : ClosedOff (k0_off177 i) := ⟨![(i 0).val % 2, 256, 3968], off_fill i 256 3968 rfl⟩
instance off178_form (i : grid0.Coords) : ClosedOff (k0_off178 i) := ⟨![(i 0).val % 2, 384, 0], off_fill i 384 0 rfl⟩
instance off179_form (i : grid0.Coords) : ClosedOff (k0_off179 i) := ⟨![(i 0).val % 2, 384, 128], off_fill i 384 128 rfl⟩
instance off180_form (i : grid0.Coords) : ClosedOff (k0_off180 i) := ⟨![(i 0).val % 2, 384, 256], off_fill i 384 256 rfl⟩
instance off181_form (i : grid0.Coords) : ClosedOff (k0_off181 i) := ⟨![(i 0).val % 2, 384, 384], off_fill i 384 384 rfl⟩
instance off182_form (i : grid0.Coords) : ClosedOff (k0_off182 i) := ⟨![(i 0).val % 2, 384, 512], off_fill i 384 512 rfl⟩
instance off183_form (i : grid0.Coords) : ClosedOff (k0_off183 i) := ⟨![(i 0).val % 2, 384, 640], off_fill i 384 640 rfl⟩
instance off184_form (i : grid0.Coords) : ClosedOff (k0_off184 i) := ⟨![(i 0).val % 2, 384, 768], off_fill i 384 768 rfl⟩
instance off185_form (i : grid0.Coords) : ClosedOff (k0_off185 i) := ⟨![(i 0).val % 2, 384, 896], off_fill i 384 896 rfl⟩
instance off186_form (i : grid0.Coords) : ClosedOff (k0_off186 i) := ⟨![(i 0).val % 2, 384, 1024], off_fill i 384 1024 rfl⟩
instance off187_form (i : grid0.Coords) : ClosedOff (k0_off187 i) := ⟨![(i 0).val % 2, 384, 1152], off_fill i 384 1152 rfl⟩
instance off188_form (i : grid0.Coords) : ClosedOff (k0_off188 i) := ⟨![(i 0).val % 2, 384, 1280], off_fill i 384 1280 rfl⟩
instance off189_form (i : grid0.Coords) : ClosedOff (k0_off189 i) := ⟨![(i 0).val % 2, 384, 1408], off_fill i 384 1408 rfl⟩
instance off190_form (i : grid0.Coords) : ClosedOff (k0_off190 i) := ⟨![(i 0).val % 2, 384, 1536], off_fill i 384 1536 rfl⟩
instance off191_form (i : grid0.Coords) : ClosedOff (k0_off191 i) := ⟨![(i 0).val % 2, 384, 1664], off_fill i 384 1664 rfl⟩
instance off192_form (i : grid0.Coords) : ClosedOff (k0_off192 i) := ⟨![(i 0).val % 2, 384, 1792], off_fill i 384 1792 rfl⟩
instance off193_form (i : grid0.Coords) : ClosedOff (k0_off193 i) := ⟨![(i 0).val % 2, 384, 1920], off_fill i 384 1920 rfl⟩
instance off194_form (i : grid0.Coords) : ClosedOff (k0_off194 i) := ⟨![(i 0).val % 2, 384, 2048], off_fill i 384 2048 rfl⟩
instance off195_form (i : grid0.Coords) : ClosedOff (k0_off195 i) := ⟨![(i 0).val % 2, 384, 2176], off_fill i 384 2176 rfl⟩
instance off196_form (i : grid0.Coords) : ClosedOff (k0_off196 i) := ⟨![(i 0).val % 2, 384, 2304], off_fill i 384 2304 rfl⟩
instance off197_form (i : grid0.Coords) : ClosedOff (k0_off197 i) := ⟨![(i 0).val % 2, 384, 2432], off_fill i 384 2432 rfl⟩
instance off198_form (i : grid0.Coords) : ClosedOff (k0_off198 i) := ⟨![(i 0).val % 2, 384, 2560], off_fill i 384 2560 rfl⟩
instance off199_form (i : grid0.Coords) : ClosedOff (k0_off199 i) := ⟨![(i 0).val % 2, 384, 2688], off_fill i 384 2688 rfl⟩
instance off200_form (i : grid0.Coords) : ClosedOff (k0_off200 i) := ⟨![(i 0).val % 2, 384, 2816], off_fill i 384 2816 rfl⟩
instance off201_form (i : grid0.Coords) : ClosedOff (k0_off201 i) := ⟨![(i 0).val % 2, 384, 2944], off_fill i 384 2944 rfl⟩
instance off202_form (i : grid0.Coords) : ClosedOff (k0_off202 i) := ⟨![(i 0).val % 2, 384, 3072], off_fill i 384 3072 rfl⟩
instance off203_form (i : grid0.Coords) : ClosedOff (k0_off203 i) := ⟨![(i 0).val % 2, 384, 3200], off_fill i 384 3200 rfl⟩
instance off204_form (i : grid0.Coords) : ClosedOff (k0_off204 i) := ⟨![(i 0).val % 2, 384, 3328], off_fill i 384 3328 rfl⟩
instance off205_form (i : grid0.Coords) : ClosedOff (k0_off205 i) := ⟨![(i 0).val % 2, 384, 3456], off_fill i 384 3456 rfl⟩
instance off206_form (i : grid0.Coords) : ClosedOff (k0_off206 i) := ⟨![(i 0).val % 2, 384, 3584], off_fill i 384 3584 rfl⟩
instance off207_form (i : grid0.Coords) : ClosedOff (k0_off207 i) := ⟨![(i 0).val % 2, 384, 3712], off_fill i 384 3712 rfl⟩
instance off208_form (i : grid0.Coords) : ClosedOff (k0_off208 i) := ⟨![(i 0).val % 2, 384, 3840], off_fill i 384 3840 rfl⟩
instance off209_form (i : grid0.Coords) : ClosedOff (k0_off209 i) := ⟨![(i 0).val % 2, 384, 3968], off_fill i 384 3968 rfl⟩

/-! The weights loop. -/

theorem off1_eq : ∀ k : Fin k0_t1_loop.trips, k0_off1 k = ![1 - k.val % 2, 0] := by decide +kernel
theorem off2_eq : ∀ k : Fin k0_t1_loop.trips, k0_off2 k = ![1 - k.val % 2, 0, 0, 0] := by decide +kernel
theorem off4_eq : ∀ k : Fin k0_t1_loop.trips, k0_off4 k = ![1 - k.val % 2, 1] := by decide +kernel
theorem off5_eq : ∀ k : Fin k0_t1_loop.trips, k0_off5 k = ![1 - k.val % 2, 1, 0, 0] := by decide +kernel
theorem off6_eq : ∀ k : Fin k0_t1_loop.trips, k0_off6 k = ![k.val % 2, 0] := by decide +kernel
theorem off7_eq : ∀ k : Fin k0_t1_loop.trips, k0_off7 k = ![k.val % 2, 0, 0, 0] := by decide +kernel
theorem off9_eq : ∀ k : Fin k0_t1_loop.trips, k0_off9 k = ![k.val % 2, 1] := by decide +kernel
theorem off10_eq : ∀ k : Fin k0_t1_loop.trips, k0_off10 k = ![k.val % 2, 1, 0, 0] := by decide +kernel
theorem off11_eq : ∀ (k : Fin k0_t1_loop.trips) (m : Fin k0_t2_loop.trips), k0_off11 k m = ![k.val % 2, 0, 128 * m.val, 0] := by decide +kernel
theorem off14_eq : ∀ (k : Fin k0_t1_loop.trips) (m : Fin k0_t2_loop.trips), k0_off14 k m = ![k.val % 2, 1, 128 * m.val, 0] := by decide +kernel

/-- The next weights are fetched at every trip but the last. -/
theorem cond2_iff : ∀ k : Fin k0_t1_loop.trips, k0_cond2 k = 1#1 ↔ k.val + 1 < 13 := by decide +kernel
/-- The first step is the one that prepares the weights; -/
theorem cond1_iff : ∀ i : grid0.Coords, k0_cond1 i = 1#1 ↔ (i 0).val = 0 := by decide +kernel
/-- every other step multiplies. -/
theorem cond3_iff : ∀ i : grid0.Coords, k0_cond3 i = 1#1 ↔ (i 0).val ≠ 0 := by decide +kernel

end Cert.Kernel.Pf

end
-- ==== Proof.K.Later.lean ====
/-
  A later step of the kernel, run once at a symbolic step.

  From the block of `x` at anything, the prepared weights at anything and the two slots of dequantised rows at anything,
  the step leaves: the codes and scales of the block of `x`, the same rows dequantised in the slot it fills, and the codes
  and scales of the product of the other slot's rows with the weights. What it leaves is found by the run, as the list of
  what it stores.
-/
module

public import proofs.«01_k».proof.Proof.K.Offsets
public import proofs.«01_k».proof.Proof.Gen.Kernel.Skeleton
public import Idealize.ShloMosaic.Lib.Pipeline.FrameBody
public import Idealize.ShloMosaic.Lib.Tactic

@[expose] public section

noncomputable section

namespace Cert.Kernel.Pf

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's algebra: the pipeline's beside the transfers' counters. -/
local notation "𝕄" => MT nD τ sig Unit (Elt F) ℕ (Pipeline.UD sig nD τ) ℕ

/-- A buffer's contents, as its memref sees them, and the buffer held whole at them. -/
abbrev Bf {sp : Space} {S : Shape} {e : EltTy} (M : Memref sig .tc sp S e) : Type := BufTy.Contents (Elt F) M.view.ty
abbrev pt (c : Dev nD) {sp : Space} {S : Shape} {e : EltTy} (M : Memref sig .tc sp S e) (f : Bf (F := F) M) : sProp 𝕄 :=
  M.view.loc (c : Thread nD τ) ↦[M.view.set]{fullShare} f

set_option sl_exec.squeezeSlice true in
def laterRun (c : Dev nD) (i : grid0.Coords) (arg1 : Memref sig .tc .vmem S512x4096 .bf16) (harg1 : arg1.IsWhole)
    (arg2 : Memref sig .tc .hbm S4096x3328 .fp8e4m3) (harg2 : arg2.IsWhole) (arg3 : Memref sig .tc .smem S32x26 .f32) (harg3 : arg3.IsWhole)
    (arg4 : Memref sig .tc .vmem S512x1664 .fp8e4m3) (harg4 : arg4.IsWhole) (arg5 : Memref sig .tc .vmem S512x13 .f32) (harg5 : arg5.IsWhole)
    (arg6 : Memref sig .tc .vmem S512x4096 .fp8e4m3) (harg6 : arg6.IsWhole) (arg7 : Memref sig .tc .vmem S512x32 .f32) (harg7 : arg7.IsWhole)
    (arg8 : Memref sig .tc .vmem S13x4096x256 .bf16) (harg8 : arg8.IsWhole) (arg9 : Memref sig .tc .vmem S2x2x4096x128 .fp8e4m3) (harg9 : arg9.IsWhole)
    (arg10 : Memref sig .tc .vmem S2x512x4096 .bf16) (harg10 : arg10.IsWhole) (arg11 : DmaSems sig S2x2)
    (h1 : ¬ k0_cond1 i = 1#1) (h3 : k0_cond3 i = 1#1)
    (f1 : Bf (F := F) arg1) (f8 : Bf (F := F) arg8) (f10 : Bf (F := F) arg10) :
    Σ' (L4 : List (View.Piece (Elt F) S512x1664 .fp8e4m3)) (L5 : List (View.Piece (Elt F) S512x13 .f32))
      (L6 : List (View.Piece (Elt F) S512x4096 .fp8e4m3)) (L7 : List (View.Piece (Elt F) S512x32 .f32)),
      { L10 : List (View.Piece (Elt F) S2x512x4096 .bf16) //
        ∀ (E : Set ℕ) (f4 : Bf (F := F) arg4) (f5 : Bf (F := F) arg5) (f6 : Bf (F := F) arg6) (f7 : Bf (F := F) arg7),
          iprop(pt c arg1 f1 ∗ pt c arg4 f4 ∗ pt c arg5 f5 ∗ pt c arg6 f6 ∗ pt c arg7 f7 ∗ pt c arg8 f8 ∗ pt c arg10 f10)
          ⊢ wp frame (wpE (defs₀ (F := F)) Variants.none (c : Thread nD τ) none) E
              (cc0__body (F := F) i arg1 harg1 arg2 harg2 arg3 harg3 arg4 harg4 arg5 harg5 arg6 harg6 arg7 harg7 arg8 harg8 arg9 harg9 arg10 harg10 arg11)
              (fun _ => iprop(pt c arg1 f1 ∗ pt c arg4 (arg4.view.writes (Elt F) f4 L4) ∗ pt c arg5 (arg5.view.writes (Elt F) f5 L5)
                ∗ pt c arg6 (arg6.view.writes (Elt F) f6 L6) ∗ pt c arg7 (arg7.view.writes (Elt F) f7 L7) ∗ pt c arg8 f8
                ∗ pt c arg10 (arg10.view.writes (Elt F) f10 L10))) } := by
  refine ⟨?_, ?_, ?_, ?_, ?_, fun E f4 f5 f6 f7 => ?run⟩
  case run =>
    iintro ⟨H1, H4, H5, H6, H7, H8, H10⟩
    sl_exec_parts
    sl_step
    sl_close

end Cert.Kernel.Pf

end
-- ==== Proof.K.Weights.lean ====
/-
  The weights loop of the first step.

  The weights lie in 26 column blocks of 128: block `k` and block `k + 13` are staged together, into the two halves of slot
  `k % 2` of the staging buffer, one trip ahead of the trip that dequantises them. The loop is gone through by its
  invariant: before trip `k` blocks `k` and `k + 13` are on their way, the other slot is free, and the dequantised weights
  hold what the trips before `k` stored. What one trip stores is found by running it at a symbolic trip.
-/
module

public import proofs.«01_k».proof.Proof.K.Later
public import proofs.«01_k».proof.Proof.Gen.Kernel.Loops
public import Idealize.ShloMosaic.Lib.Ring

@[expose] public section

noncomputable section

namespace Cert.Kernel.Pf

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## Names: the weights, their blocks, the halves of the two slots, their cells -/

abbrev aM : Memref sig .tc .hbm S4096x3328 .fp8e4m3 := Memref.whole main_arg1
abbrev stM : Memref sig .tc .vmem S2x2x4096x128 .fp8e4m3 := Memref.whole cc0_scratch1

abbrev grpOff (b : Fin 26) : Fin 2 → Nat := ![0, 128 * b.val]
theorem grpOff_inb (b : Fin 26) : ∀ a, grpOff b a + S4096x128.size a ≤ S4096x3328.size a := by
  have := b.isLt; intro a; fin_cases a
  · show 0 + 4096 ≤ 4096; omega
  · show 128 * b.val + 128 ≤ 3328; omega
abbrev slotOff (s h : Fin 2) : Fin 4 → Nat := ![s.val, h.val, 0, 0]
theorem slotOff_inb (s h : Fin 2) : ∀ a, slotOff s h a + S1x1x4096x128.size a ≤ S2x2x4096x128.size a := by
  have := s.isLt; have := h.isLt; intro a; fin_cases a
  · show s.val + 1 ≤ 2; omega
  · show h.val + 1 ≤ 2; omega
  · show 0 + 4096 ≤ 4096; omega
  · show 0 + 128 ≤ 128; omega
abbrev semOff (s h : Fin 2) : Fin 2 → Nat := ![s.val, h.val]
theorem semOff_inb (s h : Fin 2) : ∀ a, semOff s h a + S1x1.size a ≤ S2x2.size a := by
  have := s.isLt; have := h.isLt; intro a; fin_cases a
  · show s.val + 1 ≤ 2; omega
  · show h.val + 1 ≤ 2; omega

/-- Column block `b` of the weights, as the body slices it. -/
def grp (b : Fin 26) : Memref sig .tc .hbm S4096x128 .fp8e4m3 :=
  aM.slice (Rect.unit (s := S4096x3328) (grpOff b) S4096x128.size (grpOff_inb b)) (fun _ => rfl)
/-- Half `h` of slot `s` of the staging buffer, as the body slices and squeezes it. -/
def rslot (s h : Fin 2) : Memref sig .tc .vmem S4096x128 .fp8e4m3 :=
  (stM.slice (Rect.unit (s := S2x2x4096x128) (slotOff s h) S1x1x4096x128.size (slotOff_inb s h)) (fun _ => rfl)).squeeze S4096x128 squeezes_S1x1x4096x128_S4096x128
/-- Its cell. -/
def csm (s h : Fin 2) : DmaSems sig S_ := (cc0_scratch3.slice (Rect.unit (s := S2x2) (semOff s h) S1x1.size (semOff_inb s h))).squeeze S_ squeezes_S1x1_S_

instance slotOff_form (s h : Fin 2) : ClosedOff (slotOff s h) := ⟨slotOff s h, rfl⟩
instance grpOff_form (b : Fin 26) : ClosedOff (grpOff b) := ⟨grpOff b, rfl⟩
instance off11_slot (k : Fin k0_t1_loop.trips) (m : Fin k0_t2_loop.trips) : ClosedOff (k0_off11 k m) := ⟨![(Ring.sl 2 k.val).val, 0, 128 * m.val, 0], off11_eq k m⟩
instance off14_slot (k : Fin k0_t1_loop.trips) (m : Fin k0_t2_loop.trips) : ClosedOff (k0_off14 k m) := ⟨![(Ring.sl 2 k.val).val, 1, 128 * m.val, 0], off14_eq k m⟩

private theorem csm_congr {off : Fin 2 → Nat} {s h : Fin 2} (e : off = semOff s h) (hh) :
    (cc0_scratch3.slice (Rect.unit (s := S2x2) off S1x1.size hh)).squeeze S_ squeezes_S1x1_S_ = csm s h :=
  congrArg (fun A : DmaSems sig S1x1 => A.squeeze S_ squeezes_S1x1_S_) (SemArray.slice_unit_congr _ e _ _)
private theorem rslot_congr {off : Fin 4 → Nat} {s h : Fin 2} (e : off = slotOff s h) (hh hs) :
    (stM.slice (Rect.unit (s := S2x2x4096x128) off S1x1x4096x128.size hh) hs).squeeze S4096x128 squeezes_S1x1x4096x128_S4096x128 = rslot s h :=
  congrArg (fun M : Memref sig .tc .vmem S1x1x4096x128 .fp8e4m3 => M.squeeze S4096x128 squeezes_S1x1x4096x128_S4096x128) (Memref.slice_unit_congr _ e _ _ _ _)
private theorem grp_congr {off : Fin 2 → Nat} {b : Fin 26} (e : off = grpOff b) (hh hs) :
    aM.slice (Rect.unit (s := S4096x3328) off S4096x128.size hh) hs = grp b := Memref.slice_unit_congr _ e _ (grpOff_inb b) _ (fun _ => rfl)

/-- The first issues' literal slices. -/
@[sl_canon] theorem semL00 (hh) : (cc0_scratch3.slice (Rect.unit (s := S2x2) ![0, 0] S1x1.size hh)).squeeze S_ squeezes_S1x1_S_ = csm 0 0 := csm_congr (by decide) _
@[sl_canon] theorem semL01 (hh) : (cc0_scratch3.slice (Rect.unit (s := S2x2) ![0, 1] S1x1.size hh)).squeeze S_ squeezes_S1x1_S_ = csm 0 1 := csm_congr (by decide) _
@[sl_canon] theorem slotL00 (hh hs) : (stM.slice (Rect.unit (s := S2x2x4096x128) ![0, 0, 0, 0] S1x1x4096x128.size hh) hs).squeeze S4096x128 squeezes_S1x1x4096x128_S4096x128 = rslot 0 0 := rslot_congr (by decide) _ _
@[sl_canon] theorem slotL01 (hh hs) : (stM.slice (Rect.unit (s := S2x2x4096x128) ![0, 1, 0, 0] S1x1x4096x128.size hh) hs).squeeze S4096x128 squeezes_S1x1x4096x128_S4096x128 = rslot 0 1 := rslot_congr (by decide) _ _
@[sl_canon] theorem grpL0 (hh hs) : aM.slice (Rect.unit (s := S4096x3328) ![0, 0] S4096x128.size hh) hs = grp 0 := grp_congr (by decide) _ _
@[sl_canon] theorem grpL13 (hh hs) : aM.slice (Rect.unit (s := S4096x3328) ![0, 1664] S4096x128.size hh) hs = grp 13 := grp_congr (by decide) _ _

section Eqs
theorem one_sub_mod (k : ℕ) : 1 - k % 2 = (Ring.sl 2 (k + 1)).val := by
  show 1 - k % 2 = (k + 1) % 2; omega
theorem trips1 : k0_t1_loop.trips = 13 := by decide
theorem trips2 : k0_t2_loop.trips = 32 := by decide
theorem trips3 : k0_t3_loop.trips = 4 := by decide
theorem k_lt (k : Fin k0_t1_loop.trips) : k.val < 13 := Nat.lt_of_lt_of_eq k.isLt trips1
theorem off_col {a b : ℕ} (h : a = b) : (![0, a] : Fin 2 → Nat) = ![0, b] := by rw [h]
theorem bk26 {k : ℕ} (h : k < 26) : (Ring.bk 26 k).val = k := Ring.bk_val h
end Eqs

/-- Trip `k`: the blocks it waits for, their slot and cells; -/
@[sl_canon] theorem semK0 (k : Fin k0_t1_loop.trips) (hh) : (cc0_scratch3.slice (Rect.unit (s := S2x2) (k0_off6 k) S1x1.size hh)).squeeze S_ squeezes_S1x1_S_ = csm (Ring.sl 2 k.val) 0 := csm_congr (off6_eq k) _
@[sl_canon] theorem semK1 (k : Fin k0_t1_loop.trips) (hh) : (cc0_scratch3.slice (Rect.unit (s := S2x2) (k0_off9 k) S1x1.size hh)).squeeze S_ squeezes_S1x1_S_ = csm (Ring.sl 2 k.val) 1 := csm_congr (off9_eq k) _
@[sl_canon] theorem slotK0 (k : Fin k0_t1_loop.trips) (hh hs) : (stM.slice (Rect.unit (s := S2x2x4096x128) (k0_off7 k) S1x1x4096x128.size hh) hs).squeeze S4096x128 squeezes_S1x1x4096x128_S4096x128 = rslot (Ring.sl 2 k.val) 0 := rslot_congr (off7_eq k) _ _
@[sl_canon] theorem slotK1 (k : Fin k0_t1_loop.trips) (hh hs) : (stM.slice (Rect.unit (s := S2x2x4096x128) (k0_off10 k) S1x1x4096x128.size hh) hs).squeeze S4096x128 squeezes_S1x1x4096x128_S4096x128 = rslot (Ring.sl 2 k.val) 1 := rslot_congr (off10_eq k) _ _
@[sl_canon] theorem grpK0 (k : Fin k0_t1_loop.trips) (hh hs) : aM.slice (Rect.unit (s := S4096x3328) (k0_off8 k 0#32) S4096x128.size hh) hs = grp (Ring.bk 26 k.val) :=
  grp_congr ((k0_off8_eq k 0).trans (off_col (by have := k_lt k; rw [bk26 (by omega)]; show 128 * k.val + 1664 * 0 = _; omega))) _ _
@[sl_canon] theorem grpK1 (k : Fin k0_t1_loop.trips) (hh hs) : aM.slice (Rect.unit (s := S4096x3328) (k0_off8 k 13#32) S4096x128.size hh) hs = grp (Ring.bk 26 (k.val + 13)) :=
  grp_congr ((k0_off8_eq k 1).trans (off_col (by have := k_lt k; rw [bk26 (by omega)]; show 128 * k.val + 1664 * 1 = _; omega))) _ _
/-- the blocks it sends for, their slot and cells. -/
@[sl_canon] theorem semN0 (k : Fin k0_t1_loop.trips) (hh) : (cc0_scratch3.slice (Rect.unit (s := S2x2) (k0_off1 k) S1x1.size hh)).squeeze S_ squeezes_S1x1_S_ = csm (Ring.sl 2 (k.val + 1)) 0 := csm_congr ((off1_eq k).trans (by rw [one_sub_mod]; rfl)) _
@[sl_canon] theorem semN1 (k : Fin k0_t1_loop.trips) (hh) : (cc0_scratch3.slice (Rect.unit (s := S2x2) (k0_off4 k) S1x1.size hh)).squeeze S_ squeezes_S1x1_S_ = csm (Ring.sl 2 (k.val + 1)) 1 := csm_congr ((off4_eq k).trans (by rw [one_sub_mod]; rfl)) _
@[sl_canon] theorem slotN0 (k : Fin k0_t1_loop.trips) (hh hs) : (stM.slice (Rect.unit (s := S2x2x4096x128) (k0_off2 k) S1x1x4096x128.size hh) hs).squeeze S4096x128 squeezes_S1x1x4096x128_S4096x128 = rslot (Ring.sl 2 (k.val + 1)) 0 := rslot_congr ((off2_eq k).trans (by rw [one_sub_mod]; rfl)) _ _
@[sl_canon] theorem slotN1 (k : Fin k0_t1_loop.trips) (hh hs) : (stM.slice (Rect.unit (s := S2x2x4096x128) (k0_off5 k) S1x1x4096x128.size hh) hs).squeeze S4096x128 squeezes_S1x1x4096x128_S4096x128 = rslot (Ring.sl 2 (k.val + 1)) 1 := rslot_congr ((off5_eq k).trans (by rw [one_sub_mod]; rfl)) _ _
@[sl_canon] theorem grpN0 (k : Fin k0_t1_loop.trips) (hh hs) : aM.slice (Rect.unit (s := S4096x3328) (k0_off3 k 0#32) S4096x128.size hh) hs = grp (Ring.bk 26 (k.val + 1)) :=
  grp_congr ((k0_off3_eq k 0).trans (off_col (by have := k_lt k; rw [bk26 (by omega)]; show 128 * k.val + 1664 * 0 + 128 = _; omega))) _ _
@[sl_canon] theorem grpN1 (k : Fin k0_t1_loop.trips) (hk : k.val + 1 < 13) (hh hs) : aM.slice (Rect.unit (s := S4096x3328) (k0_off3 k 13#32) S4096x128.size hh) hs = grp (Ring.bk 26 (k.val + 1 + 13)) :=
  grp_congr ((k0_off3_eq k 1).trans (off_col (by have := k_lt k; rw [bk26 (by omega)]; show 128 * k.val + 1664 * 1 + 128 = _; omega))) _ _

/-! ## The pieces: a block home, a half-slot held, its cell, a block on its way -/

section Pieces
variable (c : Dev nD) (XA : Buf (Elt F) (aM.view.loc (c : Thread nD τ)))

abbrev cellP (s h : Fin 2) : sProp 𝕄 := semVal ((c : Thread nD τ), SemLoc.dma (csm s h).sem) 0
abbrev slotP (s h : Fin 2) (f : Buf (Elt F) ((rslot s h).view.loc (c : Thread nD τ))) : sProp 𝕄 :=
  (rslot s h).view.loc (c : Thread nD τ) ↦[(rslot s h).view.set]{fullShare} f
abbrev homeP (b : Fin 26) : sProp 𝕄 := (grp b).view.loc (c : Thread nD τ) ↦[(grp b).view.set]{fullShare} XA
/-- Block `b`'s words. -/
abbrev payload (b : Fin 26) : S4096x128.Idx → Elt F .fp8e4m3 := ReadAs.same.apply ((grp b).view.read (Elt F) XA)
/-- What block `b` leaves in a half-slot over prior contents. -/
abbrev landed (s h : Fin 2) (b : Fin 26) (f : Buf (Elt F) ((rslot s h).view.loc (c : Thread nD τ))) : Buf (Elt F) ((rslot s h).view.loc (c : Thread nD τ)) :=
  (rslot s h).view.writes (Elt F) f [⟨Rect.whole S4096x128, payload c XA b⟩]
/-- Half-slot `s`, `h` with block `b` on its way, sent for over `f`. -/
abbrev flightP (s h : Fin 2) (b : Fin 26) (f : Buf (Elt F) ((rslot s h).view.loc (c : Thread nD τ))) : sProp 𝕄 :=
  Transfers.Flight countersEmb (c : Thread nD τ) (SemLoc.dma (csm s h).sem) () 16384 iprop(slotP c s h (landed c XA s h b f) ∗ homeP c XA b)
/-- A half-slot free. -/
abbrev freeP (s h : Fin 2) : sProp 𝕄 := iprop(cellP c s h ∗ ∃ f, slotP c s h f)
end Pieces

/-- The blocks at home before trip `k`; -/
def away (k : ℕ) : Finset (Fin 26) := Finset.univ.filter fun b => ¬ (k < 13 ∧ (b.val = k ∨ b.val = k + 13))
/-- those at home all through it. -/
def away2 (k : ℕ) : Finset (Fin 26) := Finset.univ.filter fun b => ¬ (b.val = k ∨ b.val = k + 13 ∨ (k + 1 < 13 ∧ (b.val = k + 1 ∨ b.val = k + 1 + 13)))

theorem home_pair (P : Fin 26 → sProp 𝕄) (S T : Finset (Fin 26)) (a b : ℕ) (ha : a < 26) (hb : b < 26) (hab : a ≠ b)
    (hS : ∀ d : Fin 26, d ∈ S ↔ d.val = a ∨ d.val = b ∨ d ∈ T) (hT : ∀ d : Fin 26, d ∈ T → d.val ≠ a ∧ d.val ≠ b) :
    bigSep S P = iprop(P (Ring.bk 26 a) ∗ P (Ring.bk 26 b) ∗ bigSep T P) := by
  have e : S = insert (Ring.bk 26 a) (insert (Ring.bk 26 b) T) := by
    ext d; simp only [Finset.mem_insert, hS, Fin.ext_iff, bk26 ha, bk26 hb]
  have h1 : Ring.bk 26 a ∉ insert (Ring.bk 26 b) T := by
    simp only [Finset.mem_insert, Fin.ext_iff, bk26 ha, bk26 hb]
    rintro (h | h)
    · exact hab h
    · exact (hT _ h).1 (bk26 ha)
  have h2 : Ring.bk 26 b ∉ T := fun h => (hT _ h).2 (bk26 hb)
  rw [e, bigSep_insert h1, bigSep_insert h2]; rfl

/-- Before a trip that sends for more: the two blocks about to go out beside the rest; -/
theorem homes_here (P : Fin 26 → sProp 𝕄) (k : ℕ) (hk : k + 1 < 13) :
    bigSep (away k) P = iprop(P (Ring.bk 26 (k + 1)) ∗ P (Ring.bk 26 (k + 1 + 13)) ∗ bigSep (away2 k) P) := by
  refine home_pair P _ _ _ _ (by omega) (by omega) (by omega) ?_ ?_
  · intro d; simp only [away, away2, Finset.mem_filter, Finset.mem_univ, _root_.true_and]; omega
  · intro d; simp only [away2, Finset.mem_filter, Finset.mem_univ, _root_.true_and]; omega
/-- after any trip: the two blocks just back beside the rest. -/
theorem homes_next (P : Fin 26 → sProp 𝕄) (k : ℕ) (hk : k < 13) :
    bigSep (away (k + 1)) P = iprop(P (Ring.bk 26 k) ∗ P (Ring.bk 26 (k + 13)) ∗ bigSep (away2 k) P) := by
  refine home_pair P _ _ _ _ (by omega) (by omega) (by omega) ?_ ?_
  · intro d; simp only [away, away2, Finset.mem_filter, Finset.mem_univ, _root_.true_and]; omega
  · intro d; simp only [away2, Finset.mem_filter, Finset.mem_univ, _root_.true_and]; omega
theorem homes_last (k : ℕ) (hk : ¬ k + 1 < 13) (hk' : k < 13) : away k = away2 k := by
  ext d; simp only [away, away2, Finset.mem_filter, Finset.mem_univ, _root_.true_and, not_iff_not]; omega
theorem homes_first (P : Fin 26 → sProp 𝕄) : bigSep Finset.univ P = iprop(P 0 ∗ P 13 ∗ bigSep (away 0) P) := by
  refine home_pair P _ _ 0 13 (by omega) (by omega) (by omega) ?_ ?_
  · intro d; refine ⟨fun _ => ?_, fun _ => Finset.mem_univ _⟩
    simp only [away, Finset.mem_filter, Finset.mem_univ, _root_.true_and]; omega
  · intro d; simp only [away, Finset.mem_filter, Finset.mem_univ, _root_.true_and]; omega
theorem away_end : away 13 = Finset.univ := by ext d; simp [away]

/-! ## The dequantising loop over the 32 row blocks -/

section Rows
variable (c : Dev nD) (i : grid0.Coords) (arg1 : Memref sig .tc .vmem S512x4096 .bf16) (harg1 : arg1.IsWhole)
  (arg3 : Memref sig .tc .smem S32x26 .f32) (harg3 : arg3.IsWhole)
  (arg4 : Memref sig .tc .vmem S512x1664 .fp8e4m3) (harg4 : arg4.IsWhole) (arg5 : Memref sig .tc .vmem S512x13 .f32) (harg5 : arg5.IsWhole)
  (arg6 : Memref sig .tc .vmem S512x4096 .fp8e4m3) (harg6 : arg6.IsWhole) (arg7 : Memref sig .tc .vmem S512x32 .f32) (harg7 : arg7.IsWhole)
  (arg8 : Memref sig .tc .vmem S13x4096x256 .bf16) (harg8 : arg8.IsWhole) (arg10 : Memref sig .tc .vmem S2x512x4096 .bf16) (harg10 : arg10.IsWhole)
  (h1 : k0_cond1 i = 1#1)
  (k : Fin k0_t1_loop.trips)

/-- What a row block's trip reads and writes: the scales, the two staged halves, the dequantised weights. -/
abbrev TripR (X3 : Bf (F := F) arg3) (X0 : Buf (Elt F) ((rslot (Ring.sl 2 k.val) 0).view.loc (c : Thread nD τ)))
    (X1 : Buf (Elt F) ((rslot (Ring.sl 2 k.val) 1).view.loc (c : Thread nD τ))) (f : Bf (F := F) arg8) : sProp 𝕄 :=
  iprop(pt c arg3 X3 ∗ slotP c (Ring.sl 2 k.val) 0 X0 ∗ slotP c (Ring.sl 2 k.val) 1 X1 ∗ pt c arg8 f)

/-- One row block, at a symbolic one: what it stores is found by the run. -/
@[irreducible] def tripR (X3 : Bf (F := F) arg3) (X0 : Buf (Elt F) ((rslot (Ring.sl 2 k.val) 0).view.loc (c : Thread nD τ)))
    (X1 : Buf (Elt F) ((rslot (Ring.sl 2 k.val) 1).view.loc (c : Thread nD τ))) (m : Fin k0_t2_loop.trips) :
    { L : List (View.Piece (Elt F) S13x4096x256 .bf16) // ∀ f : Bf (F := F) arg8,
      TripR c arg3 arg8 k X3 X0 X1 f ⊢ wp frame (wpE (defs₀ (F := F)) Variants.none (c : Thread nD τ) none) Set.univ
        (k0_t2_body (F := F) i arg1 harg1 aM (Memref.isWhole_whole _) arg3 harg3 arg4 harg4 arg5 harg5 arg6 harg6 arg7 harg7 arg8 harg8 stM (Memref.isWhole_whole _) arg10 harg10 cc0_scratch3 h1 k m PUnit.unit)
        (fun _ => TripR c arg3 arg8 k X3 X0 X1 (arg8.view.writes (Elt F) f L)) } := by
  have hm : m.val < 32 := Nat.lt_of_lt_of_eq m.isLt trips2
  have hk : k.val < 13 := k_lt k
  refine ⟨?_, fun f => ?run⟩
  case run =>
    unfold k0_t2_body
    iintro ⟨H3, H90, H91, H8⟩
    sl_exec
    sl_step
    sl_close

/-- The pieces of the row blocks before `m`, last first. -/
def rowsL (X3 : Bf (F := F) arg3) (X0 : Buf (Elt F) ((rslot (Ring.sl 2 k.val) 0).view.loc (c : Thread nD τ)))
    (X1 : Buf (Elt F) ((rslot (Ring.sl 2 k.val) 1).view.loc (c : Thread nD τ))) : ℕ → List (View.Piece (Elt F) S13x4096x256 .bf16)
  | 0 => []
  | m + 1 => (if h : m < k0_t2_loop.trips then (tripR c i arg1 harg1 arg3 harg3 arg4 harg4 arg5 harg5 arg6 harg6 arg7 harg7 arg8 harg8 arg10 harg10 h1 k X3 X0 X1 ⟨m, h⟩).1 else []) ++ rowsL X3 X0 X1 m

set_option warn.classDefReducibility false in
/-- The row loop by its invariant. -/
@[sl_loop] def loopRows (X3 : Bf (F := F) arg3) (X0 : Buf (Elt F) ((rslot (Ring.sl 2 k.val) 0).view.loc (c : Thread nD τ)))
    (X1 : Buf (Elt F) ((rslot (Ring.sl 2 k.val) 1).view.loc (c : Thread nD τ))) (G : Bf (F := F) arg8) :
    LoopInvTy_k0_t2 (F := F) Unit ℕ (Pipeline.UD sig nD τ) ℕ Variants.none c none Set.univ i arg1 harg1 aM (Memref.isWhole_whole _) arg3 harg3 arg4 harg4 arg5 harg5 arg6 harg6 arg7 harg7 arg8 harg8 stM (Memref.isWhole_whole _) arg10 harg10 cc0_scratch3 h1 k where
  inv m _ := iprop(pt c arg3 X3 ∗ slotP c (Ring.sl 2 k.val) 0 X0 ∗ slotP c (Ring.sl 2 k.val) 1 X1
    ∗ ∃ f, pt c arg8 f ∗ ⌜f = arg8.view.writes (Elt F) G (rowsL c i arg1 harg1 arg3 harg3 arg4 harg4 arg5 harg5 arg6 harg6 arg7 harg7 arg8 harg8 arg10 harg10 h1 k X3 X0 X1 m)⌝)
  step m _ := by
    iintro ⟨H3, H90, H91, ⟨%f, H8, %hf⟩⟩
    iapply (wp_wand_r Idealize.ShloMosaic.frame (wpE (defs₀ (F := F)) Variants.none (c : Thread nD τ) none) Set.univ)
    isplitl [H3 H90 H91 H8]
    · iapply ((tripR c i arg1 harg1 arg3 harg3 arg4 harg4 arg5 harg5 arg6 harg6 arg7 harg7 arg8 harg8 arg10 harg10 h1 k X3 X0 X1 m).2 f)
      isplitl [H3]; · iexact H3
      isplitl [H90]; · iexact H90
      isplitl [H91]; · iexact H91
      iexact H8
    · iintro %_ ⟨H3, H90, H91, H8⟩
      isplitl [H3]; · iexact H3
      isplitl [H90]; · iexact H90
      isplitl [H91]; · iexact H91
      iexists _; isplitl [H8]; · iexact H8
      ipureintro; rw [hf, ← View.writes_append, rowsL, dif_pos m.isLt]

end Rows

/-! ## One trip of the weights loop -/

section Trip
variable (c : Dev nD) (i : grid0.Coords) (arg1 : Memref sig .tc .vmem S512x4096 .bf16) (harg1 : arg1.IsWhole)
  (arg3 : Memref sig .tc .smem S32x26 .f32) (harg3 : arg3.IsWhole)
  (arg4 : Memref sig .tc .vmem S512x1664 .fp8e4m3) (harg4 : arg4.IsWhole) (arg5 : Memref sig .tc .vmem S512x13 .f32) (harg5 : arg5.IsWhole)
  (arg6 : Memref sig .tc .vmem S512x4096 .fp8e4m3) (harg6 : arg6.IsWhole) (arg7 : Memref sig .tc .vmem S512x32 .f32) (harg7 : arg7.IsWhole)
  (arg8 : Memref sig .tc .vmem S13x4096x256 .bf16) (harg8 : arg8.IsWhole) (arg10 : Memref sig .tc .vmem S2x512x4096 .bf16) (harg10 : arg10.IsWhole)
  (h1 : k0_cond1 i = 1#1)
  (XA : Buf (Elt F) (aM.view.loc (c : Thread nD τ))) (X3 : Bf (F := F) arg3)

/-- One half of the slot that trip `k` waits for: a block on its way, or, after the last trip, the half and its cell. -/
def headP (k : ℕ) (s h : Fin 2) (b : Fin 26) (g : Buf (Elt F) ((rslot s h).view.loc (c : Thread nD τ))) : sProp 𝕄 :=
  if k < 13 then flightP c XA s h b g else iprop(cellP c s h ∗ slotP c s h g)
theorem headP_lt {k : ℕ} (hk : k < 13) (s h b g) : headP (F := F) c XA k s h b g = flightP c XA s h b g := if_pos hk
theorem headP_ge {k : ℕ} (hk : ¬ k < 13) (s h b g) : headP (F := F) c XA k s h b g = iprop(cellP c s h ∗ slotP c s h g) := if_neg hk

/-- The resources before trip `k`, the dequantised weights at `f`. -/
def resW (k : ℕ) (f : Bf (F := F) arg8) : sProp 𝕄 :=
  iprop(pt c arg3 X3 ∗ pt c arg8 f ∗ (∃ W, owes (c : Thread nD τ) 0 W) ∗ bigSep (away k) (homeP c XA)
    ∗ (∃ g, headP c XA k (Ring.sl 2 k) 0 (Ring.bk 26 k) g) ∗ (∃ g, headP c XA k (Ring.sl 2 k) 1 (Ring.bk 26 (k + 13)) g)
    ∗ freeP c (Ring.sl 2 (k + 1)) 0 ∗ freeP c (Ring.sl 2 (k + 1)) 1)

theorem sl2_add2 (k : ℕ) : Ring.sl 2 (k + 1 + 1) = Ring.sl 2 k := by rw [show k + 1 + 1 = k + 2 from rfl, Ring.sl_add]

/-- A trip that sends for the next blocks. -/
def tripA (k : Fin k0_t1_loop.trips) (hk : k.val + 1 < 13) :
    { L : List (View.Piece (Elt F) S13x4096x256 .bf16) // ∀ f : Bf (F := F) arg8,
      resW c arg3 arg8 XA X3 k f ⊢ wp frame (wpE (defs₀ (F := F)) Variants.none (c : Thread nD τ) none) Set.univ
        (k0_t1_body (F := F) i arg1 harg1 aM (Memref.isWhole_whole _) arg3 harg3 arg4 harg4 arg5 harg5 arg6 harg6 arg7 harg7 arg8 harg8 stM (Memref.isWhole_whole _) arg10 harg10 cc0_scratch3 h1 k PUnit.unit)
        (fun _ => resW c arg3 arg8 XA X3 (k.val + 1) (arg8.view.writes (Elt F) f L)) } := by
  refine ⟨?_, fun f => ?run⟩
  case run =>
    have h2 : k0_cond2 k = 1#1 := (cond2_iff k).2 hk
    have hk13 : k.val < 13 := k_lt k
    unfold resW
    simp only [headP_lt c XA hk13, headP_lt c XA hk]
    rw [homes_here _ _ hk, homes_next _ _ hk13, sl2_add2]
    iintro ⟨H3, H8, ⟨%W, HW⟩, ⟨Ha, Hb, Hrest⟩, ⟨%g0, HF0⟩, ⟨%g1, HF1⟩, ⟨Hc0, ⟨%e0, Hs0⟩⟩, ⟨Hc1, ⟨%e1, Hs1⟩⟩⟩
    sl_unfold [k0_t1_body]
    sl_exec
    sl_step
    isplitl [H3]; · iexact H3
    isplitl [H8]; · iexact H8
    isplitl [HW]; · iexists _; iexact HW
    isplitl [HF0_src HF1_src Hrest]
    · isplitl [HF0_src]; · iexact HF0_src
      isplitl [HF1_src]; · iexact HF1_src
      iexact Hrest
    isplitl [Hc0]; · iexists _; iexact Hc0
    isplitl [Hc1]; · iexists _; iexact Hc1
    isplitl [HF0 HF0_dst]
    · isplitl [HF0]; · iexact HF0
      iexists _; iexact HF0_dst
    isplitl [HF1]; · iexact HF1
    iexists _; iexact HF1_dst

/-- The last trip, which sends for nothing. -/
def tripZ (k : Fin k0_t1_loop.trips) (hk : ¬ k.val + 1 < 13) :
    { L : List (View.Piece (Elt F) S13x4096x256 .bf16) // ∀ f : Bf (F := F) arg8,
      resW c arg3 arg8 XA X3 k f ⊢ wp frame (wpE (defs₀ (F := F)) Variants.none (c : Thread nD τ) none) Set.univ
        (k0_t1_body (F := F) i arg1 harg1 aM (Memref.isWhole_whole _) arg3 harg3 arg4 harg4 arg5 harg5 arg6 harg6 arg7 harg7 arg8 harg8 stM (Memref.isWhole_whole _) arg10 harg10 cc0_scratch3 h1 k PUnit.unit)
        (fun _ => resW c arg3 arg8 XA X3 (k.val + 1) (arg8.view.writes (Elt F) f L)) } := by
  refine ⟨?_, fun f => ?run⟩
  case run =>
    have h2 : ¬ k0_cond2 k = 1#1 := fun h => hk ((cond2_iff k).1 h)
    have hk13 : k.val < 13 := k_lt k
    unfold resW
    simp only [headP_lt c XA hk13, headP_ge c XA hk]
    rw [homes_last _ hk hk13, homes_next _ _ hk13, sl2_add2]
    iintro ⟨H3, H8, ⟨%W, HW⟩, Hrest, ⟨%g0, HF0⟩, ⟨%g1, HF1⟩, ⟨Hc0, ⟨%e0, Hs0⟩⟩, ⟨Hc1, ⟨%e1, Hs1⟩⟩⟩
    sl_unfold [k0_t1_body]
    sl_exec
    sl_step
    isplitl [H3]; · iexact H3
    isplitl [H8]; · iexact H8
    isplitl [HW]; · iexists _; iexact HW
    isplitl [HF0_src HF1_src Hrest]
    · isplitl [HF0_src]; · iexact HF0_src
      isplitl [HF1_src]; · iexact HF1_src
      iexact Hrest
    isplitl [Hc0 Hs0]
    · iexists _; isplitl [Hc0]; · iexact Hc0
      iexact Hs0
    isplitl [Hc1 Hs1]
    · iexists _; isplitl [Hc1]; · iexact Hc1
      iexact Hs1
    isplitl [HF0 HF0_dst]
    · isplitl [HF0]; · iexact HF0
      iexists _; iexact HF0_dst
    isplitl [HF1]; · iexact HF1
    iexists _; iexact HF1_dst

/-- What trip `k` stores in the dequantised weights. -/
def tripL (k : Fin k0_t1_loop.trips) : List (View.Piece (Elt F) S13x4096x256 .bf16) :=
  if hk : k.val + 1 < 13 then (tripA c i arg1 harg1 arg3 harg3 arg4 harg4 arg5 harg5 arg6 harg6 arg7 harg7 arg8 harg8 arg10 harg10 h1 XA X3 k hk).1 else (tripZ c i arg1 harg1 arg3 harg3 arg4 harg4 arg5 harg5 arg6 harg6 arg7 harg7 arg8 harg8 arg10 harg10 h1 XA X3 k hk).1

theorem trip (k : Fin k0_t1_loop.trips) (f : Bf (F := F) arg8) :
    resW c arg3 arg8 XA X3 k f ⊢ wp frame (wpE (defs₀ (F := F)) Variants.none (c : Thread nD τ) none) Set.univ
        (k0_t1_body (F := F) i arg1 harg1 aM (Memref.isWhole_whole _) arg3 harg3 arg4 harg4 arg5 harg5 arg6 harg6 arg7 harg7 arg8 harg8 stM (Memref.isWhole_whole _) arg10 harg10 cc0_scratch3 h1 k PUnit.unit)
        (fun _ => resW c arg3 arg8 XA X3 (k.val + 1) (arg8.view.writes (Elt F) f (tripL c i arg1 harg1 arg3 harg3 arg4 harg4 arg5 harg5 arg6 harg6 arg7 harg7 arg8 harg8 arg10 harg10 h1 XA X3 k))) := by
  unfold tripL
  split
  · exact (tripA c i arg1 harg1 arg3 harg3 arg4 harg4 arg5 harg5 arg6 harg6 arg7 harg7 arg8 harg8 arg10 harg10 h1 XA X3 k _).2 f
  · exact (tripZ c i arg1 harg1 arg3 harg3 arg4 harg4 arg5 harg5 arg6 harg6 arg7 harg7 arg8 harg8 arg10 harg10 h1 XA X3 k _).2 f

/-- What the first `n` trips store. -/
def wqL : ℕ → List (View.Piece (Elt F) S13x4096x256 .bf16)
  | 0 => []
  | n + 1 => if h : n < k0_t1_loop.trips then tripL c i arg1 harg1 arg3 harg3 arg4 harg4 arg5 harg5 arg6 harg6 arg7 harg7 arg8 harg8 arg10 harg10 h1 XA X3 ⟨n, h⟩ ++ wqL n else wqL n

set_option warn.classDefReducibility false in
/-- The weights loop by its invariant. -/
@[sl_loop] def loopW (G : Bf (F := F) arg8) :
    LoopInvTy_k0_t1 (F := F) Unit ℕ (Pipeline.UD sig nD τ) ℕ Variants.none c none Set.univ i arg1 harg1 aM (Memref.isWhole_whole _) arg3 harg3 arg4 harg4 arg5 harg5 arg6 harg6 arg7 harg7 arg8 harg8 stM (Memref.isWhole_whole _) arg10 harg10 cc0_scratch3 h1 where
  inv m _ := iprop(∃ f, resW c arg3 arg8 XA X3 m f ∗ ⌜f = arg8.view.writes (Elt F) G (wqL c i arg1 harg1 arg3 harg3 arg4 harg4 arg5 harg5 arg6 harg6 arg7 harg7 arg8 harg8 arg10 harg10 h1 XA X3 m)⌝)
  step m _ := by
    iintro ⟨%f, H, %hf⟩
    iapply (wp_wand_r Idealize.ShloMosaic.frame (wpE (defs₀ (F := F)) Variants.none (c : Thread nD τ) none) Set.univ)
    isplitl [H]
    · iapply (trip c i arg1 harg1 arg3 harg3 arg4 harg4 arg5 harg5 arg6 harg6 arg7 harg7 arg8 harg8 arg10 harg10 h1 XA X3 m f)
      iexact H
    · iintro %_ H
      iexists _; isplitl [H]; · iexact H
      ipureintro; rw [hf, ← View.writes_append, wqL, dif_pos m.isLt]

end Trip

end Cert.Kernel.Pf

end
-- ==== Proof.K.Chunks.lean ====
/-
  The chunk loop of the first step: four chunks of 128 rows of the first block of `x` are quantised, 32 groups each. What
  one trip stores is found by running it at a symbolic trip.
-/
module

public import proofs.«01_k».proof.Proof.K.Later
public import proofs.«01_k».proof.Proof.Gen.Kernel.Loops
public import Idealize.ShloMosaic.Lib.Ring

@[expose] public section

set_option maxRecDepth 8192
set_option maxHeartbeats 4000000

noncomputable section

namespace Cert.Kernel.Pf

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- What a trip of the chunk loop works with. -/
abbrev ResC (c : Dev nD) (arg1 : Memref sig .tc .vmem S512x4096 .bf16) (arg6 : Memref sig .tc .vmem S512x4096 .fp8e4m3) (arg7 : Memref sig .tc .vmem S512x32 .f32) (arg10 : Memref sig .tc .vmem S2x512x4096 .bf16) (X_arg1 : BufTy.Contents (Elt F) arg1.view.ty) (f_arg6 : BufTy.Contents (Elt F) arg6.view.ty) (f_arg7 : BufTy.Contents (Elt F) arg7.view.ty) (f_arg10 : BufTy.Contents (Elt F) arg10.view.ty) : sProp 𝕄 :=
  iprop((arg1.view.loc (c : Thread nD τ) ↦[arg1.view.set]{fullShare} X_arg1) ∗ (arg6.view.loc (c : Thread nD τ) ↦[arg6.view.set]{fullShare} f_arg6) ∗ (arg7.view.loc (c : Thread nD τ) ↦[arg7.view.set]{fullShare} f_arg7) ∗ (arg10.view.loc (c : Thread nD τ) ↦[arg10.view.set]{fullShare} f_arg10))

set_option sl_exec.squeezeSlice true in
/-- One trip: four times 32 groups, each quantised into the codes, the scales and the buffer. -/
@[irreducible] def chunkRun (𝒱 : Variants) (c : Dev nD) (bd : Option 𝒱.V) (i : grid0.Coords) (arg1 : Memref sig .tc .vmem S512x4096 .bf16) (harg1 : arg1.IsWhole) (arg2 : Memref sig .tc .hbm S4096x3328 .fp8e4m3) (harg2 : arg2.IsWhole) (arg3 : Memref sig .tc .smem S32x26 .f32) (harg3 : arg3.IsWhole) (arg4 : Memref sig .tc .vmem S512x1664 .fp8e4m3) (harg4 : arg4.IsWhole) (arg5 : Memref sig .tc .vmem S512x13 .f32) (harg5 : arg5.IsWhole) (arg6 : Memref sig .tc .vmem S512x4096 .fp8e4m3) (harg6 : arg6.IsWhole) (arg7 : Memref sig .tc .vmem S512x32 .f32) (harg7 : arg7.IsWhole) (arg8 : Memref sig .tc .vmem S13x4096x256 .bf16) (harg8 : arg8.IsWhole) (arg9 : Memref sig .tc .vmem S2x2x4096x128 .fp8e4m3) (harg9 : arg9.IsWhole) (arg10 : Memref sig .tc .vmem S2x512x4096 .bf16) (harg10 : arg10.IsWhole) (arg11 : DmaSems sig S2x2) (k0_h1 : k0_cond1 i = 1#1) (X_arg1 : BufTy.Contents (Elt F) arg1.view.ty) (k : Fin k0_t3_loop.trips) :
    Σ' (L_arg6 : List (View.Piece (Elt F) S512x4096 .fp8e4m3)) (L_arg7 : List (View.Piece (Elt F) S512x32 .f32)) , { L_arg10 : List (View.Piece (Elt F) S2x512x4096 .bf16) // ∀ (E : Set ℕ) (f_arg6 : BufTy.Contents (Elt F) arg6.view.ty) (f_arg7 : BufTy.Contents (Elt F) arg7.view.ty) (f_arg10 : BufTy.Contents (Elt F) arg10.view.ty),
      ResC (F := F) c arg1 arg6 arg7 arg10 X_arg1 f_arg6 f_arg7 f_arg10
      ⊢ wp frame (wpE (defs₀ (F := F)) 𝒱 (c : Thread nD τ) bd) E (k0_t3_body (F := F) i arg1 harg1 arg2 harg2 arg3 harg3 arg4 harg4 arg5 harg5 arg6 harg6 arg7 harg7 arg8 harg8 arg9 harg9 arg10 harg10 arg11 k0_h1 k PUnit.unit)
          (fun _ => ResC (F := F) c arg1 arg6 arg7 arg10 X_arg1 (arg6.view.writes (Elt F) f_arg6 L_arg6) (arg7.view.writes (Elt F) f_arg7 L_arg7) (arg10.view.writes (Elt F) f_arg10 L_arg10)) } := by
  have hk : k.val < 4 := Nat.lt_of_lt_of_le k.isLt k0_t3_abs.2.1
  refine ⟨?_, ?_, ?_, fun E f_arg6 f_arg7 f_arg10 => ?run⟩
  case run =>
    unfold k0_t3_body
    iintro ⟨HR_arg1, HW_arg6, HW_arg7, HW_arg10⟩
    sl_exec
    sl_step
    sl_close

/-- What trip `k` stores, per buffer. -/
abbrev chunkL (𝒱 : Variants) (c : Dev nD) (bd : Option 𝒱.V) (i : grid0.Coords) (arg1 : Memref sig .tc .vmem S512x4096 .bf16) (harg1 : arg1.IsWhole) (arg2 : Memref sig .tc .hbm S4096x3328 .fp8e4m3) (harg2 : arg2.IsWhole) (arg3 : Memref sig .tc .smem S32x26 .f32) (harg3 : arg3.IsWhole) (arg4 : Memref sig .tc .vmem S512x1664 .fp8e4m3) (harg4 : arg4.IsWhole) (arg5 : Memref sig .tc .vmem S512x13 .f32) (harg5 : arg5.IsWhole) (arg6 : Memref sig .tc .vmem S512x4096 .fp8e4m3) (harg6 : arg6.IsWhole) (arg7 : Memref sig .tc .vmem S512x32 .f32) (harg7 : arg7.IsWhole) (arg8 : Memref sig .tc .vmem S13x4096x256 .bf16) (harg8 : arg8.IsWhole) (arg9 : Memref sig .tc .vmem S2x2x4096x128 .fp8e4m3) (harg9 : arg9.IsWhole) (arg10 : Memref sig .tc .vmem S2x512x4096 .bf16) (harg10 : arg10.IsWhole) (arg11 : DmaSems sig S2x2) (k0_h1 : k0_cond1 i = 1#1) (X_arg1 : BufTy.Contents (Elt F) arg1.view.ty) (k : Fin k0_t3_loop.trips) : List (View.Piece (Elt F) S512x4096 .fp8e4m3) × List (View.Piece (Elt F) S512x32 .f32) × List (View.Piece (Elt F) S2x512x4096 .bf16) :=
  ((chunkRun (F := F) 𝒱 c bd i arg1 harg1 arg2 harg2 arg3 harg3 arg4 harg4 arg5 harg5 arg6 harg6 arg7 harg7 arg8 harg8 arg9 harg9 arg10 harg10 arg11 k0_h1 X_arg1 k).1, (chunkRun (F := F) 𝒱 c bd i arg1 harg1 arg2 harg2 arg3 harg3 arg4 harg4 arg5 harg5 arg6 harg6 arg7 harg7 arg8 harg8 arg9 harg9 arg10 harg10 arg11 k0_h1 X_arg1 k).2.1, (chunkRun (F := F) 𝒱 c bd i arg1 harg1 arg2 harg2 arg3 harg3 arg4 harg4 arg5 harg5 arg6 harg6 arg7 harg7 arg8 harg8 arg9 harg9 arg10 harg10 arg11 k0_h1 X_arg1 k).2.2.1)

/-- The stores of trip `k` in front of the earlier ones. -/
@[irreducible] def chunksLStep (𝒱 : Variants) (c : Dev nD) (bd : Option 𝒱.V) (i : grid0.Coords) (arg1 : Memref sig .tc .vmem S512x4096 .bf16) (harg1 : arg1.IsWhole) (arg2 : Memref sig .tc .hbm S4096x3328 .fp8e4m3) (harg2 : arg2.IsWhole) (arg3 : Memref sig .tc .smem S32x26 .f32) (harg3 : arg3.IsWhole) (arg4 : Memref sig .tc .vmem S512x1664 .fp8e4m3) (harg4 : arg4.IsWhole) (arg5 : Memref sig .tc .vmem S512x13 .f32) (harg5 : arg5.IsWhole) (arg6 : Memref sig .tc .vmem S512x4096 .fp8e4m3) (harg6 : arg6.IsWhole) (arg7 : Memref sig .tc .vmem S512x32 .f32) (harg7 : arg7.IsWhole) (arg8 : Memref sig .tc .vmem S13x4096x256 .bf16) (harg8 : arg8.IsWhole) (arg9 : Memref sig .tc .vmem S2x2x4096x128 .fp8e4m3) (harg9 : arg9.IsWhole) (arg10 : Memref sig .tc .vmem S2x512x4096 .bf16) (harg10 : arg10.IsWhole) (arg11 : DmaSems sig S2x2) (k0_h1 : k0_cond1 i = 1#1) (X_arg1 : BufTy.Contents (Elt F) arg1.view.ty) (k : ℕ) (prev : List (View.Piece (Elt F) S512x4096 .fp8e4m3) × List (View.Piece (Elt F) S512x32 .f32) × List (View.Piece (Elt F) S2x512x4096 .bf16)) : List (View.Piece (Elt F) S512x4096 .fp8e4m3) × List (View.Piece (Elt F) S512x32 .f32) × List (View.Piece (Elt F) S2x512x4096 .bf16) :=
  if h : k < k0_t3_loop.trips then
    ((chunkL (F := F) 𝒱 c bd i arg1 harg1 arg2 harg2 arg3 harg3 arg4 harg4 arg5 harg5 arg6 harg6 arg7 harg7 arg8 harg8 arg9 harg9 arg10 harg10 arg11 k0_h1 X_arg1 ⟨k, h⟩).1 ++ prev.1, (chunkL (F := F) 𝒱 c bd i arg1 harg1 arg2 harg2 arg3 harg3 arg4 harg4 arg5 harg5 arg6 harg6 arg7 harg7 arg8 harg8 arg9 harg9 arg10 harg10 arg11 k0_h1 X_arg1 ⟨k, h⟩).2.1 ++ prev.2.1, (chunkL (F := F) 𝒱 c bd i arg1 harg1 arg2 harg2 arg3 harg3 arg4 harg4 arg5 harg5 arg6 harg6 arg7 harg7 arg8 harg8 arg9 harg9 arg10 harg10 arg11 k0_h1 X_arg1 ⟨k, h⟩).2.2 ++ prev.2.2)
  else prev

/-- The stores of the trips before `k`, the last first. -/
def chunksL (𝒱 : Variants) (c : Dev nD) (bd : Option 𝒱.V) (i : grid0.Coords) (arg1 : Memref sig .tc .vmem S512x4096 .bf16) (harg1 : arg1.IsWhole) (arg2 : Memref sig .tc .hbm S4096x3328 .fp8e4m3) (harg2 : arg2.IsWhole) (arg3 : Memref sig .tc .smem S32x26 .f32) (harg3 : arg3.IsWhole) (arg4 : Memref sig .tc .vmem S512x1664 .fp8e4m3) (harg4 : arg4.IsWhole) (arg5 : Memref sig .tc .vmem S512x13 .f32) (harg5 : arg5.IsWhole) (arg6 : Memref sig .tc .vmem S512x4096 .fp8e4m3) (harg6 : arg6.IsWhole) (arg7 : Memref sig .tc .vmem S512x32 .f32) (harg7 : arg7.IsWhole) (arg8 : Memref sig .tc .vmem S13x4096x256 .bf16) (harg8 : arg8.IsWhole) (arg9 : Memref sig .tc .vmem S2x2x4096x128 .fp8e4m3) (harg9 : arg9.IsWhole) (arg10 : Memref sig .tc .vmem S2x512x4096 .bf16) (harg10 : arg10.IsWhole) (arg11 : DmaSems sig S2x2) (k0_h1 : k0_cond1 i = 1#1) (X_arg1 : BufTy.Contents (Elt F) arg1.view.ty) : ℕ → List (View.Piece (Elt F) S512x4096 .fp8e4m3) × List (View.Piece (Elt F) S512x32 .f32) × List (View.Piece (Elt F) S2x512x4096 .bf16)
  | 0 => ([], [], [])
  | k + 1 => chunksLStep 𝒱 c bd i arg1 harg1 arg2 harg2 arg3 harg3 arg4 harg4 arg5 harg5 arg6 harg6 arg7 harg7 arg8 harg8 arg9 harg9 arg10 harg10 arg11 k0_h1 X_arg1 k (chunksL 𝒱 c bd i arg1 harg1 arg2 harg2 arg3 harg3 arg4 harg4 arg5 harg5 arg6 harg6 arg7 harg7 arg8 harg8 arg9 harg9 arg10 harg10 arg11 k0_h1 X_arg1 k)

theorem chunksL_succ (𝒱 : Variants) (c : Dev nD) (bd : Option 𝒱.V) (i : grid0.Coords) (arg1 : Memref sig .tc .vmem S512x4096 .bf16) (harg1 : arg1.IsWhole) (arg2 : Memref sig .tc .hbm S4096x3328 .fp8e4m3) (harg2 : arg2.IsWhole) (arg3 : Memref sig .tc .smem S32x26 .f32) (harg3 : arg3.IsWhole) (arg4 : Memref sig .tc .vmem S512x1664 .fp8e4m3) (harg4 : arg4.IsWhole) (arg5 : Memref sig .tc .vmem S512x13 .f32) (harg5 : arg5.IsWhole) (arg6 : Memref sig .tc .vmem S512x4096 .fp8e4m3) (harg6 : arg6.IsWhole) (arg7 : Memref sig .tc .vmem S512x32 .f32) (harg7 : arg7.IsWhole) (arg8 : Memref sig .tc .vmem S13x4096x256 .bf16) (harg8 : arg8.IsWhole) (arg9 : Memref sig .tc .vmem S2x2x4096x128 .fp8e4m3) (harg9 : arg9.IsWhole) (arg10 : Memref sig .tc .vmem S2x512x4096 .bf16) (harg10 : arg10.IsWhole) (arg11 : DmaSems sig S2x2) (k0_h1 : k0_cond1 i = 1#1) (X_arg1 : BufTy.Contents (Elt F) arg1.view.ty) (k : Fin k0_t3_loop.trips) :
    chunksL (F := F) 𝒱 c bd i arg1 harg1 arg2 harg2 arg3 harg3 arg4 harg4 arg5 harg5 arg6 harg6 arg7 harg7 arg8 harg8 arg9 harg9 arg10 harg10 arg11 k0_h1 X_arg1 (k.val + 1)
      = ((chunkL (F := F) 𝒱 c bd i arg1 harg1 arg2 harg2 arg3 harg3 arg4 harg4 arg5 harg5 arg6 harg6 arg7 harg7 arg8 harg8 arg9 harg9 arg10 harg10 arg11 k0_h1 X_arg1 k).1 ++ (chunksL (F := F) 𝒱 c bd i arg1 harg1 arg2 harg2 arg3 harg3 arg4 harg4 arg5 harg5 arg6 harg6 arg7 harg7 arg8 harg8 arg9 harg9 arg10 harg10 arg11 k0_h1 X_arg1 k.val).1, (chunkL (F := F) 𝒱 c bd i arg1 harg1 arg2 harg2 arg3 harg3 arg4 harg4 arg5 harg5 arg6 harg6 arg7 harg7 arg8 harg8 arg9 harg9 arg10 harg10 arg11 k0_h1 X_arg1 k).2.1 ++ (chunksL (F := F) 𝒱 c bd i arg1 harg1 arg2 harg2 arg3 harg3 arg4 harg4 arg5 harg5 arg6 harg6 arg7 harg7 arg8 harg8 arg9 harg9 arg10 harg10 arg11 k0_h1 X_arg1 k.val).2.1, (chunkL (F := F) 𝒱 c bd i arg1 harg1 arg2 harg2 arg3 harg3 arg4 harg4 arg5 harg5 arg6 harg6 arg7 harg7 arg8 harg8 arg9 harg9 arg10 harg10 arg11 k0_h1 X_arg1 k).2.2 ++ (chunksL (F := F) 𝒱 c bd i arg1 harg1 arg2 harg2 arg3 harg3 arg4 harg4 arg5 harg5 arg6 harg6 arg7 harg7 arg8 harg8 arg9 harg9 arg10 harg10 arg11 k0_h1 X_arg1 k.val).2.2) := by
  rw [chunksL.eq_2]; unfold chunksLStep; exact dif_pos k.isLt

/-- The loop's invariant: the buffers hold their contents at the entry with the stores so far. -/
abbrev chunksInv (𝒱 : Variants) (c : Dev nD) (bd : Option 𝒱.V) (i : grid0.Coords) (arg1 : Memref sig .tc .vmem S512x4096 .bf16) (harg1 : arg1.IsWhole) (arg2 : Memref sig .tc .hbm S4096x3328 .fp8e4m3) (harg2 : arg2.IsWhole) (arg3 : Memref sig .tc .smem S32x26 .f32) (harg3 : arg3.IsWhole) (arg4 : Memref sig .tc .vmem S512x1664 .fp8e4m3) (harg4 : arg4.IsWhole) (arg5 : Memref sig .tc .vmem S512x13 .f32) (harg5 : arg5.IsWhole) (arg6 : Memref sig .tc .vmem S512x4096 .fp8e4m3) (harg6 : arg6.IsWhole) (arg7 : Memref sig .tc .vmem S512x32 .f32) (harg7 : arg7.IsWhole) (arg8 : Memref sig .tc .vmem S13x4096x256 .bf16) (harg8 : arg8.IsWhole) (arg9 : Memref sig .tc .vmem S2x2x4096x128 .fp8e4m3) (harg9 : arg9.IsWhole) (arg10 : Memref sig .tc .vmem S2x512x4096 .bf16) (harg10 : arg10.IsWhole) (arg11 : DmaSems sig S2x2) (k0_h1 : k0_cond1 i = 1#1) (X_arg1 : BufTy.Contents (Elt F) arg1.view.ty) (G_arg6 : BufTy.Contents (Elt F) arg6.view.ty) (G_arg7 : BufTy.Contents (Elt F) arg7.view.ty) (G_arg10 : BufTy.Contents (Elt F) arg10.view.ty) (k : ℕ) (_u : PUnit) : sProp 𝕄 :=
  iprop((arg1.view.loc (c : Thread nD τ) ↦[arg1.view.set]{fullShare} X_arg1) ∗ (∃ f, (arg6.view.loc (c : Thread nD τ) ↦[arg6.view.set]{fullShare} f) ∗ ⌜f = arg6.view.writes (Elt F) G_arg6 (chunksL (F := F) 𝒱 c bd i arg1 harg1 arg2 harg2 arg3 harg3 arg4 harg4 arg5 harg5 arg6 harg6 arg7 harg7 arg8 harg8 arg9 harg9 arg10 harg10 arg11 k0_h1 X_arg1 k).1⌝) ∗ (∃ f, (arg7.view.loc (c : Thread nD τ) ↦[arg7.view.set]{fullShare} f) ∗ ⌜f = arg7.view.writes (Elt F) G_arg7 (chunksL (F := F) 𝒱 c bd i arg1 harg1 arg2 harg2 arg3 harg3 arg4 harg4 arg5 harg5 arg6 harg6 arg7 harg7 arg8 harg8 arg9 harg9 arg10 harg10 arg11 k0_h1 X_arg1 k).2.1⌝) ∗ (∃ f, (arg10.view.loc (c : Thread nD τ) ↦[arg10.view.set]{fullShare} f) ∗ ⌜f = arg10.view.writes (Elt F) G_arg10 (chunksL (F := F) 𝒱 c bd i arg1 harg1 arg2 harg2 arg3 harg3 arg4 harg4 arg5 harg5 arg6 harg6 arg7 harg7 arg8 harg8 arg9 harg9 arg10 harg10 arg11 k0_h1 X_arg1 k).2.2⌝))

set_option warn.classDefReducibility false in
/-- The chunk loop by its invariant. -/
@[sl_loop] def loopChunks (𝒱 : Variants) (c : Dev nD) (bd : Option 𝒱.V) (E : Set ℕ) (i : grid0.Coords) (arg1 : Memref sig .tc .vmem S512x4096 .bf16) (harg1 : arg1.IsWhole) (arg2 : Memref sig .tc .hbm S4096x3328 .fp8e4m3) (harg2 : arg2.IsWhole) (arg3 : Memref sig .tc .smem S32x26 .f32) (harg3 : arg3.IsWhole) (arg4 : Memref sig .tc .vmem S512x1664 .fp8e4m3) (harg4 : arg4.IsWhole) (arg5 : Memref sig .tc .vmem S512x13 .f32) (harg5 : arg5.IsWhole) (arg6 : Memref sig .tc .vmem S512x4096 .fp8e4m3) (harg6 : arg6.IsWhole) (arg7 : Memref sig .tc .vmem S512x32 .f32) (harg7 : arg7.IsWhole) (arg8 : Memref sig .tc .vmem S13x4096x256 .bf16) (harg8 : arg8.IsWhole) (arg9 : Memref sig .tc .vmem S2x2x4096x128 .fp8e4m3) (harg9 : arg9.IsWhole) (arg10 : Memref sig .tc .vmem S2x512x4096 .bf16) (harg10 : arg10.IsWhole) (arg11 : DmaSems sig S2x2) (k0_h1 : k0_cond1 i = 1#1) (X_arg1 : BufTy.Contents (Elt F) arg1.view.ty) (G_arg6 : BufTy.Contents (Elt F) arg6.view.ty) (G_arg7 : BufTy.Contents (Elt F) arg7.view.ty) (G_arg10 : BufTy.Contents (Elt F) arg10.view.ty) :
    LoopInvTy_k0_t3 (F := F) Unit ℕ (Pipeline.UD sig nD τ) ℕ 𝒱 c bd E i arg1 harg1 arg2 harg2 arg3 harg3 arg4 harg4 arg5 harg5 arg6 harg6 arg7 harg7 arg8 harg8 arg9 harg9 arg10 harg10 arg11 k0_h1 where
  inv := chunksInv (F := F) 𝒱 c bd i arg1 harg1 arg2 harg2 arg3 harg3 arg4 harg4 arg5 harg5 arg6 harg6 arg7 harg7 arg8 harg8 arg9 harg9 arg10 harg10 arg11 k0_h1 X_arg1 G_arg6 G_arg7 G_arg10
  step k acc := by
    iintro ⟨HR_arg1, ⟨%f_arg6, HW_arg6, %h_arg6⟩, ⟨%f_arg7, HW_arg7, %h_arg7⟩, ⟨%f_arg10, HW_arg10, %h_arg10⟩⟩
    iapply (wp_wand_r Idealize.ShloMosaic.frame (wpE (defs₀ (F := F)) 𝒱 (c : Thread nD τ) bd) E)
    isplitl [HR_arg1 HW_arg6 HW_arg7 HW_arg10]
    · iapply ((chunkRun (F := F) 𝒱 c bd i arg1 harg1 arg2 harg2 arg3 harg3 arg4 harg4 arg5 harg5 arg6 harg6 arg7 harg7 arg8 harg8 arg9 harg9 arg10 harg10 arg11 k0_h1 X_arg1 k).2.2.2 E f_arg6 f_arg7 f_arg10)
      isplitl [HR_arg1]; · iexact HR_arg1
      isplitl [HW_arg6]; · iexact HW_arg6
      isplitl [HW_arg7]; · iexact HW_arg7
      iexact HW_arg10
    · iintro %_ ⟨HR_arg1, HW_arg6, HW_arg7, HW_arg10⟩
      isplitl [HR_arg1]; · iexact HR_arg1
      rw [chunksL_succ]
      isplitl [HW_arg6]
      · iexists _; isplitl [HW_arg6]; · iexact HW_arg6
        ipureintro; rw [h_arg6, ← View.writes_append]
      isplitl [HW_arg7]
      · iexists _; isplitl [HW_arg7]; · iexact HW_arg7
        ipureintro; rw [h_arg7, ← View.writes_append]
      iexists _; isplitl [HW_arg10]; · iexact HW_arg10
      ipureintro; rw [h_arg10, ← View.writes_append]

end Cert.Kernel.Pf

end
-- ==== Proof.K.First.lean ====
/-
  The body at the first grid step, run by its two loops' invariants: the weights dequantised, the first block of `x`
  quantised; the staging buffer and the four cells come back free, every block of the weights comes home.
-/
module

public import proofs.«01_k».proof.Proof.K.Weights
public import proofs.«01_k».proof.Proof.K.Chunks

@[expose] public section

noncomputable section

namespace Cert.Kernel.Pf

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section First
variable (c : Dev nD) (i : grid0.Coords) (arg1 : Memref sig .tc .vmem S512x4096 .bf16) (harg1 : arg1.IsWhole)
  (arg3 : Memref sig .tc .smem S32x26 .f32) (harg3 : arg3.IsWhole)
  (arg4 : Memref sig .tc .vmem S512x1664 .fp8e4m3) (harg4 : arg4.IsWhole) (arg5 : Memref sig .tc .vmem S512x13 .f32) (harg5 : arg5.IsWhole)
  (arg6 : Memref sig .tc .vmem S512x4096 .fp8e4m3) (harg6 : arg6.IsWhole) (arg7 : Memref sig .tc .vmem S512x32 .f32) (harg7 : arg7.IsWhole)
  (arg8 : Memref sig .tc .vmem S13x4096x256 .bf16) (harg8 : arg8.IsWhole) (arg10 : Memref sig .tc .vmem S2x512x4096 .bf16) (harg10 : arg10.IsWhole)
  (h1 : k0_cond1 i = 1#1)
  (XA : Buf (Elt F) (aM.view.loc (c : Thread nD τ))) (X3 : Bf (F := F) arg3)

/-- The stores of the first step in the dequantised weights. -/
abbrev firstL8 := wqL (F := F) c i arg1 harg1 arg3 harg3 arg4 harg4 arg5 harg5 arg6 harg6 arg7 harg7 arg8 harg8 arg10 harg10 h1 XA X3 k0_t1_loop.trips
/-- Its stores in the codes, the scales and the buffer of the quantised block. -/
abbrev firstLx (f1 : Bf (F := F) arg1) := chunksL (F := F) Variants.none c none i arg1 harg1 aM (Memref.isWhole_whole _) arg3 harg3 arg4 harg4 arg5 harg5 arg6 harg6 arg7 harg7 arg8 harg8 stM (Memref.isWhole_whole _) arg10 harg10 cc0_scratch3 h1 f1 k0_t3_loop.trips

theorem sl2_0 : Ring.sl 2 0 = 0 := Fin.ext (by rfl)
theorem sl2_1 : Ring.sl 2 (0 + 1) = 1 := Fin.ext (by rfl)
theorem bk26_0 : Ring.bk 26 0 = 0 := Fin.ext (by rfl)
theorem bk26_13 : Ring.bk 26 (0 + 13) = 13 := Fin.ext (by rfl)

attribute [local sl_canon] sl2_0 sl2_1 bk26_0 bk26_13 in
theorem firstRun (h3 : ¬ k0_cond3 i = 1#1) (f1 : Bf (F := F) arg1) (f6 : Bf (F := F) arg6) (f7 : Bf (F := F) arg7) (f8 : Bf (F := F) arg8) (f10 : Bf (F := F) arg10) :
    iprop(pt c arg1 f1 ∗ pt c arg3 X3 ∗ pt c arg6 f6 ∗ pt c arg7 f7 ∗ pt c arg8 f8 ∗ pt c arg10 f10 ∗ bigSep Finset.univ (homeP c XA)
        ∗ freeP c 0 0 ∗ freeP c 0 1 ∗ freeP c 1 0 ∗ freeP c 1 1 ∗ ∃ W, owes (c : Thread nD τ) 0 W)
      ⊢ wp frame (wpE (defs₀ (F := F)) Variants.none (c : Thread nD τ) none) Set.univ
        (cc0__body (F := F) i arg1 harg1 aM (Memref.isWhole_whole _) arg3 harg3 arg4 harg4 arg5 harg5 arg6 harg6 arg7 harg7 arg8 harg8 stM (Memref.isWhole_whole _) arg10 harg10 cc0_scratch3)
        (fun _ => iprop(pt c arg1 f1 ∗ pt c arg3 X3
          ∗ pt c arg6 (arg6.view.writes (Elt F) f6 (firstLx c i arg1 harg1 arg3 harg3 arg4 harg4 arg5 harg5 arg6 harg6 arg7 harg7 arg8 harg8 arg10 harg10 h1 f1).1)
          ∗ pt c arg7 (arg7.view.writes (Elt F) f7 (firstLx c i arg1 harg1 arg3 harg3 arg4 harg4 arg5 harg5 arg6 harg6 arg7 harg7 arg8 harg8 arg10 harg10 h1 f1).2.1)
          ∗ pt c arg8 (arg8.view.writes (Elt F) f8 (firstL8 c i arg1 harg1 arg3 harg3 arg4 harg4 arg5 harg5 arg6 harg6 arg7 harg7 arg8 harg8 arg10 harg10 h1 XA X3))
          ∗ pt c arg10 (arg10.view.writes (Elt F) f10 (firstLx c i arg1 harg1 arg3 harg3 arg4 harg4 arg5 harg5 arg6 harg6 arg7 harg7 arg8 harg8 arg10 harg10 h1 f1).2.2)
          ∗ bigSep Finset.univ (homeP c XA)
          ∗ freeP c 0 0 ∗ freeP c 0 1 ∗ freeP c 1 0 ∗ freeP c 1 1 ∗ ∃ W, owes (c : Thread nD τ) 0 W)) := by
  rw [homes_first]
  iintro ⟨H1, H3, H6, H7, H8, H10, ⟨Hg0, Hg13, Hh⟩, ⟨Hc0, ⟨%e0, Hs0⟩⟩, ⟨Hc1, ⟨%e1, Hs1⟩⟩, ⟨Hc2, ⟨%e2, Hs2⟩⟩, ⟨Hc3, ⟨%e3, Hs3⟩⟩, ⟨%W, HW⟩⟩
  sl_exec
  sl_step
  have eT : Scf.trips k0_t1_loop.lb k0_t1_loop.ub k0_t1_loop.st = 13 := trips1
  have e13 : Ring.sl 2 13 = 1 := Fin.ext (by rfl)
  have e14 : Ring.sl 2 (13 + 1) = 0 := Fin.ext (by rfl)
  simp only [eT, e13, e14, away_end]
  isplitl [H1]; · iexact H1
  isplitl [H3]; · iexact H3
  isplitl [H6]; · iexact H6
  isplitl [H7]; · iexact H7
  isplitl [H8]; · iexact H8
  isplitl [H10]; · iexact H10
  isplitl [Hh]; · rw [← homes_first]; iexact Hh
  icases Hc0 with ⟨Hc0, Hs0⟩
  icases Hc1 with ⟨Hc1, Hs1⟩
  isplitl [Hc2 Hs2]
  · isplitl [Hc2]; · iexact Hc2
    iexists _; iexact Hs2
  isplitl [Hc3 Hs3]
  · isplitl [Hc3]; · iexact Hc3
    iexists _; iexact Hs3
  isplitl [Hc0 Hs0]
  · isplitl [Hc0]; · iexact Hc0
    iexists _; iexact Hs0
  isplitl [Hc1 Hs1]
  · isplitl [Hc1]; · iexact Hc1
    iexists _; iexact Hs1
  iexists _; iexact HW

end First

end Cert.Kernel.Pf

end
-- ==== Proof.K.Wire.lean ====
/-
  The launch's side of the kernel's own transfers: the weights held whole are their 26 column blocks at home, the staging
  buffer is its four half-slots, the four cells are the kernel's own semaphores; and what a grid step is given besides its
  windows.
-/
module

public import proofs.«01_k».proof.Proof.K.First
public import proofs.«01_k».proof.Proof.Gen.Kernel.Frame
public import proofs.«01_k».proof.Proof.Gen.Kernel.Points
public import Idealize.ShloMosaic.Lib.Pipeline.Frame
public import Idealize.ShloMosaic.Lib.Transfers

@[expose] public section

noncomputable section

namespace Cert.Kernel.Pf

open Cert.Kernel Cert.Kernel.Gen
open Idealize.ShloMosaic Idealize.ShloMosaic.TcCoe Idealize.ShloMosaic.Tactic
open Idealize.SL Idealize.SL.RA Idealize.SL.BI
open scoped Idealize.SL.BI
open Idealize.ShloMosaic.Pipeline (Dat Cfg Window BodyObligation cellOf)
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## @main up to the region, at this algebra -/

theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-! ## The four cells -/

abbrev osem0 : Fin 4 → SemLoc sig := fun j => .dma (csm (![0, 0, 1, 1] j) (![0, 1, 0, 1] j)).sem
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(cellP c 0 0 ∗ cellP c 0 1 ∗ cellP c 1 0 ∗ cellP c 1 1) := by
  rw [Pipeline.ownSems0_eq_of_list c osem0 [0, 1, 2, 3] (by decide) (by decide)]; rfl

/-! ## The weights' blocks, the staging buffer's half-slots -/

abbrev G26 (b : Fin 26) : Finset S4096x3328.Idx := (Rect.unit (s := S4096x3328) (grpOff b) S4096x128.size (grpOff_inb b)).set
abbrev S4 (p : Fin 2 × Fin 2) : Finset S2x2x4096x128.Idx := (Rect.unit (s := S2x2x4096x128) (slotOff p.1 p.2) S1x1x4096x128.size (slotOff_inb p.1 p.2)).set

theorem grp_set (b : Fin 26) : (grp b : Memref sig .tc .hbm _ _).view.set = G26 b := View.set_slice_whole _ _
theorem rslot_set (p : Fin 2 × Fin 2) : (rslot p.1 p.2 : Memref sig .tc .vmem _ _).view.set = S4 p := (View.set_reshape _ _).trans (View.set_slice_whole _ _)

theorem G26_disjoint : ∀ b b' : Fin 26, b ≠ b' → Disjoint (G26 b) (G26 b') :=
  Ring.lead_disjoint (s := S4096x3328) (R := 128) 1 grpOff S4096x128.size grpOff_inb (fun _ => rfl) rfl
theorem G26_cover : (Finset.univ : Finset (Fin 26)).biUnion G26 = Finset.univ :=
  Ring.lead_cover (s := S4096x3328) (R := 128) 1 grpOff S4096x128.size grpOff_inb (fun _ => rfl)
    (fun b a h => by fin_cases a; · rfl
                     · exact absurd rfl h) rfl (fun a h => by fin_cases a; · rfl
                                                              · exact absurd rfl h) rfl
theorem mem_S4 (p : Fin 2 × Fin 2) (y : S2x2x4096x128.Idx) : y ∈ S4 p ↔ (y 0).val = p.1.val ∧ (y 1).val = p.2.val := by
  rw [Rect.mem_set_unit]
  have h2 : (y 2).val < 4096 := (y 2).isLt
  have h3 : (y 3).val < 128 := (y 3).isLt
  constructor
  · intro H
    have a0 : p.1.val ≤ (y 0).val ∧ (y 0).val < p.1.val + 1 := H 0
    have a1 : p.2.val ≤ (y 1).val ∧ (y 1).val < p.2.val + 1 := H 1
    omega
  · intro H i; fin_cases i
    · show p.1.val ≤ (y 0).val ∧ (y 0).val < p.1.val + 1; omega
    · show p.2.val ≤ (y 1).val ∧ (y 1).val < p.2.val + 1; omega
    · show 0 ≤ (y 2).val ∧ (y 2).val < 0 + 4096; omega
    · show 0 ≤ (y 3).val ∧ (y 3).val < 0 + 128; omega
theorem S4_disjoint : ∀ p p' : Fin 2 × Fin 2, p ≠ p' → Disjoint (S4 p) (S4 p') := by
  intro p p' hne; rw [Finset.disjoint_left]; intro y hy hy'; rw [mem_S4] at hy hy'
  exact hne (Prod.ext (Fin.ext (hy.1.symm.trans hy'.1)) (Fin.ext (hy.2.symm.trans hy'.2)))
theorem S4_cover : (Finset.univ : Finset (Fin 2 × Fin 2)).biUnion S4 = Finset.univ := by
  ext y; simp only [Finset.mem_biUnion, Finset.mem_univ, _root_.true_and, iff_true]
  exact ⟨((y 0).cast (by decide), (y 1).cast (by decide)), by rw [mem_S4]; exact ⟨rfl, rfl⟩⟩

theorem bigSep_four (Φ : Fin 2 × Fin 2 → sProp 𝕄) : bigSep Finset.univ Φ = iprop(Φ (0, 0) ∗ Φ (0, 1) ∗ Φ (1, 0) ∗ Φ (1, 1)) :=
  bigSep_univ_eq_bigSepL [((0, 0) : Fin 2 × Fin 2), (0, 1), (1, 0), (1, 1)] (by decide) (by decide) Φ

theorem entails_of_eq {P Q : sProp 𝕄} (e : P = Q) : P ⊢ Q := e ▸ .rfl

/-- The weights held whole are their blocks at home. -/
theorem a_eq (c : Dev nD) (XA : Buf (Elt F) (aM.view.loc (c : Thread nD τ))) :
    (((c : Thread nD τ).loc main_arg1) ↦{fullShare} XA : sProp 𝕄) = bigSep Finset.univ (homeP c XA) := by
  rw [Ring.pointsTo_blocks (ℓ := (c : Thread nD τ).loc main_arg1) G26 G26_disjoint G26_cover]
  exact bigSep_congr fun b _ => by rw [← grp_set]; rfl

theorem slotP_eq (c : Dev nD) (p : Fin 2 × Fin 2) (f) : slotP c p.1 p.2 f = (((c : Thread nD τ).loc cc0_scratch1) ↦[S4 p]{fullShare} f : sProp 𝕄) :=
  congrArg (fun S => (_ ↦[S]{fullShare} f : sProp 𝕄)) (rslot_set p)

/-- The staging buffer whole is its half-slots, and back. -/
theorem stage_split (c : Dev nD) :
    iprop(∃ f : Buf (Elt F) ((c : Thread nD τ).loc cc0_scratch1), ((c : Thread nD τ).loc cc0_scratch1) ↦{fullShare} f)
      ⊢ (iprop((∃ f, slotP c 0 0 f) ∗ (∃ f, slotP c 0 1 f) ∗ (∃ f, slotP c 1 0 f) ∗ ∃ f, slotP c 1 1 f) : sProp 𝕄) := by
  iintro ⟨%f, H⟩
  ihave H2 := (entails_of_eq ((Ring.pointsTo_blocks (Ix := Unit) (Name := ℕ) (U := Pipeline.UD sig nD τ) (Lvl := ℕ) (q := fullShare) (ℓ := (c : Thread nD τ).loc cc0_scratch1) S4 S4_disjoint S4_cover f).trans (bigSep_four _))) $$ H
  icases H2 with ⟨H0, H1, H2, H3⟩
  isplitl [H0]
  · iexists f; iapply (entails_of_eq (slotP_eq c (0, 0) f).symm); iexact H0
  isplitl [H1]
  · iexists f; iapply (entails_of_eq (slotP_eq c (0, 1) f).symm); iexact H1
  isplitl [H2]
  · iexists f; iapply (entails_of_eq (slotP_eq c (1, 0) f).symm); iexact H2
  · iexists f; iapply (entails_of_eq (slotP_eq c (1, 1) f).symm); iexact H3
theorem stage_join (c : Dev nD) :
    (iprop((∃ f, slotP c 0 0 f) ∗ (∃ f, slotP c 0 1 f) ∗ (∃ f, slotP c 1 0 f) ∗ ∃ f, slotP c 1 1 f) : sProp 𝕄)
      ⊢ iprop(∃ f : Buf (Elt F) ((c : Thread nD τ).loc cc0_scratch1), ((c : Thread nD τ).loc cc0_scratch1) ↦{fullShare} f) := by
  iintro ⟨⟨%f0, H0⟩, ⟨%f1, H1⟩, ⟨%f2, H2⟩, ⟨%f3, H3⟩⟩
  iapply (Ring.pointsTo_blocks_join_exists (ℓ := (c : Thread nD τ).loc cc0_scratch1) S4 S4_disjoint S4_cover f0)
  irw [bigSep_four]
  isplitl [H0]
  · iexists f0; iapply (entails_of_eq (slotP_eq c (0, 0) f0)); iexact H0
  isplitl [H1]
  · iexists f1; iapply (entails_of_eq (slotP_eq c (0, 1) f1)); iexact H1
  isplitl [H2]
  · iexists f2; iapply (entails_of_eq (slotP_eq c (1, 0) f2)); iexact H2
  · iexists f3; iapply (entails_of_eq (slotP_eq c (1, 1) f3)); iexact H3

/-! ## What a step is given besides its windows -/

abbrev wqM : Memref sig .tc .vmem S13x4096x256 .bf16 := Memref.whole cc0_scratch0
abbrev xqM : Memref sig .tc .vmem S2x512x4096 .bf16 := Memref.whole cc0_scratch2

def H0 : Finset (Ref sig .tc) := {main_arg1}
theorem H0_sub : H0 ⊆ Pipeline.restRefs sig spec0 := by decide
theorem hbmPts0_eq (c : Dev nD) :
    (bigSep H0 (fun b => ((c : Thread nD τ).loc b) ↦{fullShare} V m c b) : sProp 𝕄)
      = (((c : Thread nD τ).loc main_arg1) ↦{fullShare} V m c main_arg1) := by
  rw [BI.bigSep_eq_bigSepL_of_eq [main_arg1] (by decide) (by decide)]; rfl

theorem pt_whole (c : Dev nD) (b : Ref sig .tc) (f : Buf (Elt F) ((c : Thread nD τ).loc b)) :
    (((c : Thread nD τ).loc b) ↦{fullShare} f : sProp 𝕄) = ((c : Thread nD τ).loc b ↦[(Memref.whole b).view.set]{fullShare} f) := by
  rw [View.set_whole]

/-- The region's invariant, its buffers named: the dequantised weights, the staging buffer's half-slots, the buffer of the
    quantised blocks, the generator register, the cells at zero, the weights' blocks at home. -/
theorem PhiD0_eq (c : Dev nD) :
    (Pipeline.ΦD osem0 spec0 H0 (V m) c : sProp 𝕄)
      = iprop(((∃ f, pt c wqM f) ∗ (∃ f : Buf (Elt F) ((c : Thread nD τ).loc cc0_scratch1), ((c : Thread nD τ).loc cc0_scratch1) ↦{fullShare} f) ∗ (∃ f, pt c xqM f))
          ∗ (∃ r, prngReg c r) ∗ (cellP c 0 0 ∗ cellP c 0 1 ∗ cellP c 1 0 ∗ cellP c 1 1)
          ∗ bigSep Finset.univ (homeP c (V m c main_arg1))) := by
  rw [Pipeline.ΦD_eq, scopedRest0_eq, ownSems00_eq, hbmPts0_eq, a_eq]
  simp only [pt, wqM, xqM, View.set_whole]; try rfl

theorem defs₀_row (t : Fin cfg0.N) : defs₀ (F := F) .tc cfg0.body (cfg0.bodyArgs t (cfg0.slots t)) = bodyAt0 t := by
  unfold defs₀; rw [Defs.onTc_tc]

theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem coords0 (t : Fin cfg0.N) : (grid0.coords t 0).val = t.val := by
  revert t; decide +kernel

end Cert.Kernel.Pf

end
-- ==== Proof.K.Run.lean ====
/-
  The frame of the kernel: it runs and ends, its arguments as they were, every semaphore at zero. What it leaves in its
  results is forgotten here.
-/
module

public import proofs.«01_k».proof.Proof.K.Wire

@[expose] public section

noncomputable section

namespace Cert.Kernel.Pf

open Cert.Kernel Cert.Kernel.Gen
open Idealize.ShloMosaic Idealize.ShloMosaic.TcCoe Idealize.ShloMosaic.Tactic
open Idealize.SL Idealize.SL.RA Idealize.SL.BI
open scoped Idealize.SL.BI
open Idealize.ShloMosaic.Pipeline (Dat Cfg Window BodyObligation cellOf)
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The four results are forgotten, the two staged arguments are not. -/
def forgets0 : Fin 6 → Bool := fun w => match w with
  | ⟨0, _⟩ => false
  | ⟨1, _⟩ => false
  | _ => true

def datF (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨n + 2, h⟩ => Pipeline.Dat.unnamed (cfg := cfg0) ⟨n + 2, h⟩ t
  Φ _ := Pipeline.ΦD osem0 spec0 H0 (V m) c
  q _ := fullShare
  owed _ := 0

theorem A_eqF (c : Dev nD) (w : Fin cfg0.W) : (datF m 0 c).A w = V m c (Pipeline.arrRef spec0 w) := by dsimp only [datF]
theorem afterF0 (c : Dev nD) (t : Fin cfg0.N) : (datF m 0 c).after 0 t = iblk m c 0 t := by dsimp only [datF]
theorem afterF1 (c : Dev nD) (t : Fin cfg0.N) : (datF m 0 c).after 1 t = iblk m c 1 t := by dsimp only [datF]
theorem beforeF0 (c : Dev nD) (t : Fin cfg0.N) (d) : (datF m 0 c).before 0 t d = iblk m c 0 t :=
  before0_0_of m (datF m 0 c) (A_eqF m c 0) (afterF0 m c) t d
theorem beforeF1 (c : Dev nD) (t : Fin cfg0.N) (d) : (datF m 0 c).before 1 t d = iblk m c 1 t :=
  before0_1_of m (datF m 0 c) (A_eqF m c 1) (afterF1 m c) t d

/-- What step `t` works with. -/
def heldF (c : Dev nD) (t : Fin cfg0.N) : sProp 𝕄 :=
  iprop(Pipeline.ΦD osem0 spec0 H0 (V m) c ∗ (∃ W, owes (c : Thread nD τ) 0 W)
    ∗ owns (c : Thread nD τ) (st0_0 t) fullShare (iblk m c 0 t) ∗ owns (c : Thread nD τ) (st0_1 t) fullShare (iblk m c 1 t)
    ∗ (∃ d, owns (c : Thread nD τ) (st0_2 t) fullShare d) ∗ (∃ d, owns (c : Thread nD τ) (st0_3 t) fullShare d)
    ∗ (∃ d, owns (c : Thread nD τ) (st0_4 t) fullShare d) ∗ (∃ d, owns (c : Thread nD τ) (st0_5 t) fullShare d))

theorem sound_firstF (c : Dev nD) (t : Fin cfg0.N) (ht : t.val = 0) :
    heldF m c t ⊢ wp frame (wpE (defs₀ (F := F)) Variants.none c none) Set.univ (bodyAt0 t) (fun _ => heldF m c t) := by
  have h1 : k0_cond1 (grid0.coords t) = 1#1 := (cond1_iff _).2 ((coords0 t).trans ht)
  have h3 : ¬ k0_cond3 (grid0.coords t) = 1#1 := fun h => (cond3_iff _).1 h ((coords0 t).trans ht)
  unfold heldF
  rw [PhiD0_eq]
  unfold owns
  iintro ⟨⟨⟨⟨%f8, H8⟩, Hst, ⟨%f10, H10⟩⟩, Hg, ⟨Hc0, Hc1, Hc2, Hc3⟩, Hh⟩, HW, ⟨%f1, %e1, H1⟩, ⟨%f3, %e3, H3⟩, H4, H5, ⟨%d6, %f6, %e6, H6⟩, ⟨%d7, %f7, %e7, H7⟩⟩
  ihave Hst := (stage_split c) $$ Hst
  icases Hst with ⟨Hs0, Hs1, Hs2, Hs3⟩
  iapply (wp_wand_r Idealize.ShloMosaic.frame (wpE (defs₀ (F := F)) Variants.none (c : Thread nD τ) none) Set.univ)
  isplitl [H1 H3 H6 H7 H8 H10 Hh Hc0 Hc1 Hc2 Hc3 Hs0 Hs1 Hs2 Hs3 HW]
  · iapply (firstRun c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) wqM (Memref.isWhole_whole _) xqM (Memref.isWhole_whole _) h1 (V m c main_arg1) f3 h3 f1 f6 f7 f8 f10)
    isplitl [H1]; · iexact H1
    isplitl [H3]; · iexact H3
    isplitl [H6]; · iexact H6
    isplitl [H7]; · iexact H7
    isplitl [H8]; · iexact H8
    isplitl [H10]; · iexact H10
    isplitl [Hh]; · iexact Hh
    isplitl [Hc0 Hs0]
    · isplitl [Hc0]; · iexact Hc0
      iexact Hs0
    isplitl [Hc1 Hs1]
    · isplitl [Hc1]; · iexact Hc1
      iexact Hs1
    isplitl [Hc2 Hs2]
    · isplitl [Hc2]; · iexact Hc2
      iexact Hs2
    isplitl [Hc3 Hs3]
    · isplitl [Hc3]; · iexact Hc3
      iexact Hs3
    iexact HW
  · iintro %_ ⟨H1, H3, H6, H7, H8, H10, Hh, ⟨Hc0, Hs0⟩, ⟨Hc1, Hs1⟩, ⟨Hc2, Hs2⟩, ⟨Hc3, Hs3⟩, HW⟩
    ihave Hst := (stage_join c) $$ [Hs0 Hs1 Hs2 Hs3]
    · isplitl [Hs0]; · iexact Hs0
      isplitl [Hs1]; · iexact Hs1
      isplitl [Hs2]; · iexact Hs2
      iexact Hs3
    isplitl [H8 Hst H10 Hg Hc0 Hc1 Hc2 Hc3 Hh]
    · isplitl [H8 Hst H10]
      · isplitl [H8]; · iexists _; iexact H8
        isplitl [Hst]; · iexact Hst
        iexists _; iexact H10
      isplitl [Hg]; · iexact Hg
      isplitl [Hc0 Hc1 Hc2 Hc3]
      · isplitl [Hc0]; · iexact Hc0
        isplitl [Hc1]; · iexact Hc1
        isplitl [Hc2]; · iexact Hc2
        iexact Hc3
      iexact Hh
    isplitl [HW]; · iexact HW
    isplitl [H1]
    · iexists _; isplitr; · ipureintro; exact e1
      iexact H1
    isplitl [H3]
    · iexists _; isplitr; · ipureintro; exact e3
      iexact H3
    isplitl [H4]; · iexact H4
    isplitl [H5]; · iexact H5
    isplitl [H6]
    · iexists _; iexists _; isplitr
      swap; · iexact H6
      ipureintro; rfl
    iexists _; iexists _; isplitr
    swap; · iexact H7
    ipureintro; rfl

theorem sound_laterF (c : Dev nD) (t : Fin cfg0.N) (ht : t.val ≠ 0) :
    heldF m c t ⊢ wp frame (wpE (defs₀ (F := F)) Variants.none c none) Set.univ (bodyAt0 t) (fun _ => heldF m c t) := by
  have h1 : ¬ k0_cond1 (grid0.coords t) = 1#1 := fun h => ht ((coords0 t).symm.trans ((cond1_iff _).1 h))
  have h3 : k0_cond3 (grid0.coords t) = 1#1 := (cond3_iff _).2 fun h => ht ((coords0 t).symm.trans h)
  unfold heldF
  rw [PhiD0_eq]
  unfold owns
  iintro ⟨⟨⟨⟨%f8, H8⟩, Hst, ⟨%f10, H10⟩⟩, Hg, Hc, Hh⟩, HW, ⟨%f1, %e1, H1⟩, H3, ⟨%d4, %f4, %e4, H4⟩, ⟨%d5, %f5, %e5, H5⟩, ⟨%d6, %f6, %e6, H6⟩, ⟨%d7, %f7, %e7, H7⟩⟩
  iapply (wp_wand_r Idealize.ShloMosaic.frame (wpE (defs₀ (F := F)) Variants.none (c : Thread nD τ) none) Set.univ)
  isplitl [H1 H4 H5 H6 H7 H8 H10]
  · iapply ((laterRun c (grid0.coords t) (st0_0 t) (hstage0_0 ((cfg0.slots t 0).cast nbuf0_0)) aM (Memref.isWhole_whole _) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) wqM (Memref.isWhole_whole _) stM (Memref.isWhole_whole _) xqM (Memref.isWhole_whole _) cc0_scratch3 h1 h3 f1 f8 f10).2.2.2.2.2 Set.univ f4 f5 f6 f7)
    isplitl [H1]; · iexact H1
    isplitl [H4]; · iexact H4
    isplitl [H5]; · iexact H5
    isplitl [H6]; · iexact H6
    isplitl [H7]; · iexact H7
    isplitl [H8]; · iexact H8
    iexact H10
  · iintro %_ ⟨H1, H4, H5, H6, H7, H8, H10⟩
    isplitl [H8 Hst H10 Hg Hc Hh]
    · isplitl [H8 Hst H10]
      · isplitl [H8]; · iexists _; iexact H8
        isplitl [Hst]; · iexact Hst
        iexists _; iexact H10
      isplitl [Hg]; · iexact Hg
      isplitl [Hc]; · iexact Hc
      iexact Hh
    isplitl [HW]; · iexact HW
    isplitl [H1]
    · iexists _; isplitr; · ipureintro; exact e1
      iexact H1
    isplitl [H3]; · iexact H3
    isplitl [H4]
    · iexists _; iexists _; isplitr
      swap; · iexact H4
      ipureintro; rfl
    isplitl [H5]
    · iexists _; iexists _; isplitr
      swap; · iexact H5
      ipureintro; rfl
    isplitl [H6]
    · iexists _; iexists _; isplitr
      swap; · iexact H6
      ipureintro; rfl
    iexists _; iexists _; isplitr
    swap; · iexact H7
    ipureintro; rfl

def bodyPreF (c : Dev nD) (t : Fin cfg0.N) : sProp 𝕄 :=
  iprop((datF m 0 c).Φ t.castSucc ∗ (datF m 0 c).owesAt () t.castSucc
    ∗ (∃ d, owns (c : Thread nD τ) (st0_0 t) fullShare ((datF m 0 c).before 0 t d)) ∗ (∃ d, owns (c : Thread nD τ) (st0_1 t) fullShare ((datF m 0 c).before 1 t d))
    ∗ (∃ d, owns (c : Thread nD τ) (st0_2 t) fullShare d) ∗ (∃ d, owns (c : Thread nD τ) (st0_3 t) fullShare d)
    ∗ (∃ d, owns (c : Thread nD τ) (st0_4 t) fullShare d) ∗ (∃ d, owns (c : Thread nD τ) (st0_5 t) fullShare d))
def bodyPostF (c : Dev nD) (t : Fin cfg0.N) : sProp 𝕄 :=
  iprop((datF m 0 c).Φ t.succ ∗ (datF m 0 c).owesAt () t.succ
    ∗ owns (c : Thread nD τ) (st0_0 t) fullShare ((datF m 0 c).after 0 t) ∗ owns (c : Thread nD τ) (st0_1 t) fullShare ((datF m 0 c).after 1 t)
    ∗ (∃ d, owns (c : Thread nD τ) (st0_2 t) fullShare d) ∗ (∃ d, owns (c : Thread nD τ) (st0_3 t) fullShare d)
    ∗ (∃ d, owns (c : Thread nD τ) (st0_4 t) fullShare d) ∗ (∃ d, owns (c : Thread nD τ) (st0_5 t) fullShare d))

theorem sound_bodyF (c : Dev nD) (t : Fin cfg0.N) :
    bodyPreF m c t ⊢ wp frame (wpE (defs₀ (F := F)) Variants.none c none) Set.univ (bodyAt0 t) (fun _ => bodyPostF m c t) := by
  have h : heldF m c t ⊢ wp frame (wpE (defs₀ (F := F)) Variants.none c none) Set.univ (bodyAt0 t) (fun _ => heldF m c t) := by
    by_cases ht : t.val = 0
    · exact sound_firstF m c t ht
    · exact sound_laterF m c t ht
  unfold bodyPreF bodyPostF
  rw [show (datF m 0 c).Φ t.succ = Pipeline.ΦD osem0 spec0 H0 (V m) c from rfl, show (datF m 0 c).Φ t.castSucc = Pipeline.ΦD osem0 spec0 H0 (V m) c from rfl,
    afterF0, afterF1]
  simp only [beforeF0, beforeF1]
  unfold Dat.owesAt Pipeline.owesWithin
  rw [show (datF m 0 c).owed t.castSucc = 0 from rfl, show (datF m 0 c).owed t.succ = 0 from rfl]
  iintro ⟨HΦ, ⟨%W, -, HW⟩, ⟨%d0, H0⟩, ⟨%d1, H1⟩, H2, H3, H4, H5⟩
  iapply (wp_wand_r Idealize.ShloMosaic.frame (wpE (defs₀ (F := F)) Variants.none (c : Thread nD τ) none) Set.univ)
  isplitl [HΦ HW H0 H1 H2 H3 H4 H5]
  · iapply h
    unfold heldF
    isplitl [HΦ]; · iexact HΦ
    isplitl [HW]; · iexists _; iexact HW
    isplitl [H0]; · iexact H0
    isplitl [H1]; · iexact H1
    isplitl [H2]; · iexact H2
    isplitl [H3]; · iexact H3
    isplitl [H4]; · iexact H4
    iexact H5
  · unfold heldF
    iintro %_ ⟨HΦ, ⟨%W', HW⟩, H⟩
    isplitl [HΦ]; · iexact HΦ
    isplitl [HW]
    · iexists W'; isplitr; · ipureintro; exact fun _ _ => Or.inl trivial
      iexact HW
    iexact H

theorem body_obligationF (c : Dev nD) : BodyObligation (datF (F := F) m 0 c) (defs₀ (F := F)) Variants.none () Set.univ forgets0 := fun t => by
  rw [bigSep_W0, bigSep_W0, defs₀_row]
  exact triple_restated (sound_bodyF m c t) rfl .rfl fun _ => .rfl

set_option backward.isDefEq.respectTransparency.types false in
theorem run_mainF :
    θ_run defs (onTc (τ := τ) (main (F := F))) (s₀ m ρ)
      (fun r => Pipeline.RDat.FramePost (cfgs 0) (fun c => (datF m 0 c).toRForget forgets0) (V m) r ∧ r.2.sem = fun _ => 0) :=
  Pipeline.θ_run_frame_dma_forget (Q' := _) cfgs (datF m) (0 : Fin 1) launch0 osem0 defs₀ Variants.none forgets0 ownSemFacts0 H0 H0_sub m ρ main
    (hbody := fun c => (body_obligationF m c).loose) (hshare := fun c => (datF m 0 c).share_full fun _ => rfl)
    (howed := fun _ _ => rfl) (V := V m) (hmain := hmain m Variants.none) (hA := A_eqF m)
    (hin := fun _ => .rfl) (hout := fun _ => .rfl)

/-- The kernel runs, its arguments unchanged, every semaphore at zero at the end. -/
theorem frameF : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => ⟨
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      (Eq.mp (congrFun (Pipeline.RDat.ArrAt_in ((datF m 0 c).toRForget forgets0) 1 rfl _) _) ((h.1 c).1 1)).trans ((A_eqF m c 1).trans (V_main_arg2 m c))⟩, h.2⟩) (run_mainF m ρ)

end Cert.Kernel.Pf

end
-- ==== Proof.KI.Offsets.lean ====
/-
  The offsets of the kernel's slot accesses in closed form.

  The dequantised rows are kept in two slots: step `i` writes slot `i % 2` and reads slot `1 - i % 2`. The staged weights
  are kept in two slots too: trip `k` of the weights loop reads slot `k % 2` and fills slot `1 - k % 2`. The program
  computes these slots by word arithmetic; here each is said to be the number it is.
-/
module

public import proofs.«01_k».proof.Proof.Gen.KernelIdeal

@[expose] public section

namespace Cert.KernelIdeal.Pf

open Cert.KernelIdeal Cert.KernelIdeal.Gen
open Idealize.ShloMosaic Idealize.ShloMosaic.Tactic

/-- The slot a step writes. -/
theorem slot_fill : ∀ i : grid0.Coords, k0_off81 i 0 = (i 0).val % 2 := by decide +kernel
/-- The slot a step reads. -/
theorem slot_read : ∀ i : grid0.Coords, k0_off210 i 0 = 1 - (i 0).val % 2 := by decide +kernel

/-- An offset in the slot a step writes, at row `r` and column `d`. -/
theorem off_fill {off : Fin 3 → Nat} (i : grid0.Coords) (r d : Nat) (h : off = ![k0_off81 i 0, r, d]) :
    off = ![(i 0).val % 2, r, d] := by rw [h, slot_fill]

instance off210_form (i : grid0.Coords) : ClosedOff (k0_off210 i) := ⟨![1 - (i 0).val % 2, 0, 0], by
  rw [← slot_read]; rfl⟩

instance off81_form (i : grid0.Coords) : ClosedOff (k0_off81 i) := ⟨![(i 0).val % 2, 0, 0], off_fill i 0 0 rfl⟩
instance off82_form (i : grid0.Coords) : ClosedOff (k0_off82 i) := ⟨![(i 0).val % 2, 0, 0], off_fill i 0 0 rfl⟩
instance off83_form (i : grid0.Coords) : ClosedOff (k0_off83 i) := ⟨![(i 0).val % 2, 0, 128], off_fill i 0 128 rfl⟩
instance off84_form (i : grid0.Coords) : ClosedOff (k0_off84 i) := ⟨![(i 0).val % 2, 0, 256], off_fill i 0 256 rfl⟩
instance off85_form (i : grid0.Coords) : ClosedOff (k0_off85 i) := ⟨![(i 0).val % 2, 0, 384], off_fill i 0 384 rfl⟩
instance off86_form (i : grid0.Coords) : ClosedOff (k0_off86 i) := ⟨![(i 0).val % 2, 0, 512], off_fill i 0 512 rfl⟩
instance off87_form (i : grid0.Coords) : ClosedOff (k0_off87 i) := ⟨![(i 0).val % 2, 0, 640], off_fill i 0 640 rfl⟩
instance off88_form (i : grid0.Coords) : ClosedOff (k0_off88 i) := ⟨![(i 0).val % 2, 0, 768], off_fill i 0 768 rfl⟩
instance off89_form (i : grid0.Coords) : ClosedOff (k0_off89 i) := ⟨![(i 0).val % 2, 0, 896], off_fill i 0 896 rfl⟩
instance off90_form (i : grid0.Coords) : ClosedOff (k0_off90 i) := ⟨![(i 0).val % 2, 0, 1024], off_fill i 0 1024 rfl⟩
instance off91_form (i : grid0.Coords) : ClosedOff (k0_off91 i) := ⟨![(i 0).val % 2, 0, 1152], off_fill i 0 1152 rfl⟩
instance off92_form (i : grid0.Coords) : ClosedOff (k0_off92 i) := ⟨![(i 0).val % 2, 0, 1280], off_fill i 0 1280 rfl⟩
instance off93_form (i : grid0.Coords) : ClosedOff (k0_off93 i) := ⟨![(i 0).val % 2, 0, 1408], off_fill i 0 1408 rfl⟩
instance off94_form (i : grid0.Coords) : ClosedOff (k0_off94 i) := ⟨![(i 0).val % 2, 0, 1536], off_fill i 0 1536 rfl⟩
instance off95_form (i : grid0.Coords) : ClosedOff (k0_off95 i) := ⟨![(i 0).val % 2, 0, 1664], off_fill i 0 1664 rfl⟩
instance off96_form (i : grid0.Coords) : ClosedOff (k0_off96 i) := ⟨![(i 0).val % 2, 0, 1792], off_fill i 0 1792 rfl⟩
instance off97_form (i : grid0.Coords) : ClosedOff (k0_off97 i) := ⟨![(i 0).val % 2, 0, 1920], off_fill i 0 1920 rfl⟩
instance off98_form (i : grid0.Coords) : ClosedOff (k0_off98 i) := ⟨![(i 0).val % 2, 0, 2048], off_fill i 0 2048 rfl⟩
instance off99_form (i : grid0.Coords) : ClosedOff (k0_off99 i) := ⟨![(i 0).val % 2, 0, 2176], off_fill i 0 2176 rfl⟩
instance off100_form (i : grid0.Coords) : ClosedOff (k0_off100 i) := ⟨![(i 0).val % 2, 0, 2304], off_fill i 0 2304 rfl⟩
instance off101_form (i : grid0.Coords) : ClosedOff (k0_off101 i) := ⟨![(i 0).val % 2, 0, 2432], off_fill i 0 2432 rfl⟩
instance off102_form (i : grid0.Coords) : ClosedOff (k0_off102 i) := ⟨![(i 0).val % 2, 0, 2560], off_fill i 0 2560 rfl⟩
instance off103_form (i : grid0.Coords) : ClosedOff (k0_off103 i) := ⟨![(i 0).val % 2, 0, 2688], off_fill i 0 2688 rfl⟩
instance off104_form (i : grid0.Coords) : ClosedOff (k0_off104 i) := ⟨![(i 0).val % 2, 0, 2816], off_fill i 0 2816 rfl⟩
instance off105_form (i : grid0.Coords) : ClosedOff (k0_off105 i) := ⟨![(i 0).val % 2, 0, 2944], off_fill i 0 2944 rfl⟩
instance off106_form (i : grid0.Coords) : ClosedOff (k0_off106 i) := ⟨![(i 0).val % 2, 0, 3072], off_fill i 0 3072 rfl⟩
instance off107_form (i : grid0.Coords) : ClosedOff (k0_off107 i) := ⟨![(i 0).val % 2, 0, 3200], off_fill i 0 3200 rfl⟩
instance off108_form (i : grid0.Coords) : ClosedOff (k0_off108 i) := ⟨![(i 0).val % 2, 0, 3328], off_fill i 0 3328 rfl⟩
instance off109_form (i : grid0.Coords) : ClosedOff (k0_off109 i) := ⟨![(i 0).val % 2, 0, 3456], off_fill i 0 3456 rfl⟩
instance off110_form (i : grid0.Coords) : ClosedOff (k0_off110 i) := ⟨![(i 0).val % 2, 0, 3584], off_fill i 0 3584 rfl⟩
instance off111_form (i : grid0.Coords) : ClosedOff (k0_off111 i) := ⟨![(i 0).val % 2, 0, 3712], off_fill i 0 3712 rfl⟩
instance off112_form (i : grid0.Coords) : ClosedOff (k0_off112 i) := ⟨![(i 0).val % 2, 0, 3840], off_fill i 0 3840 rfl⟩
instance off113_form (i : grid0.Coords) : ClosedOff (k0_off113 i) := ⟨![(i 0).val % 2, 0, 3968], off_fill i 0 3968 rfl⟩
instance off114_form (i : grid0.Coords) : ClosedOff (k0_off114 i) := ⟨![(i 0).val % 2, 128, 0], off_fill i 128 0 rfl⟩
instance off115_form (i : grid0.Coords) : ClosedOff (k0_off115 i) := ⟨![(i 0).val % 2, 128, 128], off_fill i 128 128 rfl⟩
instance off116_form (i : grid0.Coords) : ClosedOff (k0_off116 i) := ⟨![(i 0).val % 2, 128, 256], off_fill i 128 256 rfl⟩
instance off117_form (i : grid0.Coords) : ClosedOff (k0_off117 i) := ⟨![(i 0).val % 2, 128, 384], off_fill i 128 384 rfl⟩
instance off118_form (i : grid0.Coords) : ClosedOff (k0_off118 i) := ⟨![(i 0).val % 2, 128, 512], off_fill i 128 512 rfl⟩
instance off119_form (i : grid0.Coords) : ClosedOff (k0_off119 i) := ⟨![(i 0).val % 2, 128, 640], off_fill i 128 640 rfl⟩
instance off120_form (i : grid0.Coords) : ClosedOff (k0_off120 i) := ⟨![(i 0).val % 2, 128, 768], off_fill i 128 768 rfl⟩
instance off121_form (i : grid0.Coords) : ClosedOff (k0_off121 i) := ⟨![(i 0).val % 2, 128, 896], off_fill i 128 896 rfl⟩
instance off122_form (i : grid0.Coords) : ClosedOff (k0_off122 i) := ⟨![(i 0).val % 2, 128, 1024], off_fill i 128 1024 rfl⟩
instance off123_form (i : grid0.Coords) : ClosedOff (k0_off123 i) := ⟨![(i 0).val % 2, 128, 1152], off_fill i 128 1152 rfl⟩
instance off124_form (i : grid0.Coords) : ClosedOff (k0_off124 i) := ⟨![(i 0).val % 2, 128, 1280], off_fill i 128 1280 rfl⟩
instance off125_form (i : grid0.Coords) : ClosedOff (k0_off125 i) := ⟨![(i 0).val % 2, 128, 1408], off_fill i 128 1408 rfl⟩
instance off126_form (i : grid0.Coords) : ClosedOff (k0_off126 i) := ⟨![(i 0).val % 2, 128, 1536], off_fill i 128 1536 rfl⟩
instance off127_form (i : grid0.Coords) : ClosedOff (k0_off127 i) := ⟨![(i 0).val % 2, 128, 1664], off_fill i 128 1664 rfl⟩
instance off128_form (i : grid0.Coords) : ClosedOff (k0_off128 i) := ⟨![(i 0).val % 2, 128, 1792], off_fill i 128 1792 rfl⟩
instance off129_form (i : grid0.Coords) : ClosedOff (k0_off129 i) := ⟨![(i 0).val % 2, 128, 1920], off_fill i 128 1920 rfl⟩
instance off130_form (i : grid0.Coords) : ClosedOff (k0_off130 i) := ⟨![(i 0).val % 2, 128, 2048], off_fill i 128 2048 rfl⟩
instance off131_form (i : grid0.Coords) : ClosedOff (k0_off131 i) := ⟨![(i 0).val % 2, 128, 2176], off_fill i 128 2176 rfl⟩
instance off132_form (i : grid0.Coords) : ClosedOff (k0_off132 i) := ⟨![(i 0).val % 2, 128, 2304], off_fill i 128 2304 rfl⟩
instance off133_form (i : grid0.Coords) : ClosedOff (k0_off133 i) := ⟨![(i 0).val % 2, 128, 2432], off_fill i 128 2432 rfl⟩
instance off134_form (i : grid0.Coords) : ClosedOff (k0_off134 i) := ⟨![(i 0).val % 2, 128, 2560], off_fill i 128 2560 rfl⟩
instance off135_form (i : grid0.Coords) : ClosedOff (k0_off135 i) := ⟨![(i 0).val % 2, 128, 2688], off_fill i 128 2688 rfl⟩
instance off136_form (i : grid0.Coords) : ClosedOff (k0_off136 i) := ⟨![(i 0).val % 2, 128, 2816], off_fill i 128 2816 rfl⟩
instance off137_form (i : grid0.Coords) : ClosedOff (k0_off137 i) := ⟨![(i 0).val % 2, 128, 2944], off_fill i 128 2944 rfl⟩
instance off138_form (i : grid0.Coords) : ClosedOff (k0_off138 i) := ⟨![(i 0).val % 2, 128, 3072], off_fill i 128 3072 rfl⟩
instance off139_form (i : grid0.Coords) : ClosedOff (k0_off139 i) := ⟨![(i 0).val % 2, 128, 3200], off_fill i 128 3200 rfl⟩
instance off140_form (i : grid0.Coords) : ClosedOff (k0_off140 i) := ⟨![(i 0).val % 2, 128, 3328], off_fill i 128 3328 rfl⟩
instance off141_form (i : grid0.Coords) : ClosedOff (k0_off141 i) := ⟨![(i 0).val % 2, 128, 3456], off_fill i 128 3456 rfl⟩
instance off142_form (i : grid0.Coords) : ClosedOff (k0_off142 i) := ⟨![(i 0).val % 2, 128, 3584], off_fill i 128 3584 rfl⟩
instance off143_form (i : grid0.Coords) : ClosedOff (k0_off143 i) := ⟨![(i 0).val % 2, 128, 3712], off_fill i 128 3712 rfl⟩
instance off144_form (i : grid0.Coords) : ClosedOff (k0_off144 i) := ⟨![(i 0).val % 2, 128, 3840], off_fill i 128 3840 rfl⟩
instance off145_form (i : grid0.Coords) : ClosedOff (k0_off145 i) := ⟨![(i 0).val % 2, 128, 3968], off_fill i 128 3968 rfl⟩
instance off146_form (i : grid0.Coords) : ClosedOff (k0_off146 i) := ⟨![(i 0).val % 2, 256, 0], off_fill i 256 0 rfl⟩
instance off147_form (i : grid0.Coords) : ClosedOff (k0_off147 i) := ⟨![(i 0).val % 2, 256, 128], off_fill i 256 128 rfl⟩
instance off148_form (i : grid0.Coords) : ClosedOff (k0_off148 i) := ⟨![(i 0).val % 2, 256, 256], off_fill i 256 256 rfl⟩
instance off149_form (i : grid0.Coords) : ClosedOff (k0_off149 i) := ⟨![(i 0).val % 2, 256, 384], off_fill i 256 384 rfl⟩
instance off150_form (i : grid0.Coords) : ClosedOff (k0_off150 i) := ⟨![(i 0).val % 2, 256, 512], off_fill i 256 512 rfl⟩
instance off151_form (i : grid0.Coords) : ClosedOff (k0_off151 i) := ⟨![(i 0).val % 2, 256, 640], off_fill i 256 640 rfl⟩
instance off152_form (i : grid0.Coords) : ClosedOff (k0_off152 i) := ⟨![(i 0).val % 2, 256, 768], off_fill i 256 768 rfl⟩
instance off153_form (i : grid0.Coords) : ClosedOff (k0_off153 i) := ⟨![(i 0).val % 2, 256, 896], off_fill i 256 896 rfl⟩
instance off154_form (i : grid0.Coords) : ClosedOff (k0_off154 i) := ⟨![(i 0).val % 2, 256, 1024], off_fill i 256 1024 rfl⟩
instance off155_form (i : grid0.Coords) : ClosedOff (k0_off155 i) := ⟨![(i 0).val % 2, 256, 1152], off_fill i 256 1152 rfl⟩
instance off156_form (i : grid0.Coords) : ClosedOff (k0_off156 i) := ⟨![(i 0).val % 2, 256, 1280], off_fill i 256 1280 rfl⟩
instance off157_form (i : grid0.Coords) : ClosedOff (k0_off157 i) := ⟨![(i 0).val % 2, 256, 1408], off_fill i 256 1408 rfl⟩
instance off158_form (i : grid0.Coords) : ClosedOff (k0_off158 i) := ⟨![(i 0).val % 2, 256, 1536], off_fill i 256 1536 rfl⟩
instance off159_form (i : grid0.Coords) : ClosedOff (k0_off159 i) := ⟨![(i 0).val % 2, 256, 1664], off_fill i 256 1664 rfl⟩
instance off160_form (i : grid0.Coords) : ClosedOff (k0_off160 i) := ⟨![(i 0).val % 2, 256, 1792], off_fill i 256 1792 rfl⟩
instance off161_form (i : grid0.Coords) : ClosedOff (k0_off161 i) := ⟨![(i 0).val % 2, 256, 1920], off_fill i 256 1920 rfl⟩
instance off162_form (i : grid0.Coords) : ClosedOff (k0_off162 i) := ⟨![(i 0).val % 2, 256, 2048], off_fill i 256 2048 rfl⟩
instance off163_form (i : grid0.Coords) : ClosedOff (k0_off163 i) := ⟨![(i 0).val % 2, 256, 2176], off_fill i 256 2176 rfl⟩
instance off164_form (i : grid0.Coords) : ClosedOff (k0_off164 i) := ⟨![(i 0).val % 2, 256, 2304], off_fill i 256 2304 rfl⟩
instance off165_form (i : grid0.Coords) : ClosedOff (k0_off165 i) := ⟨![(i 0).val % 2, 256, 2432], off_fill i 256 2432 rfl⟩
instance off166_form (i : grid0.Coords) : ClosedOff (k0_off166 i) := ⟨![(i 0).val % 2, 256, 2560], off_fill i 256 2560 rfl⟩
instance off167_form (i : grid0.Coords) : ClosedOff (k0_off167 i) := ⟨![(i 0).val % 2, 256, 2688], off_fill i 256 2688 rfl⟩
instance off168_form (i : grid0.Coords) : ClosedOff (k0_off168 i) := ⟨![(i 0).val % 2, 256, 2816], off_fill i 256 2816 rfl⟩
instance off169_form (i : grid0.Coords) : ClosedOff (k0_off169 i) := ⟨![(i 0).val % 2, 256, 2944], off_fill i 256 2944 rfl⟩
instance off170_form (i : grid0.Coords) : ClosedOff (k0_off170 i) := ⟨![(i 0).val % 2, 256, 3072], off_fill i 256 3072 rfl⟩
instance off171_form (i : grid0.Coords) : ClosedOff (k0_off171 i) := ⟨![(i 0).val % 2, 256, 3200], off_fill i 256 3200 rfl⟩
instance off172_form (i : grid0.Coords) : ClosedOff (k0_off172 i) := ⟨![(i 0).val % 2, 256, 3328], off_fill i 256 3328 rfl⟩
instance off173_form (i : grid0.Coords) : ClosedOff (k0_off173 i) := ⟨![(i 0).val % 2, 256, 3456], off_fill i 256 3456 rfl⟩
instance off174_form (i : grid0.Coords) : ClosedOff (k0_off174 i) := ⟨![(i 0).val % 2, 256, 3584], off_fill i 256 3584 rfl⟩
instance off175_form (i : grid0.Coords) : ClosedOff (k0_off175 i) := ⟨![(i 0).val % 2, 256, 3712], off_fill i 256 3712 rfl⟩
instance off176_form (i : grid0.Coords) : ClosedOff (k0_off176 i) := ⟨![(i 0).val % 2, 256, 3840], off_fill i 256 3840 rfl⟩
instance off177_form (i : grid0.Coords) : ClosedOff (k0_off177 i) := ⟨![(i 0).val % 2, 256, 3968], off_fill i 256 3968 rfl⟩
instance off178_form (i : grid0.Coords) : ClosedOff (k0_off178 i) := ⟨![(i 0).val % 2, 384, 0], off_fill i 384 0 rfl⟩
instance off179_form (i : grid0.Coords) : ClosedOff (k0_off179 i) := ⟨![(i 0).val % 2, 384, 128], off_fill i 384 128 rfl⟩
instance off180_form (i : grid0.Coords) : ClosedOff (k0_off180 i) := ⟨![(i 0).val % 2, 384, 256], off_fill i 384 256 rfl⟩
instance off181_form (i : grid0.Coords) : ClosedOff (k0_off181 i) := ⟨![(i 0).val % 2, 384, 384], off_fill i 384 384 rfl⟩
instance off182_form (i : grid0.Coords) : ClosedOff (k0_off182 i) := ⟨![(i 0).val % 2, 384, 512], off_fill i 384 512 rfl⟩
instance off183_form (i : grid0.Coords) : ClosedOff (k0_off183 i) := ⟨![(i 0).val % 2, 384, 640], off_fill i 384 640 rfl⟩
instance off184_form (i : grid0.Coords) : ClosedOff (k0_off184 i) := ⟨![(i 0).val % 2, 384, 768], off_fill i 384 768 rfl⟩
instance off185_form (i : grid0.Coords) : ClosedOff (k0_off185 i) := ⟨![(i 0).val % 2, 384, 896], off_fill i 384 896 rfl⟩
instance off186_form (i : grid0.Coords) : ClosedOff (k0_off186 i) := ⟨![(i 0).val % 2, 384, 1024], off_fill i 384 1024 rfl⟩
instance off187_form (i : grid0.Coords) : ClosedOff (k0_off187 i) := ⟨![(i 0).val % 2, 384, 1152], off_fill i 384 1152 rfl⟩
instance off188_form (i : grid0.Coords) : ClosedOff (k0_off188 i) := ⟨![(i 0).val % 2, 384, 1280], off_fill i 384 1280 rfl⟩
instance off189_form (i : grid0.Coords) : ClosedOff (k0_off189 i) := ⟨![(i 0).val % 2, 384, 1408], off_fill i 384 1408 rfl⟩
instance off190_form (i : grid0.Coords) : ClosedOff (k0_off190 i) := ⟨![(i 0).val % 2, 384, 1536], off_fill i 384 1536 rfl⟩
instance off191_form (i : grid0.Coords) : ClosedOff (k0_off191 i) := ⟨![(i 0).val % 2, 384, 1664], off_fill i 384 1664 rfl⟩
instance off192_form (i : grid0.Coords) : ClosedOff (k0_off192 i) := ⟨![(i 0).val % 2, 384, 1792], off_fill i 384 1792 rfl⟩
instance off193_form (i : grid0.Coords) : ClosedOff (k0_off193 i) := ⟨![(i 0).val % 2, 384, 1920], off_fill i 384 1920 rfl⟩
instance off194_form (i : grid0.Coords) : ClosedOff (k0_off194 i) := ⟨![(i 0).val % 2, 384, 2048], off_fill i 384 2048 rfl⟩
instance off195_form (i : grid0.Coords) : ClosedOff (k0_off195 i) := ⟨![(i 0).val % 2, 384, 2176], off_fill i 384 2176 rfl⟩
instance off196_form (i : grid0.Coords) : ClosedOff (k0_off196 i) := ⟨![(i 0).val % 2, 384, 2304], off_fill i 384 2304 rfl⟩
instance off197_form (i : grid0.Coords) : ClosedOff (k0_off197 i) := ⟨![(i 0).val % 2, 384, 2432], off_fill i 384 2432 rfl⟩
instance off198_form (i : grid0.Coords) : ClosedOff (k0_off198 i) := ⟨![(i 0).val % 2, 384, 2560], off_fill i 384 2560 rfl⟩
instance off199_form (i : grid0.Coords) : ClosedOff (k0_off199 i) := ⟨![(i 0).val % 2, 384, 2688], off_fill i 384 2688 rfl⟩
instance off200_form (i : grid0.Coords) : ClosedOff (k0_off200 i) := ⟨![(i 0).val % 2, 384, 2816], off_fill i 384 2816 rfl⟩
instance off201_form (i : grid0.Coords) : ClosedOff (k0_off201 i) := ⟨![(i 0).val % 2, 384, 2944], off_fill i 384 2944 rfl⟩
instance off202_form (i : grid0.Coords) : ClosedOff (k0_off202 i) := ⟨![(i 0).val % 2, 384, 3072], off_fill i 384 3072 rfl⟩
instance off203_form (i : grid0.Coords) : ClosedOff (k0_off203 i) := ⟨![(i 0).val % 2, 384, 3200], off_fill i 384 3200 rfl⟩
instance off204_form (i : grid0.Coords) : ClosedOff (k0_off204 i) := ⟨![(i 0).val % 2, 384, 3328], off_fill i 384 3328 rfl⟩
instance off205_form (i : grid0.Coords) : ClosedOff (k0_off205 i) := ⟨![(i 0).val % 2, 384, 3456], off_fill i 384 3456 rfl⟩
instance off206_form (i : grid0.Coords) : ClosedOff (k0_off206 i) := ⟨![(i 0).val % 2, 384, 3584], off_fill i 384 3584 rfl⟩
instance off207_form (i : grid0.Coords) : ClosedOff (k0_off207 i) := ⟨![(i 0).val % 2, 384, 3712], off_fill i 384 3712 rfl⟩
instance off208_form (i : grid0.Coords) : ClosedOff (k0_off208 i) := ⟨![(i 0).val % 2, 384, 3840], off_fill i 384 3840 rfl⟩
instance off209_form (i : grid0.Coords) : ClosedOff (k0_off209 i) := ⟨![(i 0).val % 2, 384, 3968], off_fill i 384 3968 rfl⟩

/-! The weights loop. -/

theorem off1_eq : ∀ k : Fin k0_t1_loop.trips, k0_off1 k = ![1 - k.val % 2, 0] := by decide +kernel
theorem off2_eq : ∀ k : Fin k0_t1_loop.trips, k0_off2 k = ![1 - k.val % 2, 0, 0, 0] := by decide +kernel
theorem off4_eq : ∀ k : Fin k0_t1_loop.trips, k0_off4 k = ![1 - k.val % 2, 1] := by decide +kernel
theorem off5_eq : ∀ k : Fin k0_t1_loop.trips, k0_off5 k = ![1 - k.val % 2, 1, 0, 0] := by decide +kernel
theorem off6_eq : ∀ k : Fin k0_t1_loop.trips, k0_off6 k = ![k.val % 2, 0] := by decide +kernel
theorem off7_eq : ∀ k : Fin k0_t1_loop.trips, k0_off7 k = ![k.val % 2, 0, 0, 0] := by decide +kernel
theorem off9_eq : ∀ k : Fin k0_t1_loop.trips, k0_off9 k = ![k.val % 2, 1] := by decide +kernel
theorem off10_eq : ∀ k : Fin k0_t1_loop.trips, k0_off10 k = ![k.val % 2, 1, 0, 0] := by decide +kernel
theorem off11_eq : ∀ (k : Fin k0_t1_loop.trips) (m : Fin k0_t2_loop.trips), k0_off11 k m = ![k.val % 2, 0, 128 * m.val, 0] := by decide +kernel
theorem off14_eq : ∀ (k : Fin k0_t1_loop.trips) (m : Fin k0_t2_loop.trips), k0_off14 k m = ![k.val % 2, 1, 128 * m.val, 0] := by decide +kernel

/-- The next weights are fetched at every trip but the last. -/
theorem cond2_iff : ∀ k : Fin k0_t1_loop.trips, k0_cond2 k = 1#1 ↔ k.val + 1 < 13 := by decide +kernel
/-- The first step is the one that prepares the weights; -/
theorem cond1_iff : ∀ i : grid0.Coords, k0_cond1 i = 1#1 ↔ (i 0).val = 0 := by decide +kernel
/-- every other step multiplies. -/
theorem cond3_iff : ∀ i : grid0.Coords, k0_cond3 i = 1#1 ↔ (i 0).val ≠ 0 := by decide +kernel

end Cert.KernelIdeal.Pf

end
-- ==== Proof.KI.Later.lean ====
/-
  A later step of the kernel, run once at a symbolic step.

  From the block of `x` at anything, the prepared weights at anything and the two slots of dequantised rows at anything,
  the step leaves: the codes and scales of the block of `x`, the same rows dequantised in the slot it fills, and the codes
  and scales of the product of the other slot's rows with the weights. What it leaves is found by the run, as the list of
  what it stores.
-/
module

public import proofs.«01_k».proof.Proof.KI.Offsets
public import proofs.«01_k».proof.Proof.Gen.KernelIdeal.Skeleton
public import Idealize.ShloMosaic.Lib.Pipeline.FrameBody
public import Idealize.ShloMosaic.Lib.Tactic

@[expose] public section

noncomputable section

namespace Cert.KernelIdeal.Pf

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's algebra: the pipeline's beside the transfers' counters. -/
local notation "𝕄" => MT nD τ sig Unit (Elt F) ℕ (Pipeline.UD sig nD τ) ℕ

/-- A buffer's contents, as its memref sees them, and the buffer held whole at them. -/
abbrev Bf {sp : Space} {S : Shape} {e : EltTy} (M : Memref sig .tc sp S e) : Type := BufTy.Contents (Elt F) M.view.ty
abbrev pt (c : Dev nD) {sp : Space} {S : Shape} {e : EltTy} (M : Memref sig .tc sp S e) (f : Bf (F := F) M) : sProp 𝕄 :=
  M.view.loc (c : Thread nD τ) ↦[M.view.set]{fullShare} f

set_option sl_exec.squeezeSlice true in
def laterRun (c : Dev nD) (i : grid0.Coords) (arg1 : Memref sig .tc .vmem S512x4096 .bf16) (harg1 : arg1.IsWhole)
    (arg2 : Memref sig .tc .hbm S4096x3328 .fp8e4m3) (harg2 : arg2.IsWhole) (arg3 : Memref sig .tc .smem S32x26 .f32) (harg3 : arg3.IsWhole)
    (arg4 : Memref sig .tc .vmem S512x1664 .fp8e4m3) (harg4 : arg4.IsWhole) (arg5 : Memref sig .tc .vmem S512x13 .f32) (harg5 : arg5.IsWhole)
    (arg6 : Memref sig .tc .vmem S512x4096 .fp8e4m3) (harg6 : arg6.IsWhole) (arg7 : Memref sig .tc .vmem S512x32 .f32) (harg7 : arg7.IsWhole)
    (arg8 : Memref sig .tc .vmem S13x4096x256 .bf16) (harg8 : arg8.IsWhole) (arg9 : Memref sig .tc .vmem S2x2x4096x128 .fp8e4m3) (harg9 : arg9.IsWhole)
    (arg10 : Memref sig .tc .vmem S2x512x4096 .bf16) (harg10 : arg10.IsWhole) (arg11 : DmaSems sig S2x2)
    (h1 : ¬ k0_cond1 i = 1#1) (h3 : k0_cond3 i = 1#1)
    (f1 : Bf (F := F) arg1) (f8 : Bf (F := F) arg8) (f10 : Bf (F := F) arg10) :
    Σ' (L4 : List (View.Piece (Elt F) S512x1664 .fp8e4m3)) (L5 : List (View.Piece (Elt F) S512x13 .f32))
      (L6 : List (View.Piece (Elt F) S512x4096 .fp8e4m3)) (L7 : List (View.Piece (Elt F) S512x32 .f32)),
      { L10 : List (View.Piece (Elt F) S2x512x4096 .bf16) //
        ∀ (E : Set ℕ) (f4 : Bf (F := F) arg4) (f5 : Bf (F := F) arg5) (f6 : Bf (F := F) arg6) (f7 : Bf (F := F) arg7),
          iprop(pt c arg1 f1 ∗ pt c arg4 f4 ∗ pt c arg5 f5 ∗ pt c arg6 f6 ∗ pt c arg7 f7 ∗ pt c arg8 f8 ∗ pt c arg10 f10)
          ⊢ wp frame (wpE (defs₀ (F := F)) Variants.none (c : Thread nD τ) none) E
              (cc0__body (F := F) i arg1 harg1 arg2 harg2 arg3 harg3 arg4 harg4 arg5 harg5 arg6 harg6 arg7 harg7 arg8 harg8 arg9 harg9 arg10 harg10 arg11)
              (fun _ => iprop(pt c arg1 f1 ∗ pt c arg4 (arg4.view.writes (Elt F) f4 L4) ∗ pt c arg5 (arg5.view.writes (Elt F) f5 L5)
                ∗ pt c arg6 (arg6.view.writes (Elt F) f6 L6) ∗ pt c arg7 (arg7.view.writes (Elt F) f7 L7) ∗ pt c arg8 f8
                ∗ pt c arg10 (arg10.view.writes (Elt F) f10 L10))) } := by
  refine ⟨?_, ?_, ?_, ?_, ?_, fun E f4 f5 f6 f7 => ?run⟩
  case run =>
    iintro ⟨H1, H4, H5, H6, H7, H8, H10⟩
    sl_exec_parts
    sl_step
    sl_close

end Cert.KernelIdeal.Pf

end
-- ==== Proof.KI.Weights.lean ====
/-
  The weights loop of the first step.

  The weights lie in 26 column blocks of 128: block `k` and block `k + 13` are staged together, into the two halves of slot
  `k % 2` of the staging buffer, one trip ahead of the trip that dequantises them. The loop is gone through by its
  invariant: before trip `k` blocks `k` and `k + 13` are on their way, the other slot is free, and the dequantised weights
  hold what the trips before `k` stored. What one trip stores is found by running it at a symbolic trip.
-/
module

public import proofs.«01_k».proof.Proof.KI.Later
public import proofs.«01_k».proof.Proof.Gen.KernelIdeal.Loops
public import Idealize.ShloMosaic.Lib.Ring

@[expose] public section

noncomputable section

namespace Cert.KernelIdeal.Pf

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## Names: the weights, their blocks, the halves of the two slots, their cells -/

abbrev aM : Memref sig .tc .hbm S4096x3328 .fp8e4m3 := Memref.whole main_arg1
abbrev stM : Memref sig .tc .vmem S2x2x4096x128 .fp8e4m3 := Memref.whole cc0_scratch1

abbrev grpOff (b : Fin 26) : Fin 2 → Nat := ![0, 128 * b.val]
theorem grpOff_inb (b : Fin 26) : ∀ a, grpOff b a + S4096x128.size a ≤ S4096x3328.size a := by
  have := b.isLt; intro a; fin_cases a
  · show 0 + 4096 ≤ 4096; omega
  · show 128 * b.val + 128 ≤ 3328; omega
abbrev slotOff (s h : Fin 2) : Fin 4 → Nat := ![s.val, h.val, 0, 0]
theorem slotOff_inb (s h : Fin 2) : ∀ a, slotOff s h a + S1x1x4096x128.size a ≤ S2x2x4096x128.size a := by
  have := s.isLt; have := h.isLt; intro a; fin_cases a
  · show s.val + 1 ≤ 2; omega
  · show h.val + 1 ≤ 2; omega
  · show 0 + 4096 ≤ 4096; omega
  · show 0 + 128 ≤ 128; omega
abbrev semOff (s h : Fin 2) : Fin 2 → Nat := ![s.val, h.val]
theorem semOff_inb (s h : Fin 2) : ∀ a, semOff s h a + S1x1.size a ≤ S2x2.size a := by
  have := s.isLt; have := h.isLt; intro a; fin_cases a
  · show s.val + 1 ≤ 2; omega
  · show h.val + 1 ≤ 2; omega

/-- Column block `b` of the weights, as the body slices it. -/
def grp (b : Fin 26) : Memref sig .tc .hbm S4096x128 .fp8e4m3 :=
  aM.slice (Rect.unit (s := S4096x3328) (grpOff b) S4096x128.size (grpOff_inb b)) (fun _ => rfl)
/-- Half `h` of slot `s` of the staging buffer, as the body slices and squeezes it. -/
def rslot (s h : Fin 2) : Memref sig .tc .vmem S4096x128 .fp8e4m3 :=
  (stM.slice (Rect.unit (s := S2x2x4096x128) (slotOff s h) S1x1x4096x128.size (slotOff_inb s h)) (fun _ => rfl)).squeeze S4096x128 squeezes_S1x1x4096x128_S4096x128
/-- Its cell. -/
def csm (s h : Fin 2) : DmaSems sig S_ := (cc0_scratch3.slice (Rect.unit (s := S2x2) (semOff s h) S1x1.size (semOff_inb s h))).squeeze S_ squeezes_S1x1_S_

instance slotOff_form (s h : Fin 2) : ClosedOff (slotOff s h) := ⟨slotOff s h, rfl⟩
instance grpOff_form (b : Fin 26) : ClosedOff (grpOff b) := ⟨grpOff b, rfl⟩
instance off11_slot (k : Fin k0_t1_loop.trips) (m : Fin k0_t2_loop.trips) : ClosedOff (k0_off11 k m) := ⟨![(Ring.sl 2 k.val).val, 0, 128 * m.val, 0], off11_eq k m⟩
instance off14_slot (k : Fin k0_t1_loop.trips) (m : Fin k0_t2_loop.trips) : ClosedOff (k0_off14 k m) := ⟨![(Ring.sl 2 k.val).val, 1, 128 * m.val, 0], off14_eq k m⟩

private theorem csm_congr {off : Fin 2 → Nat} {s h : Fin 2} (e : off = semOff s h) (hh) :
    (cc0_scratch3.slice (Rect.unit (s := S2x2) off S1x1.size hh)).squeeze S_ squeezes_S1x1_S_ = csm s h :=
  congrArg (fun A : DmaSems sig S1x1 => A.squeeze S_ squeezes_S1x1_S_) (SemArray.slice_unit_congr _ e _ _)
private theorem rslot_congr {off : Fin 4 → Nat} {s h : Fin 2} (e : off = slotOff s h) (hh hs) :
    (stM.slice (Rect.unit (s := S2x2x4096x128) off S1x1x4096x128.size hh) hs).squeeze S4096x128 squeezes_S1x1x4096x128_S4096x128 = rslot s h :=
  congrArg (fun M : Memref sig .tc .vmem S1x1x4096x128 .fp8e4m3 => M.squeeze S4096x128 squeezes_S1x1x4096x128_S4096x128) (Memref.slice_unit_congr _ e _ _ _ _)
private theorem grp_congr {off : Fin 2 → Nat} {b : Fin 26} (e : off = grpOff b) (hh hs) :
    aM.slice (Rect.unit (s := S4096x3328) off S4096x128.size hh) hs = grp b := Memref.slice_unit_congr _ e _ (grpOff_inb b) _ (fun _ => rfl)

/-- The first issues' literal slices. -/
@[sl_canon] theorem semL00 (hh) : (cc0_scratch3.slice (Rect.unit (s := S2x2) ![0, 0] S1x1.size hh)).squeeze S_ squeezes_S1x1_S_ = csm 0 0 := csm_congr (by decide) _
@[sl_canon] theorem semL01 (hh) : (cc0_scratch3.slice (Rect.unit (s := S2x2) ![0, 1] S1x1.size hh)).squeeze S_ squeezes_S1x1_S_ = csm 0 1 := csm_congr (by decide) _
@[sl_canon] theorem slotL00 (hh hs) : (stM.slice (Rect.unit (s := S2x2x4096x128) ![0, 0, 0, 0] S1x1x4096x128.size hh) hs).squeeze S4096x128 squeezes_S1x1x4096x128_S4096x128 = rslot 0 0 := rslot_congr (by decide) _ _
@[sl_canon] theorem slotL01 (hh hs) : (stM.slice (Rect.unit (s := S2x2x4096x128) ![0, 1, 0, 0] S1x1x4096x128.size hh) hs).squeeze S4096x128 squeezes_S1x1x4096x128_S4096x128 = rslot 0 1 := rslot_congr (by decide) _ _
@[sl_canon] theorem grpL0 (hh hs) : aM.slice (Rect.unit (s := S4096x3328) ![0, 0] S4096x128.size hh) hs = grp 0 := grp_congr (by decide) _ _
@[sl_canon] theorem grpL13 (hh hs) : aM.slice (Rect.unit (s := S4096x3328) ![0, 1664] S4096x128.size hh) hs = grp 13 := grp_congr (by decide) _ _

section Eqs
theorem one_sub_mod (k : ℕ) : 1 - k % 2 = (Ring.sl 2 (k + 1)).val := by
  show 1 - k % 2 = (k + 1) % 2; omega
theorem trips1 : k0_t1_loop.trips = 13 := by decide
theorem trips2 : k0_t2_loop.trips = 32 := by decide
theorem trips3 : k0_t3_loop.trips = 4 := by decide
theorem k_lt (k : Fin k0_t1_loop.trips) : k.val < 13 := Nat.lt_of_lt_of_eq k.isLt trips1
theorem off_col {a b : ℕ} (h : a = b) : (![0, a] : Fin 2 → Nat) = ![0, b] := by rw [h]
theorem bk26 {k : ℕ} (h : k < 26) : (Ring.bk 26 k).val = k := Ring.bk_val h
end Eqs

/-- Trip `k`: the blocks it waits for, their slot and cells; -/
@[sl_canon] theorem semK0 (k : Fin k0_t1_loop.trips) (hh) : (cc0_scratch3.slice (Rect.unit (s := S2x2) (k0_off6 k) S1x1.size hh)).squeeze S_ squeezes_S1x1_S_ = csm (Ring.sl 2 k.val) 0 := csm_congr (off6_eq k) _
@[sl_canon] theorem semK1 (k : Fin k0_t1_loop.trips) (hh) : (cc0_scratch3.slice (Rect.unit (s := S2x2) (k0_off9 k) S1x1.size hh)).squeeze S_ squeezes_S1x1_S_ = csm (Ring.sl 2 k.val) 1 := csm_congr (off9_eq k) _
@[sl_canon] theorem slotK0 (k : Fin k0_t1_loop.trips) (hh hs) : (stM.slice (Rect.unit (s := S2x2x4096x128) (k0_off7 k) S1x1x4096x128.size hh) hs).squeeze S4096x128 squeezes_S1x1x4096x128_S4096x128 = rslot (Ring.sl 2 k.val) 0 := rslot_congr (off7_eq k) _ _
@[sl_canon] theorem slotK1 (k : Fin k0_t1_loop.trips) (hh hs) : (stM.slice (Rect.unit (s := S2x2x4096x128) (k0_off10 k) S1x1x4096x128.size hh) hs).squeeze S4096x128 squeezes_S1x1x4096x128_S4096x128 = rslot (Ring.sl 2 k.val) 1 := rslot_congr (off10_eq k) _ _
@[sl_canon] theorem grpK0 (k : Fin k0_t1_loop.trips) (hh hs) : aM.slice (Rect.unit (s := S4096x3328) (k0_off8 k 0#32) S4096x128.size hh) hs = grp (Ring.bk 26 k.val) :=
  grp_congr ((k0_off8_eq k 0).trans (off_col (by have := k_lt k; rw [bk26 (by omega)]; show 128 * k.val + 1664 * 0 = _; omega))) _ _
@[sl_canon] theorem grpK1 (k : Fin k0_t1_loop.trips) (hh hs) : aM.slice (Rect.unit (s := S4096x3328) (k0_off8 k 13#32) S4096x128.size hh) hs = grp (Ring.bk 26 (k.val + 13)) :=
  grp_congr ((k0_off8_eq k 1).trans (off_col (by have := k_lt k; rw [bk26 (by omega)]; show 128 * k.val + 1664 * 1 = _; omega))) _ _
/-- the blocks it sends for, their slot and cells. -/
@[sl_canon] theorem semN0 (k : Fin k0_t1_loop.trips) (hh) : (cc0_scratch3.slice (Rect.unit (s := S2x2) (k0_off1 k) S1x1.size hh)).squeeze S_ squeezes_S1x1_S_ = csm (Ring.sl 2 (k.val + 1)) 0 := csm_congr ((off1_eq k).trans (by rw [one_sub_mod]; rfl)) _
@[sl_canon] theorem semN1 (k : Fin k0_t1_loop.trips) (hh) : (cc0_scratch3.slice (Rect.unit (s := S2x2) (k0_off4 k) S1x1.size hh)).squeeze S_ squeezes_S1x1_S_ = csm (Ring.sl 2 (k.val + 1)) 1 := csm_congr ((off4_eq k).trans (by rw [one_sub_mod]; rfl)) _
@[sl_canon] theorem slotN0 (k : Fin k0_t1_loop.trips) (hh hs) : (stM.slice (Rect.unit (s := S2x2x4096x128) (k0_off2 k) S1x1x4096x128.size hh) hs).squeeze S4096x128 squeezes_S1x1x4096x128_S4096x128 = rslot (Ring.sl 2 (k.val + 1)) 0 := rslot_congr ((off2_eq k).trans (by rw [one_sub_mod]; rfl)) _ _
@[sl_canon] theorem slotN1 (k : Fin k0_t1_loop.trips) (hh hs) : (stM.slice (Rect.unit (s := S2x2x4096x128) (k0_off5 k) S1x1x4096x128.size hh) hs).squeeze S4096x128 squeezes_S1x1x4096x128_S4096x128 = rslot (Ring.sl 2 (k.val + 1)) 1 := rslot_congr ((off5_eq k).trans (by rw [one_sub_mod]; rfl)) _ _
@[sl_canon] theorem grpN0 (k : Fin k0_t1_loop.trips) (hh hs) : aM.slice (Rect.unit (s := S4096x3328) (k0_off3 k 0#32) S4096x128.size hh) hs = grp (Ring.bk 26 (k.val + 1)) :=
  grp_congr ((k0_off3_eq k 0).trans (off_col (by have := k_lt k; rw [bk26 (by omega)]; show 128 * k.val + 1664 * 0 + 128 = _; omega))) _ _
@[sl_canon] theorem grpN1 (k : Fin k0_t1_loop.trips) (hk : k.val + 1 < 13) (hh hs) : aM.slice (Rect.unit (s := S4096x3328) (k0_off3 k 13#32) S4096x128.size hh) hs = grp (Ring.bk 26 (k.val + 1 + 13)) :=
  grp_congr ((k0_off3_eq k 1).trans (off_col (by have := k_lt k; rw [bk26 (by omega)]; show 128 * k.val + 1664 * 1 + 128 = _; omega))) _ _

/-! ## The pieces: a block home, a half-slot held, its cell, a block on its way -/

section Pieces
variable (c : Dev nD) (XA : Buf (Elt F) (aM.view.loc (c : Thread nD τ)))

abbrev cellP (s h : Fin 2) : sProp 𝕄 := semVal ((c : Thread nD τ), SemLoc.dma (csm s h).sem) 0
abbrev slotP (s h : Fin 2) (f : Buf (Elt F) ((rslot s h).view.loc (c : Thread nD τ))) : sProp 𝕄 :=
  (rslot s h).view.loc (c : Thread nD τ) ↦[(rslot s h).view.set]{fullShare} f
abbrev homeP (b : Fin 26) : sProp 𝕄 := (grp b).view.loc (c : Thread nD τ) ↦[(grp b).view.set]{fullShare} XA
/-- Block `b`'s words. -/
abbrev payload (b : Fin 26) : S4096x128.Idx → Elt F .fp8e4m3 := ReadAs.same.apply ((grp b).view.read (Elt F) XA)
/-- What block `b` leaves in a half-slot over prior contents. -/
abbrev landed (s h : Fin 2) (b : Fin 26) (f : Buf (Elt F) ((rslot s h).view.loc (c : Thread nD τ))) : Buf (Elt F) ((rslot s h).view.loc (c : Thread nD τ)) :=
  (rslot s h).view.writes (Elt F) f [⟨Rect.whole S4096x128, payload c XA b⟩]
/-- Half-slot `s`, `h` with block `b` on its way, sent for over `f`. -/
abbrev flightP (s h : Fin 2) (b : Fin 26) (f : Buf (Elt F) ((rslot s h).view.loc (c : Thread nD τ))) : sProp 𝕄 :=
  Transfers.Flight countersEmb (c : Thread nD τ) (SemLoc.dma (csm s h).sem) () 16384 iprop(slotP c s h (landed c XA s h b f) ∗ homeP c XA b)
/-- A half-slot free. -/
abbrev freeP (s h : Fin 2) : sProp 𝕄 := iprop(cellP c s h ∗ ∃ f, slotP c s h f)
end Pieces

/-- The blocks at home before trip `k`; -/
def away (k : ℕ) : Finset (Fin 26) := Finset.univ.filter fun b => ¬ (k < 13 ∧ (b.val = k ∨ b.val = k + 13))
/-- those at home all through it. -/
def away2 (k : ℕ) : Finset (Fin 26) := Finset.univ.filter fun b => ¬ (b.val = k ∨ b.val = k + 13 ∨ (k + 1 < 13 ∧ (b.val = k + 1 ∨ b.val = k + 1 + 13)))

theorem home_pair (P : Fin 26 → sProp 𝕄) (S T : Finset (Fin 26)) (a b : ℕ) (ha : a < 26) (hb : b < 26) (hab : a ≠ b)
    (hS : ∀ d : Fin 26, d ∈ S ↔ d.val = a ∨ d.val = b ∨ d ∈ T) (hT : ∀ d : Fin 26, d ∈ T → d.val ≠ a ∧ d.val ≠ b) :
    bigSep S P = iprop(P (Ring.bk 26 a) ∗ P (Ring.bk 26 b) ∗ bigSep T P) := by
  have e : S = insert (Ring.bk 26 a) (insert (Ring.bk 26 b) T) := by
    ext d; simp only [Finset.mem_insert, hS, Fin.ext_iff, bk26 ha, bk26 hb]
  have h1 : Ring.bk 26 a ∉ insert (Ring.bk 26 b) T := by
    simp only [Finset.mem_insert, Fin.ext_iff, bk26 ha, bk26 hb]
    rintro (h | h)
    · exact hab h
    · exact (hT _ h).1 (bk26 ha)
  have h2 : Ring.bk 26 b ∉ T := fun h => (hT _ h).2 (bk26 hb)
  rw [e, bigSep_insert h1, bigSep_insert h2]; rfl

/-- Before a trip that sends for more: the two blocks about to go out beside the rest; -/
theorem homes_here (P : Fin 26 → sProp 𝕄) (k : ℕ) (hk : k + 1 < 13) :
    bigSep (away k) P = iprop(P (Ring.bk 26 (k + 1)) ∗ P (Ring.bk 26 (k + 1 + 13)) ∗ bigSep (away2 k) P) := by
  refine home_pair P _ _ _ _ (by omega) (by omega) (by omega) ?_ ?_
  · intro d; simp only [away, away2, Finset.mem_filter, Finset.mem_univ, _root_.true_and]; omega
  · intro d; simp only [away2, Finset.mem_filter, Finset.mem_univ, _root_.true_and]; omega
/-- after any trip: the two blocks just back beside the rest. -/
theorem homes_next (P : Fin 26 → sProp 𝕄) (k : ℕ) (hk : k < 13) :
    bigSep (away (k + 1)) P = iprop(P (Ring.bk 26 k) ∗ P (Ring.bk 26 (k + 13)) ∗ bigSep (away2 k) P) := by
  refine home_pair P _ _ _ _ (by omega) (by omega) (by omega) ?_ ?_
  · intro d; simp only [away, away2, Finset.mem_filter, Finset.mem_univ, _root_.true_and]; omega
  · intro d; simp only [away2, Finset.mem_filter, Finset.mem_univ, _root_.true_and]; omega
theorem homes_last (k : ℕ) (hk : ¬ k + 1 < 13) (hk' : k < 13) : away k = away2 k := by
  ext d; simp only [away, away2, Finset.mem_filter, Finset.mem_univ, _root_.true_and, not_iff_not]; omega
theorem homes_first (P : Fin 26 → sProp 𝕄) : bigSep Finset.univ P = iprop(P 0 ∗ P 13 ∗ bigSep (away 0) P) := by
  refine home_pair P _ _ 0 13 (by omega) (by omega) (by omega) ?_ ?_
  · intro d; refine ⟨fun _ => ?_, fun _ => Finset.mem_univ _⟩
    simp only [away, Finset.mem_filter, Finset.mem_univ, _root_.true_and]; omega
  · intro d; simp only [away, Finset.mem_filter, Finset.mem_univ, _root_.true_and]; omega
theorem away_end : away 13 = Finset.univ := by ext d; simp [away]

/-! ## The dequantising loop over the 32 row blocks -/

section Rows
variable (c : Dev nD) (i : grid0.Coords) (arg1 : Memref sig .tc .vmem S512x4096 .bf16) (harg1 : arg1.IsWhole)
  (arg3 : Memref sig .tc .smem S32x26 .f32) (harg3 : arg3.IsWhole)
  (arg4 : Memref sig .tc .vmem S512x1664 .fp8e4m3) (harg4 : arg4.IsWhole) (arg5 : Memref sig .tc .vmem S512x13 .f32) (harg5 : arg5.IsWhole)
  (arg6 : Memref sig .tc .vmem S512x4096 .fp8e4m3) (harg6 : arg6.IsWhole) (arg7 : Memref sig .tc .vmem S512x32 .f32) (harg7 : arg7.IsWhole)
  (arg8 : Memref sig .tc .vmem S13x4096x256 .bf16) (harg8 : arg8.IsWhole) (arg10 : Memref sig .tc .vmem S2x512x4096 .bf16) (harg10 : arg10.IsWhole)
  (h1 : k0_cond1 i = 1#1)
  (k : Fin k0_t1_loop.trips)

/-- What a row block's trip reads and writes: the scales, the two staged halves, the dequantised weights. -/
abbrev TripR (X3 : Bf (F := F) arg3) (X0 : Buf (Elt F) ((rslot (Ring.sl 2 k.val) 0).view.loc (c : Thread nD τ)))
    (X1 : Buf (Elt F) ((rslot (Ring.sl 2 k.val) 1).view.loc (c : Thread nD τ))) (f : Bf (F := F) arg8) : sProp 𝕄 :=
  iprop(pt c arg3 X3 ∗ slotP c (Ring.sl 2 k.val) 0 X0 ∗ slotP c (Ring.sl 2 k.val) 1 X1 ∗ pt c arg8 f)

/-- One row block, at a symbolic one: what it stores is found by the run. -/
@[irreducible] def tripR (X3 : Bf (F := F) arg3) (X0 : Buf (Elt F) ((rslot (Ring.sl 2 k.val) 0).view.loc (c : Thread nD τ)))
    (X1 : Buf (Elt F) ((rslot (Ring.sl 2 k.val) 1).view.loc (c : Thread nD τ))) (m : Fin k0_t2_loop.trips) :
    { L : List (View.Piece (Elt F) S13x4096x256 .bf16) // ∀ f : Bf (F := F) arg8,
      TripR c arg3 arg8 k X3 X0 X1 f ⊢ wp frame (wpE (defs₀ (F := F)) Variants.none (c : Thread nD τ) none) Set.univ
        (k0_t2_body (F := F) i arg1 harg1 aM (Memref.isWhole_whole _) arg3 harg3 arg4 harg4 arg5 harg5 arg6 harg6 arg7 harg7 arg8 harg8 stM (Memref.isWhole_whole _) arg10 harg10 cc0_scratch3 h1 k m PUnit.unit)
        (fun _ => TripR c arg3 arg8 k X3 X0 X1 (arg8.view.writes (Elt F) f L)) } := by
  have hm : m.val < 32 := Nat.lt_of_lt_of_eq m.isLt trips2
  have hk : k.val < 13 := k_lt k
  refine ⟨?_, fun f => ?run⟩
  case run =>
    unfold k0_t2_body
    iintro ⟨H3, H90, H91, H8⟩
    sl_exec
    sl_step
    sl_close

/-- The pieces of the row blocks before `m`, last first. -/
def rowsL (X3 : Bf (F := F) arg3) (X0 : Buf (Elt F) ((rslot (Ring.sl 2 k.val) 0).view.loc (c : Thread nD τ)))
    (X1 : Buf (Elt F) ((rslot (Ring.sl 2 k.val) 1).view.loc (c : Thread nD τ))) : ℕ → List (View.Piece (Elt F) S13x4096x256 .bf16)
  | 0 => []
  | m + 1 => (if h : m < k0_t2_loop.trips then (tripR c i arg1 harg1 arg3 harg3 arg4 harg4 arg5 harg5 arg6 harg6 arg7 harg7 arg8 harg8 arg10 harg10 h1 k X3 X0 X1 ⟨m, h⟩).1 else []) ++ rowsL X3 X0 X1 m

set_option warn.classDefReducibility false in
/-- The row loop by its invariant. -/
@[sl_loop] def loopRows (X3 : Bf (F := F) arg3) (X0 : Buf (Elt F) ((rslot (Ring.sl 2 k.val) 0).view.loc (c : Thread nD τ)))
    (X1 : Buf (Elt F) ((rslot (Ring.sl 2 k.val) 1).view.loc (c : Thread nD τ))) (G : Bf (F := F) arg8) :
    LoopInvTy_k0_t2 (F := F) Unit ℕ (Pipeline.UD sig nD τ) ℕ Variants.none c none Set.univ i arg1 harg1 aM (Memref.isWhole_whole _) arg3 harg3 arg4 harg4 arg5 harg5 arg6 harg6 arg7 harg7 arg8 harg8 stM (Memref.isWhole_whole _) arg10 harg10 cc0_scratch3 h1 k where
  inv m _ := iprop(pt c arg3 X3 ∗ slotP c (Ring.sl 2 k.val) 0 X0 ∗ slotP c (Ring.sl 2 k.val) 1 X1
    ∗ ∃ f, pt c arg8 f ∗ ⌜f = arg8.view.writes (Elt F) G (rowsL c i arg1 harg1 arg3 harg3 arg4 harg4 arg5 harg5 arg6 harg6 arg7 harg7 arg8 harg8 arg10 harg10 h1 k X3 X0 X1 m)⌝)
  step m _ := by
    iintro ⟨H3, H90, H91, ⟨%f, H8, %hf⟩⟩
    iapply (wp_wand_r Idealize.ShloMosaic.frame (wpE (defs₀ (F := F)) Variants.none (c : Thread nD τ) none) Set.univ)
    isplitl [H3 H90 H91 H8]
    · iapply ((tripR c i arg1 harg1 arg3 harg3 arg4 harg4 arg5 harg5 arg6 harg6 arg7 harg7 arg8 harg8 arg10 harg10 h1 k X3 X0 X1 m).2 f)
      isplitl [H3]; · iexact H3
      isplitl [H90]; · iexact H90
      isplitl [H91]; · iexact H91
      iexact H8
    · iintro %_ ⟨H3, H90, H91, H8⟩
      isplitl [H3]; · iexact H3
      isplitl [H90]; · iexact H90
      isplitl [H91]; · iexact H91
      iexists _; isplitl [H8]; · iexact H8
      ipureintro; rw [hf, ← View.writes_append, rowsL, dif_pos m.isLt]

end Rows

/-! ## One trip of the weights loop -/

section Trip
variable (c : Dev nD) (i : grid0.Coords) (arg1 : Memref sig .tc .vmem S512x4096 .bf16) (harg1 : arg1.IsWhole)
  (arg3 : Memref sig .tc .smem S32x26 .f32) (harg3 : arg3.IsWhole)
  (arg4 : Memref sig .tc .vmem S512x1664 .fp8e4m3) (harg4 : arg4.IsWhole) (arg5 : Memref sig .tc .vmem S512x13 .f32) (harg5 : arg5.IsWhole)
  (arg6 : Memref sig .tc .vmem S512x4096 .fp8e4m3) (harg6 : arg6.IsWhole) (arg7 : Memref sig .tc .vmem S512x32 .f32) (harg7 : arg7.IsWhole)
  (arg8 : Memref sig .tc .vmem S13x4096x256 .bf16) (harg8 : arg8.IsWhole) (arg10 : Memref sig .tc .vmem S2x512x4096 .bf16) (harg10 : arg10.IsWhole)
  (h1 : k0_cond1 i = 1#1)
  (XA : Buf (Elt F) (aM.view.loc (c : Thread nD τ))) (X3 : Bf (F := F) arg3)

/-- One half of the slot that trip `k` waits for: a block on its way, or, after the last trip, the half and its cell. -/
def headP (k : ℕ) (s h : Fin 2) (b : Fin 26) (g : Buf (Elt F) ((rslot s h).view.loc (c : Thread nD τ))) : sProp 𝕄 :=
  if k < 13 then flightP c XA s h b g else iprop(cellP c s h ∗ slotP c s h g)
theorem headP_lt {k : ℕ} (hk : k < 13) (s h b g) : headP (F := F) c XA k s h b g = flightP c XA s h b g := if_pos hk
theorem headP_ge {k : ℕ} (hk : ¬ k < 13) (s h b g) : headP (F := F) c XA k s h b g = iprop(cellP c s h ∗ slotP c s h g) := if_neg hk

/-- The resources before trip `k`, the dequantised weights at `f`. -/
def resW (k : ℕ) (f : Bf (F := F) arg8) : sProp 𝕄 :=
  iprop(pt c arg3 X3 ∗ pt c arg8 f ∗ (∃ W, owes (c : Thread nD τ) 0 W) ∗ bigSep (away k) (homeP c XA)
    ∗ (∃ g, headP c XA k (Ring.sl 2 k) 0 (Ring.bk 26 k) g) ∗ (∃ g, headP c XA k (Ring.sl 2 k) 1 (Ring.bk 26 (k + 13)) g)
    ∗ freeP c (Ring.sl 2 (k + 1)) 0 ∗ freeP c (Ring.sl 2 (k + 1)) 1)

theorem sl2_add2 (k : ℕ) : Ring.sl 2 (k + 1 + 1) = Ring.sl 2 k := by rw [show k + 1 + 1 = k + 2 from rfl, Ring.sl_add]

/-- A trip that sends for the next blocks. -/
def tripA (k : Fin k0_t1_loop.trips) (hk : k.val + 1 < 13) :
    { L : List (View.Piece (Elt F) S13x4096x256 .bf16) // ∀ f : Bf (F := F) arg8,
      resW c arg3 arg8 XA X3 k f ⊢ wp frame (wpE (defs₀ (F := F)) Variants.none (c : Thread nD τ) none) Set.univ
        (k0_t1_body (F := F) i arg1 harg1 aM (Memref.isWhole_whole _) arg3 harg3 arg4 harg4 arg5 harg5 arg6 harg6 arg7 harg7 arg8 harg8 stM (Memref.isWhole_whole _) arg10 harg10 cc0_scratch3 h1 k PUnit.unit)
        (fun _ => resW c arg3 arg8 XA X3 (k.val + 1) (arg8.view.writes (Elt F) f L)) } := by
  refine ⟨?_, fun f => ?run⟩
  case run =>
    have h2 : k0_cond2 k = 1#1 := (cond2_iff k).2 hk
    have hk13 : k.val < 13 := k_lt k
    unfold resW
    simp only [headP_lt c XA hk13, headP_lt c XA hk]
    rw [homes_here _ _ hk, homes_next _ _ hk13, sl2_add2]
    iintro ⟨H3, H8, ⟨%W, HW⟩, ⟨Ha, Hb, Hrest⟩, ⟨%g0, HF0⟩, ⟨%g1, HF1⟩, ⟨Hc0, ⟨%e0, Hs0⟩⟩, ⟨Hc1, ⟨%e1, Hs1⟩⟩⟩
    sl_unfold [k0_t1_body]
    sl_exec
    sl_step
    isplitl [H3]; · iexact H3
    isplitl [H8]; · iexact H8
    isplitl [HW]; · iexists _; iexact HW
    isplitl [HF0_src HF1_src Hrest]
    · isplitl [HF0_src]; · iexact HF0_src
      isplitl [HF1_src]; · iexact HF1_src
      iexact Hrest
    isplitl [Hc0]; · iexists _; iexact Hc0
    isplitl [Hc1]; · iexists _; iexact Hc1
    isplitl [HF0 HF0_dst]
    · isplitl [HF0]; · iexact HF0
      iexists _; iexact HF0_dst
    isplitl [HF1]; · iexact HF1
    iexists _; iexact HF1_dst

/-- The last trip, which sends for nothing. -/
def tripZ (k : Fin k0_t1_loop.trips) (hk : ¬ k.val + 1 < 13) :
    { L : List (View.Piece (Elt F) S13x4096x256 .bf16) // ∀ f : Bf (F := F) arg8,
      resW c arg3 arg8 XA X3 k f ⊢ wp frame (wpE (defs₀ (F := F)) Variants.none (c : Thread nD τ) none) Set.univ
        (k0_t1_body (F := F) i arg1 harg1 aM (Memref.isWhole_whole _) arg3 harg3 arg4 harg4 arg5 harg5 arg6 harg6 arg7 harg7 arg8 harg8 stM (Memref.isWhole_whole _) arg10 harg10 cc0_scratch3 h1 k PUnit.unit)
        (fun _ => resW c arg3 arg8 XA X3 (k.val + 1) (arg8.view.writes (Elt F) f L)) } := by
  refine ⟨?_, fun f => ?run⟩
  case run =>
    have h2 : ¬ k0_cond2 k = 1#1 := fun h => hk ((cond2_iff k).1 h)
    have hk13 : k.val < 13 := k_lt k
    unfold resW
    simp only [headP_lt c XA hk13, headP_ge c XA hk]
    rw [homes_last _ hk hk13, homes_next _ _ hk13, sl2_add2]
    iintro ⟨H3, H8, ⟨%W, HW⟩, Hrest, ⟨%g0, HF0⟩, ⟨%g1, HF1⟩, ⟨Hc0, ⟨%e0, Hs0⟩⟩, ⟨Hc1, ⟨%e1, Hs1⟩⟩⟩
    sl_unfold [k0_t1_body]
    sl_exec
    sl_step
    isplitl [H3]; · iexact H3
    isplitl [H8]; · iexact H8
    isplitl [HW]; · iexists _; iexact HW
    isplitl [HF0_src HF1_src Hrest]
    · isplitl [HF0_src]; · iexact HF0_src
      isplitl [HF1_src]; · iexact HF1_src
      iexact Hrest
    isplitl [Hc0 Hs0]
    · iexists _; isplitl [Hc0]; · iexact Hc0
      iexact Hs0
    isplitl [Hc1 Hs1]
    · iexists _; isplitl [Hc1]; · iexact Hc1
      iexact Hs1
    isplitl [HF0 HF0_dst]
    · isplitl [HF0]; · iexact HF0
      iexists _; iexact HF0_dst
    isplitl [HF1]; · iexact HF1
    iexists _; iexact HF1_dst

/-- What trip `k` stores in the dequantised weights. -/
def tripL (k : Fin k0_t1_loop.trips) : List (View.Piece (Elt F) S13x4096x256 .bf16) :=
  if hk : k.val + 1 < 13 then (tripA c i arg1 harg1 arg3 harg3 arg4 harg4 arg5 harg5 arg6 harg6 arg7 harg7 arg8 harg8 arg10 harg10 h1 XA X3 k hk).1 else (tripZ c i arg1 harg1 arg3 harg3 arg4 harg4 arg5 harg5 arg6 harg6 arg7 harg7 arg8 harg8 arg10 harg10 h1 XA X3 k hk).1

theorem trip (k : Fin k0_t1_loop.trips) (f : Bf (F := F) arg8) :
    resW c arg3 arg8 XA X3 k f ⊢ wp frame (wpE (defs₀ (F := F)) Variants.none (c : Thread nD τ) none) Set.univ
        (k0_t1_body (F := F) i arg1 harg1 aM (Memref.isWhole_whole _) arg3 harg3 arg4 harg4 arg5 harg5 arg6 harg6 arg7 harg7 arg8 harg8 stM (Memref.isWhole_whole _) arg10 harg10 cc0_scratch3 h1 k PUnit.unit)
        (fun _ => resW c arg3 arg8 XA X3 (k.val + 1) (arg8.view.writes (Elt F) f (tripL c i arg1 harg1 arg3 harg3 arg4 harg4 arg5 harg5 arg6 harg6 arg7 harg7 arg8 harg8 arg10 harg10 h1 XA X3 k))) := by
  unfold tripL
  split
  · exact (tripA c i arg1 harg1 arg3 harg3 arg4 harg4 arg5 harg5 arg6 harg6 arg7 harg7 arg8 harg8 arg10 harg10 h1 XA X3 k _).2 f
  · exact (tripZ c i arg1 harg1 arg3 harg3 arg4 harg4 arg5 harg5 arg6 harg6 arg7 harg7 arg8 harg8 arg10 harg10 h1 XA X3 k _).2 f

/-- What the first `n` trips store. -/
def wqL : ℕ → List (View.Piece (Elt F) S13x4096x256 .bf16)
  | 0 => []
  | n + 1 => if h : n < k0_t1_loop.trips then tripL c i arg1 harg1 arg3 harg3 arg4 harg4 arg5 harg5 arg6 harg6 arg7 harg7 arg8 harg8 arg10 harg10 h1 XA X3 ⟨n, h⟩ ++ wqL n else wqL n

set_option warn.classDefReducibility false in
/-- The weights loop by its invariant. -/
@[sl_loop] def loopW (G : Bf (F := F) arg8) :
    LoopInvTy_k0_t1 (F := F) Unit ℕ (Pipeline.UD sig nD τ) ℕ Variants.none c none Set.univ i arg1 harg1 aM (Memref.isWhole_whole _) arg3 harg3 arg4 harg4 arg5 harg5 arg6 harg6 arg7 harg7 arg8 harg8 stM (Memref.isWhole_whole _) arg10 harg10 cc0_scratch3 h1 where
  inv m _ := iprop(∃ f, resW c arg3 arg8 XA X3 m f ∗ ⌜f = arg8.view.writes (Elt F) G (wqL c i arg1 harg1 arg3 harg3 arg4 harg4 arg5 harg5 arg6 harg6 arg7 harg7 arg8 harg8 arg10 harg10 h1 XA X3 m)⌝)
  step m _ := by
    iintro ⟨%f, H, %hf⟩
    iapply (wp_wand_r Idealize.ShloMosaic.frame (wpE (defs₀ (F := F)) Variants.none (c : Thread nD τ) none) Set.univ)
    isplitl [H]
    · iapply (trip c i arg1 harg1 arg3 harg3 arg4 harg4 arg5 harg5 arg6 harg6 arg7 harg7 arg8 harg8 arg10 harg10 h1 XA X3 m f)
      iexact H
    · iintro %_ H
      iexists _; isplitl [H]; · iexact H
      ipureintro; rw [hf, ← View.writes_append, wqL, dif_pos m.isLt]

end Trip

end Cert.KernelIdeal.Pf

end
-- ==== Proof.KI.Chunks.lean ====
/-
  The chunk loop of the first step: four chunks of 128 rows of the first block of `x` are quantised, 32 groups each. What
  one trip stores is found by running it at a symbolic trip.
-/
module

public import proofs.«01_k».proof.Proof.KI.Later
public import proofs.«01_k».proof.Proof.Gen.KernelIdeal.Loops
public import Idealize.ShloMosaic.Lib.Ring

@[expose] public section

set_option maxRecDepth 8192
set_option maxHeartbeats 4000000

noncomputable section

namespace Cert.KernelIdeal.Pf

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- What a trip of the chunk loop works with. -/
abbrev ResC (c : Dev nD) (arg1 : Memref sig .tc .vmem S512x4096 .bf16) (arg6 : Memref sig .tc .vmem S512x4096 .fp8e4m3) (arg7 : Memref sig .tc .vmem S512x32 .f32) (arg10 : Memref sig .tc .vmem S2x512x4096 .bf16) (X_arg1 : BufTy.Contents (Elt F) arg1.view.ty) (f_arg6 : BufTy.Contents (Elt F) arg6.view.ty) (f_arg7 : BufTy.Contents (Elt F) arg7.view.ty) (f_arg10 : BufTy.Contents (Elt F) arg10.view.ty) : sProp 𝕄 :=
  iprop((arg1.view.loc (c : Thread nD τ) ↦[arg1.view.set]{fullShare} X_arg1) ∗ (arg6.view.loc (c : Thread nD τ) ↦[arg6.view.set]{fullShare} f_arg6) ∗ (arg7.view.loc (c : Thread nD τ) ↦[arg7.view.set]{fullShare} f_arg7) ∗ (arg10.view.loc (c : Thread nD τ) ↦[arg10.view.set]{fullShare} f_arg10))

set_option sl_exec.squeezeSlice true in
/-- One trip: four times 32 groups, each quantised into the codes, the scales and the buffer. -/
@[irreducible] def chunkRun (𝒱 : Variants) (c : Dev nD) (bd : Option 𝒱.V) (i : grid0.Coords) (arg1 : Memref sig .tc .vmem S512x4096 .bf16) (harg1 : arg1.IsWhole) (arg2 : Memref sig .tc .hbm S4096x3328 .fp8e4m3) (harg2 : arg2.IsWhole) (arg3 : Memref sig .tc .smem S32x26 .f32) (harg3 : arg3.IsWhole) (arg4 : Memref sig .tc .vmem S512x1664 .fp8e4m3) (harg4 : arg4.IsWhole) (arg5 : Memref sig .tc .vmem S512x13 .f32) (harg5 : arg5.IsWhole) (arg6 : Memref sig .tc .vmem S512x4096 .fp8e4m3) (harg6 : arg6.IsWhole) (arg7 : Memref sig .tc .vmem S512x32 .f32) (harg7 : arg7.IsWhole) (arg8 : Memref sig .tc .vmem S13x4096x256 .bf16) (harg8 : arg8.IsWhole) (arg9 : Memref sig .tc .vmem S2x2x4096x128 .fp8e4m3) (harg9 : arg9.IsWhole) (arg10 : Memref sig .tc .vmem S2x512x4096 .bf16) (harg10 : arg10.IsWhole) (arg11 : DmaSems sig S2x2) (k0_h1 : k0_cond1 i = 1#1) (X_arg1 : BufTy.Contents (Elt F) arg1.view.ty) (k : Fin k0_t3_loop.trips) :
    Σ' (L_arg6 : List (View.Piece (Elt F) S512x4096 .fp8e4m3)) (L_arg7 : List (View.Piece (Elt F) S512x32 .f32)) , { L_arg10 : List (View.Piece (Elt F) S2x512x4096 .bf16) // ∀ (E : Set ℕ) (f_arg6 : BufTy.Contents (Elt F) arg6.view.ty) (f_arg7 : BufTy.Contents (Elt F) arg7.view.ty) (f_arg10 : BufTy.Contents (Elt F) arg10.view.ty),
      ResC (F := F) c arg1 arg6 arg7 arg10 X_arg1 f_arg6 f_arg7 f_arg10
      ⊢ wp frame (wpE (defs₀ (F := F)) 𝒱 (c : Thread nD τ) bd) E (k0_t3_body (F := F) i arg1 harg1 arg2 harg2 arg3 harg3 arg4 harg4 arg5 harg5 arg6 harg6 arg7 harg7 arg8 harg8 arg9 harg9 arg10 harg10 arg11 k0_h1 k PUnit.unit)
          (fun _ => ResC (F := F) c arg1 arg6 arg7 arg10 X_arg1 (arg6.view.writes (Elt F) f_arg6 L_arg6) (arg7.view.writes (Elt F) f_arg7 L_arg7) (arg10.view.writes (Elt F) f_arg10 L_arg10)) } := by
  have hk : k.val < 4 := Nat.lt_of_lt_of_le k.isLt k0_t3_abs.2.1
  refine ⟨?_, ?_, ?_, fun E f_arg6 f_arg7 f_arg10 => ?run⟩
  case run =>
    unfold k0_t3_body
    iintro ⟨HR_arg1, HW_arg6, HW_arg7, HW_arg10⟩
    sl_exec
    sl_step
    sl_close

/-- What trip `k` stores, per buffer. -/
abbrev chunkL (𝒱 : Variants) (c : Dev nD) (bd : Option 𝒱.V) (i : grid0.Coords) (arg1 : Memref sig .tc .vmem S512x4096 .bf16) (harg1 : arg1.IsWhole) (arg2 : Memref sig .tc .hbm S4096x3328 .fp8e4m3) (harg2 : arg2.IsWhole) (arg3 : Memref sig .tc .smem S32x26 .f32) (harg3 : arg3.IsWhole) (arg4 : Memref sig .tc .vmem S512x1664 .fp8e4m3) (harg4 : arg4.IsWhole) (arg5 : Memref sig .tc .vmem S512x13 .f32) (harg5 : arg5.IsWhole) (arg6 : Memref sig .tc .vmem S512x4096 .fp8e4m3) (harg6 : arg6.IsWhole) (arg7 : Memref sig .tc .vmem S512x32 .f32) (harg7 : arg7.IsWhole) (arg8 : Memref sig .tc .vmem S13x4096x256 .bf16) (harg8 : arg8.IsWhole) (arg9 : Memref sig .tc .vmem S2x2x4096x128 .fp8e4m3) (harg9 : arg9.IsWhole) (arg10 : Memref sig .tc .vmem S2x512x4096 .bf16) (harg10 : arg10.IsWhole) (arg11 : DmaSems sig S2x2) (k0_h1 : k0_cond1 i = 1#1) (X_arg1 : BufTy.Contents (Elt F) arg1.view.ty) (k : Fin k0_t3_loop.trips) : List (View.Piece (Elt F) S512x4096 .fp8e4m3) × List (View.Piece (Elt F) S512x32 .f32) × List (View.Piece (Elt F) S2x512x4096 .bf16) :=
  ((chunkRun (F := F) 𝒱 c bd i arg1 harg1 arg2 harg2 arg3 harg3 arg4 harg4 arg5 harg5 arg6 harg6 arg7 harg7 arg8 harg8 arg9 harg9 arg10 harg10 arg11 k0_h1 X_arg1 k).1, (chunkRun (F := F) 𝒱 c bd i arg1 harg1 arg2 harg2 arg3 harg3 arg4 harg4 arg5 harg5 arg6 harg6 arg7 harg7 arg8 harg8 arg9 harg9 arg10 harg10 arg11 k0_h1 X_arg1 k).2.1, (chunkRun (F := F) 𝒱 c bd i arg1 harg1 arg2 harg2 arg3 harg3 arg4 harg4 arg5 harg5 arg6 harg6 arg7 harg7 arg8 harg8 arg9 harg9 arg10 harg10 arg11 k0_h1 X_arg1 k).2.2.1)

/-- The stores of trip `k` in front of the earlier ones. -/
@[irreducible] def chunksLStep (𝒱 : Variants) (c : Dev nD) (bd : Option 𝒱.V) (i : grid0.Coords) (arg1 : Memref sig .tc .vmem S512x4096 .bf16) (harg1 : arg1.IsWhole) (arg2 : Memref sig .tc .hbm S4096x3328 .fp8e4m3) (harg2 : arg2.IsWhole) (arg3 : Memref sig .tc .smem S32x26 .f32) (harg3 : arg3.IsWhole) (arg4 : Memref sig .tc .vmem S512x1664 .fp8e4m3) (harg4 : arg4.IsWhole) (arg5 : Memref sig .tc .vmem S512x13 .f32) (harg5 : arg5.IsWhole) (arg6 : Memref sig .tc .vmem S512x4096 .fp8e4m3) (harg6 : arg6.IsWhole) (arg7 : Memref sig .tc .vmem S512x32 .f32) (harg7 : arg7.IsWhole) (arg8 : Memref sig .tc .vmem S13x4096x256 .bf16) (harg8 : arg8.IsWhole) (arg9 : Memref sig .tc .vmem S2x2x4096x128 .fp8e4m3) (harg9 : arg9.IsWhole) (arg10 : Memref sig .tc .vmem S2x512x4096 .bf16) (harg10 : arg10.IsWhole) (arg11 : DmaSems sig S2x2) (k0_h1 : k0_cond1 i = 1#1) (X_arg1 : BufTy.Contents (Elt F) arg1.view.ty) (k : ℕ) (prev : List (View.Piece (Elt F) S512x4096 .fp8e4m3) × List (View.Piece (Elt F) S512x32 .f32) × List (View.Piece (Elt F) S2x512x4096 .bf16)) : List (View.Piece (Elt F) S512x4096 .fp8e4m3) × List (View.Piece (Elt F) S512x32 .f32) × List (View.Piece (Elt F) S2x512x4096 .bf16) :=
  if h : k < k0_t3_loop.trips then
    ((chunkL (F := F) 𝒱 c bd i arg1 harg1 arg2 harg2 arg3 harg3 arg4 harg4 arg5 harg5 arg6 harg6 arg7 harg7 arg8 harg8 arg9 harg9 arg10 harg10 arg11 k0_h1 X_arg1 ⟨k, h⟩).1 ++ prev.1, (chunkL (F := F) 𝒱 c bd i arg1 harg1 arg2 harg2 arg3 harg3 arg4 harg4 arg5 harg5 arg6 harg6 arg7 harg7 arg8 harg8 arg9 harg9 arg10 harg10 arg11 k0_h1 X_arg1 ⟨k, h⟩).2.1 ++ prev.2.1, (chunkL (F := F) 𝒱 c bd i arg1 harg1 arg2 harg2 arg3 harg3 arg4 harg4 arg5 harg5 arg6 harg6 arg7 harg7 arg8 harg8 arg9 harg9 arg10 harg10 arg11 k0_h1 X_arg1 ⟨k, h⟩).2.2 ++ prev.2.2)
  else prev

/-- The stores of the trips before `k`, the last first. -/
def chunksL (𝒱 : Variants) (c : Dev nD) (bd : Option 𝒱.V) (i : grid0.Coords) (arg1 : Memref sig .tc .vmem S512x4096 .bf16) (harg1 : arg1.IsWhole) (arg2 : Memref sig .tc .hbm S4096x3328 .fp8e4m3) (harg2 : arg2.IsWhole) (arg3 : Memref sig .tc .smem S32x26 .f32) (harg3 : arg3.IsWhole) (arg4 : Memref sig .tc .vmem S512x1664 .fp8e4m3) (harg4 : arg4.IsWhole) (arg5 : Memref sig .tc .vmem S512x13 .f32) (harg5 : arg5.IsWhole) (arg6 : Memref sig .tc .vmem S512x4096 .fp8e4m3) (harg6 : arg6.IsWhole) (arg7 : Memref sig .tc .vmem S512x32 .f32) (harg7 : arg7.IsWhole) (arg8 : Memref sig .tc .vmem S13x4096x256 .bf16) (harg8 : arg8.IsWhole) (arg9 : Memref sig .tc .vmem S2x2x4096x128 .fp8e4m3) (harg9 : arg9.IsWhole) (arg10 : Memref sig .tc .vmem S2x512x4096 .bf16) (harg10 : arg10.IsWhole) (arg11 : DmaSems sig S2x2) (k0_h1 : k0_cond1 i = 1#1) (X_arg1 : BufTy.Contents (Elt F) arg1.view.ty) : ℕ → List (View.Piece (Elt F) S512x4096 .fp8e4m3) × List (View.Piece (Elt F) S512x32 .f32) × List (View.Piece (Elt F) S2x512x4096 .bf16)
  | 0 => ([], [], [])
  | k + 1 => chunksLStep 𝒱 c bd i arg1 harg1 arg2 harg2 arg3 harg3 arg4 harg4 arg5 harg5 arg6 harg6 arg7 harg7 arg8 harg8 arg9 harg9 arg10 harg10 arg11 k0_h1 X_arg1 k (chunksL 𝒱 c bd i arg1 harg1 arg2 harg2 arg3 harg3 arg4 harg4 arg5 harg5 arg6 harg6 arg7 harg7 arg8 harg8 arg9 harg9 arg10 harg10 arg11 k0_h1 X_arg1 k)

theorem chunksL_succ (𝒱 : Variants) (c : Dev nD) (bd : Option 𝒱.V) (i : grid0.Coords) (arg1 : Memref sig .tc .vmem S512x4096 .bf16) (harg1 : arg1.IsWhole) (arg2 : Memref sig .tc .hbm S4096x3328 .fp8e4m3) (harg2 : arg2.IsWhole) (arg3 : Memref sig .tc .smem S32x26 .f32) (harg3 : arg3.IsWhole) (arg4 : Memref sig .tc .vmem S512x1664 .fp8e4m3) (harg4 : arg4.IsWhole) (arg5 : Memref sig .tc .vmem S512x13 .f32) (harg5 : arg5.IsWhole) (arg6 : Memref sig .tc .vmem S512x4096 .fp8e4m3) (harg6 : arg6.IsWhole) (arg7 : Memref sig .tc .vmem S512x32 .f32) (harg7 : arg7.IsWhole) (arg8 : Memref sig .tc .vmem S13x4096x256 .bf16) (harg8 : arg8.IsWhole) (arg9 : Memref sig .tc .vmem S2x2x4096x128 .fp8e4m3) (harg9 : arg9.IsWhole) (arg10 : Memref sig .tc .vmem S2x512x4096 .bf16) (harg10 : arg10.IsWhole) (arg11 : DmaSems sig S2x2) (k0_h1 : k0_cond1 i = 1#1) (X_arg1 : BufTy.Contents (Elt F) arg1.view.ty) (k : Fin k0_t3_loop.trips) :
    chunksL (F := F) 𝒱 c bd i arg1 harg1 arg2 harg2 arg3 harg3 arg4 harg4 arg5 harg5 arg6 harg6 arg7 harg7 arg8 harg8 arg9 harg9 arg10 harg10 arg11 k0_h1 X_arg1 (k.val + 1)
      = ((chunkL (F := F) 𝒱 c bd i arg1 harg1 arg2 harg2 arg3 harg3 arg4 harg4 arg5 harg5 arg6 harg6 arg7 harg7 arg8 harg8 arg9 harg9 arg10 harg10 arg11 k0_h1 X_arg1 k).1 ++ (chunksL (F := F) 𝒱 c bd i arg1 harg1 arg2 harg2 arg3 harg3 arg4 harg4 arg5 harg5 arg6 harg6 arg7 harg7 arg8 harg8 arg9 harg9 arg10 harg10 arg11 k0_h1 X_arg1 k.val).1, (chunkL (F := F) 𝒱 c bd i arg1 harg1 arg2 harg2 arg3 harg3 arg4 harg4 arg5 harg5 arg6 harg6 arg7 harg7 arg8 harg8 arg9 harg9 arg10 harg10 arg11 k0_h1 X_arg1 k).2.1 ++ (chunksL (F := F) 𝒱 c bd i arg1 harg1 arg2 harg2 arg3 harg3 arg4 harg4 arg5 harg5 arg6 harg6 arg7 harg7 arg8 harg8 arg9 harg9 arg10 harg10 arg11 k0_h1 X_arg1 k.val).2.1, (chunkL (F := F) 𝒱 c bd i arg1 harg1 arg2 harg2 arg3 harg3 arg4 harg4 arg5 harg5 arg6 harg6 arg7 harg7 arg8 harg8 arg9 harg9 arg10 harg10 arg11 k0_h1 X_arg1 k).2.2 ++ (chunksL (F := F) 𝒱 c bd i arg1 harg1 arg2 harg2 arg3 harg3 arg4 harg4 arg5 harg5 arg6 harg6 arg7 harg7 arg8 harg8 arg9 harg9 arg10 harg10 arg11 k0_h1 X_arg1 k.val).2.2) := by
  rw [chunksL.eq_2]; unfold chunksLStep; exact dif_pos k.isLt

/-- The loop's invariant: the buffers hold their contents at the entry with the stores so far. -/
abbrev chunksInv (𝒱 : Variants) (c : Dev nD) (bd : Option 𝒱.V) (i : grid0.Coords) (arg1 : Memref sig .tc .vmem S512x4096 .bf16) (harg1 : arg1.IsWhole) (arg2 : Memref sig .tc .hbm S4096x3328 .fp8e4m3) (harg2 : arg2.IsWhole) (arg3 : Memref sig .tc .smem S32x26 .f32) (harg3 : arg3.IsWhole) (arg4 : Memref sig .tc .vmem S512x1664 .fp8e4m3) (harg4 : arg4.IsWhole) (arg5 : Memref sig .tc .vmem S512x13 .f32) (harg5 : arg5.IsWhole) (arg6 : Memref sig .tc .vmem S512x4096 .fp8e4m3) (harg6 : arg6.IsWhole) (arg7 : Memref sig .tc .vmem S512x32 .f32) (harg7 : arg7.IsWhole) (arg8 : Memref sig .tc .vmem S13x4096x256 .bf16) (harg8 : arg8.IsWhole) (arg9 : Memref sig .tc .vmem S2x2x4096x128 .fp8e4m3) (harg9 : arg9.IsWhole) (arg10 : Memref sig .tc .vmem S2x512x4096 .bf16) (harg10 : arg10.IsWhole) (arg11 : DmaSems sig S2x2) (k0_h1 : k0_cond1 i = 1#1) (X_arg1 : BufTy.Contents (Elt F) arg1.view.ty) (G_arg6 : BufTy.Contents (Elt F) arg6.view.ty) (G_arg7 : BufTy.Contents (Elt F) arg7.view.ty) (G_arg10 : BufTy.Contents (Elt F) arg10.view.ty) (k : ℕ) (_u : PUnit) : sProp 𝕄 :=
  iprop((arg1.view.loc (c : Thread nD τ) ↦[arg1.view.set]{fullShare} X_arg1) ∗ (∃ f, (arg6.view.loc (c : Thread nD τ) ↦[arg6.view.set]{fullShare} f) ∗ ⌜f = arg6.view.writes (Elt F) G_arg6 (chunksL (F := F) 𝒱 c bd i arg1 harg1 arg2 harg2 arg3 harg3 arg4 harg4 arg5 harg5 arg6 harg6 arg7 harg7 arg8 harg8 arg9 harg9 arg10 harg10 arg11 k0_h1 X_arg1 k).1⌝) ∗ (∃ f, (arg7.view.loc (c : Thread nD τ) ↦[arg7.view.set]{fullShare} f) ∗ ⌜f = arg7.view.writes (Elt F) G_arg7 (chunksL (F := F) 𝒱 c bd i arg1 harg1 arg2 harg2 arg3 harg3 arg4 harg4 arg5 harg5 arg6 harg6 arg7 harg7 arg8 harg8 arg9 harg9 arg10 harg10 arg11 k0_h1 X_arg1 k).2.1⌝) ∗ (∃ f, (arg10.view.loc (c : Thread nD τ) ↦[arg10.view.set]{fullShare} f) ∗ ⌜f = arg10.view.writes (Elt F) G_arg10 (chunksL (F := F) 𝒱 c bd i arg1 harg1 arg2 harg2 arg3 harg3 arg4 harg4 arg5 harg5 arg6 harg6 arg7 harg7 arg8 harg8 arg9 harg9 arg10 harg10 arg11 k0_h1 X_arg1 k).2.2⌝))

set_option warn.classDefReducibility false in
/-- The chunk loop by its invariant. -/
@[sl_loop] def loopChunks (𝒱 : Variants) (c : Dev nD) (bd : Option 𝒱.V) (E : Set ℕ) (i : grid0.Coords) (arg1 : Memref sig .tc .vmem S512x4096 .bf16) (harg1 : arg1.IsWhole) (arg2 : Memref sig .tc .hbm S4096x3328 .fp8e4m3) (harg2 : arg2.IsWhole) (arg3 : Memref sig .tc .smem S32x26 .f32) (harg3 : arg3.IsWhole) (arg4 : Memref sig .tc .vmem S512x1664 .fp8e4m3) (harg4 : arg4.IsWhole) (arg5 : Memref sig .tc .vmem S512x13 .f32) (harg5 : arg5.IsWhole) (arg6 : Memref sig .tc .vmem S512x4096 .fp8e4m3) (harg6 : arg6.IsWhole) (arg7 : Memref sig .tc .vmem S512x32 .f32) (harg7 : arg7.IsWhole) (arg8 : Memref sig .tc .vmem S13x4096x256 .bf16) (harg8 : arg8.IsWhole) (arg9 : Memref sig .tc .vmem S2x2x4096x128 .fp8e4m3) (harg9 : arg9.IsWhole) (arg10 : Memref sig .tc .vmem S2x512x4096 .bf16) (harg10 : arg10.IsWhole) (arg11 : DmaSems sig S2x2) (k0_h1 : k0_cond1 i = 1#1) (X_arg1 : BufTy.Contents (Elt F) arg1.view.ty) (G_arg6 : BufTy.Contents (Elt F) arg6.view.ty) (G_arg7 : BufTy.Contents (Elt F) arg7.view.ty) (G_arg10 : BufTy.Contents (Elt F) arg10.view.ty) :
    LoopInvTy_k0_t3 (F := F) Unit ℕ (Pipeline.UD sig nD τ) ℕ 𝒱 c bd E i arg1 harg1 arg2 harg2 arg3 harg3 arg4 harg4 arg5 harg5 arg6 harg6 arg7 harg7 arg8 harg8 arg9 harg9 arg10 harg10 arg11 k0_h1 where
  inv := chunksInv (F := F) 𝒱 c bd i arg1 harg1 arg2 harg2 arg3 harg3 arg4 harg4 arg5 harg5 arg6 harg6 arg7 harg7 arg8 harg8 arg9 harg9 arg10 harg10 arg11 k0_h1 X_arg1 G_arg6 G_arg7 G_arg10
  step k acc := by
    iintro ⟨HR_arg1, ⟨%f_arg6, HW_arg6, %h_arg6⟩, ⟨%f_arg7, HW_arg7, %h_arg7⟩, ⟨%f_arg10, HW_arg10, %h_arg10⟩⟩
    iapply (wp_wand_r Idealize.ShloMosaic.frame (wpE (defs₀ (F := F)) 𝒱 (c : Thread nD τ) bd) E)
    isplitl [HR_arg1 HW_arg6 HW_arg7 HW_arg10]
    · iapply ((chunkRun (F := F) 𝒱 c bd i arg1 harg1 arg2 harg2 arg3 harg3 arg4 harg4 arg5 harg5 arg6 harg6 arg7 harg7 arg8 harg8 arg9 harg9 arg10 harg10 arg11 k0_h1 X_arg1 k).2.2.2 E f_arg6 f_arg7 f_arg10)
      isplitl [HR_arg1]; · iexact HR_arg1
      isplitl [HW_arg6]; · iexact HW_arg6
      isplitl [HW_arg7]; · iexact HW_arg7
      iexact HW_arg10
    · iintro %_ ⟨HR_arg1, HW_arg6, HW_arg7, HW_arg10⟩
      isplitl [HR_arg1]; · iexact HR_arg1
      rw [chunksL_succ]
      isplitl [HW_arg6]
      · iexists _; isplitl [HW_arg6]; · iexact HW_arg6
        ipureintro; rw [h_arg6, ← View.writes_append]
      isplitl [HW_arg7]
      · iexists _; isplitl [HW_arg7]; · iexact HW_arg7
        ipureintro; rw [h_arg7, ← View.writes_append]
      iexists _; isplitl [HW_arg10]; · iexact HW_arg10
      ipureintro; rw [h_arg10, ← View.writes_append]

end Cert.KernelIdeal.Pf

end
-- ==== Proof.KI.First.lean ====
/-
  The body at the first grid step, run by its two loops' invariants: the weights dequantised, the first block of `x`
  quantised; the staging buffer and the four cells come back free, every block of the weights comes home.
-/
module

public import proofs.«01_k».proof.Proof.KI.Weights
public import proofs.«01_k».proof.Proof.KI.Chunks

@[expose] public section

noncomputable section

namespace Cert.KernelIdeal.Pf

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section First
variable (c : Dev nD) (i : grid0.Coords) (arg1 : Memref sig .tc .vmem S512x4096 .bf16) (harg1 : arg1.IsWhole)
  (arg3 : Memref sig .tc .smem S32x26 .f32) (harg3 : arg3.IsWhole)
  (arg4 : Memref sig .tc .vmem S512x1664 .fp8e4m3) (harg4 : arg4.IsWhole) (arg5 : Memref sig .tc .vmem S512x13 .f32) (harg5 : arg5.IsWhole)
  (arg6 : Memref sig .tc .vmem S512x4096 .fp8e4m3) (harg6 : arg6.IsWhole) (arg7 : Memref sig .tc .vmem S512x32 .f32) (harg7 : arg7.IsWhole)
  (arg8 : Memref sig .tc .vmem S13x4096x256 .bf16) (harg8 : arg8.IsWhole) (arg10 : Memref sig .tc .vmem S2x512x4096 .bf16) (harg10 : arg10.IsWhole)
  (h1 : k0_cond1 i = 1#1)
  (XA : Buf (Elt F) (aM.view.loc (c : Thread nD τ))) (X3 : Bf (F := F) arg3)

/-- The stores of the first step in the dequantised weights. -/
abbrev firstL8 := wqL (F := F) c i arg1 harg1 arg3 harg3 arg4 harg4 arg5 harg5 arg6 harg6 arg7 harg7 arg8 harg8 arg10 harg10 h1 XA X3 k0_t1_loop.trips
/-- Its stores in the codes, the scales and the buffer of the quantised block. -/
abbrev firstLx (f1 : Bf (F := F) arg1) := chunksL (F := F) Variants.none c none i arg1 harg1 aM (Memref.isWhole_whole _) arg3 harg3 arg4 harg4 arg5 harg5 arg6 harg6 arg7 harg7 arg8 harg8 stM (Memref.isWhole_whole _) arg10 harg10 cc0_scratch3 h1 f1 k0_t3_loop.trips

theorem sl2_0 : Ring.sl 2 0 = 0 := Fin.ext (by rfl)
theorem sl2_1 : Ring.sl 2 (0 + 1) = 1 := Fin.ext (by rfl)
theorem bk26_0 : Ring.bk 26 0 = 0 := Fin.ext (by rfl)
theorem bk26_13 : Ring.bk 26 (0 + 13) = 13 := Fin.ext (by rfl)

attribute [local sl_canon] sl2_0 sl2_1 bk26_0 bk26_13 in
theorem firstRun (h3 : ¬ k0_cond3 i = 1#1) (f1 : Bf (F := F) arg1) (f6 : Bf (F := F) arg6) (f7 : Bf (F := F) arg7) (f8 : Bf (F := F) arg8) (f10 : Bf (F := F) arg10) :
    iprop(pt c arg1 f1 ∗ pt c arg3 X3 ∗ pt c arg6 f6 ∗ pt c arg7 f7 ∗ pt c arg8 f8 ∗ pt c arg10 f10 ∗ bigSep Finset.univ (homeP c XA)
        ∗ freeP c 0 0 ∗ freeP c 0 1 ∗ freeP c 1 0 ∗ freeP c 1 1 ∗ ∃ W, owes (c : Thread nD τ) 0 W)
      ⊢ wp frame (wpE (defs₀ (F := F)) Variants.none (c : Thread nD τ) none) Set.univ
        (cc0__body (F := F) i arg1 harg1 aM (Memref.isWhole_whole _) arg3 harg3 arg4 harg4 arg5 harg5 arg6 harg6 arg7 harg7 arg8 harg8 stM (Memref.isWhole_whole _) arg10 harg10 cc0_scratch3)
        (fun _ => iprop(pt c arg1 f1 ∗ pt c arg3 X3
          ∗ pt c arg6 (arg6.view.writes (Elt F) f6 (firstLx c i arg1 harg1 arg3 harg3 arg4 harg4 arg5 harg5 arg6 harg6 arg7 harg7 arg8 harg8 arg10 harg10 h1 f1).1)
          ∗ pt c arg7 (arg7.view.writes (Elt F) f7 (firstLx c i arg1 harg1 arg3 harg3 arg4 harg4 arg5 harg5 arg6 harg6 arg7 harg7 arg8 harg8 arg10 harg10 h1 f1).2.1)
          ∗ pt c arg8 (arg8.view.writes (Elt F) f8 (firstL8 c i arg1 harg1 arg3 harg3 arg4 harg4 arg5 harg5 arg6 harg6 arg7 harg7 arg8 harg8 arg10 harg10 h1 XA X3))
          ∗ pt c arg10 (arg10.view.writes (Elt F) f10 (firstLx c i arg1 harg1 arg3 harg3 arg4 harg4 arg5 harg5 arg6 harg6 arg7 harg7 arg8 harg8 arg10 harg10 h1 f1).2.2)
          ∗ bigSep Finset.univ (homeP c XA)
          ∗ freeP c 0 0 ∗ freeP c 0 1 ∗ freeP c 1 0 ∗ freeP c 1 1 ∗ ∃ W, owes (c : Thread nD τ) 0 W)) := by
  rw [homes_first]
  iintro ⟨H1, H3, H6, H7, H8, H10, ⟨Hg0, Hg13, Hh⟩, ⟨Hc0, ⟨%e0, Hs0⟩⟩, ⟨Hc1, ⟨%e1, Hs1⟩⟩, ⟨Hc2, ⟨%e2, Hs2⟩⟩, ⟨Hc3, ⟨%e3, Hs3⟩⟩, ⟨%W, HW⟩⟩
  sl_exec
  sl_step
  have eT : Scf.trips k0_t1_loop.lb k0_t1_loop.ub k0_t1_loop.st = 13 := trips1
  have e13 : Ring.sl 2 13 = 1 := Fin.ext (by rfl)
  have e14 : Ring.sl 2 (13 + 1) = 0 := Fin.ext (by rfl)
  simp only [eT, e13, e14, away_end]
  isplitl [H1]; · iexact H1
  isplitl [H3]; · iexact H3
  isplitl [H6]; · iexact H6
  isplitl [H7]; · iexact H7
  isplitl [H8]; · iexact H8
  isplitl [H10]; · iexact H10
  isplitl [Hh]; · rw [← homes_first]; iexact Hh
  icases Hc0 with ⟨Hc0, Hs0⟩
  icases Hc1 with ⟨Hc1, Hs1⟩
  isplitl [Hc2 Hs2]
  · isplitl [Hc2]; · iexact Hc2
    iexists _; iexact Hs2
  isplitl [Hc3 Hs3]
  · isplitl [Hc3]; · iexact Hc3
    iexists _; iexact Hs3
  isplitl [Hc0 Hs0]
  · isplitl [Hc0]; · iexact Hc0
    iexists _; iexact Hs0
  isplitl [Hc1 Hs1]
  · isplitl [Hc1]; · iexact Hc1
    iexists _; iexact Hs1
  iexists _; iexact HW

end First

end Cert.KernelIdeal.Pf

end
-- ==== Proof.KI.Wire.lean ====
/-
  The launch's side of the kernel's own transfers: the weights held whole are their 26 column blocks at home, the staging
  buffer is its four half-slots, the four cells are the kernel's own semaphores; and what a grid step is given besides its
  windows.
-/
module

public import proofs.«01_k».proof.Proof.KI.First
public import proofs.«01_k».proof.Proof.Gen.KernelIdeal.Frame
public import proofs.«01_k».proof.Proof.Gen.KernelIdeal.Points
public import Idealize.ShloMosaic.Lib.Pipeline.Frame
public import Idealize.ShloMosaic.Lib.Transfers

@[expose] public section

noncomputable section

namespace Cert.KernelIdeal.Pf

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.Pipeline (Dat Cfg Window BodyObligation cellOf)
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## @main up to the region, at this algebra -/

theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-! ## The four cells -/

abbrev osem0 : Fin 4 → SemLoc sig := fun j => .dma (csm (![0, 0, 1, 1] j) (![0, 1, 0, 1] j)).sem
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(cellP c 0 0 ∗ cellP c 0 1 ∗ cellP c 1 0 ∗ cellP c 1 1) := by
  rw [Pipeline.ownSems0_eq_of_list c osem0 [0, 1, 2, 3] (by decide) (by decide)]; rfl

/-! ## The weights' blocks, the staging buffer's half-slots -/

abbrev G26 (b : Fin 26) : Finset S4096x3328.Idx := (Rect.unit (s := S4096x3328) (grpOff b) S4096x128.size (grpOff_inb b)).set
abbrev S4 (p : Fin 2 × Fin 2) : Finset S2x2x4096x128.Idx := (Rect.unit (s := S2x2x4096x128) (slotOff p.1 p.2) S1x1x4096x128.size (slotOff_inb p.1 p.2)).set

theorem grp_set (b : Fin 26) : (grp b : Memref sig .tc .hbm _ _).view.set = G26 b := View.set_slice_whole _ _
theorem rslot_set (p : Fin 2 × Fin 2) : (rslot p.1 p.2 : Memref sig .tc .vmem _ _).view.set = S4 p := (View.set_reshape _ _).trans (View.set_slice_whole _ _)

theorem G26_disjoint : ∀ b b' : Fin 26, b ≠ b' → Disjoint (G26 b) (G26 b') :=
  Ring.lead_disjoint (s := S4096x3328) (R := 128) 1 grpOff S4096x128.size grpOff_inb (fun _ => rfl) rfl
theorem G26_cover : (Finset.univ : Finset (Fin 26)).biUnion G26 = Finset.univ :=
  Ring.lead_cover (s := S4096x3328) (R := 128) 1 grpOff S4096x128.size grpOff_inb (fun _ => rfl)
    (fun b a h => by fin_cases a; · rfl
                     · exact absurd rfl h) rfl (fun a h => by fin_cases a; · rfl
                                                              · exact absurd rfl h) rfl
theorem mem_S4 (p : Fin 2 × Fin 2) (y : S2x2x4096x128.Idx) : y ∈ S4 p ↔ (y 0).val = p.1.val ∧ (y 1).val = p.2.val := by
  rw [Rect.mem_set_unit]
  have h2 : (y 2).val < 4096 := (y 2).isLt
  have h3 : (y 3).val < 128 := (y 3).isLt
  constructor
  · intro H
    have a0 : p.1.val ≤ (y 0).val ∧ (y 0).val < p.1.val + 1 := H 0
    have a1 : p.2.val ≤ (y 1).val ∧ (y 1).val < p.2.val + 1 := H 1
    omega
  · intro H i; fin_cases i
    · show p.1.val ≤ (y 0).val ∧ (y 0).val < p.1.val + 1; omega
    · show p.2.val ≤ (y 1).val ∧ (y 1).val < p.2.val + 1; omega
    · show 0 ≤ (y 2).val ∧ (y 2).val < 0 + 4096; omega
    · show 0 ≤ (y 3).val ∧ (y 3).val < 0 + 128; omega
theorem S4_disjoint : ∀ p p' : Fin 2 × Fin 2, p ≠ p' → Disjoint (S4 p) (S4 p') := by
  intro p p' hne; rw [Finset.disjoint_left]; intro y hy hy'; rw [mem_S4] at hy hy'
  exact hne (Prod.ext (Fin.ext (hy.1.symm.trans hy'.1)) (Fin.ext (hy.2.symm.trans hy'.2)))
theorem S4_cover : (Finset.univ : Finset (Fin 2 × Fin 2)).biUnion S4 = Finset.univ := by
  ext y; simp only [Finset.mem_biUnion, Finset.mem_univ, _root_.true_and, iff_true]
  exact ⟨((y 0).cast (by decide), (y 1).cast (by decide)), by rw [mem_S4]; exact ⟨rfl, rfl⟩⟩

theorem bigSep_four (Φ : Fin 2 × Fin 2 → sProp 𝕄) : bigSep Finset.univ Φ = iprop(Φ (0, 0) ∗ Φ (0, 1) ∗ Φ (1, 0) ∗ Φ (1, 1)) :=
  bigSep_univ_eq_bigSepL [((0, 0) : Fin 2 × Fin 2), (0, 1), (1, 0), (1, 1)] (by decide) (by decide) Φ

theorem entails_of_eq {P Q : sProp 𝕄} (e : P = Q) : P ⊢ Q := e ▸ .rfl

/-- The weights held whole are their blocks at home. -/
theorem a_eq (c : Dev nD) (XA : Buf (Elt F) (aM.view.loc (c : Thread nD τ))) :
    (((c : Thread nD τ).loc main_arg1) ↦{fullShare} XA : sProp 𝕄) = bigSep Finset.univ (homeP c XA) := by
  rw [Ring.pointsTo_blocks (ℓ := (c : Thread nD τ).loc main_arg1) G26 G26_disjoint G26_cover]
  exact bigSep_congr fun b _ => by rw [← grp_set]; rfl

theorem slotP_eq (c : Dev nD) (p : Fin 2 × Fin 2) (f) : slotP c p.1 p.2 f = (((c : Thread nD τ).loc cc0_scratch1) ↦[S4 p]{fullShare} f : sProp 𝕄) :=
  congrArg (fun S => (_ ↦[S]{fullShare} f : sProp 𝕄)) (rslot_set p)

/-- The staging buffer whole is its half-slots, and back. -/
theorem stage_split (c : Dev nD) :
    iprop(∃ f : Buf (Elt F) ((c : Thread nD τ).loc cc0_scratch1), ((c : Thread nD τ).loc cc0_scratch1) ↦{fullShare} f)
      ⊢ (iprop((∃ f, slotP c 0 0 f) ∗ (∃ f, slotP c 0 1 f) ∗ (∃ f, slotP c 1 0 f) ∗ ∃ f, slotP c 1 1 f) : sProp 𝕄) := by
  iintro ⟨%f, H⟩
  ihave H2 := (entails_of_eq ((Ring.pointsTo_blocks (Ix := Unit) (Name := ℕ) (U := Pipeline.UD sig nD τ) (Lvl := ℕ) (q := fullShare) (ℓ := (c : Thread nD τ).loc cc0_scratch1) S4 S4_disjoint S4_cover f).trans (bigSep_four _))) $$ H
  icases H2 with ⟨H0, H1, H2, H3⟩
  isplitl [H0]
  · iexists f; iapply (entails_of_eq (slotP_eq c (0, 0) f).symm); iexact H0
  isplitl [H1]
  · iexists f; iapply (entails_of_eq (slotP_eq c (0, 1) f).symm); iexact H1
  isplitl [H2]
  · iexists f; iapply (entails_of_eq (slotP_eq c (1, 0) f).symm); iexact H2
  · iexists f; iapply (entails_of_eq (slotP_eq c (1, 1) f).symm); iexact H3
theorem stage_join (c : Dev nD) :
    (iprop((∃ f, slotP c 0 0 f) ∗ (∃ f, slotP c 0 1 f) ∗ (∃ f, slotP c 1 0 f) ∗ ∃ f, slotP c 1 1 f) : sProp 𝕄)
      ⊢ iprop(∃ f : Buf (Elt F) ((c : Thread nD τ).loc cc0_scratch1), ((c : Thread nD τ).loc cc0_scratch1) ↦{fullShare} f) := by
  iintro ⟨⟨%f0, H0⟩, ⟨%f1, H1⟩, ⟨%f2, H2⟩, ⟨%f3, H3⟩⟩
  iapply (Ring.pointsTo_blocks_join_exists (ℓ := (c : Thread nD τ).loc cc0_scratch1) S4 S4_disjoint S4_cover f0)
  irw [bigSep_four]
  isplitl [H0]
  · iexists f0; iapply (entails_of_eq (slotP_eq c (0, 0) f0)); iexact H0
  isplitl [H1]
  · iexists f1; iapply (entails_of_eq (slotP_eq c (0, 1) f1)); iexact H1
  isplitl [H2]
  · iexists f2; iapply (entails_of_eq (slotP_eq c (1, 0) f2)); iexact H2
  · iexists f3; iapply (entails_of_eq (slotP_eq c (1, 1) f3)); iexact H3

/-! ## What a step is given besides its windows -/

abbrev wqM : Memref sig .tc .vmem S13x4096x256 .bf16 := Memref.whole cc0_scratch0
abbrev xqM : Memref sig .tc .vmem S2x512x4096 .bf16 := Memref.whole cc0_scratch2

def H0 : Finset (Ref sig .tc) := {main_arg1}
theorem H0_sub : H0 ⊆ Pipeline.restRefs sig spec0 := by decide
theorem hbmPts0_eq (c : Dev nD) :
    (bigSep H0 (fun b => ((c : Thread nD τ).loc b) ↦{fullShare} V m c b) : sProp 𝕄)
      = (((c : Thread nD τ).loc main_arg1) ↦{fullShare} V m c main_arg1) := by
  rw [BI.bigSep_eq_bigSepL_of_eq [main_arg1] (by decide) (by decide)]; rfl

theorem pt_whole (c : Dev nD) (b : Ref sig .tc) (f : Buf (Elt F) ((c : Thread nD τ).loc b)) :
    (((c : Thread nD τ).loc b) ↦{fullShare} f : sProp 𝕄) = ((c : Thread nD τ).loc b ↦[(Memref.whole b).view.set]{fullShare} f) := by
  rw [View.set_whole]

/-- The region's invariant, its buffers named: the dequantised weights, the staging buffer's half-slots, the buffer of the
    quantised blocks, the generator register, the cells at zero, the weights' blocks at home. -/
theorem PhiD0_eq (c : Dev nD) :
    (Pipeline.ΦD osem0 spec0 H0 (V m) c : sProp 𝕄)
      = iprop(((∃ f, pt c wqM f) ∗ (∃ f : Buf (Elt F) ((c : Thread nD τ).loc cc0_scratch1), ((c : Thread nD τ).loc cc0_scratch1) ↦{fullShare} f) ∗ (∃ f, pt c xqM f))
          ∗ (∃ r, prngReg c r) ∗ (cellP c 0 0 ∗ cellP c 0 1 ∗ cellP c 1 0 ∗ cellP c 1 1)
          ∗ bigSep Finset.univ (homeP c (V m c main_arg1))) := by
  rw [Pipeline.ΦD_eq, scopedRest0_eq, ownSems00_eq, hbmPts0_eq, a_eq]
  simp only [pt, wqM, xqM, View.set_whole]; try rfl

theorem defs₀_row (t : Fin cfg0.N) : defs₀ (F := F) .tc cfg0.body (cfg0.bodyArgs t (cfg0.slots t)) = bodyAt0 t := by
  unfold defs₀; rw [Defs.onTc_tc]

theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem coords0 (t : Fin cfg0.N) : (grid0.coords t 0).val = t.val := by
  revert t; decide +kernel

end Cert.KernelIdeal.Pf

end
-- ==== Proof.KI.Run.lean ====
/-
  The frame of the kernel: it runs and ends, its arguments as they were, every semaphore at zero. What it leaves in its
  results is forgotten here.
-/
module

public import proofs.«01_k».proof.Proof.KI.Wire

@[expose] public section

noncomputable section

namespace Cert.KernelIdeal.Pf

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.Pipeline (Dat Cfg Window BodyObligation cellOf)
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The four results are forgotten, the two staged arguments are not. -/
def forgets0 : Fin 6 → Bool := fun w => match w with
  | ⟨0, _⟩ => false
  | ⟨1, _⟩ => false
  | _ => true

def datF (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨n + 2, h⟩ => Pipeline.Dat.unnamed (cfg := cfg0) ⟨n + 2, h⟩ t
  Φ _ := Pipeline.ΦD osem0 spec0 H0 (V m) c
  q _ := fullShare
  owed _ := 0

theorem A_eqF (c : Dev nD) (w : Fin cfg0.W) : (datF m 0 c).A w = V m c (Pipeline.arrRef spec0 w) := by dsimp only [datF]
theorem afterF0 (c : Dev nD) (t : Fin cfg0.N) : (datF m 0 c).after 0 t = iblk m c 0 t := by dsimp only [datF]
theorem afterF1 (c : Dev nD) (t : Fin cfg0.N) : (datF m 0 c).after 1 t = iblk m c 1 t := by dsimp only [datF]
theorem beforeF0 (c : Dev nD) (t : Fin cfg0.N) (d) : (datF m 0 c).before 0 t d = iblk m c 0 t :=
  before0_0_of m (datF m 0 c) (A_eqF m c 0) (afterF0 m c) t d
theorem beforeF1 (c : Dev nD) (t : Fin cfg0.N) (d) : (datF m 0 c).before 1 t d = iblk m c 1 t :=
  before0_1_of m (datF m 0 c) (A_eqF m c 1) (afterF1 m c) t d

/-- What step `t` works with. -/
def heldF (c : Dev nD) (t : Fin cfg0.N) : sProp 𝕄 :=
  iprop(Pipeline.ΦD osem0 spec0 H0 (V m) c ∗ (∃ W, owes (c : Thread nD τ) 0 W)
    ∗ owns (c : Thread nD τ) (st0_0 t) fullShare (iblk m c 0 t) ∗ owns (c : Thread nD τ) (st0_1 t) fullShare (iblk m c 1 t)
    ∗ (∃ d, owns (c : Thread nD τ) (st0_2 t) fullShare d) ∗ (∃ d, owns (c : Thread nD τ) (st0_3 t) fullShare d)
    ∗ (∃ d, owns (c : Thread nD τ) (st0_4 t) fullShare d) ∗ (∃ d, owns (c : Thread nD τ) (st0_5 t) fullShare d))

theorem sound_firstF (c : Dev nD) (t : Fin cfg0.N) (ht : t.val = 0) :
    heldF m c t ⊢ wp frame (wpE (defs₀ (F := F)) Variants.none c none) Set.univ (bodyAt0 t) (fun _ => heldF m c t) := by
  have h1 : k0_cond1 (grid0.coords t) = 1#1 := (cond1_iff _).2 ((coords0 t).trans ht)
  have h3 : ¬ k0_cond3 (grid0.coords t) = 1#1 := fun h => (cond3_iff _).1 h ((coords0 t).trans ht)
  unfold heldF
  rw [PhiD0_eq]
  unfold owns
  iintro ⟨⟨⟨⟨%f8, H8⟩, Hst, ⟨%f10, H10⟩⟩, Hg, ⟨Hc0, Hc1, Hc2, Hc3⟩, Hh⟩, HW, ⟨%f1, %e1, H1⟩, ⟨%f3, %e3, H3⟩, H4, H5, ⟨%d6, %f6, %e6, H6⟩, ⟨%d7, %f7, %e7, H7⟩⟩
  ihave Hst := (stage_split c) $$ Hst
  icases Hst with ⟨Hs0, Hs1, Hs2, Hs3⟩
  iapply (wp_wand_r Idealize.ShloMosaic.frame (wpE (defs₀ (F := F)) Variants.none (c : Thread nD τ) none) Set.univ)
  isplitl [H1 H3 H6 H7 H8 H10 Hh Hc0 Hc1 Hc2 Hc3 Hs0 Hs1 Hs2 Hs3 HW]
  · iapply (firstRun c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) wqM (Memref.isWhole_whole _) xqM (Memref.isWhole_whole _) h1 (V m c main_arg1) f3 h3 f1 f6 f7 f8 f10)
    isplitl [H1]; · iexact H1
    isplitl [H3]; · iexact H3
    isplitl [H6]; · iexact H6
    isplitl [H7]; · iexact H7
    isplitl [H8]; · iexact H8
    isplitl [H10]; · iexact H10
    isplitl [Hh]; · iexact Hh
    isplitl [Hc0 Hs0]
    · isplitl [Hc0]; · iexact Hc0
      iexact Hs0
    isplitl [Hc1 Hs1]
    · isplitl [Hc1]; · iexact Hc1
      iexact Hs1
    isplitl [Hc2 Hs2]
    · isplitl [Hc2]; · iexact Hc2
      iexact Hs2
    isplitl [Hc3 Hs3]
    · isplitl [Hc3]; · iexact Hc3
      iexact Hs3
    iexact HW
  · iintro %_ ⟨H1, H3, H6, H7, H8, H10, Hh, ⟨Hc0, Hs0⟩, ⟨Hc1, Hs1⟩, ⟨Hc2, Hs2⟩, ⟨Hc3, Hs3⟩, HW⟩
    ihave Hst := (stage_join c) $$ [Hs0 Hs1 Hs2 Hs3]
    · isplitl [Hs0]; · iexact Hs0
      isplitl [Hs1]; · iexact Hs1
      isplitl [Hs2]; · iexact Hs2
      iexact Hs3
    isplitl [H8 Hst H10 Hg Hc0 Hc1 Hc2 Hc3 Hh]
    · isplitl [H8 Hst H10]
      · isplitl [H8]; · iexists _; iexact H8
        isplitl [Hst]; · iexact Hst
        iexists _; iexact H10
      isplitl [Hg]; · iexact Hg
      isplitl [Hc0 Hc1 Hc2 Hc3]
      · isplitl [Hc0]; · iexact Hc0
        isplitl [Hc1]; · iexact Hc1
        isplitl [Hc2]; · iexact Hc2
        iexact Hc3
      iexact Hh
    isplitl [HW]; · iexact HW
    isplitl [H1]
    · iexists _; isplitr; · ipureintro; exact e1
      iexact H1
    isplitl [H3]
    · iexists _; isplitr; · ipureintro; exact e3
      iexact H3
    isplitl [H4]; · iexact H4
    isplitl [H5]; · iexact H5
    isplitl [H6]
    · iexists _; iexists _; isplitr
      swap; · iexact H6
      ipureintro; rfl
    iexists _; iexists _; isplitr
    swap; · iexact H7
    ipureintro; rfl

theorem sound_laterF (c : Dev nD) (t : Fin cfg0.N) (ht : t.val ≠ 0) :
    heldF m c t ⊢ wp frame (wpE (defs₀ (F := F)) Variants.none c none) Set.univ (bodyAt0 t) (fun _ => heldF m c t) := by
  have h1 : ¬ k0_cond1 (grid0.coords t) = 1#1 := fun h => ht ((coords0 t).symm.trans ((cond1_iff _).1 h))
  have h3 : k0_cond3 (grid0.coords t) = 1#1 := (cond3_iff _).2 fun h => ht ((coords0 t).symm.trans h)
  unfold heldF
  rw [PhiD0_eq]
  unfold owns
  iintro ⟨⟨⟨⟨%f8, H8⟩, Hst, ⟨%f10, H10⟩⟩, Hg, Hc, Hh⟩, HW, ⟨%f1, %e1, H1⟩, H3, ⟨%d4, %f4, %e4, H4⟩, ⟨%d5, %f5, %e5, H5⟩, ⟨%d6, %f6, %e6, H6⟩, ⟨%d7, %f7, %e7, H7⟩⟩
  iapply (wp_wand_r Idealize.ShloMosaic.frame (wpE (defs₀ (F := F)) Variants.none (c : Thread nD τ) none) Set.univ)
  isplitl [H1 H4 H5 H6 H7 H8 H10]
  · iapply ((laterRun c (grid0.coords t) (st0_0 t) (hstage0_0 ((cfg0.slots t 0).cast nbuf0_0)) aM (Memref.isWhole_whole _) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) wqM (Memref.isWhole_whole _) stM (Memref.isWhole_whole _) xqM (Memref.isWhole_whole _) cc0_scratch3 h1 h3 f1 f8 f10).2.2.2.2.2 Set.univ f4 f5 f6 f7)
    isplitl [H1]; · iexact H1
    isplitl [H4]; · iexact H4
    isplitl [H5]; · iexact H5
    isplitl [H6]; · iexact H6
    isplitl [H7]; · iexact H7
    isplitl [H8]; · iexact H8
    iexact H10
  · iintro %_ ⟨H1, H4, H5, H6, H7, H8, H10⟩
    isplitl [H8 Hst H10 Hg Hc Hh]
    · isplitl [H8 Hst H10]
      · isplitl [H8]; · iexists _; iexact H8
        isplitl [Hst]; · iexact Hst
        iexists _; iexact H10
      isplitl [Hg]; · iexact Hg
      isplitl [Hc]; · iexact Hc
      iexact Hh
    isplitl [HW]; · iexact HW
    isplitl [H1]
    · iexists _; isplitr; · ipureintro; exact e1
      iexact H1
    isplitl [H3]; · iexact H3
    isplitl [H4]
    · iexists _; iexists _; isplitr
      swap; · iexact H4
      ipureintro; rfl
    isplitl [H5]
    · iexists _; iexists _; isplitr
      swap; · iexact H5
      ipureintro; rfl
    isplitl [H6]
    · iexists _; iexists _; isplitr
      swap; · iexact H6
      ipureintro; rfl
    iexists _; iexists _; isplitr
    swap; · iexact H7
    ipureintro; rfl

def bodyPreF (c : Dev nD) (t : Fin cfg0.N) : sProp 𝕄 :=
  iprop((datF m 0 c).Φ t.castSucc ∗ (datF m 0 c).owesAt () t.castSucc
    ∗ (∃ d, owns (c : Thread nD τ) (st0_0 t) fullShare ((datF m 0 c).before 0 t d)) ∗ (∃ d, owns (c : Thread nD τ) (st0_1 t) fullShare ((datF m 0 c).before 1 t d))
    ∗ (∃ d, owns (c : Thread nD τ) (st0_2 t) fullShare d) ∗ (∃ d, owns (c : Thread nD τ) (st0_3 t) fullShare d)
    ∗ (∃ d, owns (c : Thread nD τ) (st0_4 t) fullShare d) ∗ (∃ d, owns (c : Thread nD τ) (st0_5 t) fullShare d))
def bodyPostF (c : Dev nD) (t : Fin cfg0.N) : sProp 𝕄 :=
  iprop((datF m 0 c).Φ t.succ ∗ (datF m 0 c).owesAt () t.succ
    ∗ owns (c : Thread nD τ) (st0_0 t) fullShare ((datF m 0 c).after 0 t) ∗ owns (c : Thread nD τ) (st0_1 t) fullShare ((datF m 0 c).after 1 t)
    ∗ (∃ d, owns (c : Thread nD τ) (st0_2 t) fullShare d) ∗ (∃ d, owns (c : Thread nD τ) (st0_3 t) fullShare d)
    ∗ (∃ d, owns (c : Thread nD τ) (st0_4 t) fullShare d) ∗ (∃ d, owns (c : Thread nD τ) (st0_5 t) fullShare d))

theorem sound_bodyF (c : Dev nD) (t : Fin cfg0.N) :
    bodyPreF m c t ⊢ wp frame (wpE (defs₀ (F := F)) Variants.none c none) Set.univ (bodyAt0 t) (fun _ => bodyPostF m c t) := by
  have h : heldF m c t ⊢ wp frame (wpE (defs₀ (F := F)) Variants.none c none) Set.univ (bodyAt0 t) (fun _ => heldF m c t) := by
    by_cases ht : t.val = 0
    · exact sound_firstF m c t ht
    · exact sound_laterF m c t ht
  unfold bodyPreF bodyPostF
  rw [show (datF m 0 c).Φ t.succ = Pipeline.ΦD osem0 spec0 H0 (V m) c from rfl, show (datF m 0 c).Φ t.castSucc = Pipeline.ΦD osem0 spec0 H0 (V m) c from rfl,
    afterF0, afterF1]
  simp only [beforeF0, beforeF1]
  unfold Dat.owesAt Pipeline.owesWithin
  rw [show (datF m 0 c).owed t.castSucc = 0 from rfl, show (datF m 0 c).owed t.succ = 0 from rfl]
  iintro ⟨HΦ, ⟨%W, -, HW⟩, ⟨%d0, H0⟩, ⟨%d1, H1⟩, H2, H3, H4, H5⟩
  iapply (wp_wand_r Idealize.ShloMosaic.frame (wpE (defs₀ (F := F)) Variants.none (c : Thread nD τ) none) Set.univ)
  isplitl [HΦ HW H0 H1 H2 H3 H4 H5]
  · iapply h
    unfold heldF
    isplitl [HΦ]; · iexact HΦ
    isplitl [HW]; · iexists _; iexact HW
    isplitl [H0]; · iexact H0
    isplitl [H1]; · iexact H1
    isplitl [H2]; · iexact H2
    isplitl [H3]; · iexact H3
    isplitl [H4]; · iexact H4
    iexact H5
  · unfold heldF
    iintro %_ ⟨HΦ, ⟨%W', HW⟩, H⟩
    isplitl [HΦ]; · iexact HΦ
    isplitl [HW]
    · iexists W'; isplitr; · ipureintro; exact fun _ _ => Or.inl trivial
      iexact HW
    iexact H

theorem body_obligationF (c : Dev nD) : BodyObligation (datF (F := F) m 0 c) (defs₀ (F := F)) Variants.none () Set.univ forgets0 := fun t => by
  rw [bigSep_W0, bigSep_W0, defs₀_row]
  exact triple_restated (sound_bodyF m c t) rfl .rfl fun _ => .rfl

set_option backward.isDefEq.respectTransparency.types false in
theorem run_mainF :
    θ_run defs (onTc (τ := τ) (main (F := F))) (s₀ m ρ)
      (fun r => Pipeline.RDat.FramePost (cfgs 0) (fun c => (datF m 0 c).toRForget forgets0) (V m) r ∧ r.2.sem = fun _ => 0) :=
  Pipeline.θ_run_frame_dma_forget (Q' := _) cfgs (datF m) (0 : Fin 1) launch0 osem0 defs₀ Variants.none forgets0 ownSemFacts0 H0 H0_sub m ρ main
    (hbody := fun c => (body_obligationF m c).loose) (hshare := fun c => (datF m 0 c).share_full fun _ => rfl)
    (howed := fun _ _ => rfl) (V := V m) (hmain := hmain m Variants.none) (hA := A_eqF m)
    (hin := fun _ => .rfl) (hout := fun _ => .rfl)

/-- The kernel runs, its arguments unchanged, every semaphore at zero at the end. -/
theorem frameF : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => ⟨
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      (Eq.mp (congrFun (Pipeline.RDat.ArrAt_in ((datF m 0 c).toRForget forgets0) 1 rfl _) _) ((h.1 c).1 1)).trans ((A_eqF m c 1).trans (V_main_arg2 m c))⟩, h.2⟩) (run_mainF m ρ)

end Cert.KernelIdeal.Pf

end
-- ==== Proof.Scale.lean ====
module

public import Idealize.ShloMosaic.PureOps.Ideal
public import Idealize.ShloMosaic.Lib.IdealHost

/-!
# The power-of-two scale, two ways

The kernel forms the scale of a group by integer arithmetic on the bits of a float; the reference by `exp2` of an
exponent. Over the extended reals the two agree at every argument, zero and the infinities among them.
-/

@[expose] public section

noncomputable section

namespace Cert.Quant

open Idealize.ShloMosaic

/-- The logarithm to base two, as both programs write it. -/
def lg (q : EReal) : EReal := Ideal.liftRound Int.floor (Ideal.div (Ideal.log q) (Ideal.log (Ideal.ofBits .f32 0x40000000#32)))

/-- The exponent of the reference's scale. -/
def expo (q : EReal) : EReal :=
  if q < Ideal.ofBits .f32 0x00800000#32 then Ideal.ofBits .f32 0x00000000#32
  else min (lg q + Ideal.ofBits .f32 0x3F800000#32) (Ideal.ofBits .f32 0x42F00000#32)

/-- The kernel's clipped exponent field, shifted to its place: the bits of the power of two below `q`. -/
def fieldBits (q : EReal) : BitVec 32 :=
  (Ideal.fptosi 32 (min (((119#32 : BitVec 32).toInt : ℝ) : EReal) (max (((4294967169#32 : BitVec 32).toInt : ℝ) : EReal) (lg q)))
    + 127#32) * 8388608#32

/-- The bits of the kernel's scale. -/
def scaleBits (q : EReal) : BitVec 32 :=
  if (fieldBits q).slt 8388608#32 then 1065353216#32 else (fieldBits q &&& 2139095040#32) + 8388608#32

/-- The float whose exponent field is `k` and whose fraction is zero is a power of two. -/
theorem ofBits_field (k : ℕ) (h0 : 1 ≤ k) (h1 : k ≤ 254) :
    Ideal.ofBits .f32 (BitVec.ofNat 32 (k * 8388608)) = (((2 : ℝ) ^ ((k : ℤ) - 127) : ℝ) : EReal) := by
  have key : ∀ k : Fin 255, ((BitVec.ofNat 32 (k.val * 8388608)).extractLsb' 23 8).toNat = k.val
      ∧ ((BitVec.ofNat 32 (k.val * 8388608)).extractLsb' 0 23).toNat = 0
      ∧ ((BitVec.ofNat 32 (k.val * 8388608)).extractLsb' 31 1 == 1#1) = false := by decide +kernel
  obtain ⟨e1, e2, e3⟩ := key ⟨k, by omega⟩
  simp only at e1 e2 e3
  have e4 : ¬ k = 2 ^ 8 - 1 := by omega
  have e5 : ¬ k = 0 := by omega
  unfold Ideal.ofBits Ideal.ieee
  simp only [e1, e2, e3, if_neg e4, if_neg e5]
  congr 1
  have : (k : ℤ) - (2 ^ (8 - 1) - 1) - 23 = ((k : ℤ) - 127) + (-23) := by norm_num; ring
  simp only [Nat.cast_ofNat, this]
  rw [zpow_add₀ (by norm_num)]
  norm_num
  ring

/-- The scale bits as a function of the clipped exponent. -/
theorem bits_of_exp (c : ℤ) (h0 : -127 ≤ c) (h1 : c ≤ 119) :
    (if ((BitVec.ofInt 32 c + 127#32) * 8388608#32).slt 8388608#32 then (1065353216#32 : BitVec 32)
      else ((BitVec.ofInt 32 c + 127#32) * 8388608#32 &&& 2139095040#32) + 8388608#32)
      = BitVec.ofNat 32 ((if c = -127 then 127 else (c + 128).toNat) * 8388608)
    ∧ 2130706432#32 - BitVec.ofNat 32 ((if c = -127 then 127 else (c + 128).toNat) * 8388608)
      = BitVec.ofNat 32 ((254 - (if c = -127 then 127 else (c + 128).toNat)) * 8388608) := by
  have key : ∀ k : Fin 247,
      (if ((BitVec.ofInt 32 ((k.val : ℤ) - 127) + 127#32) * 8388608#32).slt 8388608#32 then (1065353216#32 : BitVec 32)
        else ((BitVec.ofInt 32 ((k.val : ℤ) - 127) + 127#32) * 8388608#32 &&& 2139095040#32) + 8388608#32)
        = BitVec.ofNat 32 ((if ((k.val : ℤ) - 127) = -127 then 127 else (((k.val : ℤ) - 127) + 128).toNat) * 8388608)
      ∧ 2130706432#32 - BitVec.ofNat 32 ((if ((k.val : ℤ) - 127) = -127 then 127 else (((k.val : ℤ) - 127) + 128).toNat) * 8388608)
        = BitVec.ofNat 32 ((254 - (if ((k.val : ℤ) - 127) = -127 then 127 else (((k.val : ℤ) - 127) + 128).toNat)) * 8388608) := by
    decide +kernel
  have h := key ⟨(c + 127).toNat, by omega⟩
  have e : (((c + 127).toNat : ℕ) : ℤ) - 127 = c := by omega
  simp only [e] at h
  exact h

theorem ofBits_two : Ideal.ofBits .f32 0x40000000#32 = ((2 : ℝ) : EReal) := by
  have h := ofBits_field 128 (by norm_num) (by norm_num)
  norm_num at h ⊢
  exact h
theorem ofBits_tiny : Ideal.ofBits .f32 0x00800000#32 = (((2 : ℝ) ^ (-126 : ℤ) : ℝ) : EReal) := by
  have h := ofBits_field 1 (by norm_num) (by norm_num)
  norm_num at h ⊢
  exact h
theorem ofBits_120 : Ideal.ofBits .f32 0x42F00000#32 = ((120 : ℝ) : EReal) := by
  simp [Ideal.ofBits, Ideal.ieee, -EReal.coe_mul]; norm_num

theorem log_two_pos : 0 < Real.log 2 := Real.log_pos (by norm_num)

theorem log_ofBits_two : Ideal.log (Ideal.ofBits .f32 0x40000000#32) = ((Real.log 2 : ℝ) : EReal) := by
  rw [ofBits_two, Ideal.log_coe, if_neg (by norm_num)]

theorem lg_pos (r : ℝ) (h : 0 < r) : lg (r : EReal) = (((⌊Real.log r / Real.log 2⌋ : ℤ) : ℝ) : EReal) := by
  unfold lg
  rw [log_ofBits_two, Ideal.log_coe, if_neg (by linarith), Ideal.div_coe log_two_pos.ne', ← EReal.coe_mul, mul_one_div]
  rfl

theorem lg_bot_of (q : EReal) (h : Ideal.log q = ⊥) : lg q = ⊥ := by
  unfold lg
  rw [log_ofBits_two, h, Ideal.div_coe log_two_pos.ne', EReal.bot_mul_coe_of_pos (by have := log_two_pos; positivity)]
  rfl

theorem lg_top : lg ⊤ = ⊤ := by
  unfold lg
  rw [log_ofBits_two, Ideal.log_top, Ideal.div_coe log_two_pos.ne', EReal.top_mul_coe_of_pos (by have := log_two_pos; positivity)]
  rfl

/-- The exponent the kernel clips to, and the reference's exponent in terms of it. -/
theorem clip_expo (q : EReal) : ∃ c : ℤ, -127 ≤ c ∧ c ≤ 119
    ∧ Ideal.fptosi 32 (min (((119#32 : BitVec 32).toInt : ℝ) : EReal) (max (((4294967169#32 : BitVec 32).toInt : ℝ) : EReal) (lg q))) = BitVec.ofInt 32 c
    ∧ expo q = (((if c = -127 then 0 else c + 1 : ℤ) : ℝ) : EReal) := by
  have t1 : (119#32 : BitVec 32).toInt = 119 := by decide
  have t2 : (4294967169#32 : BitVec 32).toInt = -127 := by decide
  have conv : ∀ c : ℤ, -127 ≤ c → c ≤ 119 → Ideal.fptosi 32 (((c : ℝ)) : EReal) = BitVec.ofInt 32 c := by
    intro c h0 h1
    unfold Ideal.fptosi
    rw [Ideal.toIntClamped_coe]
    congr 1
    simp only [Int.floor_intCast, Int.ceil_intCast, ite_self]
    norm_num
    omega
  rw [t1, t2]
  have low : ∀ q : EReal, lg q = ⊥ → q < Ideal.ofBits .f32 0x00800000#32 → ∃ c : ℤ, -127 ≤ c ∧ c ≤ 119
      ∧ Ideal.fptosi 32 (min (((119 : ℤ) : ℝ) : EReal) (max (((-127 : ℤ) : ℝ) : EReal) (lg q))) = BitVec.ofInt 32 c
      ∧ expo q = (((if c = -127 then 0 else c + 1 : ℤ) : ℝ) : EReal) := by
    intro q hq hlt
    refine ⟨-127, le_refl _, by norm_num, ?_, ?_⟩
    · rw [hq, max_eq_left bot_le, min_eq_right (by exact_mod_cast (by norm_num : (-127 : ℤ) ≤ 119))]
      exact conv _ (by norm_num) (by norm_num)
    · unfold expo
      rw [if_pos hlt, Ideal.ofBits_zero_f32]; simp
  induction q with
  | bot => exact low ⊥ (lg_bot_of _ rfl) (by rw [ofBits_tiny]; exact EReal.bot_lt_coe _)
  | top =>
    refine ⟨119, by norm_num, le_refl _, ?_, ?_⟩
    · rw [lg_top, max_eq_right le_top, min_eq_left le_top]
      exact conv _ (by norm_num) (by norm_num)
    · unfold expo
      rw [if_neg (by exact not_lt.mpr le_top), lg_top, Ideal.ofBits_one_f32, ofBits_120]
      have : (⊤ : EReal) + 1 = ⊤ := by exact_mod_cast EReal.top_add_coe 1
      rw [this, min_eq_right le_top]; norm_num
  | coe r =>
    by_cases h : r ≤ 0
    · refine low r (lg_bot_of _ (by rw [Ideal.log_coe, if_pos h])) ?_
      rw [ofBits_tiny]
      exact EReal.coe_lt_coe_iff.mpr (lt_of_le_of_lt h (by positivity))
    · push Not at h
      have hl := lg_pos r h
      set n : ℤ := ⌊Real.log r / Real.log 2⌋ with hn
      refine ⟨min 119 (max (-127) n), by omega, by omega, ?_, ?_⟩
      · rw [hl, ← conv _ (by omega) (by omega)]
        congr 1
        push_cast
        rfl
      · have hlt : (r : EReal) < Ideal.ofBits .f32 0x00800000#32 ↔ n < -126 := by
          rw [ofBits_tiny, EReal.coe_lt_coe_iff, hn, Int.floor_lt, div_lt_iff₀ log_two_pos]
          have : (((-126 : ℤ) : ℝ)) * Real.log 2 = Real.log ((2 : ℝ) ^ (-126 : ℤ)) := by rw [Real.log_zpow]
          rw [this, Real.log_lt_log_iff h (by positivity)]
        unfold expo
        by_cases h2 : n < -126
        · rw [if_pos (hlt.mpr h2), Ideal.ofBits_zero_f32, if_pos (by omega)]; simp
        · rw [if_neg (mt hlt.mp h2), if_neg (by omega), hl, Ideal.ofBits_one_f32, ofBits_120]
          have e1 : ((((n : ℤ) : ℝ) : EReal) + 1) = (((n + 1 : ℤ) : ℝ) : EReal) := by push_cast; rfl
          have e2 : ((120 : ℝ) : EReal) = (((120 : ℤ) : ℝ) : EReal) := by norm_num
          rw [e1, e2, ← EReal.coe_strictMono.monotone.map_min, ← Int.cast_min]
          congr 1
          congr 1
          omega

/-- The kernel's scale is the reference's. -/
theorem scale_eq (q : EReal) : Ideal.ofBits .f32 (scaleBits q) = Ideal.exp2 (expo q) := by
  obtain ⟨c, h0, h1, e1, e2⟩ := clip_expo q
  unfold scaleBits fieldBits
  rw [e1, (bits_of_exp c h0 h1).1, e2, Ideal.exp2_coe, ofBits_field _ (by split_ifs <;> omega) (by split_ifs <;> omega)]
  congr 1
  rw [Real.rpow_eq_pow, Real.rpow_intCast]
  congr 1
  split_ifs <;> omega

/-- The kernel's inverse scale is the reference's. -/
theorem inv_eq (q : EReal) :
    Ideal.ofBits .f32 (2130706432#32 - scaleBits q) = Ideal.exp2 (Ideal.ofBits .f32 0x00000000#32 - expo q) := by
  obtain ⟨c, h0, h1, e1, e2⟩ := clip_expo q
  unfold scaleBits fieldBits
  rw [e1, (bits_of_exp c h0 h1).1, (bits_of_exp c h0 h1).2, e2, Ideal.ofBits_zero_f32, zero_sub, ← EReal.coe_neg, Ideal.exp2_coe,
    ofBits_field _ (by split_ifs <;> omega) (by split_ifs <;> omega)]
  congr 1
  rw [Real.rpow_eq_pow, ← Int.cast_neg, Real.rpow_intCast]
  congr 1
  split_ifs <;> omega

end Cert.Quant
-- ==== Proof.KI.Tile.lean ====
/-
  One group of 128 lanes, quantised: what the kernel computes of a tile of 128 rows, element by element.
-/
module

public import proofs.«01_k».proof.Proof.Scale
public import proofs.«01_k».proof.Proof.Gen.KernelIdeal.Skeleton
public import Idealize.ShloMosaic.Lib.Pointwise

@[expose] public section

set_option maxRecDepth 16384

noncomputable section

namespace Cert.Quant

open Idealize.ShloMosaic

/-- The greatest magnitude of a group, over the greatest code. -/
def ratio (v : Fin 128 → EReal) : EReal :=
  (Finset.univ.fold max (⊥ : EReal) fun k => max (v k) (-v k)) * Ideal.ofBits .f32 0x3B124925#32
/-- The scale of a group: the power of two above its ratio. -/
def scale (v : Fin 128 → EReal) : EReal := Ideal.exp2 (expo (ratio v))
/-- The code of one lane of a group. -/
def code (v : Fin 128 → EReal) (l : Fin 128) : EReal :=
  min (Ideal.ofBits .f32 0x43E00000#32) (max (Ideal.ofBits .f32 0xC3E00000#32)
    (v l * Ideal.exp2 (0 - expo (ratio v))))
/-- The lane as its code stands for it. -/
def deq (v : Fin 128 → EReal) (l : Fin 128) : EReal := code v l * scale v

/-- The tanh form of GELU. -/
def gelu (g : EReal) : EReal :=
  g * (Ideal.ofBits .f32 0x3F000000#32 * (Ideal.ofBits .f32 0x3F800000#32
    + Ideal.tanh (Ideal.ofBits .f32 0x3F4C422A#32 * (g + Ideal.ofBits .f32 0x3D372713#32 * (g * (g * g))))))

theorem select_slt {α : Type} (a b : BitVec 32) (x y : α) :
    Scalar.select (IntOp.cmpi .slt a b) x y = if a.slt b then x else y := by
  unfold Scalar.select IntOp.cmpi
  cases h : a.slt b <;> simp [h]

theorem select_eq {α : Type} (a b : ℕ) (ha : a < 2 ^ 32) (hb : b < 2 ^ 32) (x y : α) :
    Scalar.select (IntOp.cmpi .eq (BitVec.ofNat 32 a) (BitVec.ofNat 32 b)) x y = if a = b then x else y := by
  have e : (BitVec.ofNat 32 a = BitVec.ofNat 32 b) ↔ a = b := by
    rw [← BitVec.toNat_inj, BitVec.toNat_ofNat, BitVec.toNat_ofNat, Nat.mod_eq_of_lt ha, Nat.mod_eq_of_lt hb]
  unfold Scalar.select IntOp.cmpi
  by_cases h : a = b
  · simp [h]
  · have h' : BitVec.ofNat 32 a ≠ BitVec.ofNat 32 b := fun q => h (e.1 q)
    have h'' : (BitVec.ofNat 32 a == BitVec.ofNat 32 b) = false := by simpa using h'
    simp [h, h'']

theorem ninf16 : Ideal.ofBits .bf16 0xFF80#16 = ⊥ := by simp [Ideal.ofBits, Ideal.ieee]
theorem zero32 : Ideal.ofBits .f32 0x00000000#32 = 0 := by simp [Ideal.ofBits, Ideal.ieee]
theorem inv_eq' (q : EReal) : Ideal.ofBits .f32 (IntOp.subi 2130706432#32 (scaleBits q)) = Ideal.exp2 (0 - expo q) :=
  (inv_eq q).trans (by rw [zero32])
theorem ninf32 : Ideal.ofBits .f32 0xFF800000#32 = ⊥ := by simp [Ideal.ofBits, Ideal.ieee]

end Cert.Quant

namespace Cert.KernelIdeal.Pf

open Cert.KernelIdeal Cert.KernelIdeal.Gen Cert.Quant
open Idealize.ShloMosaic

/-! ## A tile of `x` -/

section
variable {F : FTy → Type} [FloatOps F]
/-- The codes of a tile, -/
def tCodes (T : Vec F S128x128 .bf16) : FVec F S128x128 .fp8e4m3 := k0_pay10 (k0_pay6 T) (k0_pay9 T)
/-- its scales, -/
def tScale (T : Vec F S128x128 .bf16) : FVec F S128x1 .f32 := k0_pay8 T
/-- and the tile dequantised. -/
def tDeq (T : Vec F S128x128 .bf16) : Vec F S1x128x128 .bf16 := k0_pay11 (k0_pay6 T) (k0_pay8 T) (k0_pay9 T)
/-- Column `n` of the scales put in. -/
def putX (n : BitVec 32) (s : FVec F S128x1 .f32) (acc : FVec F S128x32 .f32) : FVec F S128x32 .f32 :=
  select (cmpi .eq (iota .tc S128x32 32 [1] iota_S128x32_d1_w32) (broadcast S128x32 n))
    (broadcastTo S128x32 (shapeCast S128x1 s shapeCasts_S128x1_S128x1) broadcasts_S128x1_S128x32) acc
/-- The hidden block, -/
def hVal (A : Vec F S1x512x4096 .bf16) (W : Vec F S1x4096x256 .bf16) : FVec F S512x128 .f32 := k0_pay1245 A W
/-- its scales, -/
def hScale (A : Vec F S1x512x4096 .bf16) (W : Vec F S1x4096x256 .bf16) : FVec F S512x1 .f32 := k0_pay1247 (hVal A W)
/-- its codes, -/
def hCodes (A : Vec F S1x512x4096 .bf16) (W : Vec F S1x4096x256 .bf16) : FVec F S512x128 .fp8e4m3 := k0_pay1248 (hVal A W)
/-- and a column of its scales put in. -/
def putH (n : BitVec 32) (s : FVec F S512x1 .f32) (acc : FVec F S512x13 .f32) : FVec F S512x13 .f32 :=
  select (cmpi .eq (iota .tc S512x13 32 [1] iota_S512x13_d1_w32) (broadcast S512x13 n))
    (broadcastTo S512x13 (shapeCast S512x1 s shapeCasts_S512x1_S512x1) broadcasts_S512x1_S512x13) acc
end

theorem pay7_apply (T : Vec Ideal S128x128 .bf16) (r : Fin 128) (u : Fin 1) :
    k0_pay7 T (ix2 r u) = scaleBits (ratio fun k => T (ix2 r k)) := by
  unfold k0_pay7 k0_pay6
  pointwise
  rw [select_slt, ninf16]
  rfl

theorem tScale_apply (T : Vec Ideal S128x128 .bf16) (r : Fin 128) (u : Fin 1) :
    tScale T (ix2 r u) = scale fun k => T (ix2 r k) := by
  unfold tScale k0_pay8
  pointwise
  rw [pay7_apply]
  exact scale_eq _

theorem pay9_apply (T : Vec Ideal S128x128 .bf16) (r l : Fin 128) :
    k0_pay9 T (ix2 r l) = Ideal.exp2 (0 - expo (ratio fun k => T (ix2 r k))) := by
  unfold k0_pay9
  pointwise
  rw [pay7_apply]
  exact inv_eq' _

theorem tCodes_apply (T : Vec Ideal S128x128 .bf16) (r l : Fin 128) :
    tCodes T (ix2 r l) = code (fun k => T (ix2 r k)) l := by
  unfold tCodes k0_pay10 k0_pay6
  pointwise
  rw [pay9_apply]
  rfl

theorem tDeq_apply (T : Vec Ideal S128x128 .bf16) (u : Fin 1) (r l : Fin 128) :
    tDeq T (ix3 u r l) = deq (fun k => T (ix2 r k)) l := by
  have h1 := tCodes_apply T r l
  have h2 := tScale_apply T r 0
  unfold tCodes at h1
  unfold tScale at h2
  unfold tDeq k0_pay11
  pointwise
  rw [h1, h2]
  rfl

theorem putX_apply (n : Fin 32) (s : FVec Ideal S128x1 .f32) (acc : FVec Ideal S128x32 .f32) (r : Fin 128) (g : Fin 32) :
    putX (BitVec.ofNat 32 n.val) s acc (ix2 r g) = if g = n then s (ix2 r 0) else acc (ix2 r g) := by
  unfold putX
  pointwise
  rw [select_eq _ _ (by omega) (by omega)]
  simp only [Fin.ext_iff]

/-! ## A hidden block -/

/-- One element of the hidden block: the gated product of two contractions. -/
def hid (a : Fin 4096 → EReal) (wg wu : Fin 4096 → EReal) : EReal := gelu (∑ k, a k * wg k) * ∑ k, a k * wu k

theorem hVal_apply (A : Vec Ideal S1x512x4096 .bf16) (W : Vec Ideal S1x4096x256 .bf16) (r : Fin 512) (l : Fin 128) :
    hVal A W (ix2 r l) = hid (fun k => A (ix3 0 r k)) (fun k => W (ix3 0 k ⟨l.val, by omega⟩)) (fun k => W (ix3 0 k ⟨128 + l.val, by omega⟩)) := by
  unfold hVal k0_pay1245 hid gelu
  pointwise

theorem pay1246_apply (V : FVec Ideal S512x128 .f32) (r : Fin 512) (u : Fin 1) :
    k0_pay1246 V (ix2 r u) = scaleBits (ratio fun k => V (ix2 r k)) := by
  unfold k0_pay1246
  pointwise
  rw [select_slt, ninf32]
  rfl

theorem hScale_apply (A : Vec Ideal S1x512x4096 .bf16) (W : Vec Ideal S1x4096x256 .bf16) (r : Fin 512) (u : Fin 1) :
    hScale A W (ix2 r u) = scale fun k => hVal A W (ix2 r k) := by
  unfold hScale k0_pay1247
  pointwise
  rw [pay1246_apply]
  exact scale_eq _

theorem hCodes_apply (A : Vec Ideal S1x512x4096 .bf16) (W : Vec Ideal S1x4096x256 .bf16) (r : Fin 512) (l : Fin 128) :
    hCodes A W (ix2 r l) = code (fun k => hVal A W (ix2 r k)) l := by
  unfold hCodes k0_pay1248
  pointwise
  rw [pay1246_apply, inv_eq']
  rfl

theorem putH_apply (n : Fin 13) (s : FVec Ideal S512x1 .f32) (acc : FVec Ideal S512x13 .f32) (r : Fin 512) (g : Fin 13) :
    putH (BitVec.ofNat 32 n.val) s acc (ix2 r g) = if g = n then s (ix2 r 0) else acc (ix2 r g) := by
  unfold putH
  pointwise
  rw [select_eq _ _ (by omega) (by omega)]
  simp only [Fin.ext_iff]

/-- A row block of the weights, dequantised. -/
theorem pay1_apply (S : Vec Ideal S1x1x128x128 .fp8e4m3) (v : EReal) (u : Fin 1) (r l : Fin 128) :
    k0_pay1 S v (ix3 u r l) = S (ix4 0 0 r l) * v := by
  unfold k0_pay1
  pointwise
theorem pay2_apply (S : Vec Ideal S1x1x128x128 .fp8e4m3) (v : EReal) (u : Fin 1) (r l : Fin 128) :
    k0_pay2 S v (ix3 u r l) = S (ix4 0 0 r l) * v := by
  unfold k0_pay2
  pointwise

end Cert.KernelIdeal.Pf
-- ==== Proof.KI.Pieces.lean ====
/-
  What the kernel's stores hold, block by block: a tile's codes, its dequantised rows in a slot, and its scales column by
  column, each as one function of the block the tile was read from.
-/
module

public import proofs.«01_k».proof.Proof.KI.Tile
public import proofs.«01_k».proof.Proof.KI.Offsets
public import Idealize.ShloMosaic.Lib.Pipeline.FrameBody
public import Idealize.ShloMosaic.Lib.Pipeline.ReadBack

@[expose] public section

noncomputable section

namespace Cert.Quant
open Idealize.ShloMosaic

/-- 128 consecutive values of a row, -/
def grp {n m : ℕ} (X : (⟨2, ![n, m]⟩ : Shape).Idx → EReal) (r : Fin n) (g : ℕ) (hg : 128 * g + 128 ≤ m) : Fin 128 → EReal :=
  fun k => X (ix2 r ⟨128 * g + k.val, by omega⟩)
theorem grp_le {m : ℕ} (hm : m % 128 = 0) (j : Fin m) : 128 * (j.val / 128) + 128 ≤ m := by omega
/-- the codes of a matrix, each group of 128 in a row quantised by itself, -/
def bC {n m : ℕ} (hm : m % 128 = 0) (X : (⟨2, ![n, m]⟩ : Shape).Idx → EReal) : (⟨2, ![n, m]⟩ : Shape).Idx → EReal :=
  fun y => code (grp X (y 0) ((y 1 : Fin m).val / 128) (grp_le hm _)) ⟨(y 1 : Fin m).val % 128, Nat.mod_lt _ (by decide)⟩
/-- its values dequantised, -/
def bD {n m : ℕ} (hm : m % 128 = 0) (X : (⟨2, ![n, m]⟩ : Shape).Idx → EReal) : (⟨2, ![n, m]⟩ : Shape).Idx → EReal :=
  fun y => deq (grp X (y 0) ((y 1 : Fin m).val / 128) (grp_le hm _)) ⟨(y 1 : Fin m).val % 128, Nat.mod_lt _ (by decide)⟩
theorem bS_le {m G : ℕ} (hm : 128 * G = m) (j : Fin G) : 128 * j.val + 128 ≤ m := by omega
/-- and its scales. -/
def bS {n m G : ℕ} (hm : 128 * G = m) (X : (⟨2, ![n, m]⟩ : Shape).Idx → EReal) : (⟨2, ![n, G]⟩ : Shape).Idx → EReal :=
  fun y => scale (grp X (y 0) (y 1 : Fin G).val (bS_le hm (y 1)))

end Cert.Quant

namespace Cert.KernelIdeal.Pf

open Cert.KernelIdeal Cert.KernelIdeal.Gen Cert.Quant
open Idealize.ShloMosaic Idealize.ShloMosaic.Tactic

variable {sp : Space} {v : View sig .tc sp S512x4096 .bf16} {f1 : v.ty.Contents (Elt Ideal)}

/-- The tile of a block at an offset. -/
abbrev tileAt (v : View sig .tc sp S512x4096 .bf16) (f1 : v.ty.Contents (Elt Ideal)) {o : Fin 2 → ℕ}
    (inb : ∀ a, o a + S128x128.size a ≤ S512x4096.size a) : Vec Ideal S128x128 .bf16 :=
  v.readAt (Elt Ideal) (Rect.unit (s := S512x4096) o S128x128.size inb).toLoadRect f1

theorem tileAt_row {o : Fin 2 → ℕ} (inb : ∀ a, o a + S128x128.size a ≤ S512x4096.size a) (h1 : o 1 % 128 = 0) (r : Fin 128)
    (y : Fin 512) (hy : y.val = o 0 + r.val) (g : ℕ) (hg : o 1 / 128 = g) (hg' : 128 * g + 128 ≤ 4096) :
    (fun k => tileAt v f1 inb (ix2 r k)) = grp (v.read (Elt Ideal) f1) y g hg' := by
  funext k
  unfold grp
  show v.read (Elt Ideal) f1 _ = _
  refine congrArg (v.read (Elt Ideal) f1) (funext fun a => Fin.ext ?_)
  match a with
  | ⟨0, _⟩ => show o 0 + 1 * r.val = y.val; omega
  | ⟨1, _⟩ => show o 1 + 1 * k.val = 128 * g + k.val; omega

theorem piece_codes {o : Fin 2 → ℕ} {inb : ∀ a, o a + S128x128.size a ≤ S512x4096.size a} (h1 : o 1 % 128 = 0)
    {pay : FVec Ideal S128x128 .fp8e4m3} (hp : pay = tCodes (tileAt v f1 inb)) (x : S128x128.Idx) :
    pay x = bC (n := 512) (m := 4096) (by decide) (v.read (Elt Ideal) f1) ((Rect.unit (s := S512x4096) o S128x128.size inb).emb x) := by
  subst hp
  obtain ⟨r, l, rfl⟩ : ∃ r l, x = ix2 r l := ⟨x 0, x 1, eq_ix2 x⟩
  have hl : l.val < 128 := l.isLt
  rw [tCodes_apply]
  unfold bC
  have e : ((Rect.unit (s := S512x4096) o S128x128.size inb).emb (ix2 r l) 1).val = o 1 + 1 * l.val := rfl
  rw [tileAt_row inb h1 r ((Rect.unit (s := S512x4096) o S128x128.size inb).emb (ix2 r l) 0) (show o 0 + 1 * r.val = _ by omega) _ rfl
    (by have := inb 1; change o 1 + 128 ≤ 4096 at this; omega)]
  congr 1
  · congr 1; show _ = (o 1 + 1 * l.val) / 128; omega
  · refine Fin.ext ?_; show l.val = (o 1 + 1 * l.val) % 128; omega

theorem piece_deq {o : Fin 2 → ℕ} {inb : ∀ a, o a + S128x128.size a ≤ S512x4096.size a} (h1 : o 1 % 128 = 0)
    {o' : Fin 3 → ℕ} {inb' : ∀ a, o' a + S1x128x128.size a ≤ S2x512x4096.size a} (h0' : o' 1 = o 0) (h1' : o' 2 = o 1)
    {pay : Vec Ideal S1x128x128 .bf16} (hp : pay = tDeq (tileAt v f1 inb)) (x : S1x128x128.Idx) :
    pay x = (fun y : S2x512x4096.Idx => bD (n := 512) (m := 4096) (by decide) (v.read (Elt Ideal) f1) (ix2 (y 1) (y 2)))
      ((Rect.unit (s := S2x512x4096) o' S1x128x128.size inb').emb x) := by
  subst hp
  obtain ⟨u, r, l, rfl⟩ : ∃ u r l, x = ix3 u r l := ⟨x 0, x 1, x 2, eq_ix3 x⟩
  have hl : l.val < 128 := l.isLt
  rw [tDeq_apply]
  dsimp only
  unfold bD
  rw [tileAt_row inb h1 r ((Rect.unit (s := S2x512x4096) o' S1x128x128.size inb').emb (ix3 u r l) 1) (show o' 1 + 1 * r.val = _ by omega) _ rfl
    (by have := inb 1; change o 1 + 128 ≤ 4096 at this; omega)]
  congr 1
  · congr 1; show _ = (o' 2 + 1 * l.val) / 128; omega
  · refine Fin.ext ?_; show l.val = (o' 2 + 1 * l.val) % 128; omega

/-- The first `n` columns of the scales of 128 rows from row `R` are in. -/
def Good (v : View sig .tc sp S512x4096 .bf16) (f1 : v.ty.Contents (Elt Ideal)) (R : ℕ) (hR : R + 128 ≤ 512) (n : ℕ) (acc : FVec Ideal S128x32 .f32) : Prop :=
  ∀ (r : Fin 128) (g : Fin 32), g.val < n →
    acc (ix2 r g) = bS (n := 512) (m := 4096) (G := 32) (by decide) (v.read (Elt Ideal) f1) (ix2 ⟨R + r.val, by omega⟩ g)

theorem Good.zero {R : ℕ} {hR : R + 128 ≤ 512} {acc : FVec Ideal S128x32 .f32} : Good v f1 R hR 0 acc := fun _ _ h => absurd h (Nat.not_lt_zero _)

/-- The scales of `n` tiles, put in column by column. -/
def cols (T : ℕ → Vec Ideal S128x128 .bf16) : ℕ → FVec Ideal S128x32 .f32
  | 0 => k0_pay5
  | n + 1 => putX (BitVec.ofNat 32 n) (tScale (T n)) (cols T n)

theorem Good.cols {R : ℕ} {hR : R + 128 ≤ 512} (T : ℕ → Vec Ideal S128x128 .bf16)
    (hT : ∀ (n : ℕ) (hn : n < 32) (r : Fin 128), (fun k => T n (ix2 r k)) = grp (v.read (Elt Ideal) f1) ⟨R + r.val, by omega⟩ n (by omega)) :
    ∀ n, n ≤ 32 → Good v f1 R hR n (cols T n)
  | 0, _ => Good.zero
  | n + 1, hn => fun r g hg => by
    unfold Pf.cols
    rw [putX_apply ⟨n, by omega⟩]
    by_cases hgn : g = ⟨n, by omega⟩
    · rw [if_pos hgn, tScale_apply, hT n (by omega) r, hgn]
      rfl
    · rw [if_neg hgn]
      refine Good.cols (hR := hR) T hT n (by omega) r g ?_
      have : g.val ≠ n := fun q => hgn (Fin.ext q)
      omega

theorem piece_scales {R : ℕ} {hR : R + 128 ≤ 512} {o : Fin 2 → ℕ} {inb : ∀ a, o a + S128x32.size a ≤ S512x32.size a} (h0 : o 0 = R) (h1 : o 1 = 0)
    {pay : FVec Ideal S128x32 .f32} (h : Good v f1 R hR 32 pay) (x : S128x32.Idx) :
    pay x = bS (n := 512) (m := 4096) (G := 32) (by decide) (v.read (Elt Ideal) f1) ((Rect.unit (s := S512x32) o S128x32.size inb).emb x) := by
  obtain ⟨r, l, rfl⟩ : ∃ r l, x = ix2 r l := ⟨x 0, x 1, eq_ix2 x⟩
  rw [h r l l.isLt]
  refine congrArg _ (funext fun a => Fin.ext ?_)
  match a with
  | ⟨0, _⟩ => show R + r.val = o 0 + 1 * r.val; omega
  | ⟨1, _⟩ => show l.val = o 1 + 1 * l.val; omega

/-- The codes of one more tile, -/
theorem codes_cons {o : Fin 2 → ℕ} {inb : ∀ a, o a + S128x128.size a ≤ S512x4096.size a} {L : List (View.Piece (Elt Ideal) S512x4096 .fp8e4m3)}
    {pay : FVec Ideal S128x128 .fp8e4m3} (h1 : o 1 % 128 = 0) (hp : pay = tCodes (tileAt v f1 inb))
    (h : View.PiecesOf (bC (n := 512) (m := 4096) (by decide) (v.read (Elt Ideal) f1)) L) :
    View.PiecesOf (bC (n := 512) (m := 4096) (by decide) (v.read (Elt Ideal) f1)) (⟨Rect.unit (s := S512x4096) o S128x128.size inb, pay⟩ :: L) :=
  ⟨fun x => piece_codes h1 hp x, h⟩
/-- and the scales of 128 more rows. -/
theorem scales_cons {R : ℕ} {hR : R + 128 ≤ 512} {o : Fin 2 → ℕ} {inb : ∀ a, o a + S128x32.size a ≤ S512x32.size a} {L : List (View.Piece (Elt Ideal) S512x32 .f32)}
    {pay : FVec Ideal S128x32 .f32} (h0 : o 0 = R) (h1 : o 1 = 0) (h : Good v f1 R hR 32 pay)
    (hL : View.PiecesOf (bS (n := 512) (m := 4096) (G := 32) (by decide) (v.read (Elt Ideal) f1)) L) :
    View.PiecesOf (bS (n := 512) (m := 4096) (G := 32) (by decide) (v.read (Elt Ideal) f1)) (⟨Rect.unit (s := S512x32) o S128x32.size inb, pay⟩ :: L) :=
  ⟨fun x => piece_scales (inb := inb) h0 h1 h x, hL⟩

/-! ## A slot -/

/-- The stores `L` into slot `s` sit where the stores `M` sit in a block, and hold `G`. -/
def SlotOf (s : ℕ) (G : S2x512x4096.Idx → EReal) {e : EltTy} :
    List (View.Piece (Elt Ideal) S2x512x4096 .bf16) → List (View.Piece (Elt Ideal) S512x4096 e) → Prop
  | [], [] => True
  | p :: L, q :: M => ((p.1.off = ![s, q.1.off 0, q.1.off 1] ∧ p.1.size = ![1, q.1.size 0, q.1.size 1] ∧ ∀ a, p.1.stride a = 1) ∧ ∀ a, q.1.stride a = 1)
      ∧ (∀ x : p.1.shape.Idx, p.2 x = G (p.1.emb x)) ∧ SlotOf s G L M
  | _, _ => False

/-- What a slot's dequantised rows are. -/
abbrev slotG (v : View sig .tc sp S512x4096 .bf16) (f1 : v.ty.Contents (Elt Ideal)) : S2x512x4096.Idx → EReal :=
  fun y => bD (n := 512) (m := 4096) (by decide) (v.read (Elt Ideal) f1) (ix2 (y 1) (y 2))

theorem SlotOf.cons {s : ℕ} {e : EltTy} {L : List (View.Piece (Elt Ideal) S2x512x4096 .bf16)} {M : List (View.Piece (Elt Ideal) S512x4096 e)}
    {o : Fin 2 → ℕ} {inb : ∀ a, o a + S128x128.size a ≤ S512x4096.size a} {o' : Fin 3 → ℕ} {inb' : ∀ a, o' a + S1x128x128.size a ≤ S2x512x4096.size a}
    [ho : ClosedOff o'] {pay : S128x128.Idx → Elt Ideal e} {pay' : Vec Ideal S1x128x128 .bf16}
    (he : ClosedOff.form o' = ![s, o 0, o 1]) (h1 : o 1 % 128 = 0) (hp : pay' = tDeq (tileAt v f1 inb)) (h : SlotOf s (slotG v f1) L M) :
    SlotOf s (slotG v f1) (⟨Rect.unit (s := S2x512x4096) o' S1x128x128.size inb', pay'⟩ :: L)
      (⟨Rect.unit (s := S512x4096) o S128x128.size inb, pay⟩ :: M) := by
  have e := ho.eq.trans he
  exact ⟨⟨⟨e, rfl, fun _ => rfl⟩, fun _ => rfl⟩, fun x => piece_deq (inb' := inb') h1 (congrFun e 1) (congrFun e 2) hp x, h⟩

theorem SlotOf.append {s : ℕ} {G : S2x512x4096.Idx → EReal} {e : EltTy} : ∀ {L L' : List (View.Piece (Elt Ideal) S2x512x4096 .bf16)}
    {M M' : List (View.Piece (Elt Ideal) S512x4096 e)}, SlotOf s G L M → SlotOf s G L' M' → SlotOf s G (L ++ L') (M ++ M')
  | [], _, [], _, _, h => h
  | _ :: _, _, _ :: _, _, h, h' => ⟨h.1, h.2.1, SlotOf.append h.2.2 h'⟩
  | [], _, _ :: _, _, h, _ => h.elim
  | _ :: _, _, [], _, h, _ => h.elim

theorem SlotOf.mem {s : ℕ} {G : S2x512x4096.Idx → EReal} {e : EltTy} : ∀ {L : List (View.Piece (Elt Ideal) S2x512x4096 .bf16)}
    {M : List (View.Piece (Elt Ideal) S512x4096 e)}, SlotOf s G L M → ∀ p ∈ L, (∀ y ∈ p.1.set, (y 0).val = s) ∧ ∀ x : p.1.shape.Idx, p.2 x = G (p.1.emb x)
  | [], _, _, _, hp => absurd hp List.not_mem_nil
  | _ :: _, [], h, _, _ => h.elim
  | q :: L, _ :: M, h, p, hp => by
    rcases List.mem_cons.mp hp with rfl | hp
    · refine ⟨fun y hy => ?_, h.2.1⟩
      obtain ⟨x, rfl⟩ : ∃ x, p.1.emb x = y := p.1.exists_idx_of_mem hy
      have hx : (x 0).val < p.1.size 0 := (x 0).isLt
      rw [h.1.1.2.1] at hx
      change (x 0).val < 1 at hx
      show p.1.off 0 + p.1.stride 0 * (x 0).val = s
      rw [h.1.1.1]
      show s + _ * (x 0).val = s
      rw [show (x 0).val = 0 by omega]; omega
    · exact SlotOf.mem h.2.2 p hp

theorem SlotOf.cover {s : ℕ} {G : S2x512x4096.Idx → EReal} {e : EltTy} : ∀ {L : List (View.Piece (Elt Ideal) S2x512x4096 .bf16)}
    {M : List (View.Piece (Elt Ideal) S512x4096 e)}, SlotOf s G L M → ∀ y : S2x512x4096.Idx, (y 0).val = s →
      (∃ q ∈ M, (ix2 (y 1) (y 2) : S512x4096.Idx) ∈ q.1.set) → ∃ p ∈ L, y ∈ p.1.set
  | _, [], _, _, _, hq => by obtain ⟨_, hm, _⟩ := hq; exact absurd hm List.not_mem_nil
  | [], _ :: _, h, _, _, _ => h.elim
  | p :: L, q :: M, h, y, hy, hq => by
    obtain ⟨q', hm, hin⟩ := hq
    rcases List.mem_cons.mp hm with rfl | hm
    · have hin := q'.1.mem_set.mp hin
      refine ⟨p, List.mem_cons_self, p.1.mem_set.mpr fun a => ?_⟩
      have hs := h.1.1.2.2 a
      have hz : p.1.size a = _ := congrFun h.1.1.2.1 a
      have ho : p.1.off a = _ := congrFun h.1.1.1 a
      rw [hs, hz, ho]
      match a with
      | ⟨0, _⟩ => exact ⟨0, by show 0 < 1; omega, by show (y 0).val = s + 1 * 0; omega⟩
      | ⟨1, _⟩ =>
        obtain ⟨j, hj, hj'⟩ := hin 0
        rw [h.1.2 0] at hj'
        exact ⟨j, hj, hj'⟩
      | ⟨2, _⟩ =>
        obtain ⟨j, hj, hj'⟩ := hin 1
        rw [h.1.2 1] at hj'
        exact ⟨j, hj, hj'⟩
    · obtain ⟨p', hp', h'⟩ := SlotOf.cover h.2.2 y hy ⟨q', hm, hin⟩
      exact ⟨p', List.mem_cons_of_mem _ hp', h'⟩

/-- What a slot reads after the stores, and what the other slot reads. -/
theorem SlotOf.read {s : ℕ} {G : S2x512x4096.Idx → EReal} {e : EltTy} {L : List (View.Piece (Elt Ideal) S2x512x4096 .bf16)}
    {M : List (View.Piece (Elt Ideal) S512x4096 e)} (h : SlotOf s G L M) (hM : ∀ y : S512x4096.Idx, ∃ q ∈ M, y ∈ q.1.set)
    {sp' : Space} (w : View sig .tc sp' S2x512x4096 .bf16) (f : w.ty.Contents (Elt Ideal)) (y : S2x512x4096.Idx) (hy : (y 0).val = s) :
    w.read (Elt Ideal) (w.writes (Elt Ideal) f L) y = G y :=
  View.read_writes_apply_of_pieces w f G L (fun p hp => (h.mem p hp).2) y (h.cover y hy (hM _))

theorem SlotOf.read_other {s : ℕ} {G : S2x512x4096.Idx → EReal} {e : EltTy} {L : List (View.Piece (Elt Ideal) S2x512x4096 .bf16)}
    {M : List (View.Piece (Elt Ideal) S512x4096 e)} (h : SlotOf s G L M)
    {sp' : Space} (w : View sig .tc sp' S2x512x4096 .bf16) (f : w.ty.Contents (Elt Ideal)) (y : S2x512x4096.Idx) (hy : (y 0).val ≠ s) :
    w.read (Elt Ideal) (w.writes (Elt Ideal) f L) y = w.read (Elt Ideal) f y :=
  View.read_writes_apply_of_forall_not_mem w f y L fun p hp hin => hy ((h.mem p hp).1 y hin)

/-- The same, at offsets known by a closed form. -/
theorem codes_cons' {o : Fin 2 → ℕ} [ho : ClosedOff o] {inb : ∀ a, o a + S128x128.size a ≤ S512x4096.size a}
    {L : List (View.Piece (Elt Ideal) S512x4096 .fp8e4m3)} {pay : FVec Ideal S128x128 .fp8e4m3} (h1 : ClosedOff.form o 1 % 128 = 0)
    (hp : pay = tCodes (tileAt v f1 inb)) (h : View.PiecesOf (bC (n := 512) (m := 4096) (by decide) (v.read (Elt Ideal) f1)) L) :
    View.PiecesOf (bC (n := 512) (m := 4096) (by decide) (v.read (Elt Ideal) f1)) (⟨Rect.unit (s := S512x4096) o S128x128.size inb, pay⟩ :: L) :=
  codes_cons ((congrFun ho.eq 1 ▸ h1 : o 1 % 128 = 0)) hp h

theorem SlotOf.cons' {s : ℕ} {e : EltTy} {L : List (View.Piece (Elt Ideal) S2x512x4096 .bf16)} {M : List (View.Piece (Elt Ideal) S512x4096 e)}
    {o : Fin 2 → ℕ} [ho : ClosedOff o] {inb : ∀ a, o a + S128x128.size a ≤ S512x4096.size a} {o' : Fin 3 → ℕ}
    {inb' : ∀ a, o' a + S1x128x128.size a ≤ S2x512x4096.size a}
    [ho' : ClosedOff o'] {pay : S128x128.Idx → Elt Ideal e} {pay' : Vec Ideal S1x128x128 .bf16}
    (he : ClosedOff.form o' = ![s, ClosedOff.form o 0, ClosedOff.form o 1]) (h1 : ClosedOff.form o 1 % 128 = 0)
    (hp : pay' = tDeq (tileAt v f1 inb)) (h : SlotOf s (slotG v f1) L M) :
    SlotOf s (slotG v f1) (⟨Rect.unit (s := S2x512x4096) o' S1x128x128.size inb', pay'⟩ :: L)
      (⟨Rect.unit (s := S512x4096) o S128x128.size inb, pay⟩ :: M) :=
  SlotOf.cons (he.trans (by rw [← congrFun ho.eq 0, ← congrFun ho.eq 1])) ((congrFun ho.eq 1 ▸ h1 : o 1 % 128 = 0)) hp h

/-! ## Hidden blocks -/

/-- Column `l` of prepared block `j`: its first half is of the gate, its second of the other projection. -/
def wCol (j : Fin 13) (l : Fin 256) : Fin 3328 := ⟨128 * j.val + l.val + (if l.val < 128 then 0 else 1536), by split <;> omega⟩
/-- The prepared weights, block by block. -/
def wBlk (WQ : S4096x3328.Idx → EReal) : S13x4096x256.Idx → EReal := fun y => WQ (ix2 (y 1) (wCol (y 0) (y 2)))
/-- Hidden column `j`'s columns in the weights. -/
def gCol (j : Fin 1664) : Fin 3328 := ⟨j.val, by omega⟩
def uCol (j : Fin 1664) : Fin 3328 := ⟨1664 + j.val, by omega⟩
/-- The hidden values of rows `XQ`. -/
def Hm {n : ℕ} (XQ : (⟨2, ![n, 4096]⟩ : Shape).Idx → EReal) (WQ : S4096x3328.Idx → EReal) : (⟨2, ![n, 1664]⟩ : Shape).Idx → EReal := fun y =>
  hid (fun k => XQ (ix2 (y 0) k)) (fun k => WQ (ix2 k (gCol (y 1)))) (fun k => WQ (ix2 k (uCol (y 1))))

theorem wInb (j : Fin 13) : ∀ a, (![j.val, 0, 0] : Fin 3 → ℕ) a + S1x4096x256.size a ≤ S13x4096x256.size a := fun a =>
  match a with
  | ⟨0, _⟩ => show j.val + 1 ≤ 13 by omega
  | ⟨1, _⟩ => show 0 + 4096 ≤ 4096 by omega
  | ⟨2, _⟩ => show 0 + 256 ≤ 256 by omega

/-- Block `j` of the prepared weights. -/
abbrev wAt {sp : Space} (w : View sig .tc sp S13x4096x256 .bf16) (f8 : w.ty.Contents (Elt Ideal)) (j : Fin 13) : Vec Ideal S1x4096x256 .bf16 :=
  w.readAt (Elt Ideal) (Rect.unit (s := S13x4096x256) ![j.val, 0, 0] S1x4096x256.size (wInb j)).toLoadRect f8

section
variable {sp' : Space} {w : View sig .tc sp' S13x4096x256 .bf16} {f8 : w.ty.Contents (Elt Ideal)} {WQ : S4096x3328.Idx → EReal}
  {XQ : S512x4096.Idx → EReal} {A : Vec Ideal S1x512x4096 .bf16}

theorem wAt_apply (hf8 : ∀ y, w.read (Elt Ideal) f8 y = wBlk WQ y) (j : Fin 13) (k : Fin 4096) (l : Fin 256) :
    wAt w f8 j (ix3 0 k l) = WQ (ix2 k (wCol j l)) := by
  show w.read (Elt Ideal) f8 ((Rect.unit (s := S13x4096x256) ![j.val, 0, 0] S1x4096x256.size (wInb j)).emb (ix3 0 k l)) = _
  rw [hf8]
  have e : (Rect.unit (s := S13x4096x256) ![j.val, 0, 0] S1x4096x256.size (wInb j)).emb (ix3 0 k l) = ix3 j k l := funext fun a => Fin.ext (by
    match a with
    | ⟨0, _⟩ => show j.val + 1 * 0 = j.val; omega
    | ⟨1, _⟩ => show 0 + 1 * k.val = k.val; omega
    | ⟨2, _⟩ => show 0 + 1 * l.val = l.val; omega)
  rw [e]
  rfl

theorem hid_congr {a a' wg wg' wu wu' : Fin 4096 → EReal} (h : a = a') (h1 : wg = wg') (h2 : wu = wu') : hid a wg wu = hid a' wg' wu' := by
  subst h h1 h2; rfl
theorem code_congr {v v' : Fin 128 → EReal} {l l' : Fin 128} (h : v = v') (h1 : l = l') : code v l = code v' l' := by subst h h1; rfl
theorem grp_congr' {n m : ℕ} {X : (⟨2, ![n, m]⟩ : Shape).Idx → EReal} {r r' : Fin n} {g g' : ℕ} {hg hg'} (h : r = r') (h1 : g = g') :
    Cert.Quant.grp X r g hg = Cert.Quant.grp X r' g' hg' := by subst h h1; rfl

theorem hVal_blk (hf8 : ∀ y, w.read (Elt Ideal) f8 y = wBlk WQ y) (hA : ∀ r k, A (ix3 0 r k) = XQ (ix2 r k)) (j : Fin 13) (r : Fin 512) (l : Fin 128) :
    hVal A (wAt w f8 j) (ix2 r l) = Hm (n := 512) XQ WQ (ix2 r ⟨128 * j.val + l.val, by omega⟩) := by
  rw [hVal_apply]
  refine hid_congr (funext fun k => hA r k) (funext fun k => ?_) (funext fun k => ?_)
  · rw [wAt_apply hf8]
    refine congrArg (fun q => WQ (ix2 k q)) (Fin.ext ?_)
    show 128 * j.val + l.val + (if l.val < 128 then 0 else 1536) = 128 * j.val + l.val
    rw [if_pos l.isLt]; omega
  · rw [wAt_apply hf8]
    refine congrArg (fun q => WQ (ix2 k q)) (Fin.ext ?_)
    show 128 * j.val + (128 + l.val) + (if 128 + l.val < 128 then 0 else 1536) = 1664 + (128 * j.val + l.val)
    rw [if_neg (by omega)]; omega

theorem hVal_row (hf8 : ∀ y, w.read (Elt Ideal) f8 y = wBlk WQ y) (hA : ∀ r k, A (ix3 0 r k) = XQ (ix2 r k)) (j : Fin 13) (r : Fin 512) :
    (fun l => hVal A (wAt w f8 j) (ix2 r l)) = grp (Hm (n := 512) XQ WQ) r j.val (by omega) :=
  funext fun l => hVal_blk hf8 hA j r l

theorem hcodes_cons (hf8 : ∀ y, w.read (Elt Ideal) f8 y = wBlk WQ y) (hA : ∀ r k, A (ix3 0 r k) = XQ (ix2 r k))
    {o : Fin 2 → ℕ} {inb : ∀ a, o a + S512x128.size a ≤ S512x1664.size a} {L : List (View.Piece (Elt Ideal) S512x1664 .fp8e4m3)}
    {pay : FVec Ideal S512x128 .fp8e4m3} (hj : o 1 / 128 < 13) (h0 : o 0 = 0) (h1 : o 1 % 128 = 0) (hp : pay = hCodes A (wAt w f8 ⟨o 1 / 128, hj⟩))
    (h : View.PiecesOf (bC (n := 512) (m := 1664) (by decide) (Hm XQ WQ)) L) :
    View.PiecesOf (bC (n := 512) (m := 1664) (by decide) (Hm XQ WQ)) (⟨Rect.unit (s := S512x1664) o S512x128.size inb, pay⟩ :: L) := by
  refine ⟨fun x => ?_, h⟩
  subst hp
  obtain ⟨r, l, rfl⟩ : ∃ (r : Fin 512) (l : Fin 128), x = ix2 r l := ⟨x 0, x 1, eq_ix2 x⟩
  have hl : l.val < 128 := l.isLt
  show hCodes A _ (ix2 r l) = _
  rw [hCodes_apply, hVal_row hf8 hA]
  unfold bC
  have e0 : (Rect.unit (s := S512x1664) o S512x128.size inb).emb (ix2 r l) 0 = r := Fin.ext (by show o 0 + 1 * r.val = r.val; omega)
  have e1 : ((Rect.unit (s := S512x1664) o S512x128.size inb).emb (ix2 r l) 1).val = o 1 + 1 * l.val := rfl
  show code _ _ = code (grp _ ((Rect.unit (s := S512x1664) o S512x128.size inb).emb (ix2 r l) 0) (((Rect.unit (s := S512x1664) o S512x128.size inb).emb (ix2 r l) 1).val / 128) _)
    ⟨((Rect.unit (s := S512x1664) o S512x128.size inb).emb (ix2 r l) 1).val % 128, _⟩
  refine code_congr (grp_congr' e0.symm ?_) (Fin.ext ?_)
  · rw [e1]; show o 1 / 128 = _; omega
  · show l.val = _ % 128; rw [e1]; omega

/-- The scales of `n` hidden blocks, put in column by column. -/
def colsH (A : Vec Ideal S1x512x4096 .bf16) (W : ℕ → Vec Ideal S1x4096x256 .bf16) : ℕ → FVec Ideal S512x13 .f32
  | 0 => k0_pay1244
  | n + 1 => putH (BitVec.ofNat 32 n) (hScale A (W n)) (colsH A W n)

theorem colsH_good (hf8 : ∀ y, w.read (Elt Ideal) f8 y = wBlk WQ y) (hA : ∀ r k, A (ix3 0 r k) = XQ (ix2 r k)) (W : ℕ → Vec Ideal S1x4096x256 .bf16)
    (hW : ∀ (n : ℕ) (hn : n < 13), W n = wAt w f8 ⟨n, hn⟩) : ∀ n, n ≤ 13 → ∀ (r : Fin 512) (g : Fin 13), g.val < n →
      colsH A W n (ix2 r g) = bS (n := 512) (m := 1664) (G := 13) (by decide) (Hm XQ WQ) (ix2 r g)
  | 0, _, _, _, hg => absurd hg (Nat.not_lt_zero _)
  | n + 1, hn, r, g, hg => by
    unfold colsH
    rw [putH_apply ⟨n, by omega⟩]
    by_cases hgn : g = ⟨n, by omega⟩
    · rw [if_pos hgn, hScale_apply, hW n (by omega), hVal_row hf8 hA, hgn]
      rfl
    · rw [if_neg hgn]
      refine colsH_good hf8 hA W hW n (by omega) r g ?_
      have : g.val ≠ n := fun q => hgn (Fin.ext q)
      omega

/-- Block `n` of the prepared weights, of any natural number. -/
def wNat {sp : Space} (w : View sig .tc sp S13x4096x256 .bf16) (f8 : w.ty.Contents (Elt Ideal)) (n : ℕ) : Vec Ideal S1x4096x256 .bf16 :=
  if hn : n < 13 then wAt w f8 ⟨n, hn⟩ else fun _ => 0

theorem hscales_one (hf8 : ∀ y, w.read (Elt Ideal) f8 y = wBlk WQ y) (hA : ∀ r k, A (ix3 0 r k) = XQ (ix2 r k))
    {o : Fin 2 → ℕ} {inb : ∀ a, o a + S512x13.size a ≤ S512x13.size a} {pay : FVec Ideal S512x13 .f32} (h0 : o 0 = 0) (h1 : o 1 = 0)
    (hp : pay = colsH A (wNat w f8) 13) :
    View.PiecesOf (bS (n := 512) (m := 1664) (G := 13) (by decide) (Hm XQ WQ)) ([⟨Rect.unit (s := S512x13) o S512x13.size inb, pay⟩] : List (View.Piece (Elt Ideal) S512x13 .f32)) := by
  refine ⟨fun x => ?_, trivial⟩
  subst hp
  obtain ⟨r, g, rfl⟩ : ∃ (r : Fin 512) (g : Fin 13), x = ix2 r g := ⟨x 0, x 1, eq_ix2 x⟩
  refine (colsH_good hf8 hA _ (fun n hn => by unfold wNat; rw [dif_pos hn]) 13 le_rfl r g g.isLt).trans (congrArg _ (funext fun a => Fin.ext ?_))
  match a with
  | ⟨0, _⟩ => show r.val = o 0 + 1 * r.val; omega
  | ⟨1, _⟩ => show g.val = o 1 + 1 * g.val; omega
end

end Cert.KernelIdeal.Pf

end
-- ==== Proof.KI.ChunksVal.lean ====
/-
  What the chunk loop of the first step leaves: the codes, the scales and the dequantised rows of the whole block.
-/
module

public import proofs.«01_k».proof.Proof.KI.Pieces
public import proofs.«01_k».proof.Proof.KI.Chunks
public import Idealize.ShloMosaic.Lib.Ring

@[expose] public section

set_option maxRecDepth 16384
set_option maxHeartbeats 4000000

noncomputable section

namespace Cert.KernelIdeal.Pf

open Cert.KernelIdeal Cert.KernelIdeal.Gen Cert.Quant
open Idealize.ShloMosaic Idealize.ShloMosaic.TcCoe Idealize.ShloMosaic.Tactic
open Idealize.ShloMosaic.View (PiecesOf)

variable (𝒱 : Variants) (c : Dev nD) (bd : Option 𝒱.V) (i : grid0.Coords) (arg1 : Memref sig .tc .vmem S512x4096 .bf16) (harg1 : arg1.IsWhole)
    (arg2 : Memref sig .tc .hbm S4096x3328 .fp8e4m3) (harg2 : arg2.IsWhole) (arg3 : Memref sig .tc .smem S32x26 .f32) (harg3 : arg3.IsWhole)
    (arg4 : Memref sig .tc .vmem S512x1664 .fp8e4m3) (harg4 : arg4.IsWhole) (arg5 : Memref sig .tc .vmem S512x13 .f32) (harg5 : arg5.IsWhole)
    (arg6 : Memref sig .tc .vmem S512x4096 .fp8e4m3) (harg6 : arg6.IsWhole) (arg7 : Memref sig .tc .vmem S512x32 .f32) (harg7 : arg7.IsWhole)
    (arg8 : Memref sig .tc .vmem S13x4096x256 .bf16) (harg8 : arg8.IsWhole) (arg9 : Memref sig .tc .vmem S2x2x4096x128 .fp8e4m3) (harg9 : arg9.IsWhole)
    (arg10 : Memref sig .tc .vmem S2x512x4096 .bf16) (harg10 : arg10.IsWhole) (arg11 : DmaSems sig S2x2)
    (h1 : k0_cond1 i = 1#1) (f1 : BufTy.Contents (Elt Ideal) arg1.view.ty)

/-! ## One trip -/

section
variable (k : Fin k0_t3_loop.trips)

/-- What trip `k` stores. -/
abbrev trip3 := chunkL (F := Ideal) 𝒱 c bd i arg1 harg1 arg2 harg2 arg3 harg3 arg4 harg4 arg5 harg5 arg6 harg6 arg7 harg7 arg8 harg8 arg9 harg9 arg10 harg10 arg11 h1 f1 k

/-- Where the tiles of trip `k` lie. -/
def offT (k : Fin k0_t3_loop.trips) : Fin 32 → Fin 2 → ℕ := ![k0_off16 k, k0_off18 k, k0_off20 k, k0_off22 k, k0_off24 k, k0_off26 k, k0_off28 k, k0_off30 k, k0_off32 k, k0_off34 k, k0_off36 k, k0_off38 k, k0_off40 k, k0_off42 k, k0_off44 k, k0_off46 k, k0_off48 k, k0_off50 k, k0_off52 k, k0_off54 k, k0_off56 k, k0_off58 k, k0_off60 k, k0_off62 k, k0_off64 k, k0_off66 k, k0_off68 k, k0_off70 k, k0_off72 k, k0_off74 k, k0_off76 k, k0_off78 k]
theorem offT_eq : ∀ (k : Fin k0_t3_loop.trips) (n : Fin 32), offT k n = ![128 * k.val, 128 * n.val] := by decide +kernel
/-- Where they lie in the slot. -/
def offS (k : Fin k0_t3_loop.trips) : Fin 32 → Fin 3 → ℕ := ![k0_off17 k, k0_off19 k, k0_off21 k, k0_off23 k, k0_off25 k, k0_off27 k, k0_off29 k, k0_off31 k, k0_off33 k, k0_off35 k, k0_off37 k, k0_off39 k, k0_off41 k, k0_off43 k, k0_off45 k, k0_off47 k, k0_off49 k, k0_off51 k, k0_off53 k, k0_off55 k, k0_off57 k, k0_off59 k, k0_off61 k, k0_off63 k, k0_off65 k, k0_off67 k, k0_off69 k, k0_off71 k, k0_off73 k, k0_off75 k, k0_off77 k, k0_off79 k]
theorem offS_eq : ∀ (k : Fin k0_t3_loop.trips) (n : Fin 32), offS k n = ![0, offT k n 0, offT k n 1] := by decide +kernel
theorem offT_mod (n : Fin 32) : offT k n 1 % 128 = 0 := by
  rw [offT_eq]
  show 128 * n.val % 128 = 0
  omega

theorem SlotOf.cons'' {sp : Space} {v : View sig .tc sp S512x4096 .bf16} {f1 : v.ty.Contents (Elt Ideal)} {s : ℕ} {e : EltTy} {L : List (View.Piece (Elt Ideal) S2x512x4096 .bf16)} {M : List (View.Piece (Elt Ideal) S512x4096 e)}
    {o : Fin 2 → ℕ} {inb : ∀ a, o a + S128x128.size a ≤ S512x4096.size a} {o' : Fin 3 → ℕ} {inb' : ∀ a, o' a + S1x128x128.size a ≤ S2x512x4096.size a}
    {pay : S128x128.Idx → Elt Ideal e} {pay' : Vec Ideal S1x128x128 .bf16}
    (he : o' = ![s, o 0, o 1]) (h1 : o 1 % 128 = 0) (hp : pay' = tDeq (tileAt v f1 inb)) (h : SlotOf s (slotG v f1) L M) :
    SlotOf s (slotG v f1) (⟨Rect.unit (s := S2x512x4096) o' S1x128x128.size inb', pay'⟩ :: L)
      (⟨Rect.unit (s := S512x4096) o S128x128.size inb, pay⟩ :: M) :=
  SlotOf.cons (ho := ⟨o', rfl⟩) he h1 hp h

theorem offT_inb (n : Fin 32) : ∀ a, offT k n a + S128x128.size a ≤ S512x4096.size a := by
  have hk : k.val < 4 := Nat.lt_of_lt_of_le k.isLt k0_t3_abs.2.1
  rw [offT_eq]
  intro a
  match a with
  | ⟨0, _⟩ => show 128 * k.val + 128 ≤ 512; omega
  | ⟨1, _⟩ => show 128 * n.val + 128 ≤ 4096; omega

/-- The tiles of trip `k`. -/
def tileT (n : ℕ) : Vec Ideal S128x128 .bf16 := if hn : n < 32 then tileAt arg1.view f1 (offT_inb k ⟨n, hn⟩) else fun _ => 0

theorem rowT_le : 128 * k.val + 128 ≤ 512 := by
  have hk : k.val < 4 := Nat.lt_of_lt_of_le k.isLt k0_t3_abs.2.1
  omega

theorem goodT {pay : FVec Ideal S128x32 .f32} (h : pay = cols (tileT arg1 f1 k) 32) : Good arg1.view f1 (128 * k.val) (rowT_le k) 32 pay :=
  h ▸ Good.cols _ (fun n hn r => by
    unfold tileT
    rw [dif_pos hn]
    have e0 : offT k ⟨n, hn⟩ 0 = 128 * k.val := by rw [offT_eq]; rfl
    have e1 : offT k ⟨n, hn⟩ 1 = 128 * n := by rw [offT_eq]; rfl
    exact tileAt_row _ (by omega) r _ (by rw [e0]) n (by omega) _) 32 le_rfl

theorem trip3_codes : PiecesOf (bC (n := 512) (m := 4096) (by decide) (arg1.view.read (Elt Ideal) f1)) (trip3 𝒱 c bd i arg1 harg1 arg2 harg2 arg3 harg3 arg4 harg4 arg5 harg5 arg6 harg6 arg7 harg7 arg8 harg8 arg9 harg9 arg10 harg10 arg11 h1 f1 k).1 := by
  unfold trip3 chunkL chunkRun
  refine codes_cons (offT_mod k 31) rfl ?_
  refine codes_cons (offT_mod k 30) rfl ?_
  refine codes_cons (offT_mod k 29) rfl ?_
  refine codes_cons (offT_mod k 28) rfl ?_
  refine codes_cons (offT_mod k 27) rfl ?_
  refine codes_cons (offT_mod k 26) rfl ?_
  refine codes_cons (offT_mod k 25) rfl ?_
  refine codes_cons (offT_mod k 24) rfl ?_
  refine codes_cons (offT_mod k 23) rfl ?_
  refine codes_cons (offT_mod k 22) rfl ?_
  refine codes_cons (offT_mod k 21) rfl ?_
  refine codes_cons (offT_mod k 20) rfl ?_
  refine codes_cons (offT_mod k 19) rfl ?_
  refine codes_cons (offT_mod k 18) rfl ?_
  refine codes_cons (offT_mod k 17) rfl ?_
  refine codes_cons (offT_mod k 16) rfl ?_
  refine codes_cons (offT_mod k 15) rfl ?_
  refine codes_cons (offT_mod k 14) rfl ?_
  refine codes_cons (offT_mod k 13) rfl ?_
  refine codes_cons (offT_mod k 12) rfl ?_
  refine codes_cons (offT_mod k 11) rfl ?_
  refine codes_cons (offT_mod k 10) rfl ?_
  refine codes_cons (offT_mod k 9) rfl ?_
  refine codes_cons (offT_mod k 8) rfl ?_
  refine codes_cons (offT_mod k 7) rfl ?_
  refine codes_cons (offT_mod k 6) rfl ?_
  refine codes_cons (offT_mod k 5) rfl ?_
  refine codes_cons (offT_mod k 4) rfl ?_
  refine codes_cons (offT_mod k 3) rfl ?_
  refine codes_cons (offT_mod k 2) rfl ?_
  refine codes_cons (offT_mod k 1) rfl ?_
  refine codes_cons (offT_mod k 0) rfl ?_
  trivial

theorem trip3_slot : SlotOf 0 (slotG arg1.view f1) (trip3 𝒱 c bd i arg1 harg1 arg2 harg2 arg3 harg3 arg4 harg4 arg5 harg5 arg6 harg6 arg7 harg7 arg8 harg8 arg9 harg9 arg10 harg10 arg11 h1 f1 k).2.2 (trip3 𝒱 c bd i arg1 harg1 arg2 harg2 arg3 harg3 arg4 harg4 arg5 harg5 arg6 harg6 arg7 harg7 arg8 harg8 arg9 harg9 arg10 harg10 arg11 h1 f1 k).1 := by
  unfold trip3 chunkL chunkRun
  refine SlotOf.cons'' (offS_eq k 31) (offT_mod k 31) rfl ?_
  refine SlotOf.cons'' (offS_eq k 30) (offT_mod k 30) rfl ?_
  refine SlotOf.cons'' (offS_eq k 29) (offT_mod k 29) rfl ?_
  refine SlotOf.cons'' (offS_eq k 28) (offT_mod k 28) rfl ?_
  refine SlotOf.cons'' (offS_eq k 27) (offT_mod k 27) rfl ?_
  refine SlotOf.cons'' (offS_eq k 26) (offT_mod k 26) rfl ?_
  refine SlotOf.cons'' (offS_eq k 25) (offT_mod k 25) rfl ?_
  refine SlotOf.cons'' (offS_eq k 24) (offT_mod k 24) rfl ?_
  refine SlotOf.cons'' (offS_eq k 23) (offT_mod k 23) rfl ?_
  refine SlotOf.cons'' (offS_eq k 22) (offT_mod k 22) rfl ?_
  refine SlotOf.cons'' (offS_eq k 21) (offT_mod k 21) rfl ?_
  refine SlotOf.cons'' (offS_eq k 20) (offT_mod k 20) rfl ?_
  refine SlotOf.cons'' (offS_eq k 19) (offT_mod k 19) rfl ?_
  refine SlotOf.cons'' (offS_eq k 18) (offT_mod k 18) rfl ?_
  refine SlotOf.cons'' (offS_eq k 17) (offT_mod k 17) rfl ?_
  refine SlotOf.cons'' (offS_eq k 16) (offT_mod k 16) rfl ?_
  refine SlotOf.cons'' (offS_eq k 15) (offT_mod k 15) rfl ?_
  refine SlotOf.cons'' (offS_eq k 14) (offT_mod k 14) rfl ?_
  refine SlotOf.cons'' (offS_eq k 13) (offT_mod k 13) rfl ?_
  refine SlotOf.cons'' (offS_eq k 12) (offT_mod k 12) rfl ?_
  refine SlotOf.cons'' (offS_eq k 11) (offT_mod k 11) rfl ?_
  refine SlotOf.cons'' (offS_eq k 10) (offT_mod k 10) rfl ?_
  refine SlotOf.cons'' (offS_eq k 9) (offT_mod k 9) rfl ?_
  refine SlotOf.cons'' (offS_eq k 8) (offT_mod k 8) rfl ?_
  refine SlotOf.cons'' (offS_eq k 7) (offT_mod k 7) rfl ?_
  refine SlotOf.cons'' (offS_eq k 6) (offT_mod k 6) rfl ?_
  refine SlotOf.cons'' (offS_eq k 5) (offT_mod k 5) rfl ?_
  refine SlotOf.cons'' (offS_eq k 4) (offT_mod k 4) rfl ?_
  refine SlotOf.cons'' (offS_eq k 3) (offT_mod k 3) rfl ?_
  refine SlotOf.cons'' (offS_eq k 2) (offT_mod k 2) rfl ?_
  refine SlotOf.cons'' (offS_eq k 1) (offT_mod k 1) rfl ?_
  refine SlotOf.cons'' (offS_eq k 0) (offT_mod k 0) rfl ?_
  trivial

theorem trip3_scales : PiecesOf (bS (n := 512) (m := 4096) (G := 32) (by decide) (arg1.view.read (Elt Ideal) f1)) (trip3 𝒱 c bd i arg1 harg1 arg2 harg2 arg3 harg3 arg4 harg4 arg5 harg5 arg6 harg6 arg7 harg7 arg8 harg8 arg9 harg9 arg10 harg10 arg11 h1 f1 k).2.1 := by
  unfold trip3 chunkL chunkRun
  exact scales_cons (hR := rowT_le k) (congrFun (k0_off80_eq k) 0) (congrFun (k0_off80_eq k) 1) (goodT arg1 f1 k (by sl_kernel_rfl)) trivial

/-- An element of the rows of trip `k` lies in one of its tiles, -/
theorem trip3_codes_cover (y : S512x4096.Idx) (hk : (y 0).val / 128 = k.val) : ∃ p ∈ (trip3 𝒱 c bd i arg1 harg1 arg2 harg2 arg3 harg3 arg4 harg4 arg5 harg5 arg6 harg6 arg7 harg7 arg8 harg8 arg9 harg9 arg10 harg10 arg11 h1 f1 k).1, y ∈ p.1.set := by
  have y1 : (y 1).val < 4096 := (y 1).isLt
  have key : ∀ n : Fin 32, (y 1).val / 128 = n.val → y ∈ (Rect.unit (s := S512x4096) (offT k n) S128x128.size (offT_inb k n)).set := fun n hn =>
    (LoadRect.mem_set _).mpr fun a => by
      have e := offT_eq k n
      match a with
      | ⟨0, _⟩ => exact ⟨(y 0).val % 128, by show _ < 128; omega, by show (y 0).val = offT k n 0 + 1 * _; rw [e]; show _ = 128 * k.val + 1 * _; omega⟩
      | ⟨1, _⟩ => exact ⟨(y 1).val % 128, by show _ < 128; omega, by show (y 1).val = offT k n 1 + 1 * _; rw [e]; show _ = 128 * n.val + 1 * _; omega⟩
  unfold trip3 chunkL chunkRun
  have hn : (y 1).val / 128 < 32 := by omega
  generalize hN : (⟨(y 1).val / 128, hn⟩ : Fin 32) = N at *
  have kN := key N (congrArg Fin.val hN)
  clear key hN hn
  match N, kN with
  | ⟨0, _⟩, kN => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))))))))))))))), kN⟩
  | ⟨1, _⟩, kN => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))))))))))))), kN⟩
  | ⟨2, _⟩, kN => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))))))))))))), kN⟩
  | ⟨3, _⟩, kN => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))))))))))), kN⟩
  | ⟨4, _⟩, kN => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))))))))))), kN⟩
  | ⟨5, _⟩, kN => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))))))))), kN⟩
  | ⟨6, _⟩, kN => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))))))))), kN⟩
  | ⟨7, _⟩, kN => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))))))), kN⟩
  | ⟨8, _⟩, kN => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))))))), kN⟩
  | ⟨9, _⟩, kN => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))))), kN⟩
  | ⟨10, _⟩, kN => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))))), kN⟩
  | ⟨11, _⟩, kN => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))))), kN⟩
  | ⟨12, _⟩, kN => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))), kN⟩
  | ⟨13, _⟩, kN => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))), kN⟩
  | ⟨14, _⟩, kN => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))), kN⟩
  | ⟨15, _⟩, kN => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))), kN⟩
  | ⟨16, _⟩, kN => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))), kN⟩
  | ⟨17, _⟩, kN => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))), kN⟩
  | ⟨18, _⟩, kN => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))), kN⟩
  | ⟨19, _⟩, kN => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))), kN⟩
  | ⟨20, _⟩, kN => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))), kN⟩
  | ⟨21, _⟩, kN => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), kN⟩
  | ⟨22, _⟩, kN => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), kN⟩
  | ⟨23, _⟩, kN => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), kN⟩
  | ⟨24, _⟩, kN => exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), kN⟩
  | ⟨25, _⟩, kN => exact ⟨_, List.mem_cons_of_mem _ (List.mem_cons_of_mem _ (List.mem_cons_of_mem _ (List.mem_cons_of_mem _ (List.mem_cons_of_mem _ (List.mem_cons_of_mem _ (List.mem_cons_self)))))), kN⟩
  | ⟨26, _⟩, kN => exact ⟨_, List.mem_cons_of_mem _ (List.mem_cons_of_mem _ (List.mem_cons_of_mem _ (List.mem_cons_of_mem _ (List.mem_cons_of_mem _ (List.mem_cons_self))))), kN⟩
  | ⟨27, _⟩, kN => exact ⟨_, List.mem_cons_of_mem _ (List.mem_cons_of_mem _ (List.mem_cons_of_mem _ (List.mem_cons_of_mem _ (List.mem_cons_self)))), kN⟩
  | ⟨28, _⟩, kN => exact ⟨_, List.mem_cons_of_mem _ (List.mem_cons_of_mem _ (List.mem_cons_of_mem _ (List.mem_cons_self))), kN⟩
  | ⟨29, _⟩, kN => exact ⟨_, List.mem_cons_of_mem _ (List.mem_cons_of_mem _ (List.mem_cons_self)), kN⟩
  | ⟨30, _⟩, kN => exact ⟨_, List.mem_cons_of_mem _ (List.mem_cons_self), kN⟩
  | ⟨31, _⟩, kN => exact ⟨_, List.mem_cons_self, kN⟩
  | ⟨n + 32, h⟩, _ => exact absurd h (by omega)

/-- and in one of its rows of scales. -/
theorem trip3_scales_cover (y : S512x32.Idx) (hk : (y 0).val / 128 = k.val) : ∃ p ∈ (trip3 𝒱 c bd i arg1 harg1 arg2 harg2 arg3 harg3 arg4 harg4 arg5 harg5 arg6 harg6 arg7 harg7 arg8 harg8 arg9 harg9 arg10 harg10 arg11 h1 f1 k).2.1, y ∈ p.1.set := by
  have y1 : (y 1).val < 32 := (y 1).isLt
  unfold trip3 chunkL chunkRun
  refine ⟨_, List.mem_cons_self, (LoadRect.mem_set _).mpr fun a => ?_⟩
  have e := k0_off80_eq k
  match a with
  | ⟨0, _⟩ => exact ⟨(y 0).val % 128, by show _ < 128; omega, by show (y 0).val = k0_off80 k 0 + 1 * _; rw [e]; show _ = 128 * k.val + 1 * _; omega⟩
  | ⟨1, _⟩ => exact ⟨(y 1).val, y1, by show (y 1).val = k0_off80 k 1 + 1 * _; rw [e]; show _ = 0 + 1 * _; omega⟩
end

/-! ## All the trips -/

theorem pieces_append {s : Shape} {e : EltTy} {G : s.Idx → Elt Ideal e} : ∀ {L L' : List (View.Piece (Elt Ideal) s e)}, PiecesOf G L → PiecesOf G L' → PiecesOf G (L ++ L')
  | [], _, _, h => h
  | _ :: _, _, h, h' => ⟨h.1, pieces_append h.2 h'⟩

theorem trips3 : k0_t3_loop.trips = 4 := by decide +kernel

abbrev chunks3 := chunksL (F := Ideal) 𝒱 c bd i arg1 harg1 arg2 harg2 arg3 harg3 arg4 harg4 arg5 harg5 arg6 harg6 arg7 harg7 arg8 harg8 arg9 harg9 arg10 harg10 arg11 h1 f1

theorem chunks3_pieces : ∀ n, n ≤ 4 → PiecesOf (bC (n := 512) (m := 4096) (by decide) (arg1.view.read (Elt Ideal) f1)) (chunks3 𝒱 c bd i arg1 harg1 arg2 harg2 arg3 harg3 arg4 harg4 arg5 harg5 arg6 harg6 arg7 harg7 arg8 harg8 arg9 harg9 arg10 harg10 arg11 h1 f1 n).1
    ∧ PiecesOf (bS (n := 512) (m := 4096) (G := 32) (by decide) (arg1.view.read (Elt Ideal) f1)) (chunks3 𝒱 c bd i arg1 harg1 arg2 harg2 arg3 harg3 arg4 harg4 arg5 harg5 arg6 harg6 arg7 harg7 arg8 harg8 arg9 harg9 arg10 harg10 arg11 h1 f1 n).2.1
    ∧ SlotOf 0 (slotG arg1.view f1) (chunks3 𝒱 c bd i arg1 harg1 arg2 harg2 arg3 harg3 arg4 harg4 arg5 harg5 arg6 harg6 arg7 harg7 arg8 harg8 arg9 harg9 arg10 harg10 arg11 h1 f1 n).2.2 (chunks3 𝒱 c bd i arg1 harg1 arg2 harg2 arg3 harg3 arg4 harg4 arg5 harg5 arg6 harg6 arg7 harg7 arg8 harg8 arg9 harg9 arg10 harg10 arg11 h1 f1 n).1
  | 0, _ => ⟨trivial, trivial, trivial⟩
  | n + 1, h => by
    have hn : n < k0_t3_loop.trips := by rw [trips3]; omega
    obtain ⟨a, b, d⟩ := chunks3_pieces n (by omega)
    have e := chunksL_succ (F := Ideal) 𝒱 c bd i arg1 harg1 arg2 harg2 arg3 harg3 arg4 harg4 arg5 harg5 arg6 harg6 arg7 harg7 arg8 harg8 arg9 harg9 arg10 harg10 arg11 h1 f1 ⟨n, hn⟩
    unfold chunks3 at a b d ⊢
    rw [show n + 1 = (⟨n, hn⟩ : Fin k0_t3_loop.trips).val + 1 from rfl, e]
    exact ⟨pieces_append (trip3_codes 𝒱 c bd i arg1 harg1 arg2 harg2 arg3 harg3 arg4 harg4 arg5 harg5 arg6 harg6 arg7 harg7 arg8 harg8 arg9 harg9 arg10 harg10 arg11 h1 f1 ⟨n, hn⟩) a, pieces_append (trip3_scales 𝒱 c bd i arg1 harg1 arg2 harg2 arg3 harg3 arg4 harg4 arg5 harg5 arg6 harg6 arg7 harg7 arg8 harg8 arg9 harg9 arg10 harg10 arg11 h1 f1 ⟨n, hn⟩) b,
      SlotOf.append (trip3_slot 𝒱 c bd i arg1 harg1 arg2 harg2 arg3 harg3 arg4 harg4 arg5 harg5 arg6 harg6 arg7 harg7 arg8 harg8 arg9 harg9 arg10 harg10 arg11 h1 f1 ⟨n, hn⟩) d⟩

theorem chunks3_codes_cover (y : S512x4096.Idx) : ∀ n, n ≤ 4 → (y 0).val / 128 < n → ∃ p ∈ (chunks3 𝒱 c bd i arg1 harg1 arg2 harg2 arg3 harg3 arg4 harg4 arg5 harg5 arg6 harg6 arg7 harg7 arg8 harg8 arg9 harg9 arg10 harg10 arg11 h1 f1 n).1, y ∈ p.1.set
  | 0, _, h => absurd h (Nat.not_lt_zero _)
  | n + 1, hn4, h => by
    have hn : n < k0_t3_loop.trips := by rw [trips3]; omega
    have e := chunksL_succ (F := Ideal) 𝒱 c bd i arg1 harg1 arg2 harg2 arg3 harg3 arg4 harg4 arg5 harg5 arg6 harg6 arg7 harg7 arg8 harg8 arg9 harg9 arg10 harg10 arg11 h1 f1 ⟨n, hn⟩
    unfold chunks3
    rw [show n + 1 = (⟨n, hn⟩ : Fin k0_t3_loop.trips).val + 1 from rfl, e]
    by_cases q : (y 0).val / 128 = n
    · obtain ⟨p, hp, hy⟩ := trip3_codes_cover 𝒱 c bd i arg1 harg1 arg2 harg2 arg3 harg3 arg4 harg4 arg5 harg5 arg6 harg6 arg7 harg7 arg8 harg8 arg9 harg9 arg10 harg10 arg11 h1 f1 ⟨n, hn⟩ y q
      exact ⟨p, List.mem_append_left _ hp, hy⟩
    · obtain ⟨p, hp, hy⟩ := chunks3_codes_cover y n (by omega) (by omega)
      exact ⟨p, List.mem_append_right _ hp, hy⟩

theorem chunks3_scales_cover (y : S512x32.Idx) : ∀ n, n ≤ 4 → (y 0).val / 128 < n → ∃ p ∈ (chunks3 𝒱 c bd i arg1 harg1 arg2 harg2 arg3 harg3 arg4 harg4 arg5 harg5 arg6 harg6 arg7 harg7 arg8 harg8 arg9 harg9 arg10 harg10 arg11 h1 f1 n).2.1, y ∈ p.1.set
  | 0, _, h => absurd h (Nat.not_lt_zero _)
  | n + 1, hn4, h => by
    have hn : n < k0_t3_loop.trips := by rw [trips3]; omega
    have e := chunksL_succ (F := Ideal) 𝒱 c bd i arg1 harg1 arg2 harg2 arg3 harg3 arg4 harg4 arg5 harg5 arg6 harg6 arg7 harg7 arg8 harg8 arg9 harg9 arg10 harg10 arg11 h1 f1 ⟨n, hn⟩
    unfold chunks3
    rw [show n + 1 = (⟨n, hn⟩ : Fin k0_t3_loop.trips).val + 1 from rfl, e]
    by_cases q : (y 0).val / 128 = n
    · obtain ⟨p, hp, hy⟩ := trip3_scales_cover 𝒱 c bd i arg1 harg1 arg2 harg2 arg3 harg3 arg4 harg4 arg5 harg5 arg6 harg6 arg7 harg7 arg8 harg8 arg9 harg9 arg10 harg10 arg11 h1 f1 ⟨n, hn⟩ y q
      exact ⟨p, List.mem_append_left _ hp, hy⟩
    · obtain ⟨p, hp, hy⟩ := chunks3_scales_cover y n (by omega) (by omega)
      exact ⟨p, List.mem_append_right _ hp, hy⟩

/-- The blocks after the four trips. -/
theorem chunks3_codes_read (f6 : BufTy.Contents (Elt Ideal) arg6.view.ty) : arg6.view.read (Elt Ideal) (arg6.view.writes (Elt Ideal) f6 (chunks3 𝒱 c bd i arg1 harg1 arg2 harg2 arg3 harg3 arg4 harg4 arg5 harg5 arg6 harg6 arg7 harg7 arg8 harg8 arg9 harg9 arg10 harg10 arg11 h1 f1 k0_t3_loop.trips).1)
    = bC (n := 512) (m := 4096) (by decide) (arg1.view.read (Elt Ideal) f1) := by
  funext y
  have y0 : (y 0).val < 512 := (y 0).isLt
  exact View.read_writes_apply_of_pieces arg6.view f6 _ _ (fun p hp x => (chunks3_pieces 𝒱 c bd i arg1 harg1 arg2 harg2 arg3 harg3 arg4 harg4 arg5 harg5 arg6 harg6 arg7 harg7 arg8 harg8 arg9 harg9 arg10 harg10 arg11 h1 f1 _ (by rw [trips3])).1.mem p hp x) y
    (chunks3_codes_cover 𝒱 c bd i arg1 harg1 arg2 harg2 arg3 harg3 arg4 harg4 arg5 harg5 arg6 harg6 arg7 harg7 arg8 harg8 arg9 harg9 arg10 harg10 arg11 h1 f1 y _ (by rw [trips3]) (by rw [trips3]; omega))
theorem chunks3_scales_read (f7 : BufTy.Contents (Elt Ideal) arg7.view.ty) : arg7.view.read (Elt Ideal) (arg7.view.writes (Elt Ideal) f7 (chunks3 𝒱 c bd i arg1 harg1 arg2 harg2 arg3 harg3 arg4 harg4 arg5 harg5 arg6 harg6 arg7 harg7 arg8 harg8 arg9 harg9 arg10 harg10 arg11 h1 f1 k0_t3_loop.trips).2.1)
    = bS (n := 512) (m := 4096) (G := 32) (by decide) (arg1.view.read (Elt Ideal) f1) := by
  funext y
  have y0 : (y 0).val < 512 := (y 0).isLt
  exact View.read_writes_apply_of_pieces arg7.view f7 _ _ (fun p hp x => (chunks3_pieces 𝒱 c bd i arg1 harg1 arg2 harg2 arg3 harg3 arg4 harg4 arg5 harg5 arg6 harg6 arg7 harg7 arg8 harg8 arg9 harg9 arg10 harg10 arg11 h1 f1 _ (by rw [trips3])).2.1.mem p hp x) y
    (chunks3_scales_cover 𝒱 c bd i arg1 harg1 arg2 harg2 arg3 harg3 arg4 harg4 arg5 harg5 arg6 harg6 arg7 harg7 arg8 harg8 arg9 harg9 arg10 harg10 arg11 h1 f1 y _ (by rw [trips3]) (by rw [trips3]; omega))
theorem chunks3_slot_read (f10 : BufTy.Contents (Elt Ideal) arg10.view.ty) (y : S2x512x4096.Idx) (hy : (y 0).val = 0) :
    arg10.view.read (Elt Ideal) (arg10.view.writes (Elt Ideal) f10 (chunks3 𝒱 c bd i arg1 harg1 arg2 harg2 arg3 harg3 arg4 harg4 arg5 harg5 arg6 harg6 arg7 harg7 arg8 harg8 arg9 harg9 arg10 harg10 arg11 h1 f1 k0_t3_loop.trips).2.2) y = slotG arg1.view f1 y := by
  have y0 : (y 1).val < 512 := (y 1).isLt
  exact SlotOf.read (chunks3_pieces 𝒱 c bd i arg1 harg1 arg2 harg2 arg3 harg3 arg4 harg4 arg5 harg5 arg6 harg6 arg7 harg7 arg8 harg8 arg9 harg9 arg10 harg10 arg11 h1 f1 _ (by rw [trips3])).2.2 (fun z => chunks3_codes_cover 𝒱 c bd i arg1 harg1 arg2 harg2 arg3 harg3 arg4 harg4 arg5 harg5 arg6 harg6 arg7 harg7 arg8 harg8 arg9 harg9 arg10 harg10 arg11 h1 f1 z _ (by rw [trips3]) (by
    have z0 : (z 0).val < 512 := (z 0).isLt
    rw [trips3]; omega)) arg10.view f10 y hy

end Cert.KernelIdeal.Pf

end
-- ==== Proof.KI.Wq.lean ====
/-
  The weights dequantised: one scale for each block of 128 by 128.
-/
module

public import proofs.«01_k».proof.Proof.KI.Pieces

@[expose] public section

noncomputable section

namespace Cert.Quant
open Idealize.ShloMosaic

theorem row_blk (a : Fin 4096) : a.val / 128 < 32 := by omega
theorem col_blk (a : Fin 3328) : a.val / 128 < 26 := by omega
/-- The weights, dequantised. -/
def wq (W : (⟨2, ![4096, 3328]⟩ : Shape).Idx → EReal) (S : (⟨2, ![32, 26]⟩ : Shape).Idx → EReal) : (⟨2, ![4096, 3328]⟩ : Shape).Idx → EReal := fun y =>
  W y * S (ix2 ⟨(y 0 : Fin 4096).val / 128, row_blk (y 0)⟩ ⟨(y 1 : Fin 3328).val / 128, col_blk (y 1)⟩)
theorem wq_apply (W : (⟨2, ![4096, 3328]⟩ : Shape).Idx → EReal) (S : (⟨2, ![32, 26]⟩ : Shape).Idx → EReal) (a : Fin 4096) (b : Fin 3328) :
    wq W S (ix2 a b) = W (ix2 a b) * S (ix2 ⟨a.val / 128, row_blk a⟩ ⟨b.val / 128, col_blk b⟩) := rfl

end Cert.Quant

end
-- ==== Proof.KI.WeightsVal.lean ====
/-
  What the weights loop of the first step leaves: the dequantised weights, block by block.
-/
module

public import proofs.«01_k».proof.Proof.KI.Wq
public import proofs.«01_k».proof.Proof.KI.Weights
public import Idealize.ShloMosaic.Lib.Ring

@[expose] public section

set_option maxRecDepth 16384
set_option maxHeartbeats 4000000

noncomputable section

namespace Cert.KernelIdeal.Pf

open Cert.KernelIdeal Cert.KernelIdeal.Gen Cert.Quant
open Idealize.ShloMosaic Idealize.ShloMosaic.TcCoe Idealize.ShloMosaic.Tactic
open Idealize.ShloMosaic.View (PiecesOf)

variable (c : Dev nD) (i : grid0.Coords) (arg1 : Memref sig .tc .vmem S512x4096 .bf16) (harg1 : arg1.IsWhole)
  (arg3 : Memref sig .tc .smem S32x26 .f32) (harg3 : arg3.IsWhole)
  (arg4 : Memref sig .tc .vmem S512x1664 .fp8e4m3) (harg4 : arg4.IsWhole) (arg5 : Memref sig .tc .vmem S512x13 .f32) (harg5 : arg5.IsWhole)
  (arg6 : Memref sig .tc .vmem S512x4096 .fp8e4m3) (harg6 : arg6.IsWhole) (arg7 : Memref sig .tc .vmem S512x32 .f32) (harg7 : arg7.IsWhole)
  (arg8 : Memref sig .tc .vmem S13x4096x256 .bf16) (harg8 : arg8.IsWhole) (arg10 : Memref sig .tc .vmem S2x512x4096 .bf16) (harg10 : arg10.IsWhole)
  (h1 : k0_cond1 i = 1#1)
  (XA : Buf (Elt Ideal) (aM.view.loc (c : Thread nD τ))) (X3 : Bf (F := Ideal) arg3)

theorem off12a_eq : ∀ (k : Fin k0_t1_loop.trips) (m : Fin k0_t2_loop.trips), k0_off12 k m 0#32 = ![m.val, k.val] := by decide +kernel
theorem off12b_eq : ∀ (k : Fin k0_t1_loop.trips) (m : Fin k0_t2_loop.trips), k0_off12 k m 13#32 = ![m.val, k.val + 13] := by decide +kernel
theorem off13_eq : ∀ (k : Fin k0_t1_loop.trips) (m : Fin k0_t2_loop.trips), k0_off13 k m = ![k.val, 128 * m.val, 0] := by decide +kernel
theorem off15_eq : ∀ (k : Fin k0_t1_loop.trips) (m : Fin k0_t2_loop.trips), k0_off15 k m = ![k.val, 128 * m.val, 128] := by decide +kernel

theorem m_lt (m : Fin k0_t2_loop.trips) : m.val < 32 := Nat.lt_of_lt_of_eq m.isLt trips2

/-! ## A block as it lands in a half-slot -/

theorem rslot_read (s h : Fin 2) (f : Buf (Elt Ideal) ((rslot s h).view.loc (c : Thread nD τ))) (r : Fin 4096) (l : Fin 128) :
    (rslot s h).view.read (Elt Ideal) f (ix2 r l) = stM.view.read (Elt Ideal) f (ix4 s h r l) := by
  have e : (rslot s h).view.read (Elt Ideal) f = shapeCast S4096x128 (fun y : S1x1x4096x128.Idx =>
      stM.view.readAt (Elt Ideal) (Rect.unit (s := S2x2x4096x128) (slotOff s h) S1x1x4096x128.size (slotOff_inb s h)).toLoadRect f y) (by decide) := rfl
  rw [e]
  refine (shapeCast_apply _ _ (ix2 r l) (ix4 0 0 r l : S1x1x4096x128.Idx) ?_).trans ?_
  · simp only [Shape.rowMajor_val_two, Shape.rowMajor_val_four]
    show _ = _
    simp
  · show stM.view.read (Elt Ideal) f _ = _
    refine congrArg (stM.view.read (Elt Ideal) f) (funext fun a => Fin.ext ?_)
    match a with
    | ⟨0, _⟩ => show s.val + 1 * 0 = s.val; omega
    | ⟨1, _⟩ => show h.val + 1 * 0 = h.val; omega
    | ⟨2, _⟩ => show 0 + 1 * r.val = r.val; omega
    | ⟨3, _⟩ => show 0 + 1 * l.val = l.val; omega

theorem landed_read (s h : Fin 2) (b : Fin 26) (f : Buf (Elt Ideal) ((rslot s h).view.loc (c : Thread nD τ))) (r : Fin 4096) (l : Fin 128) :
    stM.view.read (Elt Ideal) (landed c XA s h b f) (ix4 s h r l) = aM.view.read (Elt Ideal) XA (ix2 r ⟨128 * b.val + l.val, by omega⟩) := by
  rw [← rslot_read c s h]
  refine (View.read_writes_apply_of_pieces (rslot s h).view f (payload c XA b) [⟨Rect.whole S4096x128, payload c XA b⟩] ?_ (ix2 r l) ?_).trans ?_
  · intro p hp x
    obtain rfl := List.mem_singleton.mp hp
    refine congrArg (payload c XA b) (funext fun a => Fin.ext ?_)
    show (x a).val = 0 + 1 * (x a).val
    omega
  · exact ⟨_, List.mem_singleton.mpr rfl, (Rect.whole S4096x128).mem_set.mpr fun a => ⟨((ix2 r l : S4096x128.Idx) a).val, ((ix2 r l : S4096x128.Idx) a).isLt, by
      show _ = 0 + 1 * _; omega⟩⟩
  · show aM.view.read (Elt Ideal) XA _ = _
    refine congrArg (aM.view.read (Elt Ideal) XA) (funext fun a => Fin.ext ?_)
    match a with
    | ⟨0, _⟩ => show 0 + 1 * r.val = r.val; omega
    | ⟨1, _⟩ => show 128 * b.val + 1 * l.val = 128 * b.val + l.val; omega

/-! ## One row block -/

section
variable (k : Fin k0_t1_loop.trips) (X0 : Buf (Elt Ideal) ((rslot (Ring.sl 2 k.val) 0).view.loc (c : Thread nD τ)))
    (X1 : Buf (Elt Ideal) ((rslot (Ring.sl 2 k.val) 1).view.loc (c : Thread nD τ))) (W : S4096x3328.Idx → EReal)

theorem scale_a (m : Fin k0_t2_loop.trips) : tripR.sl.r (F := Ideal) i arg3 h1 k X3 m
    = arg3.view.read (Elt Ideal) X3 (ix2 ⟨m.val, m_lt m⟩ ⟨k.val, by have := k_lt k; omega⟩) := by
  unfold tripR.sl.r
  have e := off12a_eq k m
  show arg3.view.read (Elt Ideal) X3 _ = _
  refine congrArg (arg3.view.read (Elt Ideal) X3) (funext fun a => Fin.ext ?_)
  match a with
  | ⟨0, _⟩ => show k0_off12 k m 0#32 0 + 1 * 0 = m.val; rw [e]; rfl
  | ⟨1, _⟩ => show k0_off12 k m 0#32 1 + 1 * 0 = k.val; rw [e]; rfl
theorem scale_b (m : Fin k0_t2_loop.trips) : tripR.sl.r_1 (F := Ideal) i arg3 h1 k X3 m
    = arg3.view.read (Elt Ideal) X3 (ix2 ⟨m.val, m_lt m⟩ ⟨k.val + 13, by have := k_lt k; omega⟩) := by
  unfold tripR.sl.r_1
  have e := off12b_eq k m
  show arg3.view.read (Elt Ideal) X3 _ = _
  refine congrArg (arg3.view.read (Elt Ideal) X3) (funext fun a => Fin.ext ?_)
  match a with
  | ⟨0, _⟩ => show k0_off12 k m 13#32 0 + 1 * 0 = m.val; rw [e]; rfl
  | ⟨1, _⟩ => show k0_off12 k m 13#32 1 + 1 * 0 = k.val + 13; rw [e]; rfl

/-- One piece: a block of 128 rows of half `h` of the weights' block `k`, times its scale. -/
theorem half_eq (S : S32x26.Idx → EReal) (h : ℕ) (hh : h < 2) (m : Fin k0_t2_loop.trips) (r l : Fin 128) (y : S13x4096x256.Idx) (w v : EReal)
    (h0 : (y 0).val = k.val) (h1 : (y 1).val = 128 * m.val + r.val) (h2 : (y 2).val = 128 * h + l.val)
    (hw : w = W (ix2 ⟨128 * m.val + r.val, by have := m_lt m; omega⟩ ⟨128 * (k.val + 13 * h) + l.val, by have := k_lt k; omega⟩))
    (hv : v = S (ix2 ⟨m.val, m_lt m⟩ ⟨k.val + 13 * h, by have := k_lt k; omega⟩)) :
    w * v = wBlk (wq W S) y := by
  subst hw hv
  have hk := k_lt k
  have hm := m_lt m
  have ec : (wCol (y 0) (y 2)).val = 128 * (k.val + 13 * h) + l.val := by
    show 128 * (y 0).val + (y 2).val + (if (y 2).val < 128 then 0 else 1536) = _
    split <;> omega
  show _ = W (ix2 (y 1 : Fin 4096) (wCol (y 0) (y 2))) * S (ix2 ⟨(y 1 : Fin 4096).val / 128, row_blk (y 1)⟩ ⟨(wCol (y 0) (y 2)).val / 128, col_blk _⟩)
  have e1 : (⟨128 * m.val + r.val, by omega⟩ : Fin 4096) = y 1 := Fin.ext h1.symm
  have e2 : (⟨128 * (k.val + 13 * h) + l.val, by omega⟩ : Fin 3328) = wCol (y 0) (y 2) := Fin.ext ec.symm
  have e3 : (⟨m.val, m_lt m⟩ : Fin 32) = ⟨(y 1 : Fin 4096).val / 128, row_blk (y 1)⟩ := Fin.ext (by show m.val = (y 1).val / 128; omega)
  have e4 : (⟨k.val + 13 * h, by omega⟩ : Fin 26) = ⟨(wCol (y 0) (y 2)).val / 128, col_blk _⟩ := Fin.ext (by show k.val + 13 * h = (wCol (y 0) (y 2)).val / 128; omega)
  rw [e1, e2, e3, e4]

theorem tripR_pieces (hX0 : ∀ r l, stM.view.read (Elt Ideal) X0 (ix4 (Ring.sl 2 k.val) 0 r l) = W (ix2 r ⟨128 * k.val + l.val, by have := k_lt k; omega⟩))
    (hX1 : ∀ r l, stM.view.read (Elt Ideal) X1 (ix4 (Ring.sl 2 k.val) 1 r l) = W (ix2 r ⟨128 * (k.val + 13) + l.val, by have := k_lt k; omega⟩))
    (m : Fin k0_t2_loop.trips) :
    PiecesOf (wBlk (wq W (arg3.view.read (Elt Ideal) X3))) (tripR (F := Ideal) c i arg1 harg1 arg3 harg3 arg4 harg4 arg5 harg5 arg6 harg6 arg7 harg7 arg8 harg8 arg10 harg10 h1 k X3 X0 X1 m).1 := by
  unfold tripR
  have hm := m_lt m
  refine ⟨fun x => ?_, fun x => ?_, trivial⟩
  · obtain ⟨u, r, l, rfl⟩ : ∃ (u : Fin 1) (r l : Fin 128), x = ix3 u r l := ⟨x 0, x 1, x 2, eq_ix3 x⟩
    have e := off15_eq k m
    have e' := off14_eq k m
    refine (pay2_apply _ _ u r l).trans (half_eq k W _ 1 (by decide) m r l _ _ _ ?_ ?_ ?_ ?_ ?_)
    · show k0_off15 k m 0 + 1 * u.val = k.val; rw [e]; show k.val + 1 * u.val = k.val; omega
    · show k0_off15 k m 1 + 1 * r.val = _; rw [e]; show 128 * m.val + 1 * r.val = _; omega
    · show k0_off15 k m 2 + 1 * l.val = _; rw [e]; show 128 + 1 * l.val = _; omega
    · refine Eq.trans ?_ (hX1 ⟨128 * m.val + r.val, by omega⟩ l)
      show stM.view.read (Elt Ideal) X1 _ = _
      refine congrArg (stM.view.read (Elt Ideal) X1) (funext fun a => Fin.ext ?_)
      match a with
      | ⟨0, _⟩ => show k0_off14 k m 0 + 1 * 0 = k.val % 2; rw [e']; rfl
      | ⟨1, _⟩ => show k0_off14 k m 1 + 1 * 0 = 1; rw [e']; rfl
      | ⟨2, _⟩ => show k0_off14 k m 2 + 1 * r.val = 128 * m.val + r.val; rw [e']; show 128 * m.val + 1 * r.val = _; omega
      | ⟨3, _⟩ => show k0_off14 k m 3 + 1 * l.val = l.val; rw [e']; show 0 + 1 * l.val = _; omega
    · exact scale_b i arg3 h1 X3 k m
  · obtain ⟨u, r, l, rfl⟩ : ∃ (u : Fin 1) (r l : Fin 128), x = ix3 u r l := ⟨x 0, x 1, x 2, eq_ix3 x⟩
    have e := off13_eq k m
    have e' := off11_eq k m
    refine (pay1_apply _ _ u r l).trans (half_eq k W _ 0 (by decide) m r l _ _ _ ?_ ?_ ?_ ?_ ?_)
    · show k0_off13 k m 0 + 1 * u.val = k.val; rw [e]; show k.val + 1 * u.val = k.val; omega
    · show k0_off13 k m 1 + 1 * r.val = _; rw [e]; show 128 * m.val + 1 * r.val = _; omega
    · show k0_off13 k m 2 + 1 * l.val = _; rw [e]; show 0 + 1 * l.val = _; omega
    · refine Eq.trans ?_ (hX0 ⟨128 * m.val + r.val, by omega⟩ l)
      show stM.view.read (Elt Ideal) X0 _ = _
      refine congrArg (stM.view.read (Elt Ideal) X0) (funext fun a => Fin.ext ?_)
      match a with
      | ⟨0, _⟩ => show k0_off11 k m 0 + 1 * 0 = k.val % 2; rw [e']; rfl
      | ⟨1, _⟩ => show k0_off11 k m 1 + 1 * 0 = 0; rw [e']; rfl
      | ⟨2, _⟩ => show k0_off11 k m 2 + 1 * r.val = 128 * m.val + r.val; rw [e']; show 128 * m.val + 1 * r.val = _; omega
      | ⟨3, _⟩ => show k0_off11 k m 3 + 1 * l.val = l.val; rw [e']; show 0 + 1 * l.val = _; omega
    · exact scale_a i arg3 h1 X3 k m

theorem PiecesOf.append {s : Shape} {e : EltTy} {G : s.Idx → Elt Ideal e} : ∀ {L L' : List (View.Piece (Elt Ideal) s e)}, PiecesOf G L → PiecesOf G L' → PiecesOf G (L ++ L')
  | [], _, _, h => h
  | _ :: _, _, h, h' => ⟨h.1, PiecesOf.append h.2 h'⟩

/-- The piece of trip `k`, `m` in half `h` holds its part of the buffer. -/
theorem tripR_cover (m : Fin k0_t2_loop.trips) (y : S13x4096x256.Idx) (h0 : (y 0).val = k.val) (hm : (y 1).val / 128 = m.val) :
    ∃ p ∈ (tripR (F := Ideal) c i arg1 harg1 arg3 harg3 arg4 harg4 arg5 harg5 arg6 harg6 arg7 harg7 arg8 harg8 arg10 harg10 h1 k X3 X0 X1 m).1, y ∈ p.1.set := by
  unfold tripR
  have y1 : (y 1).val < 4096 := (y 1).isLt
  have y2 : (y 2).val < 256 := (y 2).isLt
  by_cases hl : (y 2).val < 128
  · refine ⟨_, List.mem_cons_of_mem _ List.mem_cons_self, ?_⟩
    refine (LoadRect.mem_set _).mpr fun a => ?_
    have e := off13_eq k m
    match a with
    | ⟨0, _⟩ => exact ⟨0, by show 0 < 1; omega, by show (y 0).val = k0_off13 k m 0 + 1 * 0; rw [e]; show _ = k.val + 1 * 0; omega⟩
    | ⟨1, _⟩ => exact ⟨(y 1).val % 128, by show _ < 128; omega, by show (y 1).val = k0_off13 k m 1 + 1 * _; rw [e]; show _ = 128 * m.val + 1 * _; omega⟩
    | ⟨2, _⟩ => exact ⟨(y 2).val, by show _ < 128; omega, by show (y 2).val = k0_off13 k m 2 + 1 * _; rw [e]; show _ = 0 + 1 * _; omega⟩
  · refine ⟨_, List.mem_cons_self, ?_⟩
    refine (LoadRect.mem_set _).mpr fun a => ?_
    have e := off15_eq k m
    match a with
    | ⟨0, _⟩ => exact ⟨0, by show 0 < 1; omega, by show (y 0).val = k0_off15 k m 0 + 1 * 0; rw [e]; show _ = k.val + 1 * 0; omega⟩
    | ⟨1, _⟩ => exact ⟨(y 1).val % 128, by show _ < 128; omega, by show (y 1).val = k0_off15 k m 1 + 1 * _; rw [e]; show _ = 128 * m.val + 1 * _; omega⟩
    | ⟨2, _⟩ => exact ⟨(y 2).val - 128, by show _ < 128; omega, by show (y 2).val = k0_off15 k m 2 + 1 * _; rw [e]; show _ = 128 + 1 * _; omega⟩

theorem rowsL_pieces (hX0 : ∀ r l, stM.view.read (Elt Ideal) X0 (ix4 (Ring.sl 2 k.val) 0 r l) = W (ix2 r ⟨128 * k.val + l.val, by have := k_lt k; omega⟩))
    (hX1 : ∀ r l, stM.view.read (Elt Ideal) X1 (ix4 (Ring.sl 2 k.val) 1 r l) = W (ix2 r ⟨128 * (k.val + 13) + l.val, by have := k_lt k; omega⟩)) :
    ∀ n, PiecesOf (wBlk (wq W (arg3.view.read (Elt Ideal) X3))) (rowsL (F := Ideal) c i arg1 harg1 arg3 harg3 arg4 harg4 arg5 harg5 arg6 harg6 arg7 harg7 arg8 harg8 arg10 harg10 h1 k X3 X0 X1 n)
  | 0 => trivial
  | n + 1 => by
    rw [rowsL]
    refine PiecesOf.append ?_ (rowsL_pieces hX0 hX1 n)
    split
    · exact tripR_pieces c i arg1 harg1 arg3 harg3 arg4 harg4 arg5 harg5 arg6 harg6 arg7 harg7 arg8 harg8 arg10 harg10 h1 X3 k X0 X1 W hX0 hX1 _
    · trivial

theorem rowsL_cover (m : Fin k0_t2_loop.trips) (y : S13x4096x256.Idx) (h0 : (y 0).val = k.val) (hm : (y 1).val / 128 = m.val) :
    ∀ n, m.val < n → ∃ p ∈ rowsL (F := Ideal) c i arg1 harg1 arg3 harg3 arg4 harg4 arg5 harg5 arg6 harg6 arg7 harg7 arg8 harg8 arg10 harg10 h1 k X3 X0 X1 n, y ∈ p.1.set
  | 0, h => absurd h (Nat.not_lt_zero _)
  | n + 1, h => by
    rw [rowsL]
    by_cases e : m.val = n
    · obtain ⟨p, hp, hy⟩ := tripR_cover c i arg1 harg1 arg3 harg3 arg4 harg4 arg5 harg5 arg6 harg6 arg7 harg7 arg8 harg8 arg10 harg10 h1 X3 k X0 X1 m y h0 hm
      refine ⟨p, List.mem_append_left _ ?_, hy⟩
      rw [dif_pos (e ▸ m.isLt : n < k0_t2_loop.trips)]
      subst e
      exact hp
    · obtain ⟨p, hp, hy⟩ := rowsL_cover m y h0 hm n (by omega)
      exact ⟨p, List.mem_append_right _ hp, hy⟩

/-! ## All the blocks -/

theorem land0 (f : Buf (Elt Ideal) ((rslot (Ring.sl 2 k.val) 0).view.loc (c : Thread nD τ))) (r : Fin 4096) (l : Fin 128) :
    stM.view.read (Elt Ideal) (landed c XA (Ring.sl 2 k.val) 0 (Ring.bk 26 k.val) f) (ix4 (Ring.sl 2 k.val) 0 r l)
      = aM.view.read (Elt Ideal) XA (ix2 r ⟨128 * k.val + l.val, by have := k_lt k; omega⟩) := by
  have hk := k_lt k
  rw [landed_read]
  refine congrArg (aM.view.read (Elt Ideal) XA) (congrArg (ix2 r) (Fin.ext ?_))
  show 128 * (Ring.bk 26 k.val).val + l.val = _
  rw [bk26 (by omega)]
theorem land1 (f : Buf (Elt Ideal) ((rslot (Ring.sl 2 k.val) 1).view.loc (c : Thread nD τ))) (r : Fin 4096) (l : Fin 128) :
    stM.view.read (Elt Ideal) (landed c XA (Ring.sl 2 k.val) 1 (Ring.bk 26 (k.val + 13)) f) (ix4 (Ring.sl 2 k.val) 1 r l)
      = aM.view.read (Elt Ideal) XA (ix2 r ⟨128 * (k.val + 13) + l.val, by have := k_lt k; omega⟩) := by
  have hk := k_lt k
  rw [landed_read]
  refine congrArg (aM.view.read (Elt Ideal) XA) (congrArg (ix2 r) (Fin.ext ?_))
  show 128 * (Ring.bk 26 (k.val + 13)).val + l.val = _
  rw [bk26 (by omega)]

theorem tripL_eq : ∃ f0 f1, tripL (F := Ideal) c i arg1 harg1 arg3 harg3 arg4 harg4 arg5 harg5 arg6 harg6 arg7 harg7 arg8 harg8 arg10 harg10 h1 XA X3 k = rowsL (F := Ideal) c i arg1 harg1 arg3 harg3 arg4 harg4 arg5 harg5 arg6 harg6 arg7 harg7 arg8 harg8 arg10 harg10 h1 k X3 (landed c XA (Ring.sl 2 k.val) 0 (Ring.bk 26 k.val) f0)
    (landed c XA (Ring.sl 2 k.val) 1 (Ring.bk 26 (k.val + 13)) f1) k0_t2_loop.trips := by
  unfold tripL
  split
  · unfold tripA
    exact ⟨_, _, rfl⟩
  · unfold tripZ
    exact ⟨_, _, rfl⟩
end

theorem wqL_pieces : ∀ n, PiecesOf (wBlk (wq (aM.view.read (Elt Ideal) XA) (arg3.view.read (Elt Ideal) X3))) (wqL (F := Ideal) c i arg1 harg1 arg3 harg3 arg4 harg4 arg5 harg5 arg6 harg6 arg7 harg7 arg8 harg8 arg10 harg10 h1 XA X3 n)
  | 0 => trivial
  | n + 1 => by
    rw [wqL]
    split
    · rename_i hn
      refine PiecesOf.append ?_ (wqL_pieces n)
      obtain ⟨f0, f1, e⟩ := tripL_eq c i arg1 harg1 arg3 harg3 arg4 harg4 arg5 harg5 arg6 harg6 arg7 harg7 arg8 harg8 arg10 harg10 h1 XA X3 ⟨n, hn⟩
      rw [e]
      exact rowsL_pieces c i arg1 harg1 arg3 harg3 arg4 harg4 arg5 harg5 arg6 harg6 arg7 harg7 arg8 harg8 arg10 harg10 h1 X3 ⟨n, hn⟩ _ _ _ (land0 c XA ⟨n, hn⟩ f0) (land1 c XA ⟨n, hn⟩ f1) _
    · exact wqL_pieces n

theorem wqL_cover (y : S13x4096x256.Idx) : ∀ n, (y 0).val < n → n ≤ 13 → ∃ p ∈ wqL (F := Ideal) c i arg1 harg1 arg3 harg3 arg4 harg4 arg5 harg5 arg6 harg6 arg7 harg7 arg8 harg8 arg10 harg10 h1 XA X3 n, y ∈ p.1.set
  | 0, h, _ => absurd h (Nat.not_lt_zero _)
  | n + 1, h, hn => by
    have y1 : (y 1).val < 4096 := (y 1).isLt
    have hn' : n < k0_t1_loop.trips := by rw [trips1]; omega
    rw [wqL, dif_pos hn']
    by_cases e : (y 0).val = n
    · obtain ⟨f0, f1, e'⟩ := tripL_eq c i arg1 harg1 arg3 harg3 arg4 harg4 arg5 harg5 arg6 harg6 arg7 harg7 arg8 harg8 arg10 harg10 h1 XA X3 ⟨n, hn'⟩
      obtain ⟨p, hp, hy⟩ := rowsL_cover c i arg1 harg1 arg3 harg3 arg4 harg4 arg5 harg5 arg6 harg6 arg7 harg7 arg8 harg8 arg10 harg10 h1 X3 ⟨n, hn'⟩ (landed c XA (Ring.sl 2 n) 0 (Ring.bk 26 n) f0) (landed c XA (Ring.sl 2 n) 1 (Ring.bk 26 (n + 13)) f1)
        ⟨(y 1).val / 128, Nat.lt_of_lt_of_eq (show (y 1).val / 128 < 32 by omega) trips2.symm⟩ y e rfl k0_t2_loop.trips (Nat.lt_of_lt_of_eq (show (y 1).val / 128 < 32 by omega) trips2.symm)
      exact ⟨p, List.mem_append_left _ (e' ▸ hp), hy⟩
    · obtain ⟨p, hp, hy⟩ := wqL_cover y n (by omega) (by omega)
      exact ⟨p, List.mem_append_right _ hp, hy⟩

/-- The prepared weights after the first step. -/
theorem wq_read (f8 : Bf (F := Ideal) arg8) (y : S13x4096x256.Idx) :
    arg8.view.read (Elt Ideal) (arg8.view.writes (Elt Ideal) f8 (wqL (F := Ideal) c i arg1 harg1 arg3 harg3 arg4 harg4 arg5 harg5 arg6 harg6 arg7 harg7 arg8 harg8 arg10 harg10 h1 XA X3 k0_t1_loop.trips)) y
      = wBlk (wq (aM.view.read (Elt Ideal) XA) (arg3.view.read (Elt Ideal) X3)) y :=
  View.read_writes_apply_of_pieces arg8.view f8 _ _ (fun p hp x => (wqL_pieces c i arg1 harg1 arg3 harg3 arg4 harg4 arg5 harg5 arg6 harg6 arg7 harg7 arg8 harg8 arg10 harg10 h1 XA X3 _).mem p hp x) y
    (wqL_cover c i arg1 harg1 arg3 harg3 arg4 harg4 arg5 harg5 arg6 harg6 arg7 harg7 arg8 harg8 arg10 harg10 h1 XA X3 y _ (by rw [trips1]; exact (y 0).isLt) (by rw [trips1]))

end Cert.KernelIdeal.Pf

end
-- ==== Proof.KI.LaterVal.lean ====
module

public import proofs.«01_k».proof.Proof.KI.Pieces
public import proofs.«01_k».proof.Proof.KI.Later
public import Idealize.ShloMosaic.Lib.Ring

@[expose] public section

set_option maxRecDepth 16384
set_option maxHeartbeats 4000000

noncomputable section

namespace Cert.KernelIdeal.Pf

open Cert.KernelIdeal Cert.KernelIdeal.Gen Cert.Quant
open Idealize.ShloMosaic Idealize.ShloMosaic.TcCoe Idealize.ShloMosaic.Tactic
open Idealize.ShloMosaic.View (PiecesOf)

variable (c : Dev nD) (i : grid0.Coords) (arg1 : Memref sig .tc .vmem S512x4096 .bf16) (harg1 : arg1.IsWhole)
    (arg2 : Memref sig .tc .hbm S4096x3328 .fp8e4m3) (harg2 : arg2.IsWhole) (arg3 : Memref sig .tc .smem S32x26 .f32) (harg3 : arg3.IsWhole)
    (arg4 : Memref sig .tc .vmem S512x1664 .fp8e4m3) (harg4 : arg4.IsWhole) (arg5 : Memref sig .tc .vmem S512x13 .f32) (harg5 : arg5.IsWhole)
    (arg6 : Memref sig .tc .vmem S512x4096 .fp8e4m3) (harg6 : arg6.IsWhole) (arg7 : Memref sig .tc .vmem S512x32 .f32) (harg7 : arg7.IsWhole)
    (arg8 : Memref sig .tc .vmem S13x4096x256 .bf16) (harg8 : arg8.IsWhole) (arg9 : Memref sig .tc .vmem S2x2x4096x128 .fp8e4m3) (harg9 : arg9.IsWhole)
    (arg10 : Memref sig .tc .vmem S2x512x4096 .bf16) (harg10 : arg10.IsWhole) (arg11 : DmaSems sig S2x2)
    (h1 : ¬ k0_cond1 i = 1#1) (h3 : k0_cond3 i = 1#1)
    (f1 : Bf (F := Ideal) arg1) (f8 : Bf (F := Ideal) arg8) (f10 : Bf (F := Ideal) arg10)

/-- What a later step stores. -/
abbrev later := laterRun (F := Ideal) c i arg1 harg1 arg2 harg2 arg3 harg3 arg4 harg4 arg5 harg5 arg6 harg6 arg7 harg7 arg8 harg8 arg9 harg9 arg10 harg10 arg11 h1 h3 f1 f8 f10

local notation "later'" => later c i arg1 harg1 arg2 harg2 arg3 harg3 arg4 harg4 arg5 harg5 arg6 harg6 arg7 harg7 arg8 harg8 arg9 harg9 arg10 harg10 arg11 h1 h3 f1 f8 f10

theorem later_codes : PiecesOf (bC (n := 512) (m := 4096) (by decide) (arg1.view.read (Elt Ideal) f1)) later'.2.2.1 := by
  repeat' first | exact trivial | refine codes_cons (by decide) rfl ?_

theorem later_codes_cover (y : S512x4096.Idx) : ∃ p ∈ later'.2.2.1, y ∈ p.1.set :=
  View.cover_of_tiledL (s := S512x4096) _ S128x128.size (by sl_kernel_rfl) y

theorem laterInb {R n : ℕ} (hR : R + 128 ≤ 512) (hn : n < 32) : ∀ a, (![R, 128 * n] : Fin 2 → ℕ) a + S128x128.size a ≤ S512x4096.size a := fun a =>
  match a with
  | ⟨0, _⟩ => hR
  | ⟨1, _⟩ => show 128 * n + 128 ≤ 4096 by omega

/-- The tiles of the rows from `R`. -/
def laterTile (R : ℕ) (hR : R + 128 ≤ 512) (n : ℕ) : Vec Ideal S128x128 .bf16 :=
  if hn : n < 32 then tileAt arg1.view f1 (laterInb hR hn) else fun _ => 0

theorem laterGood (R : ℕ) (hR : R + 128 ≤ 512) : Good arg1.view f1 R hR 32 (cols (laterTile arg1 f1 R hR) 32) :=
  Good.cols _ (fun n hn r => by
    unfold laterTile
    rw [dif_pos hn]
    exact tileAt_row _ (by show 128 * n % 128 = 0; omega) r _ rfl n (by show 128 * n / 128 = n; omega) _) 32 le_rfl

theorem laterGood' {R : ℕ} {hR : R + 128 ≤ 512} {pay : FVec Ideal S128x32 .f32} (h : pay = cols (laterTile arg1 f1 R hR) 32) : Good arg1.view f1 R hR 32 pay :=
  h ▸ laterGood arg1 f1 R hR

theorem later_scales : PiecesOf (bS (n := 512) (m := 4096) (G := 32) (by decide) (arg1.view.read (Elt Ideal) f1)) later'.2.2.2.1 :=
  scales_cons (R := 384) (hR := by decide) rfl rfl (laterGood' arg1 f1 (by sl_kernel_rfl))
    (scales_cons (R := 256) (hR := by decide) rfl rfl (laterGood' arg1 f1 (by sl_kernel_rfl))
    (scales_cons (R := 128) (hR := by decide) rfl rfl (laterGood' arg1 f1 (by sl_kernel_rfl))
    (scales_cons (R := 0) (hR := by decide) rfl rfl (laterGood' arg1 f1 (by sl_kernel_rfl)) trivial)))

theorem later_scales_cover (y : S512x32.Idx) : ∃ p ∈ later'.2.2.2.1, y ∈ p.1.set :=
  View.cover_of_tiledL (s := S512x32) _ S128x32.size (by sl_kernel_rfl) y

theorem later_slot : SlotOf ((i 0).val % 2) (slotG arg1.view f1) later'.2.2.2.2.1 later'.2.2.1 := by
  repeat' first | exact trivial | refine SlotOf.cons rfl (by decide) rfl ?_

/-! ## The hidden block -/

/-- The slot the step reads, as its load sees it after the step's own stores, -/
abbrev laterA : Vec Ideal S1x512x4096 .bf16 :=
  arg10.view.readAt (Elt Ideal) (Rect.unit (s := S2x512x4096) (k0_off210 i) S1x512x4096.size (k0_off210_inb i h3)).toLoadRect
    (arg10.view.writes (Elt Ideal) f10 later'.2.2.2.2.1)

theorem later_hcodes {XQ : S512x4096.Idx → EReal} {WQ : S4096x3328.Idx → EReal} (hf8 : ∀ y, arg8.view.read (Elt Ideal) f8 y = wBlk WQ y)
    (hA : ∀ r k, laterA c i arg1 harg1 arg2 harg2 arg3 harg3 arg4 harg4 arg5 harg5 arg6 harg6 arg7 harg7 arg8 harg8 arg9 harg9 arg10 harg10 arg11 h1 h3 f1 f8 f10 (ix3 0 r k) = XQ (ix2 r k)) :
    PiecesOf (bC (n := 512) (m := 1664) (by decide) (Hm XQ WQ)) later'.1 := by
  iterate 13 refine hcodes_cons hf8 hA (by decide) rfl (by decide) (by sl_kernel_rfl) ?_
  trivial

theorem later_hcodes_cover (y : S512x1664.Idx) : ∃ p ∈ later'.1, y ∈ p.1.set :=
  View.cover_of_tiledL (s := S512x1664) _ S512x128.size (by sl_kernel_rfl) y

theorem later_hscales {XQ : S512x4096.Idx → EReal} {WQ : S4096x3328.Idx → EReal} (hf8 : ∀ y, arg8.view.read (Elt Ideal) f8 y = wBlk WQ y)
    (hA : ∀ r k, laterA c i arg1 harg1 arg2 harg2 arg3 harg3 arg4 harg4 arg5 harg5 arg6 harg6 arg7 harg7 arg8 harg8 arg9 harg9 arg10 harg10 arg11 h1 h3 f1 f8 f10 (ix3 0 r k) = XQ (ix2 r k)) :
    PiecesOf (bS (n := 512) (m := 1664) (G := 13) (by decide) (Hm XQ WQ)) later'.2.1 :=
  hscales_one hf8 hA rfl rfl (by sl_kernel_rfl)

theorem later_hscales_cover (y : S512x13.Idx) : ∃ p ∈ later'.2.1, y ∈ p.1.set :=
  View.cover_of_tiledL (s := S512x13) _ S512x13.size (by sl_kernel_rfl) y

end Cert.KernelIdeal.Pf

end
-- ==== Proof.KI.Value.lean ====
/-
  The run of the kernel with the values it leaves: each step's blocks of the four results, as functions of the arguments.
-/
module

public import proofs.«01_k».proof.Proof.KI.Run
public import proofs.«01_k».proof.Proof.KI.ChunksVal
public import proofs.«01_k».proof.Proof.KI.WeightsVal
public import proofs.«01_k».proof.Proof.KI.LaterVal
public import Idealize.ShloMosaic.Lib.Pipeline.DatRel
public import Idealize.ShloMosaic.Lib.Pipeline.ArrRel

@[expose] public section

set_option maxRecDepth 16384

noncomputable section

namespace Cert.KernelIdeal.Pf

open Cert.KernelIdeal Cert.KernelIdeal.Gen Cert.Quant
open Idealize.ShloMosaic Idealize.ShloMosaic.TcCoe Idealize.ShloMosaic.Tactic
open Idealize.SL Idealize.SL.RA Idealize.SL.BI
open scoped Idealize.SL.BI
open Idealize.ShloMosaic.Pipeline (Dat Cfg Window BodyObligation BodyObligationRel cellOf)
open Idealize.SL.BI.BIBase Idealize.SL.BI.Laws Idealize.SL.ProofMode Idealize.SL.Sem

local notation "𝕄" => MT nD τ sig Unit (Elt Ideal) ℕ (Pipeline.UD sig nD τ) ℕ

variable (m : (ℓ : Loc nD τ sig) → Buf (Elt Ideal) ℓ) (ρ : Dev nD → PrngReg)

/-! ## A later step's reads -/

section
variable (c : Dev nD) (i : grid0.Coords) (arg1 : Memref sig .tc .vmem S512x4096 .bf16) (harg1 : arg1.IsWhole)
    (arg2 : Memref sig .tc .hbm S4096x3328 .fp8e4m3) (harg2 : arg2.IsWhole) (arg3 : Memref sig .tc .smem S32x26 .f32) (harg3 : arg3.IsWhole)
    (arg4 : Memref sig .tc .vmem S512x1664 .fp8e4m3) (harg4 : arg4.IsWhole) (arg5 : Memref sig .tc .vmem S512x13 .f32) (harg5 : arg5.IsWhole)
    (arg6 : Memref sig .tc .vmem S512x4096 .fp8e4m3) (harg6 : arg6.IsWhole) (arg7 : Memref sig .tc .vmem S512x32 .f32) (harg7 : arg7.IsWhole)
    (arg8 : Memref sig .tc .vmem S13x4096x256 .bf16) (harg8 : arg8.IsWhole) (arg9 : Memref sig .tc .vmem S2x2x4096x128 .fp8e4m3) (harg9 : arg9.IsWhole)
    (arg10 : Memref sig .tc .vmem S2x512x4096 .bf16) (harg10 : arg10.IsWhole) (arg11 : DmaSems sig S2x2)
    (h1 : ¬ k0_cond1 i = 1#1) (h3 : k0_cond3 i = 1#1)
    (f1 : Bf (F := Ideal) arg1) (f8 : Bf (F := Ideal) arg8) (f10 : Bf (F := Ideal) arg10)

local notation "later'" => later c i arg1 harg1 arg2 harg2 arg3 harg3 arg4 harg4 arg5 harg5 arg6 harg6 arg7 harg7 arg8 harg8 arg9 harg9 arg10 harg10 arg11 h1 h3 f1 f8 f10

theorem later_codes_read (f6 : Bf (F := Ideal) arg6) : arg6.view.read (Elt Ideal) (arg6.view.writes (Elt Ideal) f6 later'.2.2.1)
    = bC (n := 512) (m := 4096) (by decide) (arg1.view.read (Elt Ideal) f1) := funext fun y =>
  View.read_writes_apply_of_pieces arg6.view f6 _ _ (fun p hp x => (later_codes c i arg1 harg1 arg2 harg2 arg3 harg3 arg4 harg4 arg5 harg5 arg6 harg6 arg7 harg7 arg8 harg8 arg9 harg9 arg10 harg10 arg11 h1 h3 f1 f8 f10).mem p hp x) y
    (later_codes_cover c i arg1 harg1 arg2 harg2 arg3 harg3 arg4 harg4 arg5 harg5 arg6 harg6 arg7 harg7 arg8 harg8 arg9 harg9 arg10 harg10 arg11 h1 h3 f1 f8 f10 y)

theorem later_scales_read (f7 : Bf (F := Ideal) arg7) : arg7.view.read (Elt Ideal) (arg7.view.writes (Elt Ideal) f7 later'.2.2.2.1)
    = bS (n := 512) (m := 4096) (G := 32) (by decide) (arg1.view.read (Elt Ideal) f1) := funext fun y =>
  View.read_writes_apply_of_pieces arg7.view f7 _ _ (fun p hp x => (later_scales c i arg1 harg1 arg2 harg2 arg3 harg3 arg4 harg4 arg5 harg5 arg6 harg6 arg7 harg7 arg8 harg8 arg9 harg9 arg10 harg10 arg11 h1 h3 f1 f8 f10).mem p hp x) y
    (later_scales_cover c i arg1 harg1 arg2 harg2 arg3 harg3 arg4 harg4 arg5 harg5 arg6 harg6 arg7 harg7 arg8 harg8 arg9 harg9 arg10 harg10 arg11 h1 h3 f1 f8 f10 y)

theorem later_slot_read (y : S2x512x4096.Idx) (hy : (y 0).val = (i 0).val % 2) :
    arg10.view.read (Elt Ideal) (arg10.view.writes (Elt Ideal) f10 later'.2.2.2.2.1) y = slotG arg1.view f1 y :=
  (later_slot c i arg1 harg1 arg2 harg2 arg3 harg3 arg4 harg4 arg5 harg5 arg6 harg6 arg7 harg7 arg8 harg8 arg9 harg9 arg10 harg10 arg11 h1 h3 f1 f8 f10).read
    (later_codes_cover c i arg1 harg1 arg2 harg2 arg3 harg3 arg4 harg4 arg5 harg5 arg6 harg6 arg7 harg7 arg8 harg8 arg9 harg9 arg10 harg10 arg11 h1 h3 f1 f8 f10) arg10.view f10 y hy

theorem laterA_read {XQ : S512x4096.Idx → EReal} {s : ℕ} (ho : k0_off210 i = ![s, 0, 0]) (hs : s ≠ (i 0).val % 2)
    (hX : ∀ y : S2x512x4096.Idx, (y 0).val = s → arg10.view.read (Elt Ideal) f10 y = XQ (ix2 (y 1) (y 2))) (r : Fin 512) (k : Fin 4096) :
    laterA c i arg1 harg1 arg2 harg2 arg3 harg3 arg4 harg4 arg5 harg5 arg6 harg6 arg7 harg7 arg8 harg8 arg9 harg9 arg10 harg10 arg11 h1 h3 f1 f8 f10 (ix3 0 r k) = XQ (ix2 r k) := by
  have o0 : k0_off210 i 0 = s := congrFun ho 0
  have o1 : k0_off210 i 1 = 0 := congrFun ho 1
  have o2 : k0_off210 i 2 = 0 := congrFun ho 2
  refine ((later_slot c i arg1 harg1 arg2 harg2 arg3 harg3 arg4 harg4 arg5 harg5 arg6 harg6 arg7 harg7 arg8 harg8 arg9 harg9 arg10 harg10 arg11 h1 h3 f1 f8 f10).read_other arg10.view f10 _ ?_).trans ((hX _ ?_).trans ?_)
  · show k0_off210 i 0 + 1 * 0 ≠ _
    rw [o0]; exact hs
  · show k0_off210 i 0 + 1 * 0 = _
    rw [o0]
    rfl
  · refine congrArg XQ (funext fun a => ?_)
    match a with
    | ⟨0, _⟩ =>
      refine Fin.ext ?_
      show k0_off210 i 1 + 1 * r.val = r.val
      rw [o1]; omega
    | ⟨1, _⟩ =>
      refine Fin.ext ?_
      show k0_off210 i 2 + 1 * k.val = k.val
      rw [o2]; omega

variable {XQ : S512x4096.Idx → EReal} {WQ : S4096x3328.Idx → EReal} (hf8 : ∀ y, arg8.view.read (Elt Ideal) f8 y = wBlk WQ y)
    {s : ℕ} (ho : k0_off210 i = ![s, 0, 0]) (hs : s ≠ (i 0).val % 2)
    (hX : ∀ y : S2x512x4096.Idx, (y 0).val = s → arg10.view.read (Elt Ideal) f10 y = XQ (ix2 (y 1) (y 2)))
include hf8 ho hs hX

theorem later_hcodes_read (f4 : Bf (F := Ideal) arg4) : arg4.view.read (Elt Ideal) (arg4.view.writes (Elt Ideal) f4 later'.1)
    = bC (n := 512) (m := 1664) (by decide) (Hm XQ WQ) := funext fun y =>
  View.read_writes_apply_of_pieces arg4.view f4 _ _ (fun p hp x => (later_hcodes c i arg1 harg1 arg2 harg2 arg3 harg3 arg4 harg4 arg5 harg5 arg6 harg6 arg7 harg7 arg8 harg8 arg9 harg9 arg10 harg10 arg11 h1 h3 f1 f8 f10 hf8
      (laterA_read c i arg1 harg1 arg2 harg2 arg3 harg3 arg4 harg4 arg5 harg5 arg6 harg6 arg7 harg7 arg8 harg8 arg9 harg9 arg10 harg10 arg11 h1 h3 f1 f8 f10 ho hs hX)).mem p hp x) y
    (later_hcodes_cover c i arg1 harg1 arg2 harg2 arg3 harg3 arg4 harg4 arg5 harg5 arg6 harg6 arg7 harg7 arg8 harg8 arg9 harg9 arg10 harg10 arg11 h1 h3 f1 f8 f10 y)

theorem later_hscales_read (f5 : Bf (F := Ideal) arg5) : arg5.view.read (Elt Ideal) (arg5.view.writes (Elt Ideal) f5 later'.2.1)
    = bS (n := 512) (m := 1664) (G := 13) (by decide) (Hm XQ WQ) := funext fun y =>
  View.read_writes_apply_of_pieces arg5.view f5 _ _ (fun p hp x => (later_hscales c i arg1 harg1 arg2 harg2 arg3 harg3 arg4 harg4 arg5 harg5 arg6 harg6 arg7 harg7 arg8 harg8 arg9 harg9 arg10 harg10 arg11 h1 h3 f1 f8 f10 hf8
      (laterA_read c i arg1 harg1 arg2 harg2 arg3 harg3 arg4 harg4 arg5 harg5 arg6 harg6 arg7 harg7 arg8 harg8 arg9 harg9 arg10 harg10 arg11 h1 h3 f1 f8 f10 ho hs hX)).mem p hp x) y
    (later_hscales_cover c i arg1 harg1 arg2 harg2 arg3 harg3 arg4 harg4 arg5 harg5 arg6 harg6 arg7 harg7 arg8 harg8 arg9 harg9 arg10 harg10 arg11 h1 h3 f1 f8 f10 y)
end

/-- The slot step `t` reads. -/
theorem off210_eq (t : Fin cfg0.N) : k0_off210 (grid0.coords t) = ![(t.val + 1) % 2, 0, 0] := by
  revert t; decide +kernel

/-! ## What the steps hold -/

abbrev t00 : Fin cfg0.N := ⟨0, by decide⟩
/-- Block `t` of the rows, the weights and their scales. -/
abbrev xB (c : Dev nD) (t : Fin cfg0.N) : S512x4096.Idx → EReal := iblk m c 0 t
abbrev wA (c : Dev nD) : S4096x3328.Idx → EReal := aM.view.read (Elt Ideal) (V m c main_arg1)
abbrev sA (c : Dev nD) : S32x26.Idx → EReal := iblk m c 1 t00
abbrev wQ (c : Dev nD) : S4096x3328.Idx → EReal := wq (wA m c) (sA m c)
abbrev xD (c : Dev nD) (t : Fin cfg0.N) : S512x4096.Idx → EReal := bD (n := 512) (m := 4096) (by decide) (xB m c t)

/-- The prepared weights are there after the first step, -/
def wqOK (c : Dev nD) (n : ℕ) (f : Bf (F := Ideal) wqM) : Prop := n ≠ 0 → ∀ y, wqM.view.read (Elt Ideal) f y = wBlk (wQ m c) y
/-- and the slot of the last block quantised holds its dequantised rows. -/
def slotOK (c : Dev nD) (n : ℕ) (f : Bf (F := Ideal) xqM) : Prop :=
  ∀ u : Fin cfg0.N, u.val + 1 = n → ∀ y : S2x512x4096.Idx, (y 0).val = u.val % 2 → xqM.view.read (Elt Ideal) f y = xD m c u (ix2 (y 1) (y 2))

def PhiV (c : Dev nD) (n : ℕ) : sProp 𝕄 :=
  iprop(((∃ f, ⌜wqOK m c n f⌝ ∗ pt c wqM f) ∗ (∃ f : Buf (Elt Ideal) ((c : Thread nD τ).loc cc0_scratch1), ((c : Thread nD τ).loc cc0_scratch1) ↦{fullShare} f) ∗ (∃ f, ⌜slotOK m c n f⌝ ∗ pt c xqM f))
    ∗ (∃ r, prngReg c r) ∗ (cellP c 0 0 ∗ cellP c 0 1 ∗ cellP c 1 0 ∗ cellP c 1 1) ∗ bigSep Finset.univ (homeP c (V m c main_arg1)))

/-- What step `t` leaves in the results' blocks. -/
def R2 (c : Dev nD) (t : Fin cfg0.N) (X : S512x1664.Idx → EReal) : Prop :=
  ∀ u : Fin cfg0.N, u.val + 1 = t.val → X = bC (n := 512) (m := 1664) (by decide) (Hm (xD m c u) (wQ m c))
def R3 (c : Dev nD) (t : Fin cfg0.N) (X : S512x13.Idx → EReal) : Prop :=
  ∀ u : Fin cfg0.N, u.val + 1 = t.val → X = bS (n := 512) (m := 1664) (G := 13) (by decide) (Hm (xD m c u) (wQ m c))
def R4 (c : Dev nD) (t : Fin cfg0.N) (X : S512x4096.Idx → EReal) : Prop := X = bC (n := 512) (m := 4096) (by decide) (xB m c t)
def R5 (c : Dev nD) (t : Fin cfg0.N) (X : S512x32.Idx → EReal) : Prop := X = bS (n := 512) (m := 4096) (G := 32) (by decide) (xB m c t)

def RV (c : Dev nD) : (w : Fin cfg0.W) → Fin cfg0.N → ((cfg0.win w).block.Idx → Elt Ideal (cfg0.win w).elt) → Prop := fun w t => match w with
  | ⟨0, _⟩ => fun _ => True
  | ⟨1, _⟩ => fun _ => True
  | ⟨2, _⟩ => R2 m c t
  | ⟨3, _⟩ => R3 m c t
  | ⟨4, _⟩ => R4 m c t
  | ⟨5, _⟩ => R5 m c t

def datV (_ : Fin 1) (c : Dev nD) : Dat τ (Elt Ideal) Unit ℕ (Pipeline.UD sig nD τ) ℕ cfg0 c where
  A w := V m c (Pipeline.arrRef spec0 w)
  after w t := match w with
    | ⟨0, _⟩ => iblk m c 0 t
    | ⟨1, _⟩ => iblk m c 1 t
    | ⟨n + 2, h⟩ => Pipeline.Dat.unnamed (cfg := cfg0) ⟨n + 2, h⟩ t
  Φ t := PhiV m c t.val
  q _ := fullShare
  owed _ := 0

theorem A_eqV (c : Dev nD) (w : Fin cfg0.W) : (datV m 0 c).A w = V m c (Pipeline.arrRef spec0 w) := by dsimp only [datV]
theorem afterV0 (c : Dev nD) (t : Fin cfg0.N) : (datV m 0 c).after 0 t = iblk m c 0 t := by dsimp only [datV]
theorem afterV1 (c : Dev nD) (t : Fin cfg0.N) : (datV m 0 c).after 1 t = iblk m c 1 t := by dsimp only [datV]
theorem beforeV0 (c : Dev nD) (t : Fin cfg0.N) (d) : (datV m 0 c).before 0 t d = iblk m c 0 t :=
  before0_0_of m (datV m 0 c) (A_eqV m c 0) (afterV0 m c) t d
theorem beforeV1 (c : Dev nD) (t : Fin cfg0.N) (d) : (datV m 0 c).before 1 t d = iblk m c 1 t :=
  before0_1_of m (datV m 0 c) (A_eqV m c 1) (afterV1 m c) t d

def heldV (c : Dev nD) (t : Fin cfg0.N) : sProp 𝕄 :=
  iprop(PhiV m c t.val ∗ (∃ W, owes (c : Thread nD τ) 0 W)
    ∗ owns (c : Thread nD τ) (st0_0 t) fullShare (iblk m c 0 t) ∗ owns (c : Thread nD τ) (st0_1 t) fullShare (iblk m c 1 t)
    ∗ (∃ d, owns (c : Thread nD τ) (st0_2 t) fullShare d) ∗ (∃ d, owns (c : Thread nD τ) (st0_3 t) fullShare d)
    ∗ (∃ d, owns (c : Thread nD τ) (st0_4 t) fullShare d) ∗ (∃ d, owns (c : Thread nD τ) (st0_5 t) fullShare d))
def doneV (c : Dev nD) (t : Fin cfg0.N) : sProp 𝕄 :=
  iprop(PhiV m c (t.val + 1) ∗ (∃ W, owes (c : Thread nD τ) 0 W)
    ∗ owns (c : Thread nD τ) (st0_0 t) fullShare (iblk m c 0 t) ∗ owns (c : Thread nD τ) (st0_1 t) fullShare (iblk m c 1 t)
    ∗ (∃ d, ⌜R2 m c t d⌝ ∗ owns (c : Thread nD τ) (st0_2 t) fullShare d) ∗ (∃ d, ⌜R3 m c t d⌝ ∗ owns (c : Thread nD τ) (st0_3 t) fullShare d)
    ∗ (∃ d, ⌜R4 m c t d⌝ ∗ owns (c : Thread nD τ) (st0_4 t) fullShare d) ∗ (∃ d, ⌜R5 m c t d⌝ ∗ owns (c : Thread nD τ) (st0_5 t) fullShare d))

theorem sound_firstV (c : Dev nD) (t : Fin cfg0.N) (ht : t.val = 0) :
    heldV m c t ⊢ wp frame (wpE (defs₀ (F := Ideal)) Variants.none c none) Set.univ (bodyAt0 t) (fun _ => doneV m c t) := by
  have h1 : k0_cond1 (grid0.coords t) = 1#1 := (cond1_iff _).2 ((coords0 t).trans ht)
  have h3 : ¬ k0_cond3 (grid0.coords t) = 1#1 := fun h => (cond3_iff _).1 h ((coords0 t).trans ht)
  have ht0 : t = t00 := Fin.ext ht
  unfold heldV doneV PhiV
  unfold owns
  iintro ⟨⟨⟨⟨%f8, %q8, H8⟩, Hst, ⟨%f10, %q10, H10⟩⟩, Hg, ⟨Hc0, Hc1, Hc2, Hc3⟩, Hh⟩, HW, ⟨%f1, %e1, H1⟩, ⟨%f3, %e3, H3⟩, ⟨%d4, H4⟩, ⟨%d5, H5⟩, ⟨%d6, %f6, %e6, H6⟩, ⟨%d7, %f7, %e7, H7⟩⟩
  ihave Hst := (stage_split c) $$ Hst
  icases Hst with ⟨Hs0, Hs1, Hs2, Hs3⟩
  iapply (wp_wand_r Idealize.ShloMosaic.frame (wpE (defs₀ (F := Ideal)) Variants.none (c : Thread nD τ) none) Set.univ)
  isplitl [H1 H3 H6 H7 H8 H10 Hh Hc0 Hc1 Hc2 Hc3 Hs0 Hs1 Hs2 Hs3 HW]
  · iapply (firstRun c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) wqM (Memref.isWhole_whole _) xqM (Memref.isWhole_whole _) h1 (V m c main_arg1) f3 h3 f1 f6 f7 f8 f10)
    isplitl [H1]; · iexact H1
    isplitl [H3]; · iexact H3
    isplitl [H6]; · iexact H6
    isplitl [H7]; · iexact H7
    isplitl [H8]; · iexact H8
    isplitl [H10]; · iexact H10
    isplitl [Hh]; · iexact Hh
    isplitl [Hc0 Hs0]
    · isplitl [Hc0]; · iexact Hc0
      iexact Hs0
    isplitl [Hc1 Hs1]
    · isplitl [Hc1]; · iexact Hc1
      iexact Hs1
    isplitl [Hc2 Hs2]
    · isplitl [Hc2]; · iexact Hc2
      iexact Hs2
    isplitl [Hc3 Hs3]
    · isplitl [Hc3]; · iexact Hc3
      iexact Hs3
    iexact HW
  · iintro %_ ⟨H1, H3, H6, H7, H8, H10, Hh, ⟨Hc0, Hs0⟩, ⟨Hc1, Hs1⟩, ⟨Hc2, Hs2⟩, ⟨Hc3, Hs3⟩, HW⟩
    ihave Hst := (stage_join c) $$ [Hs0 Hs1 Hs2 Hs3]
    · isplitl [Hs0]; · iexact Hs0
      isplitl [Hs1]; · iexact Hs1
      isplitl [Hs2]; · iexact Hs2
      iexact Hs3
    isplitl [H8 Hst H10 Hg Hc0 Hc1 Hc2 Hc3 Hh]
    · isplitl [H8 Hst H10]
      · isplitl [H8]
        · iexists _; isplitr
          swap; · iexact H8
          ipureintro
          intro _ y
          refine (wq_read ..).trans ?_
          rw [e3, ht0]
        isplitl [Hst]; · iexact Hst
        iexists _; isplitr
        swap; · iexact H10
        ipureintro
        intro u hu y hy
        obtain rfl : u = t := Fin.ext (by omega)
        refine (chunks3_slot_read (y := y) (hy := by rw [hy, ht]) ..).trans ?_
        exact congrArg (fun X => bD (n := 512) (m := 4096) (by decide) X (ix2 (y 1) (y 2))) e1
      isplitl [Hg]; · iexact Hg
      isplitl [Hc0 Hc1 Hc2 Hc3]
      · isplitl [Hc0]; · iexact Hc0
        isplitl [Hc1]; · iexact Hc1
        isplitl [Hc2]; · iexact Hc2
        iexact Hc3
      iexact Hh
    isplitl [HW]; · iexact HW
    isplitl [H1]
    · iexists _; isplitr; · ipureintro; exact e1
      iexact H1
    isplitl [H3]
    · iexists _; isplitr; · ipureintro; exact e3
      iexact H3
    isplitl [H4]
    · iexists d4; isplitr
      · ipureintro; exact fun u hu => absurd hu (by omega)
      iexact H4
    isplitl [H5]
    · iexists d5; isplitr
      · ipureintro; exact fun u hu => absurd hu (by omega)
      iexact H5
    isplitl [H6]
    · iexists (bC (n := 512) (m := 4096) (by decide) (xB m c t)); isplitr
      · ipureintro; exact rfl
      iexists _; isplitr
      swap; · iexact H6
      ipureintro
      exact (chunks3_codes_read ..).trans (congrArg (bC (n := 512) (m := 4096) (by decide)) e1)
    iexists (bS (n := 512) (m := 4096) (G := 32) (by decide) (xB m c t)); isplitr
    · ipureintro; exact rfl
    iexists _; isplitr
    swap; · iexact H7
    ipureintro
    exact (chunks3_scales_read ..).trans (congrArg (bS (n := 512) (m := 4096) (G := 32) (by decide)) e1)

theorem sound_laterV (c : Dev nD) (t : Fin cfg0.N) (ht : t.val ≠ 0) :
    heldV m c t ⊢ wp frame (wpE (defs₀ (F := Ideal)) Variants.none c none) Set.univ (bodyAt0 t) (fun _ => doneV m c t) := by
  have h1 : ¬ k0_cond1 (grid0.coords t) = 1#1 := fun h => ht ((coords0 t).symm.trans ((cond1_iff _).1 h))
  have h3 : k0_cond3 (grid0.coords t) = 1#1 := (cond3_iff _).2 fun h => ht ((coords0 t).symm.trans h)
  have htN := t.isLt
  obtain ⟨u, hu⟩ : ∃ u : Fin cfg0.N, u.val + 1 = t.val := ⟨⟨t.val - 1, by omega⟩, by show t.val - 1 + 1 = t.val; omega⟩
  have hs : (t.val + 1) % 2 ≠ (grid0.coords t 0).val % 2 := by rw [coords0]; omega
  have hsu : (t.val + 1) % 2 = u.val % 2 := by omega
  have uu : ∀ v : Fin cfg0.N, v.val + 1 = t.val → v = u := fun v hv => Fin.ext (by omega)
  unfold heldV doneV PhiV
  unfold owns
  iintro ⟨⟨⟨⟨%f8, %q8, H8⟩, Hst, ⟨%f10, %q10, H10⟩⟩, Hg, Hc, Hh⟩, HW, ⟨%f1, %e1, H1⟩, H3, ⟨%d4, %f4, %e4, H4⟩, ⟨%d5, %f5, %e5, H5⟩, ⟨%d6, %f6, %e6, H6⟩, ⟨%d7, %f7, %e7, H7⟩⟩
  have hX : ∀ y : S2x512x4096.Idx, (y 0).val = (t.val + 1) % 2 → xqM.view.read (Elt Ideal) f10 y = xD m c u (ix2 (y 1) (y 2)) :=
    fun y hy => q10 u hu y (hy.trans hsu)
  iapply (wp_wand_r Idealize.ShloMosaic.frame (wpE (defs₀ (F := Ideal)) Variants.none (c : Thread nD τ) none) Set.univ)
  isplitl [H1 H4 H5 H6 H7 H8 H10]
  · iapply ((laterRun c (grid0.coords t) (st0_0 t) (hstage0_0 ((cfg0.slots t 0).cast nbuf0_0)) aM (Memref.isWhole_whole _) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) wqM (Memref.isWhole_whole _) stM (Memref.isWhole_whole _) xqM (Memref.isWhole_whole _) cc0_scratch3 h1 h3 f1 f8 f10).2.2.2.2.2 Set.univ f4 f5 f6 f7)
    isplitl [H1]; · iexact H1
    isplitl [H4]; · iexact H4
    isplitl [H5]; · iexact H5
    isplitl [H6]; · iexact H6
    isplitl [H7]; · iexact H7
    isplitl [H8]; · iexact H8
    iexact H10
  · iintro %_ ⟨H1, H4, H5, H6, H7, H8, H10⟩
    isplitl [H8 Hst H10 Hg Hc Hh]
    · isplitl [H8 Hst H10]
      · isplitl [H8]
        · iexists _; isplitr
          swap; · iexact H8
          ipureintro
          exact fun _ => q8 ht
        isplitl [Hst]; · iexact Hst
        iexists _; isplitr
        swap; · iexact H10
        ipureintro
        intro v hv y hy
        obtain rfl : v = t := Fin.ext (by omega)
        refine (later_slot_read (y := y) (hy := by rw [hy, coords0]) ..).trans ?_
        exact congrArg (fun X => bD (n := 512) (m := 4096) (by decide) X (ix2 (y 1) (y 2))) e1
      isplitl [Hg]; · iexact Hg
      isplitl [Hc]; · iexact Hc
      iexact Hh
    isplitl [HW]; · iexact HW
    isplitl [H1]
    · iexists _; isplitr; · ipureintro; exact e1
      iexact H1
    isplitl [H3]; · iexact H3
    isplitl [H4]
    · iexists (bC (n := 512) (m := 1664) (by decide) (Hm (xD m c u) (wQ m c))); isplitr
      · ipureintro; exact fun v hv => by rw [uu v hv]
      iexists _; isplitr
      swap; · iexact H4
      ipureintro
      exact later_hcodes_read (hf8 := q8 ht) (ho := off210_eq t) (hs := hs) (hX := hX) ..
    isplitl [H5]
    · iexists (bS (n := 512) (m := 1664) (G := 13) (by decide) (Hm (xD m c u) (wQ m c))); isplitr
      · ipureintro; exact fun v hv => by rw [uu v hv]
      iexists _; isplitr
      swap; · iexact H5
      ipureintro
      exact later_hscales_read (hf8 := q8 ht) (ho := off210_eq t) (hs := hs) (hX := hX) ..
    isplitl [H6]
    · iexists (bC (n := 512) (m := 4096) (by decide) (xB m c t)); isplitr
      · ipureintro; exact rfl
      iexists _; isplitr
      swap; · iexact H6
      ipureintro
      exact (later_codes_read ..).trans (congrArg (bC (n := 512) (m := 4096) (by decide)) e1)
    iexists (bS (n := 512) (m := 4096) (G := 32) (by decide) (xB m c t)); isplitr
    · ipureintro; exact rfl
    iexists _; isplitr
    swap; · iexact H7
    ipureintro
    exact (later_scales_read ..).trans (congrArg (bS (n := 512) (m := 4096) (G := 32) (by decide)) e1)

def bodyPreV (c : Dev nD) (t : Fin cfg0.N) : sProp 𝕄 :=
  iprop((datV m 0 c).Φ t.castSucc ∗ (datV m 0 c).owesAt () t.castSucc
    ∗ (∃ d, owns (c : Thread nD τ) (st0_0 t) fullShare ((datV m 0 c).before 0 t d)) ∗ (∃ d, owns (c : Thread nD τ) (st0_1 t) fullShare ((datV m 0 c).before 1 t d))
    ∗ (∃ Y, ⌜((datV m 0 c).toRRel forgets0 (RV m c)).Finds 2 t Y⌝ ∗ owns (c : Thread nD τ) (st0_2 t) fullShare Y)
    ∗ (∃ Y, ⌜((datV m 0 c).toRRel forgets0 (RV m c)).Finds 3 t Y⌝ ∗ owns (c : Thread nD τ) (st0_3 t) fullShare Y)
    ∗ (∃ Y, ⌜((datV m 0 c).toRRel forgets0 (RV m c)).Finds 4 t Y⌝ ∗ owns (c : Thread nD τ) (st0_4 t) fullShare Y)
    ∗ (∃ Y, ⌜((datV m 0 c).toRRel forgets0 (RV m c)).Finds 5 t Y⌝ ∗ owns (c : Thread nD τ) (st0_5 t) fullShare Y))
def bodyPostV (c : Dev nD) (t : Fin cfg0.N) : sProp 𝕄 :=
  iprop((datV m 0 c).Φ t.succ ∗ (datV m 0 c).owesAt () t.succ
    ∗ owns (c : Thread nD τ) (st0_0 t) fullShare ((datV m 0 c).after 0 t) ∗ owns (c : Thread nD τ) (st0_1 t) fullShare ((datV m 0 c).after 1 t)
    ∗ (∃ d, ⌜R2 m c t d⌝ ∗ owns (c : Thread nD τ) (st0_2 t) fullShare d) ∗ (∃ d, ⌜R3 m c t d⌝ ∗ owns (c : Thread nD τ) (st0_3 t) fullShare d)
    ∗ (∃ d, ⌜R4 m c t d⌝ ∗ owns (c : Thread nD τ) (st0_4 t) fullShare d) ∗ (∃ d, ⌜R5 m c t d⌝ ∗ owns (c : Thread nD τ) (st0_5 t) fullShare d))

theorem sound_bodyV (c : Dev nD) (t : Fin cfg0.N) :
    bodyPreV m c t ⊢ wp frame (wpE (defs₀ (F := Ideal)) Variants.none c none) Set.univ (bodyAt0 t) (fun _ => bodyPostV m c t) := by
  have h : heldV m c t ⊢ wp frame (wpE (defs₀ (F := Ideal)) Variants.none c none) Set.univ (bodyAt0 t) (fun _ => doneV m c t) := by
    by_cases ht : t.val = 0
    · exact sound_firstV m c t ht
    · exact sound_laterV m c t ht
  unfold bodyPreV bodyPostV
  rw [show (datV m 0 c).Φ t.succ = PhiV m c (t.val + 1) from rfl, show (datV m 0 c).Φ t.castSucc = PhiV m c t.val from rfl,
    afterV0, afterV1]
  simp only [beforeV0, beforeV1]
  unfold Dat.owesAt Pipeline.owesWithin
  rw [show (datV m 0 c).owed t.castSucc = 0 from rfl, show (datV m 0 c).owed t.succ = 0 from rfl]
  iintro ⟨HΦ, ⟨%W, -, HW⟩, ⟨%d0, H0⟩, ⟨%d1, H1⟩, ⟨%d2, -, H2⟩, ⟨%d3, -, H3⟩, ⟨%d4, -, H4⟩, ⟨%d5, -, H5⟩⟩
  iapply (wp_wand_r Idealize.ShloMosaic.frame (wpE (defs₀ (F := Ideal)) Variants.none (c : Thread nD τ) none) Set.univ)
  isplitl [HΦ HW H0 H1 H2 H3 H4 H5]
  · iapply h
    unfold heldV
    isplitl [HΦ]; · iexact HΦ
    isplitl [HW]; · iexists _; iexact HW
    isplitl [H0]; · iexact H0
    isplitl [H1]; · iexact H1
    isplitl [H2]; · iexists _; iexact H2
    isplitl [H3]; · iexists _; iexact H3
    isplitl [H4]; · iexists _; iexact H4
    iexists _; iexact H5
  · unfold doneV
    iintro %_ ⟨HΦ, ⟨%W', HW⟩, H⟩
    isplitl [HΦ]; · iexact HΦ
    isplitl [HW]
    · iexists W'; isplitr; · ipureintro; exact fun _ _ => Or.inl trivial
      iexact HW
    iexact H

theorem body_obligationV (c : Dev nD) : BodyObligationRel (datV m 0 c) (defs₀ (F := Ideal)) Variants.none () Set.univ forgets0 (RV m c) := fun t => by
  rw [bigSep_W0, bigSep_W0, defs₀_row]
  exact triple_restated (sound_bodyV m c t) rfl .rfl fun _ => .rfl

theorem hinV (c : Dev nD) : Pipeline.ΦD osem0 spec0 H0 (V m) c ⊢ PhiV m c 0 := by
  rw [PhiD0_eq]
  unfold PhiV
  iintro ⟨⟨⟨%f8, H8⟩, Hst, ⟨%f10, H10⟩⟩, H⟩
  isplitl [H8 Hst H10]
  · isplitl [H8]
    · iexists f8; isplitr
      · ipureintro; exact fun h => absurd rfl h
      iexact H8
    isplitl [Hst]; · iexact Hst
    iexists f10; isplitr
    · ipureintro; exact fun u hu => absurd hu (Nat.succ_ne_zero _)
    iexact H10
  iexact H

theorem houtV (c : Dev nD) (n : ℕ) : PhiV m c n ⊢ Pipeline.ΦD osem0 spec0 H0 (V m) c := by
  rw [PhiD0_eq]
  unfold PhiV
  iintro ⟨⟨⟨%f8, -, H8⟩, Hst, ⟨%f10, -, H10⟩⟩, H⟩
  isplitl [H8 Hst H10]
  · isplitl [H8]
    · iexists f8; iexact H8
    isplitl [Hst]; · iexact Hst
    iexists f10; iexact H10
  iexact H

set_option backward.isDefEq.respectTransparency.types false in
theorem run_mainV :
    θ_run defs (onTc (τ := τ) (main (F := Ideal))) (s₀ m ρ)
      (fun r => Pipeline.RDat.FramePost (cfgs 0) (fun c => (datV m 0 c).toRRel forgets0 (RV m c)) (V m) r ∧ r.2.sem = fun _ => 0) :=
  Pipeline.RDat.θ_run_frame_dma (Q' := _) cfgs (0 : Fin 1) launch0 osem0 defs₀ Variants.none (fun c => (datV m 0 c).toRRel forgets0 (RV m c)) ownSemFacts0 H0 H0_sub m ρ main
    (hbody := fun c => (body_obligationV m c).toRRel) (hshare := fun c => (datV m 0 c).share_full fun _ => rfl)
    (howed := fun _ _ => rfl) (V := V m) (hmain := hmain m Variants.none) (hA := A_eqV m)
    (hin := fun c => hinV m c) (hout := fun c => houtV m c _)

end Cert.KernelIdeal.Pf

end
-- ==== Proof.KI.Arrays.lean ====
/-
  The kernel's four results, whole: their blocks put together.
-/
module

public import proofs.«01_k».proof.Proof.KI.Value

@[expose] public section

set_option maxRecDepth 16384

noncomputable section

namespace Cert.KernelIdeal.Pf

open Cert.KernelIdeal Cert.KernelIdeal.Gen Cert.Quant
open Idealize.ShloMosaic Idealize.ShloMosaic.TcCoe Idealize.ShloMosaic.Tactic
open Idealize.ShloMosaic.Pipeline (Dat Cfg Window)
open Idealize.SL.Sem

/-! ## Values of rows are values of the whole -/

section
variable {n n' : ℕ} (ρ : Fin n → Fin n')

theorem grp_rows {k : ℕ} {X : (⟨2, ![n, k]⟩ : Shape).Idx → EReal} {X' : (⟨2, ![n', k]⟩ : Shape).Idx → EReal}
    (h : ∀ r l, X (ix2 r l) = X' (ix2 (ρ r) l)) (r : Fin n) (g : ℕ) (hg : 128 * g + 128 ≤ k) : Cert.Quant.grp X r g hg = Cert.Quant.grp X' (ρ r) g hg :=
  funext fun _ => h _ _
theorem bC_rows {k : ℕ} (hk : k % 128 = 0) {X : (⟨2, ![n, k]⟩ : Shape).Idx → EReal} {X' : (⟨2, ![n', k]⟩ : Shape).Idx → EReal}
    (h : ∀ r l, X (ix2 r l) = X' (ix2 (ρ r) l)) (r : Fin n) (l : Fin k) : bC hk X (ix2 r l) = bC hk X' (ix2 (ρ r) l) :=
  congrArg (fun G => code G ⟨l.val % 128, Nat.mod_lt _ (by decide)⟩) (grp_rows ρ h r (l.val / 128) (grp_le hk l))
theorem bD_rows {k : ℕ} (hk : k % 128 = 0) {X : (⟨2, ![n, k]⟩ : Shape).Idx → EReal} {X' : (⟨2, ![n', k]⟩ : Shape).Idx → EReal}
    (h : ∀ r l, X (ix2 r l) = X' (ix2 (ρ r) l)) (r : Fin n) (l : Fin k) : bD hk X (ix2 r l) = bD hk X' (ix2 (ρ r) l) :=
  congrArg (fun G => deq G ⟨l.val % 128, Nat.mod_lt _ (by decide)⟩) (grp_rows ρ h r (l.val / 128) (grp_le hk l))
theorem bS_rows {k G : ℕ} (hk : 128 * G = k) {X : (⟨2, ![n, k]⟩ : Shape).Idx → EReal} {X' : (⟨2, ![n', k]⟩ : Shape).Idx → EReal}
    (h : ∀ r l, X (ix2 r l) = X' (ix2 (ρ r) l)) (r : Fin n) (g : Fin G) : bS hk X (ix2 r g) = bS hk X' (ix2 (ρ r) g) :=
  congrArg scale (grp_rows ρ h r g.val (bS_le hk g))
theorem Hm_rows {X : (⟨2, ![n, 4096]⟩ : Shape).Idx → EReal} {X' : (⟨2, ![n', 4096]⟩ : Shape).Idx → EReal} (W : S4096x3328.Idx → EReal)
    (h : ∀ r l, X (ix2 r l) = X' (ix2 (ρ r) l)) (r : Fin n) (j : Fin 1664) : Hm X W (ix2 r j) = Hm X' W (ix2 (ρ r) j) :=
  congrArg (fun a => hid a (fun k => W (ix2 k (gCol j))) (fun k => W (ix2 k (uCol j)))) (funext fun k => h r k)
end

variable (m : (ℓ : Loc nD τ sig) → Buf (Elt Ideal) ℓ) (ρ : Dev nD → PrngReg)

/-! ## The blocks -/

/-- Row `r` of the block of step `t`, -/
def row (t : Fin cfg0.N) (r : Fin 512) : Fin 24576 := ⟨512 * min t.val 47 + r.val, by omega⟩
/-- and of the hidden block it writes. -/
def rowH (t : Fin cfg0.N) (r : Fin 512) : Fin 24576 := ⟨512 * (t.val - 1) + r.val, by have := t.isLt; have : cfg0.N = 49 := rfl; omega⟩

theorem idx0 (t : Fin cfg0.N) : win0_0.index t 0 = min t.val 47 ∧ win0_0.index t 1 = 0 := by revert t; decide +kernel
theorem idx2 (t : Fin cfg0.N) : win0_2.index t 0 = t.val - 1 ∧ win0_2.index t 1 = 0 := by revert t; decide +kernel
theorem idx3 (t : Fin cfg0.N) : win0_3.index t 0 = t.val - 1 ∧ win0_3.index t 1 = 0 := by revert t; decide +kernel
theorem idx4 (t : Fin cfg0.N) : win0_4.index t 0 = min t.val 47 ∧ win0_4.index t 1 = 0 := by revert t; decide +kernel
theorem idx5 (t : Fin cfg0.N) : win0_5.index t 0 = min t.val 47 ∧ win0_5.index t 1 = 0 := by revert t; decide +kernel
theorem flush2 (t : Fin cfg0.N) : (cfg0.win 2).flush t = true → t.val ≠ 0 := by revert t; decide +kernel
theorem flush3 (t : Fin cfg0.N) : (cfg0.win 3).flush t = true → t.val ≠ 0 := by revert t; decide +kernel

theorem emb0 (t : Fin cfg0.N) (r : Fin 512) (k : Fin 4096) : ((win0_0.blk t).view.emb (ix2 r k : S512x4096.Idx) : S24576x4096.Idx) = ix2 (row t r) k := funext fun a =>
  match a with
  | ⟨0, _⟩ => Fin.ext (by show win0_0.index t 0 * 512 + 1 * r.val = 512 * min t.val 47 + r.val; rw [(idx0 t).1]; omega)
  | ⟨1, _⟩ => Fin.ext (by show win0_0.index t 1 * 4096 + 1 * k.val = k.val; rw [(idx0 t).2]; omega)
theorem emb2 (t : Fin cfg0.N) (r : Fin 512) (k : Fin 1664) : ((win0_2.blk t).view.emb (ix2 r k : S512x1664.Idx) : S24576x1664.Idx) = ix2 (rowH t r) k := funext fun a =>
  match a with
  | ⟨0, _⟩ => Fin.ext (by show win0_2.index t 0 * 512 + 1 * r.val = 512 * (t.val - 1) + r.val; rw [(idx2 t).1]; omega)
  | ⟨1, _⟩ => Fin.ext (by show win0_2.index t 1 * 1664 + 1 * k.val = k.val; rw [(idx2 t).2]; omega)
theorem emb3 (t : Fin cfg0.N) (r : Fin 512) (k : Fin 13) : ((win0_3.blk t).view.emb (ix2 r k : S512x13.Idx) : S24576x13.Idx) = ix2 (rowH t r) k := funext fun a =>
  match a with
  | ⟨0, _⟩ => Fin.ext (by show win0_3.index t 0 * 512 + 1 * r.val = 512 * (t.val - 1) + r.val; rw [(idx3 t).1]; omega)
  | ⟨1, _⟩ => Fin.ext (by show win0_3.index t 1 * 13 + 1 * k.val = k.val; rw [(idx3 t).2]; omega)
theorem emb4 (t : Fin cfg0.N) (r : Fin 512) (k : Fin 4096) : ((win0_4.blk t).view.emb (ix2 r k : S512x4096.Idx) : S24576x4096.Idx) = ix2 (row t r) k := funext fun a =>
  match a with
  | ⟨0, _⟩ => Fin.ext (by show win0_4.index t 0 * 512 + 1 * r.val = 512 * min t.val 47 + r.val; rw [(idx4 t).1]; omega)
  | ⟨1, _⟩ => Fin.ext (by show win0_4.index t 1 * 4096 + 1 * k.val = k.val; rw [(idx4 t).2]; omega)
theorem emb5 (t : Fin cfg0.N) (r : Fin 512) (k : Fin 32) : ((win0_5.blk t).view.emb (ix2 r k : S512x32.Idx) : S24576x32.Idx) = ix2 (row t r) k := funext fun a =>
  match a with
  | ⟨0, _⟩ => Fin.ext (by show win0_5.index t 0 * 512 + 1 * r.val = 512 * min t.val 47 + r.val; rw [(idx5 t).1]; omega)
  | ⟨1, _⟩ => Fin.ext (by show win0_5.index t 1 * 32 + 1 * k.val = k.val; rw [(idx5 t).2]; omega)

/-- The rows, the weights and their scales as launched. -/
abbrev xs (c : Dev nD) : S24576x4096.Idx → EReal := V m c main_v0
abbrev ws (c : Dev nD) : S4096x3328.Idx → EReal := V m c main_arg1
abbrev ss (c : Dev nD) : S32x26.Idx → EReal := V m c main_arg2

theorem xB_apply (c : Dev nD) (t : Fin cfg0.N) (r : Fin 512) (k : Fin 4096) : xB m c t (ix2 r k) = xs m c (ix2 (row t r) k) := by
  unfold xB iblk
  blk_simp
  exact congrArg (xs m c) (emb0 t r k)

theorem wA_eq (c : Dev nD) : wA m c = ws m c := rfl
theorem sA_eq (c : Dev nD) : sA m c = ss m c := by
  have hz : (fun a => (win0_1.index t00) a * main_arg2.ty.shape.size a) = fun _ => 0 := funext fun a => by fin_cases a <;> decide
  have hr := fun f => Memref.read_access_unit_zero (Elt Ideal) main_arg2 hz (fun a => by fin_cases a <;> decide) f
  unfold sA iblk
  exact hr _

/-- The hidden values of all the rows. -/
abbrev hs (c : Dev nD) : S24576x1664.Idx → EReal := Hm (n := 24576) (bD (n := 24576) (m := 4096) (by decide) (xs m c)) (wq (ws m c) (ss m c))

theorem xD_apply (c : Dev nD) (t : Fin cfg0.N) (r : Fin 512) (k : Fin 4096) :
    xD m c t (ix2 r k) = bD (n := 24576) (m := 4096) (by decide) (xs m c) (ix2 (row t r) k) :=
  bD_rows (row t) (by decide) (xB_apply m c t) r k

theorem hB_apply (c : Dev nD) (t u : Fin cfg0.N) (hu : u.val + 1 = t.val) (r : Fin 512) (j : Fin 1664) :
    Hm (xD m c u) (wQ m c) (ix2 r j) = hs m c (ix2 (rowH t r) j) := by
  have e : row u = rowH t := funext fun r => Fin.ext (by
    show 512 * min u.val 47 + r.val = 512 * (t.val - 1) + r.val
    have := t.isLt
    have : cfg0.N = 49 := rfl
    omega)
  unfold wQ
  rw [wA_eq, sA_eq, ← e]
  exact Hm_rows (row u) _ (xD_apply m c u) r j

/-! ## The arrays -/

section
variable (c : Dev nD) (af : (w : Fin cfg0.W) → Fin cfg0.N → (cfg0.win w).block.Idx → Elt Ideal (cfg0.win w).elt)

theorem array4 (h : ∀ t, (cfg0.win 4).flush t = true → R4 m c t (af 4 t)) :
    (((datV m 0 c).toRRel forgets0 (RV m c)).withAfter af).arrAt 4 cfg0.N = bC (n := 24576) (m := 4096) (by decide) (xs m c) := by
  refine Dat.arrAt_eq_of_covers _ 4 _ (by decide +kernel) fun t hf y => ?_
  blk_simp
  show af 4 t y = _
  rw [show af 4 t = _ from h t hf]
  obtain ⟨r, k, rfl⟩ : ∃ (r : Fin 512) (k : Fin 4096), y = (ix2 r k : S512x4096.Idx) := ⟨y 0, y 1, eq_ix2 (y : S512x4096.Idx)⟩
  exact (bC_rows (row t) (by decide) (xB_apply m c t) r k).trans (congrArg (bC (n := 24576) (m := 4096) (by decide) (xs m c)) (emb4 t r k).symm)

theorem array5 (h : ∀ t, (cfg0.win 5).flush t = true → R5 m c t (af 5 t)) :
    (((datV m 0 c).toRRel forgets0 (RV m c)).withAfter af).arrAt 5 cfg0.N = bS (n := 24576) (m := 4096) (G := 32) (by decide) (xs m c) := by
  refine Dat.arrAt_eq_of_covers _ 5 _ (by decide +kernel) fun t hf y => ?_
  blk_simp
  show af 5 t y = _
  rw [show af 5 t = _ from h t hf]
  obtain ⟨r, k, rfl⟩ : ∃ (r : Fin 512) (k : Fin 32), y = (ix2 r k : S512x32.Idx) := ⟨y 0, y 1, eq_ix2 (y : S512x32.Idx)⟩
  exact (bS_rows (row t) (by decide) (xB_apply m c t) r k).trans (congrArg (bS (n := 24576) (m := 4096) (G := 32) (by decide) (xs m c)) (emb5 t r k).symm)

theorem array2 (h : ∀ t, (cfg0.win 2).flush t = true → R2 m c t (af 2 t)) :
    (((datV m 0 c).toRRel forgets0 (RV m c)).withAfter af).arrAt 2 cfg0.N = bC (n := 24576) (m := 1664) (by decide) (hs m c) := by
  refine Dat.arrAt_eq_of_covers _ 2 _ (by decide +kernel) fun t hf y => ?_
  have ht := flush2 t hf
  have htN : t.val < cfg0.N := t.isLt
  obtain ⟨u, hu⟩ : ∃ u : Fin cfg0.N, u.val + 1 = t.val := ⟨⟨t.val - 1, by omega⟩, by show t.val - 1 + 1 = t.val; omega⟩
  blk_simp
  show af 2 t y = _
  rw [show af 2 t = _ from h t hf u hu]
  obtain ⟨r, k, rfl⟩ : ∃ (r : Fin 512) (k : Fin 1664), y = (ix2 r k : S512x1664.Idx) := ⟨y 0, y 1, eq_ix2 (y : S512x1664.Idx)⟩
  exact (bC_rows (rowH t) (by decide) (hB_apply m c t u hu) r k).trans (congrArg (bC (n := 24576) (m := 1664) (by decide) (hs m c)) (emb2 t r k).symm)

theorem array3 (h : ∀ t, (cfg0.win 3).flush t = true → R3 m c t (af 3 t)) :
    (((datV m 0 c).toRRel forgets0 (RV m c)).withAfter af).arrAt 3 cfg0.N = bS (n := 24576) (m := 1664) (G := 13) (by decide) (hs m c) := by
  refine Dat.arrAt_eq_of_covers _ 3 _ (by decide +kernel) fun t hf y => ?_
  have ht := flush3 t hf
  have htN : t.val < cfg0.N := t.isLt
  obtain ⟨u, hu⟩ : ∃ u : Fin cfg0.N, u.val + 1 = t.val := ⟨⟨t.val - 1, by omega⟩, by show t.val - 1 + 1 = t.val; omega⟩
  blk_simp
  show af 3 t y = _
  rw [show af 3 t = _ from h t hf u hu]
  obtain ⟨r, k, rfl⟩ : ∃ (r : Fin 512) (k : Fin 13), y = (ix2 r k : S512x13.Idx) := ⟨y 0, y 1, eq_ix2 (y : S512x13.Idx)⟩
  exact (bS_rows (rowH t) (by decide) (hB_apply m c t u hu) r k).trans (congrArg (bS (n := 24576) (m := 1664) (G := 13) (by decide) (hs m c)) (emb3 t r k).symm)
end

/-- The run with its values. -/
theorem run : θ_run (defs (F := Ideal)) (onTc (τ := τ) (main (F := Ideal))) ⟨m, fun _ => 0, ρ⟩ (fun r => ∀ c : Dev nD,
    r.2.mem ((c.tc : Thread nD τ).loc main_v1_0) = bC (n := 24576) (m := 1664) (by decide) (hs m c)
    ∧ r.2.mem ((c.tc : Thread nD τ).loc main_v1_1) = bS (n := 24576) (m := 1664) (G := 13) (by decide) (hs m c)
    ∧ r.2.mem ((c.tc : Thread nD τ).loc main_v1_2) = bC (n := 24576) (m := 4096) (by decide) (xs m c)
    ∧ r.2.mem ((c.tc : Thread nD τ).loc main_v1_3) = bS (n := 24576) (m := 4096) (G := 32) (by decide) (xs m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)) := by
  refine (θ_run defs _ _).mono (fun r h c => ?_) (run_mainV m ρ)
  obtain ⟨af, hL, hA⟩ := h.1.exists_exact c
  exact ⟨(hA 2).trans (array2 m c af fun t hf => Dat.toRRel_leaves (datV m 0 c) (fgt := forgets0) (Rl := RV m c) (w := 2) rfl (hL 2 t hf)),
    (hA 3).trans (array3 m c af fun t hf => Dat.toRRel_leaves (datV m 0 c) (fgt := forgets0) (Rl := RV m c) (w := 3) rfl (hL 3 t hf)),
    (hA 4).trans (array4 m c af fun t hf => Dat.toRRel_leaves (datV m 0 c) (fgt := forgets0) (Rl := RV m c) (w := 4) rfl (hL 4 t hf)),
    (hA 5).trans (array5 m c af fun t hf => Dat.toRRel_leaves (datV m 0 c) (fgt := forgets0) (Rl := RV m c) (w := 5) rfl (hL 5 t hf)),
    ((h.1 c).2 main_arg0 (Pipeline.mem_restRefs_of main_arg0 (by decide) (by decide))).trans (V_main_arg0 m c),
    ((h.1 c).2 main_arg1 (Pipeline.mem_restRefs_of main_arg1 (by decide) (by decide))).trans (V_main_arg1 m c),
    (Eq.mp (congrFun (Pipeline.RDat.ArrAt_in ((datV m 0 c).toRRel forgets0 (RV m c)) 1 rfl _) _) ((h.1 c).1 1)).trans ((A_eqV m c 1).trans (V_main_arg2 m c))⟩

theorem xs_eq (c : Dev nD) : xs m c = shapeCast S24576x4096 (m ((c.tc : Thread nD τ).loc main_arg0)) shapeCasts_S3x8192x4096_S24576x4096 := rfl

end Cert.KernelIdeal.Pf

end
-- ==== Proof.RI.Val.lean ====
/-
  What the reference computes, element by element: the codes, the scales and the hidden values as functions of its arguments.
-/
module

public import proofs.«01_k».proof.Proof.KI.Wq
public import proofs.«01_k».proof.Proof.Gen.ReferenceIdeal.Frame
public import Idealize.ShloMosaic.Lib.Pointwise
public import Idealize.ShloMosaic.Lib.IdealHost

@[expose] public section

set_option maxRecDepth 16384

noncomputable section

namespace Cert.Quant
open Idealize.ShloMosaic

theorem select_olt {α : Type} (a b : EReal) (x y : α) : Scalar.select (Ideal.cmp .olt a b) x y = if a < b then x else y := by
  unfold Scalar.select Ideal.cmp
  by_cases h : a < b <;> simp [h]

theorem ofB (b : BitVec 32) : (FloatOps.ofBits (F := Ideal) .f32 b : EReal) = Ideal.ofBits .f32 b := rfl
theorem scale_def (v : Fin 128 → EReal) : scale v = Ideal.exp2 (expo (ratio v)) := rfl
theorem code_def (v : Fin 128 → EReal) (l : Fin 128) : code v l = min (Ideal.ofBits .f32 0x43E00000#32) (max (Ideal.ofBits .f32 0xC3E00000#32)
    (v l * Ideal.exp2 (0 - expo (ratio v)))) := rfl
theorem expo_def (q : EReal) : expo q = if q < Ideal.ofBits .f32 0x00800000#32 then Ideal.ofBits .f32 0x00000000#32
    else min (Ideal.liftRound Int.floor (Ideal.div (Ideal.log q) (Ideal.log (Ideal.ofBits .f32 0x40000000#32))) + Ideal.ofBits .f32 0x3F800000#32)
      (Ideal.ofBits .f32 0x42F00000#32) := rfl

section
variable {s : Shape} (j : s.Idx)
theorem sel_at (q : FVec Ideal s .f32) (d : Ideal .f32) (m z : FVec Ideal s .f32) :
    select (cmpf .olt q (broadcast s d)) z m j = if (q j : EReal) < d then z j else m j :=
  select_olt (q j) d (z j) (m j)
theorem lg_at (q : FVec Ideal s .f32) (two one cap : Ideal .f32) :
    minimumf (addf (floor (divf (log q) (log (broadcast s two)))) (broadcast s one)) (broadcast s cap) j
      = (min (Ideal.liftRound Int.floor (Ideal.div (Ideal.log (q j)) (Ideal.log two)) + one) cap : EReal) := rfl
theorem mul_at (M : FVec Ideal s .f32) (c : Ideal .f32) : mulf M (broadcast s c) j = (M j * c : EReal) := rfl
theorem splat_at (c : Ideal .f32) : broadcast s c j = c := rfl
theorem exp2_at (P : FVec Ideal s .f32) : exp2 P j = Ideal.exp2 (P j) := rfl
theorem inv_at (P : FVec Ideal s .f32) (z : Ideal .f32) : exp2 (subf (broadcast s z) P) j = Ideal.exp2 ((z : EReal) - P j) := rfl
theorem clip_at (X B : FVec Ideal s .f32) (lo hi : Ideal .f32) (h : FTy.bits .fp8e4m3 < FTy.bits .f32) :
    truncf .fp8e4m3 (minimumf (broadcast s hi) (maximumf (broadcast s lo) (mulf X B))) h j = (min hi (max lo (X j * B j)) : EReal) := rfl
end

end Cert.Quant

namespace Cert.ReferenceIdeal.Pf

open Cert.ReferenceIdeal Cert.ReferenceIdeal.Gen Cert.Quant
open Cert.KernelIdeal.Pf (Hm hid gCol uCol)
open Idealize.ShloMosaic

theorem pay4_apply (x : Vec Ideal S24576x4096 .bf16) (r : Fin 24576) (g : Fin 32) (l : Fin 128) :
    k0_pay4 x (ix3 r g l) = x (ix2 r ⟨128 * g.val + l.val, by omega⟩) := by
  unfold k0_pay4
  pointwise
  refine congrArg x (congrArg (ix2 r) (Fin.ext ?_))
  dsimp only
  omega

theorem max_apply (v : FVec Ideal S24576x32x128 .f32) (r : Fin 24576) (g : Fin 32) :
    multiReduction (F := Ideal) .maximumf [2] S24576x32 v 0xFF800000#32 reduces_S24576x32x128_S24576x32 (.inl rfl) rfl (ix2 r g)
      = Finset.univ.fold max (⊥ : EReal) fun k : Fin 128 => v (ix3 r g k) := by
  refine (Ideal.multiReduction_maximumf_single v _ _ _ _ _).trans ?_
  rw [show FloatOps.ofBits (F := Ideal) .f32 0xFF800000#32 = (⊥ : EReal) from ninf32]
  refine congrArg (Finset.fold max ⊥ · Finset.univ) (funext fun k => ?_)
  refine congrArg v (funext fun a => ?_)
  match a with
  | ⟨0, _⟩ => rfl
  | ⟨1, _⟩ => rfl
  | ⟨2, _⟩ => rfl

theorem pay5_apply (x : Vec Ideal S24576x4096 .bf16) (r : Fin 24576) (g : Fin 32) :
    k0_pay5 x (ix2 r g) = expo (ratio (grp (n := 24576) (m := 4096) x r g.val (by omega))) := by
  have h5 := max_apply (absf (k0_pay4 x)) r g
  rw [show (fun k : Fin 128 => absf (k0_pay4 x) (ix3 r g k)) = fun k => max (grp (n := 24576) (m := 4096) x r g.val (by omega) k) (- grp (n := 24576) (m := 4096) x r g.val (by omega) k)
    from funext fun k => congrArg (fun w : EReal => max w (-w)) (pay4_apply x r g k)] at h5
  unfold k0_pay5
  generalize multiReduction (F := Ideal) .maximumf [2] S24576x32 (absf (k0_pay4 x)) 0xFF800000#32 reduces_S24576x32x128_S24576x32 (.inl rfl) rfl = M at h5 ⊢
  unfold ratio
  rw [← h5]
  rw [sel_at, lg_at, mul_at, splat_at, expo_def]
  simp only [ofB]

theorem pay6_apply (x : Vec Ideal S24576x4096 .bf16) (r : Fin 24576) (g : Fin 32) :
    k0_pay6 x (ix2 r g) = scale (grp (n := 24576) (m := 4096) x r g.val (by omega)) := by
  unfold k0_pay6
  rw [exp2_at, pay5_apply, scale_def]

theorem spread_at (E : FVec Ideal S24576x32 .f32) (r : Fin 24576) (g : Fin 32) (l : Fin 128) :
    broadcastTo S24576x32x128 (shapeCast S24576x32x1 E shapeCasts_S24576x32_S24576x32x1) broadcasts_S24576x32x1_S24576x32x128 (ix3 r g l) = E (ix2 r g) := by
  pointwise

theorem pay7_apply (x : Vec Ideal S24576x4096 .bf16) (r : Fin 24576) (g : Fin 32) (l : Fin 128) :
    k0_pay7 x (ix3 r g l) = code (grp (n := 24576) (m := 4096) x r g.val (by omega)) l := by
  unfold k0_pay7
  rw [clip_at, spread_at, inv_at, pay5_apply, pay4_apply, code_def]
  simp only [ofB, Ideal.ofBits_zero_f32]
  unfold grp
  with_reducible rfl

theorem xScale_eq (x : Vec Ideal S24576x4096 .bf16) : k0_pay6 x = bS (n := 24576) (m := 4096) (G := 32) (by decide) x := by
  funext y
  obtain ⟨r, g, rfl⟩ : ∃ (r : Fin 24576) (g : Fin 32), y = ix2 r g := ⟨y 0, y 1, eq_ix2 y⟩
  exact pay6_apply x r g

theorem xCodes_eq (x : Vec Ideal S24576x4096 .bf16) : k0_pay8 x = bC (n := 24576) (m := 4096) (by decide) x := by
  funext y
  obtain ⟨r, c, rfl⟩ : ∃ (r : Fin 24576) (c : Fin 4096), y = ix2 r c := ⟨y 0, y 1, eq_ix2 y⟩
  unfold k0_pay8
  pointwise
  rw [pay7_apply]
  rfl

theorem xDeq_eq (x : Vec Ideal S24576x4096 .bf16) : k0_pay9 x = bD (n := 24576) (m := 4096) (by decide) x := by
  funext y
  obtain ⟨r, c, rfl⟩ : ∃ (r : Fin 24576) (c : Fin 4096), y = ix2 r c := ⟨y 0, y 1, eq_ix2 y⟩
  unfold k0_pay9
  pointwise
  rw [pay7_apply, pay6_apply]
  rfl

end Cert.ReferenceIdeal.Pf
-- ==== Proof.RI.ValH.lean ====
/-
  The hidden values of the reference, element by element.
-/
module

public import proofs.«01_k».proof.Proof.RI.Val

@[expose] public section

set_option maxRecDepth 16384

noncomputable section

namespace Cert.ReferenceIdeal.Pf

open Cert.ReferenceIdeal Cert.ReferenceIdeal.Gen Cert.Quant

open Cert.KernelIdeal.Pf (Hm hid gCol uCol)
open Idealize.ShloMosaic

/-! ## The weights -/

theorem w_at (w : FVec Ideal S4096x3328 .bf16) (s : FVec Ideal S32x26 .bf16) (a : Fin 4096) (b : Fin 3328) :
    shapeCast S4096x3328 (mulf (shapeCast S32x128x26x128 w shapeCasts_S4096x3328_S32x128x26x128)
      (broadcastTo S32x128x26x128 (shapeCast S32x1x26x1 s shapeCasts_S32x26_S32x1x26x1) broadcasts_S32x1x26x1_S32x128x26x128))
      shapeCasts_S32x128x26x128_S4096x3328 (ix2 a b) = wq w s (ix2 a b) := by
  rw [wq_apply]
  pointwise

theorem lo_at (w : FVec Ideal S4096x3328 .bf16) (a : Fin 4096) (b : Fin 1664) :
    extractStridedSlice S4096x1664 ![0, 0] w slices_S4096x3328_o0_0_S4096x1664 (ix2 a b) = w (ix2 a ⟨b.val, by omega⟩) := by
  pointwise
theorem hi_at (w : FVec Ideal S4096x3328 .bf16) (a : Fin 4096) (b : Fin 1664) :
    extractStridedSlice S4096x1664 ![0, 1664] w slices_S4096x3328_o0_1664_S4096x1664 (ix2 a b) = w (ix2 a ⟨1664 + b.val, by omega⟩) := by
  pointwise

theorem dot_at (A : FVec Ideal S24576x4096 .bf16) (B : FVec Ideal S4096x1664 .bf16) (r : Fin 24576) (b : Fin 1664) :
    matmul dot_S24576x4096_S4096x1664_S24576x1664_1_0_0_1_n_n none A B (constant S24576x1664 .f32 0x00000000#32) (ix2 r b)
      = ∑ k : Fin 4096, (A (ix2 r k) * B (ix2 k b) : EReal) := by
  pointwise

theorem groups_at (V : FVec Ideal S24576x1664 .f32) (r : Fin 24576) (g : Fin 13) (l : Fin 128) :
    shapeCast S24576x13x128 V shapeCasts_S24576x1664_S24576x13x128 (ix3 r g l) = V (ix2 r ⟨128 * g.val + l.val, by omega⟩) := by
  pointwise
  refine congrArg V (congrArg (ix2 r) (Fin.ext ?_))
  dsimp only
  omega

theorem gelu_at {s : Shape} (G U : FVec Ideal s .f32) (h o c d : Ideal .f32) (j : s.Idx) :
    mulf (mulf G (mulf (broadcast s h) (addf (broadcast s o) (tanh (mulf (broadcast s c) (addf G (mulf (broadcast s d) (mulf G (mulf G G))))))))) U j
      = (G j * (h * (o + Ideal.tanh (c * (G j + d * (G j * (G j * G j)))))) * U j : EReal) := rfl

theorem gelu_def (g : EReal) : gelu g = g * (Ideal.ofBits .f32 0x3F000000#32 * (Ideal.ofBits .f32 0x3F800000#32
    + Ideal.tanh (Ideal.ofBits .f32 0x3F4C422A#32 * (g + Ideal.ofBits .f32 0x3D372713#32 * (g * (g * g)))))) := rfl
theorem hid_def (a wg wu : Fin 4096 → EReal) : hid a wg wu = gelu (∑ k, a k * wg k) * ∑ k, a k * wu k := rfl
theorem Hm_apply (A : S24576x4096.Idx → EReal) (W : S4096x3328.Idx → EReal) (r : Fin 24576) (b : Fin 1664) :
    Hm (n := 24576) A W (ix2 r b) = hid (fun k => A (ix2 r k)) (fun k => W (ix2 k (gCol b))) (fun k => W (ix2 k (uCol b))) := rfl
theorem extf_id {s : Shape} (w : FVec Ideal s .fp8e4m3) (h : FTy.bits .fp8e4m3 < FTy.bits .bf16) : (extf .bf16 w h : s.Idx → EReal) = w := rfl
theorem truncf_id {s : Shape} (w : FVec Ideal s .f32) (h : FTy.bits .bf16 < FTy.bits .f32) : (truncf .bf16 w h : s.Idx → EReal) = w := rfl

/-- One hidden value. -/
theorem pay10_apply (A : FVec Ideal S24576x4096 .bf16) (w : Vec Ideal S4096x3328 .fp8e4m3) (s : Vec Ideal S32x26 .f32) (r : Fin 24576) (g : Fin 13) (l : Fin 128) :
    k0_pay10 A w s (ix3 r g l) = Hm (n := 24576) A (wq w s) (ix2 r ⟨128 * g.val + l.val, by omega⟩) := by
  unfold k0_pay10
  rw [groups_at, gelu_at, dot_at, dot_at, Hm_apply, hid_def, gelu_def]
  simp only [lo_at, hi_at, w_at, ofB, extf_id, truncf_id, gCol, uCol]

/-! ## The hidden values quantised -/

section
variable (A : FVec Ideal S24576x4096 .bf16) (w : Vec Ideal S4096x3328 .fp8e4m3) (s : Vec Ideal S32x26 .f32) (r : Fin 24576) (g : Fin 13)

theorem max_apply' (v : FVec Ideal S24576x13x128 .f32) :
    multiReduction (F := Ideal) .maximumf [2] S24576x13 v 0xFF800000#32 reduces_S24576x13x128_S24576x13 (.inl rfl) rfl (ix2 r g)
      = Finset.univ.fold max (⊥ : EReal) fun k : Fin 128 => v (ix3 r g k) := by
  refine (Ideal.multiReduction_maximumf_single v _ _ _ _ _).trans ?_
  rw [show FloatOps.ofBits (F := Ideal) .f32 0xFF800000#32 = (⊥ : EReal) from ninf32]
  refine congrArg (Finset.fold max ⊥ · Finset.univ) (funext fun k => ?_)
  refine congrArg v (funext fun a => ?_)
  match a with
  | ⟨0, _⟩ => rfl
  | ⟨1, _⟩ => rfl
  | ⟨2, _⟩ => rfl

/-- A group of hidden values. -/
abbrev hg : Fin 128 → EReal := grp (n := 24576) (m := 1664) (Hm (n := 24576) A (wq w s)) r g.val (by omega)

theorem pay11_apply : k0_pay11 A w s (ix2 r g) = ratio (hg A w s r g) := by
  have h5 := max_apply' r g (absf (k0_pay10 A w s))
  rw [show (fun k : Fin 128 => absf (k0_pay10 A w s) (ix3 r g k)) = fun k => max (hg A w s r g k) (- hg A w s r g k)
    from funext fun k => congrArg (fun w : EReal => max w (-w)) (pay10_apply A w s r g k)] at h5
  unfold k0_pay11
  generalize multiReduction (F := Ideal) .maximumf [2] S24576x13 (absf (k0_pay10 A w s)) 0xFF800000#32 reduces_S24576x13x128_S24576x13 (.inl rfl) rfl = M at h5 ⊢
  unfold ratio
  rw [← h5]
  rw [mul_at]
  simp only [ofB]

theorem pay1_apply : k0_pay1 (k0_pay12 A w s) (k0_pay13 A w s) (Scalar.ofBits .f32 0x00000000#32) (ix2 r g) = expo (ratio (hg A w s r g)) := by
  unfold k0_pay1 k0_pay12 k0_pay13
  rw [sel_at, lg_at, splat_at, expo_def, pay11_apply]
  simp only [ofB]

theorem spread_at' (E : FVec Ideal S24576x13 .f32) (l : Fin 128) :
    broadcastTo S24576x13x128 (shapeCast S24576x13x1 E shapeCasts_S24576x13_S24576x13x1) broadcasts_S24576x13x1_S24576x13x128 (ix3 r g l) = E (ix2 r g) := by
  pointwise

theorem ungroup_at (V : FVec Ideal S24576x13x128 .fp8e4m3) (b : Fin 1664) :
    shapeCast S24576x1664 V shapeCasts_S24576x13x128_S24576x1664 (ix2 r b) = V (ix3 r ⟨b.val / 128, by omega⟩ ⟨b.val % 128, by omega⟩) := by
  pointwise

theorem hScale_eq : k0_pay2 (k0_pay12 A w s) (k0_pay13 A w s) (Scalar.ofBits .f32 0x00000000#32)
    = bS (n := 24576) (m := 1664) (G := 13) (by decide) (Hm (n := 24576) A (wq w s)) := by
  funext y
  obtain ⟨r, g, rfl⟩ : ∃ (r : Fin 24576) (g : Fin 13), y = ix2 r g := ⟨y 0, y 1, eq_ix2 y⟩
  unfold k0_pay2
  rw [exp2_at, pay1_apply]
  show _ = scale (hg A w s r g)
  rw [scale_def]

theorem hCodes_eq : k0_pay3 (k0_pay10 A w s) (k0_pay12 A w s) (k0_pay13 A w s) (Scalar.ofBits .f32 0x00000000#32)
    = bC (n := 24576) (m := 1664) (by decide) (Hm (n := 24576) A (wq w s)) := by
  funext y
  obtain ⟨r, b, rfl⟩ : ∃ (r : Fin 24576) (b : Fin 1664), y = ix2 r b := ⟨y 0, y 1, eq_ix2 y⟩
  unfold k0_pay3
  rw [ungroup_at, clip_at, spread_at', inv_at, pay1_apply, pay10_apply]
  show _ = code (hg A w s r ⟨b.val / 128, by omega⟩) ⟨b.val % 128, Nat.mod_lt _ (by decide)⟩
  rw [code_def, show hg A w s r ⟨b.val / 128, by omega⟩ ⟨b.val % 128, Nat.mod_lt _ (by decide)⟩ = Hm (n := 24576) A (wq w s) (ix2 r ⟨128 * (b.val / 128) + b.val % 128, by omega⟩) from rfl]
  simp only [ofB, Ideal.ofBits_zero_f32]
end

end Cert.ReferenceIdeal.Pf

end
-- ==== Proof.RI.Run.lean ====
/-
  The run of the reference with its values.
-/
module

public import proofs.«01_k».proof.Proof.RI.ValH
public import proofs.«01_k».proof.Proof.Gen.ReferenceIdeal.Frame
public import Idealize.ShloMosaic.Lib.Pipeline.Value
public import Idealize.ShloMosaic.Lib.Affine

@[expose] public section

set_option maxRecDepth 16384

noncomputable section

namespace Cert.ReferenceIdeal.Pf

open Cert.ReferenceIdeal Cert.ReferenceIdeal.Gen Cert.Quant
open Idealize.ShloMosaic Idealize.ShloMosaic.TcCoe Idealize.SL.Sem
open Idealize.ShloMosaic.Pipeline (Dat Cfg Window)
open Cert.KernelIdeal.Pf (Hm)

/-! ## The one point's stores -/

section
variable (x0 : Vec Ideal S24576x4096 .bf16) (x1 : Vec Ideal S4096x3328 .fp8e4m3) (x2 : Vec Ideal S32x26 .f32)

theorem z0 : (![0, 0] : Fin S24576x4096.rank → ℕ) = fun _ => 0 := funext fun a => by fin_cases a <;> rfl
theorem z1 : (![0, 0] : Fin S24576x32.rank → ℕ) = fun _ => 0 := funext fun a => by fin_cases a <;> rfl
theorem z2 : (![0, 0] : Fin S4096x3328.rank → ℕ) = fun _ => 0 := funext fun a => by fin_cases a <;> rfl
theorem z3 : (![0, 0] : Fin S32x26.rank → ℕ) = fun _ => 0 := funext fun a => by fin_cases a <;> rfl
theorem z4 : (![0, 0] : Fin S24576x1664.rank → ℕ) = fun _ => 0 := funext fun a => by fin_cases a <;> rfl
theorem z5 : (![0, 0] : Fin S24576x13.rank → ℕ) = fun _ => 0 := funext fun a => by fin_cases a <;> rfl

/-- The hidden values. -/
abbrev hv : S24576x1664.Idx → EReal := Hm (n := 24576) (bD (n := 24576) (m := 4096) (by decide) x0) (wq x1 x2)

theorem out3_eq : out0_3 x0 x1 x2 = bC (n := 24576) (m := 1664) (by decide) (hv x0 x1 x2) := by
  unfold_out out0_3
  rw [View.canon_unit_zero z4, View.ld_unit_zero z0, View.ld_unit_zero z2, View.ld_unit_zero z3, hCodes_eq, xDeq_eq]
theorem out4_eq : out0_4 x0 x1 x2 = bS (n := 24576) (m := 1664) (G := 13) (by decide) (hv x0 x1 x2) := by
  unfold_out out0_4
  rw [View.canon_unit_zero z5, View.ld_unit_zero z0, View.ld_unit_zero z2, View.ld_unit_zero z3, hScale_eq, xDeq_eq]
theorem out5_eq : out0_5 x0 x1 x2 = bC (n := 24576) (m := 4096) (by decide) x0 := by
  unfold_out out0_5
  rw [View.canon_unit_zero z0, View.ld_unit_zero z0, xCodes_eq]
theorem out6_eq : out0_6 x0 x1 x2 = bS (n := 24576) (m := 4096) (G := 32) (by decide) x0 := by
  unfold_out out0_6
  rw [View.canon_unit_zero z1, View.ld_unit_zero z0, xScale_eq]
end

variable (m : (ℓ : Loc nD τ sig) → Buf (Elt Ideal) ℓ) (ρ : Dev nD → PrngReg)

/-- The one grid point. -/
def t₀ : Fin cfg0.N := ⟨0, by decide⟩

abbrev xs (c : Dev nD) : S24576x4096.Idx → EReal := V m c main_v0
abbrev ws (c : Dev nD) : S4096x3328.Idx → EReal := V m c main_arg1
abbrev ss (c : Dev nD) : S32x26.Idx → EReal := V m c main_arg2

theorem in0 (c : Dev nD) : iblk m c 0 t₀ = xs m c := by
  have hz : (fun a => (win0_0.index t₀) a * main_v0.ty.shape.size a) = fun _ => 0 := funext fun a => by fin_cases a <;> decide
  have hr := fun f => Memref.read_access_unit_zero (Elt Ideal) main_v0 hz (fun a => by fin_cases a <;> decide) f
  unfold iblk
  exact hr _
theorem in1 (c : Dev nD) : iblk m c 1 t₀ = ws m c := by
  have hz : (fun a => (win0_1.index t₀) a * main_arg1.ty.shape.size a) = fun _ => 0 := funext fun a => by fin_cases a <;> decide
  have hr := fun f => Memref.read_access_unit_zero (Elt Ideal) main_arg1 hz (fun a => by fin_cases a <;> decide) f
  unfold iblk
  exact hr _
theorem in2 (c : Dev nD) : iblk m c 2 t₀ = ss m c := by
  have hz : (fun a => (win0_2.index t₀) a * main_arg2.ty.shape.size a) = fun _ => 0 := funext fun a => by fin_cases a <;> decide
  have hr := fun f => Memref.read_access_unit_zero (Elt Ideal) main_arg2 hz (fun a => by fin_cases a <;> decide) f
  unfold iblk
  exact hr _

/-- A result's array, read through its one block, is what the one point wrote back. -/
theorem final_out (c : Dev nD) (w : Fin cfg0.W) (hf : (cfg0.win w).flush t₀ = true) :
    ((cfg0.win w).blk t₀).view.read (Elt Ideal) ((dats (F := Ideal) m 0 c).arrAt w cfg0.N) = (dats (F := Ideal) m 0 c).flushed w t₀ := by
  rw [show cfg0.N = (t₀ : Fin cfg0.N).val + 1 from rfl, (dats (F := Ideal) m 0 c).arrAt_succ w t₀]
  rw [hf, if_pos rfl]
  exact View.read_write_univ _ _

/-! A whole block is kept whole. -/

theorem cut3 (X : S24576x1664.Idx → Elt Ideal .fp8e4m3) : (cfg0.win 3).cut (cfg0.grid.coords t₀) X = X := rfl
theorem cut4 (X : S24576x13.Idx → Elt Ideal .f32) : (cfg0.win 4).cut (cfg0.grid.coords t₀) X = X := rfl
theorem cut5 (X : S24576x4096.Idx → Elt Ideal .fp8e4m3) : (cfg0.win 5).cut (cfg0.grid.coords t₀) X = X := rfl
theorem cut6 (X : S24576x32.Idx → Elt Ideal .f32) : (cfg0.win 6).cut (cfg0.grid.coords t₀) X = X := rfl

theorem array3 (c : Dev nD) : (dats (F := Ideal) m 0 c).arrAt 3 cfg0.N = bC (n := 24576) (m := 1664) (by decide) (hv (xs m c) (ws m c) (ss m c)) := by
  have ho := final_out m c 3 (by decide)
  have hz : (fun a => (win0_3.index t₀) a * main_v1_0.ty.shape.size a) = fun _ => 0 := funext fun a => by fin_cases a <;> decide
  have hr := fun f => Memref.read_access_unit_zero (Elt Ideal) main_v1_0 hz (fun a => by fin_cases a <;> decide) f
  rw [hr] at ho
  rw [ho]
  show (cfg0.win 3).cut _ ((dats (F := Ideal) m 0 c).after 3 t₀) = _
  rw [after0_3, out3_eq, in0, in1, in2]
  exact cut3 _
theorem array4 (c : Dev nD) : (dats (F := Ideal) m 0 c).arrAt 4 cfg0.N = bS (n := 24576) (m := 1664) (G := 13) (by decide) (hv (xs m c) (ws m c) (ss m c)) := by
  have ho := final_out m c 4 (by decide)
  have hz : (fun a => (win0_4.index t₀) a * main_v1_1.ty.shape.size a) = fun _ => 0 := funext fun a => by fin_cases a <;> decide
  have hr := fun f => Memref.read_access_unit_zero (Elt Ideal) main_v1_1 hz (fun a => by fin_cases a <;> decide) f
  rw [hr] at ho
  rw [ho]
  show (cfg0.win 4).cut _ ((dats (F := Ideal) m 0 c).after 4 t₀) = _
  rw [after0_4, out4_eq, in0, in1, in2]
  exact cut4 _
theorem array5 (c : Dev nD) : (dats (F := Ideal) m 0 c).arrAt 5 cfg0.N = bC (n := 24576) (m := 4096) (by decide) (xs m c) := by
  have ho := final_out m c 5 (by decide)
  have hz : (fun a => (win0_5.index t₀) a * main_v1_2.ty.shape.size a) = fun _ => 0 := funext fun a => by fin_cases a <;> decide
  have hr := fun f => Memref.read_access_unit_zero (Elt Ideal) main_v1_2 hz (fun a => by fin_cases a <;> decide) f
  rw [hr] at ho
  rw [ho]
  show (cfg0.win 5).cut _ ((dats (F := Ideal) m 0 c).after 5 t₀) = _
  rw [after0_5, out5_eq, in0]
  exact cut5 _
theorem array6 (c : Dev nD) : (dats (F := Ideal) m 0 c).arrAt 6 cfg0.N = bS (n := 24576) (m := 4096) (G := 32) (by decide) (xs m c) := by
  have ho := final_out m c 6 (by decide)
  have hz : (fun a => (win0_6.index t₀) a * main_v1_3.ty.shape.size a) = fun _ => 0 := funext fun a => by fin_cases a <;> decide
  have hr := fun f => Memref.read_access_unit_zero (Elt Ideal) main_v1_3 hz (fun a => by fin_cases a <;> decide) f
  rw [hr] at ho
  rw [ho]
  show (cfg0.win 6).cut _ ((dats (F := Ideal) m 0 c).after 6 t₀) = _
  rw [after0_6, out6_eq, in0]
  exact cut6 _

/-- The run with its values. -/
theorem run : θ_run (defs (F := Ideal)) (onTc (τ := τ) (main (F := Ideal))) ⟨m, fun _ => 0, ρ⟩ (fun r => ∀ c : Dev nD,
    r.2.mem ((c.tc : Thread nD τ).loc main_v1_0) = bC (n := 24576) (m := 1664) (by decide) (hv (xs m c) (ws m c) (ss m c))
    ∧ r.2.mem ((c.tc : Thread nD τ).loc main_v1_1) = bS (n := 24576) (m := 1664) (G := 13) (by decide) (hv (xs m c) (ws m c) (ss m c))
    ∧ r.2.mem ((c.tc : Thread nD τ).loc main_v1_2) = bC (n := 24576) (m := 4096) (by decide) (xs m c)
    ∧ r.2.mem ((c.tc : Thread nD τ).loc main_v1_3) = bS (n := 24576) (m := 4096) (G := 32) (by decide) (xs m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)) := by
  refine (θ_run defs _ _).mono (fun r h c => ?_) (run_main (F := Ideal) m ρ)
  exact ⟨((h c).1 3).trans (array3 m c), ((h c).1 4).trans (array4 m c), ((h c).1 5).trans (array5 m c), ((h c).1 6).trans (array6 m c),
    ((h c).2 main_arg0 (Pipeline.mem_restRefs_of main_arg0 (by decide) (by decide))).trans (V_main_arg0 m c),
    ((h c).1 1).trans (((dats (F := Ideal) m 0 c).arrAt_in 1 rfl _).trans ((A_eq m c 1).trans (V_main_arg1 m c))),
    ((h c).1 2).trans (((dats (F := Ideal) m 0 c).arrAt_in 2 rfl _).trans ((A_eq m c 2).trans (V_main_arg2 m c)))⟩

theorem xs_eq (c : Dev nD) : xs m c = shapeCast S24576x4096 (m ((c.tc : Thread nD τ).loc main_arg0)) shapeCasts_S3x8192x4096_S24576x4096 := rfl

end Cert.ReferenceIdeal.Pf

end
-- ==== Proof.lean ====
module

public import proofs.«01_k».proof.Defs
public import proofs.«01_k».proof.Proof.K.Run
public import proofs.«01_k».proof.Proof.KI.Run
public import proofs.«01_k».proof.Proof.KI.Arrays
public import proofs.«01_k».proof.Proof.RI.Run
public import proofs.«01_k».proof.Proof.Gen.ReferenceIdeal.Frame
public import Idealize.ShloMosaic.Adequacy
public import Idealize.ShloMosaic.Init

@[expose] public section

noncomputable section

namespace Cert.Proof

open Idealize.ShloMosaic Idealize.SL.Sem

/-- Kernel and reference run, and from equal arguments their four results are equal. -/
theorem algebraic : Cert.algebraic_KernelIdeal_ReferenceIdeal (hKernelIdeal := Cert.KernelIdeal.Gen.facts)
    (hReferenceIdeal := Cert.ReferenceIdeal.Gen.facts) := by
  intro m g m' g' _ hargs
  refine ⟨_, _, _, _, Cert.KernelIdeal.Pf.run m g, ?_⟩
  refine (θ_run (Cert.ReferenceIdeal.defs (F := Ideal)) _ _).mono (fun r h c => ?_) (Cert.ReferenceIdeal.Pf.run m' g')
  have ex : Cert.ReferenceIdeal.Pf.xs m' c = Cert.KernelIdeal.Pf.xs m c := by
    rw [Cert.ReferenceIdeal.Pf.xs_eq, Cert.KernelIdeal.Pf.xs_eq, (hargs c).1]
  have ew : Cert.ReferenceIdeal.Pf.ws m' c = Cert.KernelIdeal.Pf.ws m c :=
    (Cert.ReferenceIdeal.Gen.V_main_arg1 m' c).trans ((hargs c).2.1.trans (Cert.KernelIdeal.Gen.V_main_arg1 m c).symm)
  have es : Cert.ReferenceIdeal.Pf.ss m' c = Cert.KernelIdeal.Pf.ss m c :=
    (Cert.ReferenceIdeal.Gen.V_main_arg2 m' c).trans ((hargs c).2.2.trans (Cert.KernelIdeal.Gen.V_main_arg2 m c).symm)
  obtain ⟨h0, h1, h2, h3, ha⟩ := h c
  rw [ex, ew, es] at h0 h1
  rw [ex] at h2 h3
  exact ⟨h0, h1, h2, h3, ha⟩

theorem claim : Cert.Claim :=
  ⟨Cert.Kernel.Gen.facts, Cert.KernelIdeal.Gen.facts, Cert.ReferenceIdeal.Gen.facts,
    fun m g _ => Cert.Kernel.Pf.frameF m g, fun m g _ => Cert.KernelIdeal.Pf.frameF m g,
    fun m g _ => Cert.ReferenceIdeal.Gen.frame m g, trivial, algebraic⟩

end Cert.Proof

end
